-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_dact [hPre_finite_dact : Cert.Pre_finite_dact.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_dact.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite_dact.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite_dact.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_dact [hPre_finite_dact : Cert.Pre_finite_dact.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_dact.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite_dact.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite_dact.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_dact [hKernel3Ideal : Cert.Kernel3Ideal.Facts] [hPre_finite_dact : Cert.Pre_finite_dact.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_dact m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_dact [hReference3Ideal : Cert.Reference3Ideal.Facts] [hPre_finite_dact : Cert.Pre_finite_dact.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_dact m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite_dact [hKernel3Ideal : Cert.Kernel3Ideal.Facts] [hReference3Ideal : Cert.Reference3Ideal.Facts] [hPre_finite_dact : Cert.Pre_finite_dact.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_dact m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_v11) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_v32) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v16) = v1 c
          ∧ r.2.mem ((c.tc : Thread Cert.Reference13Ideal.nD Cert.Reference13Ideal.τ).loc Cert.Reference13Ideal.main_v30) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v3)) (v2 : (c : Dev Cert.Kernel14Ideal.nD) → Buf (Elt Ideal) ((c.tc : Thread Cert.Kernel14Ideal.nD Cert.Kernel14Ideal.τ).loc Cert.Kernel14Ideal.main_v2_2)) (v3 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v3) = v1 c
          ∧ r.2.mem ((c.tc : Thread Cert.Kernel14Ideal.nD Cert.Kernel14Ideal.τ).loc Cert.Kernel14Ideal.main_v2_2) = v2 c
          ∧ r.2.mem ((c.tc : Thread Cert.Kernel14Ideal.nD Cert.Kernel14Ideal.τ).loc Cert.Kernel14Ideal.main_v4) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v47) = v0 c
          ∧ r.2.mem ((c.tc : Thread Cert.Reference14Ideal.nD Cert.Reference14Ideal.τ).loc Cert.Reference14Ideal.main_v32) = v1 c
          ∧ r.2.mem ((c.tc : Thread Cert.Reference14Ideal.nD Cert.Reference14Ideal.τ).loc Cert.Reference14Ideal.main_v84) = v2 c
          ∧ r.2.mem ((c.tc : Thread Cert.Reference14Ideal.nD Cert.Reference14Ideal.τ).loc Cert.Reference14Ideal.main_v69) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v3)) (v2 : (c : Dev Cert.Kernel15Ideal.nD) → Buf (Elt Ideal) ((c.tc : Thread Cert.Kernel15Ideal.nD Cert.Kernel15Ideal.τ).loc Cert.Kernel15Ideal.main_v2_2)) (v3 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v3) = v1 c
          ∧ r.2.mem ((c.tc : Thread Cert.Kernel15Ideal.nD Cert.Kernel15Ideal.τ).loc Cert.Kernel15Ideal.main_v2_2) = v2 c
          ∧ r.2.mem ((c.tc : Thread Cert.Kernel15Ideal.nD Cert.Kernel15Ideal.τ).loc Cert.Kernel15Ideal.main_v4) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v47) = v0 c
          ∧ r.2.mem ((c.tc : Thread Cert.Reference15Ideal.nD Cert.Reference15Ideal.τ).loc Cert.Reference15Ideal.main_v32) = v1 c
          ∧ r.2.mem ((c.tc : Thread Cert.Reference15Ideal.nD Cert.Reference15Ideal.τ).loc Cert.Reference15Ideal.main_v88) = v2 c
          ∧ r.2.mem ((c.tc : Thread Cert.Reference15Ideal.nD Cert.Reference15Ideal.τ).loc Cert.Reference15Ideal.main_v73) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v2) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v47) = v0 c
          ∧ r.2.mem ((c.tc : Thread Cert.Reference16Ideal.nD Cert.Reference16Ideal.τ).loc Cert.Reference16Ideal.main_v32) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)) →
    ∃ (v0 : (c : Dev Cert.Kernel17Ideal.nD) → Buf (Elt Ideal) ((c.tc : Thread Cert.Kernel17Ideal.nD Cert.Kernel17Ideal.τ).loc Cert.Kernel17Ideal.main_v7_0)) (v1 : (c : Dev Cert.Kernel17Ideal.nD) → Buf (Elt Ideal) ((c.tc : Thread Cert.Kernel17Ideal.nD Cert.Kernel17Ideal.τ).loc Cert.Kernel17Ideal.main_v7_1)) (v2 : (c : Dev Cert.Kernel17Ideal.nD) → Buf (Elt Ideal) ((c.tc : Thread Cert.Kernel17Ideal.nD Cert.Kernel17Ideal.τ).loc Cert.Kernel17Ideal.main_v7_2)) (v3 : (c : Dev Cert.Kernel17Ideal.nD) → Buf (Elt Ideal) ((c.tc : Thread Cert.Kernel17Ideal.nD Cert.Kernel17Ideal.τ).loc Cert.Kernel17Ideal.main_v7_3)) (v4 : (c : Dev Cert.Kernel17Ideal.nD) → Buf (Elt Ideal) ((c.tc : Thread Cert.Kernel17Ideal.nD Cert.Kernel17Ideal.τ).loc Cert.Kernel17Ideal.main_v7_4)) (v5 : (c : Dev Cert.Kernel17Ideal.nD) → Buf (Elt Ideal) ((c.tc : Thread Cert.Kernel17Ideal.nD Cert.Kernel17Ideal.τ).loc Cert.Kernel17Ideal.main_v7_5)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v7_0) = v0 c
          ∧ r.2.mem ((c.tc : Thread Cert.Kernel17Ideal.nD Cert.Kernel17Ideal.τ).loc Cert.Kernel17Ideal.main_v7_1) = v1 c
          ∧ r.2.mem ((c.tc : Thread Cert.Kernel17Ideal.nD Cert.Kernel17Ideal.τ).loc Cert.Kernel17Ideal.main_v7_2) = v2 c
          ∧ r.2.mem ((c.tc : Thread Cert.Kernel17Ideal.nD Cert.Kernel17Ideal.τ).loc Cert.Kernel17Ideal.main_v7_3) = v3 c
          ∧ r.2.mem ((c.tc : Thread Cert.Kernel17Ideal.nD Cert.Kernel17Ideal.τ).loc Cert.Kernel17Ideal.main_v7_4) = v4 c
          ∧ r.2.mem ((c.tc : Thread Cert.Kernel17Ideal.nD Cert.Kernel17Ideal.τ).loc Cert.Kernel17Ideal.main_v7_5) = v5 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v60) = v0 c
          ∧ r.2.mem ((c.tc : Thread Cert.Reference17Ideal.nD Cert.Reference17Ideal.τ).loc Cert.Reference17Ideal.main_v61) = v1 c
          ∧ r.2.mem ((c.tc : Thread Cert.Reference17Ideal.nD Cert.Reference17Ideal.τ).loc Cert.Reference17Ideal.main_v62) = v2 c
          ∧ r.2.mem ((c.tc : Thread Cert.Reference17Ideal.nD Cert.Reference17Ideal.τ).loc Cert.Reference17Ideal.main_v63) = v3 c
          ∧ r.2.mem ((c.tc : Thread Cert.Reference17Ideal.nD Cert.Reference17Ideal.τ).loc Cert.Reference17Ideal.main_v64) = v4 c
          ∧ r.2.mem ((c.tc : Thread Cert.Reference17Ideal.nD Cert.Reference17Ideal.τ).loc Cert.Reference17Ideal.main_v65) = v5 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg0) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg0) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite_dact : Cert.Pre_finite_dact.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_dact (hKernel3Ideal := hKernel3Ideal) (hPre_finite_dact := hPre_finite_dact)
    ∧ quiescent_Reference3Ideal (hReference3Ideal := hReference3Ideal)
    ∧ quiescent_Reference3Ideal_pre_finite_dact (hReference3Ideal := hReference3Ideal) (hPre_finite_dact := hPre_finite_dact)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_dact (hKernel3Ideal := hKernel3Ideal) (hReference3Ideal := hReference3Ideal) (hPre_finite_dact := hPre_finite_dact)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S4096x3840 : Shape := ⟨2, ![4096, 3840]⟩
abbrev S4096x512 : Shape := ⟨2, ![4096, 512]⟩
abbrev S4096x1536 : Shape := ⟨2, ![4096, 1536]⟩
abbrev S_ : Shape := ⟨0, ![]⟩

class Facts : Prop where
  slices_S4096x3840_S4096x1536_0_0 : S4096x3840.Slices ![0, 0] S4096x1536
  bitsLt_bf16_f32 : FTy.bits .bf16 < FTy.bits .f32
  bcast_S_S4096x1536 : S_.BroadcastsInDim S4096x1536 (![] : Fin 0 → Fin S4096x1536.rank)
  bcast_S_S4096x512 : S_.BroadcastsInDim S4096x512 (![] : Fin 0 → Fin S4096x512.rank)

variable [Facts]

def fn {F : FTy → Type} [FloatOps F] (main_arg0 : FVec F S4096x3840 .bf16) (main_arg1 : FVec F S4096x512 .bf16) : IVec S4096x1536 1 × IVec S4096x512 1 :=
  let main_v0 : FVec F S4096x1536 .bf16 := (extractStridedSlice S4096x1536 ![0, 0] · slices_S4096x3840_S4096x1536_0_0) main_arg0
  let main_v1 : FVec F S4096x1536 .f32 := (extf .f32 · bitsLt_bf16_f32) main_v0
  let main_v2 : FVec F S4096x1536 .f32 := Host.absf main_v1
  let main_cst : FVec F S_ .f32 := constant S_ .f32 0x7F800000#32
  let main_v3 : FVec F S4096x1536 .f32 := broadcastInDim S4096x1536 ![] bcast_S_S4096x1536 main_cst
  let main_v4 : IVec S4096x1536 1 := cmpf .olt main_v2 main_v3
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  (main_v4, main_v8)
-- ==== Pre_finite_dact.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .bf16) (main_arg1 : FVec F S2816x1024 .bf16) (main_arg2 : FVec F S4096x2816 .bf16) (main_arg3 : FVec F S4096x2816 .bf16) : IVec S4096x1024 1 × IVec S2816x1024 1 × IVec S4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x2816 .f32 := (extf .f32 · bitsLt_bf16_f32) main_arg3
  let main_v9 : FVec F S4096x2816 .f32 := Host.absf main_v8
  let main_cst_1 : FVec F S_ .f32 := constant S_ .f32 0x7F800000#32
  let main_v10 : FVec F S4096x2816 .f32 := broadcastInDim S4096x2816 ![] bcast_S_S4096x2816 main_cst_1
  let main_v11 : IVec S4096x2816 1 := cmpf .olt main_v9 main_v10
  (main_v3, main_v7, main_v11)
-- ==== Kernel.lean ====
abbrev S4096x3840 : Shape := ⟨2, ![4096, 3840]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S1024x128 : Shape := ⟨2, ![1024, 128]⟩
abbrev S4096x128 : Shape := ⟨2, ![4096, 128]⟩
abbrev S2x1024x1 : Shape := ⟨3, ![2, 1024, 1]⟩
abbrev S2x1024x128 : Shape := ⟨3, ![2, 1024, 128]⟩
abbrev S1024x256 : Shape := ⟨2, ![1024, 256]⟩
abbrev S256x256 : Shape := ⟨2, ![256, 256]⟩
abbrev S1x1024x1 : Shape := ⟨3, ![1, 1024, 1]⟩
abbrev S1024x1 : Shape := ⟨2, ![1024, 1]⟩
abbrev S256x128 : Shape := ⟨2, ![256, 128]⟩
abbrev S1x1024x128 : Shape := ⟨3, ![1, 1024, 128]⟩
abbrev S768x128 : Shape := ⟨2, ![768, 128]⟩
abbrev S768x256 : Shape := ⟨2, ![768, 256]⟩
abbrev S512x128 : Shape := ⟨2, ![512, 128]⟩
abbrev S512x256 : Shape := ⟨2, ![512, 256]⟩
abbrev S768x1 : Shape := ⟨2, ![768, 1]⟩
abbrev S1x768x128 : Shape := ⟨3, ![1, 768, 128]⟩
abbrev S512x1 : Shape := ⟨2, ![512, 1]⟩
abbrev S1x512x128 : Shape := ⟨3, ![1, 512, 128]⟩
abbrev S256x1 : Shape := ⟨2, ![256, 1]⟩
abbrev S1x256x128 : Shape := ⟨3, ![1, 256, 128]⟩

abbrev nBuf : Space → Nat
  | .hbm => 49
  | .vmem => 21
  | .smem => 0
  | _ => 0

abbrev bufTy : (tb : Table) → Fin (tcTables nBuf tb) → BufTy
  | .hbm, ⟨0, _⟩ => ⟨S4096x3840, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .f32⟩
  | .hbm, ⟨5, _⟩ => ⟨S4096x8x64, .f32⟩
  | .hbm, ⟨6, _⟩ => ⟨S8x4096x64, .f32⟩
  | .hbm, ⟨7, _⟩ => ⟨S4096x512, .f32⟩
  | .hbm, ⟨8, _⟩ => ⟨S4096x8x64, .f32⟩
  | .hbm, ⟨9, _⟩ => ⟨S8x4096x64, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S_, .f32⟩
  | .hbm, ⟨40, _⟩ => ⟨S8x4096x4096, .i1⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S4096x512, .bf16⟩
  | .hbm, ⟨47, _⟩ => ⟨S4096x512, .bf16⟩
  | .hbm, ⟨48, _⟩ => ⟨S4096x512, .bf16⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S2x1024x1, .f32⟩
  | .local _ .vmem, ⟨9, _⟩ => ⟨S2x1024x1, .f32⟩
  | .local _ .vmem, ⟨10, _⟩ => ⟨S1024x128, .bf16⟩
  | .local _ .vmem, ⟨11, _⟩ => ⟨S1024x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .f32⟩
  | .local _ .vmem, ⟨17, _⟩ => ⟨S4096x128, .f32⟩
  | .local _ .vmem, ⟨18, _⟩ => ⟨S2x1024x128, .f32⟩
  | .local _ .vmem, ⟨19, _⟩ => ⟨S2x1024x1, .f32⟩
  | .local _ .vmem, ⟨20, _⟩ => ⟨S2x1024x1, .f32⟩
  | _, _ => ⟨S4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_v23_0 : Ref sig .tc := ⟨.hbm, 46, rfl⟩
abbrev main_v23_1 : Ref sig .tc := ⟨.hbm, 47, rfl⟩
abbrev main_v23_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_32 : BitVec 32 := 0#32
  let arg1 : BitVec 32 := BitVec.ofNat 32 (i 1).val
  let v71 : BitVec 32 := Scalar.subi arg1 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_33 : BitVec 32 := 1#32
  ⟨c0_i32_32, v75, c1_i32_33⟩
def k0_mult1 (i : grid0.Coords) (k0_t1 : Fin (k0_t1_loop i).trips) : BitVec 32 :=
  let c0_i32_32 : BitVec 32 := 0#32
  let c1_i32_33 : BitVec 32 := 1#32
  let arg15 : BitVec 32 := Scf.iv c0_i32_32 c1_i32_33 k0_t1
  let c1024_i32_284 : BitVec 32 := 1024#32
  let v763 : BitVec 32 := Scalar.muli arg15 c1024_i32_284
  v763
def k0_off1 (i : grid0.Coords) (k0_t1 : Fin (k0_t1_loop i).trips) (c0_i32_285 : BitVec 32) : Fin 2 → Nat :=
  let c0_i32_32 : BitVec 32 := 0#32
  let c1_i32_33 : BitVec 32 := 1#32
  let arg15 : BitVec 32 := Scf.iv c0_i32_32 c1_i32_33 k0_t1
  let c1024_i32_284 : BitVec 32 := 1024#32
  let v763 : BitVec 32 := Scalar.muli arg15 c1024_i32_284
  let v764 : BitVec 32 := v763
  let v765 : BitVec 32 := Scalar.addi v764 c0_i32_285
  let v766 : Index := Scalar.indexCast v765
  let c0_286 : Index := 0#32
  ![v766.toNat, 0]
@[reducible] def k0_t2_loop (i : grid0.Coords) : Scf.Loop 32 :=
  let c0_i32_32 : BitVec 32 := 0#32
  let arg1 : BitVec 32 := BitVec.ofNat 32 (i 1).val
  let v71 : BitVec 32 := Scalar.subi arg1 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let v72 : BitVec 32 := Scalar.addi c0_i32_32 v71
  let c1_i32_34 : BitVec 32 := 1#32
  ⟨v75, v72, c1_i32_34⟩
def k0_mult2 (i : grid0.Coords) (k0_t2 : Fin (k0_t2_loop i).trips) : BitVec 32 :=
  let c0_i32_32 : BitVec 32 := 0#32
  let arg1 : BitVec 32 := BitVec.ofNat 32 (i 1).val
  let v71 : BitVec 32 := Scalar.subi arg1 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg15 : BitVec 32 := Scf.iv v75 c1_i32_34 k0_t2
  let c1024_i32_284 : BitVec 32 := 1024#32
  let v763 : BitVec 32 := Scalar.muli arg15 c1024_i32_284
  v763
def k0_off2 (i : grid0.Coords) (k0_t2 : Fin (k0_t2_loop i).trips) (c0_i32_285 : BitVec 32) : Fin 2 → Nat :=
  let c0_i32_32 : BitVec 32 := 0#32
  let arg1 : BitVec 32 := BitVec.ofNat 32 (i 1).val
  let v71 : BitVec 32 := Scalar.subi arg1 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg15 : BitVec 32 := Scf.iv v75 c1_i32_34 k0_t2
  let c1024_i32_284 : BitVec 32 := 1024#32
  let v763 : BitVec 32 := Scalar.muli arg15 c1024_i32_284
  let v764 : BitVec 32 := v763
  let v765 : BitVec 32 := Scalar.addi v764 c0_i32_285
  let v766 : Index := Scalar.indexCast v765
  let c0_286 : Index := 0#32
  ![v766.toNat, 0]
def k0_mult3 (i : grid0.Coords) : BitVec 32 :=
  let arg1 : BitVec 32 := BitVec.ofNat 32 (i 1).val
  let c1024_i32 : BitVec 32 := 1024#32
  let v76 : BitVec 32 := Scalar.muli arg1 c1024_i32
  v76
def k0_off3 (i : grid0.Coords) (c0_i32_35 : BitVec 32) : Fin 2 → Nat :=
  let arg1 : BitVec 32 := BitVec.ofNat 32 (i 1).val
  let c1024_i32 : BitVec 32 := 1024#32
  let v76 : BitVec 32 := Scalar.muli arg1 c1024_i32
  let v77 : BitVec 32 := v76
  let v78 : BitVec 32 := Scalar.addi v77 c0_i32_35
  let v79 : Index := Scalar.indexCast v78
  let c0_36 : Index := 0#32
  ![v79.toNat, 0]
def k0_cond2 (i : grid0.Coords) : BitVec 1 :=
  let arg1 : BitVec 32 := BitVec.ofNat 32 (i 1).val
  let c3_i32 : BitVec 32 := 3#32
  let v760 : BitVec 1 := Scalar.cmpi .eq arg1 c3_i32
  let v761 : BitVec 32 := Scalar.extui v760
  let c0_i32_283 : BitVec 32 := 0#32
  let v762 : BitVec 1 := Scalar.cmpi .ne v761 c0_i32_283
  v762

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x3840 : Shape := ⟨2, ![4096, 3840]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 135
  | .vmem => 0
  | .smem => 0
  | _ => 0

abbrev hbmTy0_0 (i : Nat) : BufTy := match i % 128 with
  | 0 => ⟨S4096x3840, .bf16⟩
  | 1 => ⟨S4096x512, .bf16⟩
  | 2 => ⟨S4096x512, .bf16⟩
  | 3 => ⟨S4096x512, .f32⟩
  | 4 => ⟨S4096x512, .bf16⟩
  | 5 => ⟨S4096x512, .f32⟩
  | 6 => ⟨S4096x512, .bf16⟩
  | 7 => ⟨S4096x512, .f32⟩
  | 8 => ⟨S4096x8x64, .f32⟩
  | 9 => ⟨S8x4096x64, .f32⟩
  | 10 => ⟨S4096x8x64, .f32⟩
  | 11 => ⟨S8x4096x64, .f32⟩
  | 12 => ⟨S4096x8x64, .f32⟩
  | 13 => ⟨S8x4096x64, .f32⟩
  | 14 => ⟨S8x4096x4096, .f32⟩
  | 15 => ⟨S_, .f32⟩
  | 16 => ⟨S8x4096x4096, .f32⟩
  | 17 => ⟨S8x4096x4096, .f32⟩
  | 18 => ⟨S4096, .i32⟩
  | 19 => ⟨S1x4096, .i32⟩
  | 20 => ⟨S4096, .i32⟩
  | 21 => ⟨S4096x1, .i32⟩
  | 22 => ⟨S4096x4096, .i32⟩
  | 23 => ⟨S4096x4096, .i32⟩
  | 24 => ⟨S4096x4096, .i1⟩
  | 25 => ⟨S8x4096x4096, .f32⟩
  | 26 => ⟨S_, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .i1⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S_, .f32⟩
  | 41 => ⟨S8x4096x4096, .f32⟩
  | 42 => ⟨S8x4096x4096, .i1⟩
  | 43 => ⟨S_, .f32⟩
  | 44 => ⟨S8x4096x4096, .f32⟩
  | 45 => ⟨S8x4096x4096, .f32⟩
  | 46 => ⟨S_, .f32⟩
  | 47 => ⟨S8x4096x4096, .f32⟩
  | 48 => ⟨S8x4096x4096, .i1⟩
  | 49 => ⟨S_, .f32⟩
  | 50 => ⟨S8x4096x4096, .f32⟩
  | 51 => ⟨S8x4096x4096, .f32⟩
  | 52 => ⟨S8x4096x4096, .f32⟩
  | 53 => ⟨S8x4096x4096, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S8x4096x4096, .f32⟩
  | 62 => ⟨S8x4096x4096, .i1⟩
  | 63 => ⟨S_, .f32⟩
  | 64 => ⟨S8x4096x4096, .f32⟩
  | 65 => ⟨S8x4096x4096, .f32⟩
  | 66 => ⟨S8x4096x4096, .f32⟩
  | 67 => ⟨S8x4096x4096, .f32⟩
  | 68 => ⟨S8x4096x4096, .f32⟩
  | 69 => ⟨S_, .f32⟩
  | 70 => ⟨S8x4096x4096, .f32⟩
  | 71 => ⟨S8x4096x4096, .f32⟩
  | 72 => ⟨S8x4096x4096, .f32⟩
  | 73 => ⟨S8x4096x4096, .f32⟩
  | 74 => ⟨S_, .f32⟩
  | 75 => ⟨S_, .f32⟩
  | 76 => ⟨S8x4096x4096, .i1⟩
  | 77 => ⟨S8x4096x4096, .f32⟩
  | 78 => ⟨S8x4096x4096, .f32⟩
  | 79 => ⟨S_, .f32⟩
  | 80 => ⟨S8x4096x4096, .f32⟩
  | 81 => ⟨S_, .f32⟩
  | 82 => ⟨S_, .f32⟩
  | 83 => ⟨S8x4096x4096, .f32⟩
  | 84 => ⟨S8x4096x4096, .f32⟩
  | 85 => ⟨S8x4096x4096, .f32⟩
  | 86 => ⟨S8x4096x4096, .f32⟩
  | 87 => ⟨S_, .f32⟩
  | 88 => ⟨S_, .f32⟩
  | 89 => ⟨S8x4096x4096, .i1⟩
  | 90 => ⟨S8x4096x4096, .f32⟩
  | 91 => ⟨S8x4096x4096, .f32⟩
  | 92 => ⟨S_, .f32⟩
  | 93 => ⟨S8x4096x4096, .f32⟩
  | 94 => ⟨S8x4096x64, .f32⟩
  | 95 => ⟨S4096x8x64, .f32⟩
  | 96 => ⟨S4096x512, .f32⟩
  | 97 => ⟨S4096x512, .f32⟩
  | 98 => ⟨S4096x8x64, .f32⟩
  | 99 => ⟨S8x4096x64, .f32⟩
  | 100 => ⟨S8x64x4096, .f32⟩
  | 101 => ⟨S8x4096x64, .f32⟩
  | 102 => ⟨S8x4096x4096, .f32⟩
  | 103 => ⟨S_, .f32⟩
  | 104 => ⟨S8x4096x4096, .f32⟩
  | 105 => ⟨S8x4096x4096, .f32⟩
  | 106 => ⟨S8x4096x4096, .f32⟩
  | 107 => ⟨S8x4096x4096, .f32⟩
  | 108 => ⟨S_, .f32⟩
  | 109 => ⟨S_, .f32⟩
  | 110 => ⟨S8x4096x4096, .f32⟩
  | 111 => ⟨S8x4096x4096, .f32⟩
  | 112 => ⟨S_, .f32⟩
  | 113 => ⟨S8x4096x4096, .f32⟩
  | 114 => ⟨S8x4096x4096, .f32⟩
  | 115 => ⟨S8x4096x4096, .f32⟩
  | 116 => ⟨S8x4096x4096, .f32⟩
  | 117 => ⟨S8x4096x4096, .f32⟩
  | 118 => ⟨S8x4096x4096, .f32⟩
  | 119 => ⟨S8x4096x4096, .f32⟩
  | 120 => ⟨S8x4096x4096, .f32⟩
  | 121 => ⟨S_, .f32⟩
  | 122 => ⟨S8x4096x4096, .f32⟩
  | 123 => ⟨S8x4096x4096, .f32⟩
  | 124 => ⟨S8x4096x64, .f32⟩
  | 125 => ⟨S8x4096x64, .f32⟩
  | 126 => ⟨S4096x8x64, .f32⟩
  | 127 => ⟨S4096x512, .f32⟩
  | _ => ⟨S4096x3840, .bf16⟩

abbrev hbmTy0_1 (i : Nat) : BufTy := match i % 128 with
  | 0 => ⟨S4096x8x64, .f32⟩
  | 1 => ⟨S4096x512, .f32⟩
  | 2 => ⟨S4096x8x64, .f32⟩
  | 3 => ⟨S4096x512, .f32⟩
  | 4 => ⟨S4096x512, .bf16⟩
  | 5 => ⟨S4096x512, .bf16⟩
  | 6 => ⟨S4096x512, .bf16⟩
  | _ => ⟨S4096x3840, .bf16⟩

abbrev hbmTy (i : Nat) : BufTy := match i / 128 with
  | 0 => hbmTy0_0 i
  | 1 => hbmTy0_1 i
  | _ => ⟨S4096x3840, .bf16⟩

abbrev bufTy : (tb : Table) → Fin (tcTables nBuf tb) → BufTy
  | .hbm, ⟨i, _⟩ => hbmTy i
  | _, _ => ⟨S4096x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v22_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v22_2 : Ref sig .tc := ⟨.hbm, 71, rfl⟩
abbrev main_v22_0 : Ref sig .tc := ⟨.hbm, 72, rfl⟩
abbrev main_v23 : Ref sig .tc := ⟨.hbm, 73, rfl⟩
abbrev main_cst_0 : Ref sig .tc := ⟨.hbm, 74, rfl⟩
abbrev main_call1_v0 : Ref sig .tc := ⟨.hbm, 75, rfl⟩
abbrev main_v24_1 : Ref sig .tc := ⟨.hbm, 76, rfl⟩
abbrev main_call1_v2 : Ref sig .tc := ⟨.hbm, 77, rfl⟩
abbrev main_v24_0 : Ref sig .tc := ⟨.hbm, 78, rfl⟩
abbrev main_call1_cst : Ref sig .tc := ⟨.hbm, 79, rfl⟩
abbrev main_v24_2 : Ref sig .tc := ⟨.hbm, 80, rfl⟩
abbrev main_call2_cst : Ref sig .tc := ⟨.hbm, 81, rfl⟩
abbrev main_call2_v0 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_cst_1 : Ref sig .tc := ⟨.hbm, 87, rfl⟩
abbrev main_call3_v0 : Ref sig .tc := ⟨.hbm, 88, rfl⟩
abbrev main_v29_1 : Ref sig .tc := ⟨.hbm, 89, rfl⟩
abbrev main_call3_v2 : Ref sig .tc := ⟨.hbm, 90, rfl⟩
abbrev main_v29_0 : Ref sig .tc := ⟨.hbm, 91, rfl⟩
abbrev main_call3_cst : Ref sig .tc := ⟨.hbm, 92, rfl⟩
abbrev main_v29_2 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_call4_cst : Ref sig .tc := ⟨.hbm, 103, rfl⟩
abbrev main_call4_v0 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_call5_cst : Ref sig .tc := ⟨.hbm, 108, rfl⟩
abbrev main_call5_v0 : Ref sig .tc := ⟨.hbm, 109, rfl⟩
abbrev main_v42 : Ref sig .tc := ⟨.hbm, 110, rfl⟩
abbrev main_v43 : Ref sig .tc := ⟨.hbm, 111, rfl⟩
abbrev main_call6_cst : Ref sig .tc := ⟨.hbm, 112, rfl⟩
abbrev main_call6_v0 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_call7_v0 : Ref sig .tc := ⟨.hbm, 117, rfl⟩
abbrev main_call7_v1 : Ref sig .tc := ⟨.hbm, 118, rfl⟩
abbrev main_v47 : Ref sig .tc := ⟨.hbm, 119, rfl⟩
abbrev main_v48 : Ref sig .tc := ⟨.hbm, 120, rfl⟩
abbrev main_cst_2 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x1024, .f32⟩
  | .hbm, ⟨5, _⟩ => ⟨S2816x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .bf16⟩
  | .hbm, ⟨31, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S2816x1024, .f32⟩
  | .hbm, ⟨5, _⟩ => ⟨S2816x1024, .f32⟩
  | .hbm, ⟨6, _⟩ => ⟨S1024x2816, .f32⟩
  | .hbm, ⟨7, _⟩ => ⟨S4096x2816, .f32⟩
  | .hbm, ⟨8, _⟩ => ⟨S1024x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | .hbm, ⟨21, _⟩ => ⟨S4096x2816, .bf16⟩
  | .hbm, ⟨22, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel6Ideal.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S4096x512, .bf16⟩
  | .local _ .vmem, ⟨1, _⟩ => ⟨S4096x1024, .bf16⟩
  | .local _ .vmem, ⟨2, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Kernel7Ideal.lean ====
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S4096x512, .bf16⟩
  | .local _ .vmem, ⟨1, _⟩ => ⟨S4096x1024, .bf16⟩
  | .local _ .vmem, ⟨2, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference7Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S3840x1024 : Shape := ⟨2, ![3840, 1024]⟩
abbrev S4096x3840 : Shape := ⟨2, ![4096, 3840]⟩
abbrev S1024x1024 : Shape := ⟨2, ![1024, 1024]⟩
abbrev S1280x1024 : Shape := ⟨2, ![1280, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S3840x1024, .bf16⟩
  | .hbm, ⟨2, _⟩ => ⟨S4096x3840, .bf16⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1280, .bf16⟩
  | .local _ .vmem, ⟨5, _⟩ => ⟨S1024x1280, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S3840x1024 : Shape := ⟨2, ![3840, 1024]⟩
abbrev S1024x3840 : Shape := ⟨2, ![1024, 3840]⟩
abbrev S4096x3840 : Shape := ⟨2, ![4096, 3840]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3840x1024, .bf16⟩
  | .hbm, ⟨2, _⟩ => ⟨S4096x1024, .f32⟩
  | .hbm, ⟨3, _⟩ => ⟨S3840x1024, .f32⟩
  | .hbm, ⟨4, _⟩ => ⟨S1024x3840, .f32⟩
  | .hbm, ⟨5, _⟩ => ⟨S4096x3840, .f32⟩
  | .hbm, ⟨6, _⟩ => ⟨S4096x3840, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S3072x1024 : Shape := ⟨2, ![3072, 1024]⟩
abbrev S3072 : Shape := ⟨1, ![3072]⟩
abbrev S1x3072 : Shape := ⟨2, ![1, 3072]⟩
abbrev S4096x3072 : Shape := ⟨2, ![4096, 3072]⟩
abbrev S1024x1024 : Shape := ⟨2, ![1024, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S3072, .f32⟩
  | .hbm, ⟨3, _⟩ => ⟨S1x3072, .f32⟩
  | .hbm, ⟨4, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4096x1024 : Shape := ⟨2, ![4096, 1024]⟩
abbrev S3072x1024 : Shape := ⟨2, ![3072, 1024]⟩
abbrev S3072 : Shape := ⟨1, ![3072]⟩
abbrev S1024x3072 : Shape := ⟨2, ![1024, 3072]⟩
abbrev S4096x3072 : Shape := ⟨2, ![4096, 3072]⟩
abbrev S1x3072 : Shape := ⟨2, ![1, 3072]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S3072, .f32⟩
  | .hbm, ⟨3, _⟩ => ⟨S4096x1024, .f32⟩
  | .hbm, ⟨4, _⟩ => ⟨S3072x1024, .f32⟩
  | .hbm, ⟨5, _⟩ => ⟨S1024x3072, .f32⟩
  | .hbm, ⟨6, _⟩ => ⟨S4096x3072, .f32⟩
  | .hbm, ⟨7, _⟩ => ⟨S1x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel10.lean ====
abbrev S4096x512 : Shape := ⟨2, ![4096, 512]⟩
abbrev S1024x512 : Shape := ⟨2, ![1024, 512]⟩
abbrev S4096x3072 : Shape := ⟨2, ![4096, 3072]⟩
abbrev S4096x1024 : Shape := ⟨2, ![4096, 1024]⟩
abbrev S512x512 : Shape := ⟨2, ![512, 512]⟩
abbrev S512x1024 : Shape := ⟨2, ![512, 1024]⟩

abbrev nBuf : Space → Nat
  | .hbm => 8
  | .vmem => 17
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S1024x512, .bf16⟩
  | .hbm, ⟨4, _⟩ => ⟨S1024x512, .bf16⟩
  | .hbm, ⟨5, _⟩ => ⟨S1024x512, .bf16⟩
  | .hbm, ⟨6, _⟩ => ⟨S4096x3072, .bf16⟩
  | .hbm, ⟨7, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference10Ideal.lean ====
abbrev S4096x512 : Shape := ⟨2, ![4096, 512]⟩
abbrev S1024x512 : Shape := ⟨2, ![1024, 512]⟩
abbrev S4096x3072 : Shape := ⟨2, ![4096, 3072]⟩
abbrev S4096x1024 : Shape := ⟨2, ![4096, 1024]⟩
abbrev S512x1024 : Shape := ⟨2, ![512, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S1024x512, .bf16⟩
  | .hbm, ⟨4, _⟩ => ⟨S1024x512, .bf16⟩
  | .hbm, ⟨5, _⟩ => ⟨S1024x512, .bf16⟩
  | .hbm, ⟨6, _⟩ => ⟨S4096x3072, .bf16⟩
  | .hbm, ⟨7, _⟩ => ⟨S4096x3072, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x512, .f32⟩
  | .hbm, ⟨12, _⟩ => ⟨S1024x512, .f32⟩
  | .hbm, ⟨13, _⟩ => ⟨S512x1024, .f32⟩
  | .hbm, ⟨14, _⟩ => ⟨S4096x1024, .f32⟩
  | .hbm, ⟨15, _⟩ => ⟨S4096x1024, .f32⟩
  | .hbm, ⟨16, _⟩ => ⟨S4096x512, .f32⟩
  | .hbm, ⟨17, _⟩ => ⟨S1024x512, .f32⟩
  | .hbm, ⟨18, _⟩ => ⟨S512x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x512, .f32⟩
  | .hbm, ⟨23, _⟩ => ⟨S1024x512, .f32⟩
  | .hbm, ⟨24, _⟩ => ⟨S512x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel11.lean ====
abbrev S4096x1024 : Shape := ⟨2, ![4096, 1024]⟩
abbrev S1024x512 : Shape := ⟨2, ![1024, 512]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .bf16⟩
  | .local _ .vmem, ⟨4, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x1024 : Shape := ⟨2, ![4096, 1024]⟩
abbrev S1024x512 : Shape := ⟨2, ![1024, 512]⟩
abbrev S_ : Shape := ⟨0, ![]⟩
abbrev S4096x512 : Shape := ⟨2, ![4096, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S1024x512, .f32⟩
  | .hbm, ⟨3, _⟩ => ⟨S_, .f32⟩
  | .hbm, ⟨4, _⟩ => ⟨S4096x512, .f32⟩
  | .hbm, ⟨5, _⟩ => ⟨S512x1024, .f32⟩
  | .hbm, ⟨6, _⟩ => ⟨S4096x1024, .f32⟩
  | .hbm, ⟨7, _⟩ => ⟨S4096x1024, .f32⟩
  | .hbm, ⟨8, _⟩ => ⟨S4096x512, .f32⟩
  | .hbm, ⟨9, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S4096x512 : Shape := ⟨2, ![4096, 512]⟩
abbrev S1024x512 : Shape := ⟨2, ![1024, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .f32⟩
  | .hbm, ⟨3, _⟩ => ⟨S4096x512, .f32⟩
  | .hbm, ⟨4, _⟩ => ⟨S_, .f32⟩
  | .hbm, ⟨5, _⟩ => ⟨S1024x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel14.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S128x1024 : Shape := ⟨2, ![128, 1024]⟩
abbrev S256x2816 : Shape := ⟨2, ![256, 2816]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩
abbrev S_ : Shape := ⟨0, ![]⟩

abbrev nBuf : Space → Nat
  | .hbm => 19
  | .vmem => 22
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S128x1024, .f32⟩
  | .hbm, ⟨13, _⟩ => ⟨S4096x1024, .bf16⟩
  | .hbm, ⟨14, _⟩ => ⟨S128x1024, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S8x1024, .f32⟩
  | .local _ .vmem, ⟨17, _⟩ => ⟨S8x1024, .f32⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | .local _ .vmem, ⟨21, _⟩ => ⟨S8x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_cst : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference14Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2816 : Shape := ⟨2, ![1024, 2816]⟩

abbrev nBuf : Space → Nat
  | .hbm => 112
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S1024, .f32⟩
  | .hbm, ⟨9, _⟩ => ⟨S4096x2816, .f32⟩
  | .hbm, ⟨10, _⟩ => ⟨S4096x2816, .f32⟩
  | .hbm, ⟨11, _⟩ => ⟨S2816x1024, .f32⟩
  | .hbm, ⟨12, _⟩ => ⟨S2816x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1024x2816, .f32⟩
  | .hbm, ⟨34, _⟩ => ⟨S4096x2816, .f32⟩
  | .hbm, ⟨35, _⟩ => ⟨S1024x2816, .f32⟩
  | .hbm, ⟨36, _⟩ => ⟨S4096x2816, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S4096x1024, .f32⟩
  | .hbm, ⟨95, _⟩ => ⟨S_, .f32⟩
  | .hbm, ⟨96, _⟩ => ⟨S4096, .f32⟩
  | .hbm, ⟨97, _⟩ => ⟨S4096x1, .f32⟩
  | .hbm, ⟨98, _⟩ => ⟨S4096x1024, .f32⟩
  | .hbm, ⟨99, _⟩ => ⟨S4096x1024, .f32⟩
  | .hbm, ⟨100, _⟩ => ⟨S4096x1, .f32⟩
  | .hbm, ⟨101, _⟩ => ⟨S_, .f32⟩
  | .hbm, ⟨102, _⟩ => ⟨S4096x1, .f32⟩
  | .hbm, ⟨103, _⟩ => ⟨S4096x1, .f32⟩
  | .hbm, ⟨104, _⟩ => ⟨S_, .f32⟩
  | .hbm, ⟨105, _⟩ => ⟨S4096, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_cst_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]
-- ==== Kernel15.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S128x1024 : Shape := ⟨2, ![128, 1024]⟩
abbrev S256x2816 : Shape := ⟨2, ![256, 2816]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩
abbrev S_ : Shape := ⟨0, ![]⟩

abbrev nBuf : Space → Nat
  | .hbm => 19
  | .vmem => 22
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S128x1024, .f32⟩
  | .hbm, ⟨13, _⟩ => ⟨S4096x1024, .bf16⟩
  | .hbm, ⟨14, _⟩ => ⟨S128x1024, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S8x1024, .f32⟩
  | .local _ .vmem, ⟨17, _⟩ => ⟨S8x1024, .f32⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | .local _ .vmem, ⟨21, _⟩ => ⟨S8x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_cst : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference15Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2816 : Shape := ⟨2, ![1024, 2816]⟩

abbrev nBuf : Space → Nat
  | .hbm => 118
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S1024, .f32⟩
  | .hbm, ⟨9, _⟩ => ⟨S4096x2816, .f32⟩
  | .hbm, ⟨10, _⟩ => ⟨S4096x2816, .f32⟩
  | .hbm, ⟨11, _⟩ => ⟨S2816x1024, .f32⟩
  | .hbm, ⟨12, _⟩ => ⟨S2816x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1024x2816, .f32⟩
  | .hbm, ⟨34, _⟩ => ⟨S4096x2816, .f32⟩
  | .hbm, ⟨35, _⟩ => ⟨S1024x2816, .f32⟩
  | .hbm, ⟨36, _⟩ => ⟨S4096x2816, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S1024, .f32⟩
  | .hbm, ⟨100, _⟩ => ⟨S4096x1024, .f32⟩
  | .hbm, ⟨101, _⟩ => ⟨S_, .f32⟩
  | .hbm, ⟨102, _⟩ => ⟨S4096, .f32⟩
  | .hbm, ⟨103, _⟩ => ⟨S4096x1, .f32⟩
  | .hbm, ⟨104, _⟩ => ⟨S4096x1024, .f32⟩
  | .hbm, ⟨105, _⟩ => ⟨S4096x1024, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_cst_18 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩

abbrev nD : Nat := 1
abbrev τ : Topo := Topo.v7x

variable {F : FTy → Type} [FloatOps F]
-- ==== Kernel16.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S128x1024 : Shape := ⟨2, ![128, 1024]⟩
abbrev S256x2816 : Shape := ⟨2, ![256, 2816]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩
abbrev S_ : Shape := ⟨0, ![]⟩

abbrev nBuf : Space → Nat
  | .hbm => 12
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S1x1024, .f32⟩
  | .hbm, ⟨8, _⟩ => ⟨S4096x1024, .f32⟩
  | .hbm, ⟨9, _⟩ => ⟨S128x1024, .f32⟩
  | .hbm, ⟨10, _⟩ => ⟨S_, .f32⟩
  | .hbm, ⟨11, _⟩ => ⟨S1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S8x1024, .f32⟩
  | .local _ .vmem, ⟨14, _⟩ => ⟨S8x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_cst : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2816 : Shape := ⟨2, ![1024, 2816]⟩

abbrev nBuf : Space → Nat
  | .hbm => 64
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x2816, .f32⟩
  | .hbm, ⟨8, _⟩ => ⟨S4096x2816, .f32⟩
  | .hbm, ⟨9, _⟩ => ⟨S2816x1024, .f32⟩
  | .hbm, ⟨10, _⟩ => ⟨S2816x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1024x2816, .f32⟩
  | .hbm, ⟨32, _⟩ => ⟨S4096x2816, .f32⟩
  | .hbm, ⟨33, _⟩ => ⟨S1024x2816, .f32⟩
  | .hbm, ⟨34, _⟩ => ⟨S4096x2816, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Kernel17.lean ====
abbrev S4096x1024 : Shape := ⟨2, ![4096, 1024]⟩
abbrev S4096x512 : Shape := ⟨2, ![4096, 512]⟩
abbrev S1024x1024 : Shape := ⟨2, ![1024, 1024]⟩
abbrev S1024x512 : Shape := ⟨2, ![1024, 512]⟩
abbrev S4096x3072 : Shape := ⟨2, ![4096, 3072]⟩
abbrev S_ : Shape := ⟨0, ![]⟩
abbrev S512x1024 : Shape := ⟨2, ![512, 1024]⟩
abbrev S512x512 : Shape := ⟨2, ![512, 512]⟩

abbrev nBuf : Space → Nat
  | .hbm => 24
  | .vmem => 34
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S1024x1024, .bf16⟩
  | .hbm, ⟨5, _⟩ => ⟨S1024x512, .bf16⟩
  | .hbm, ⟨6, _⟩ => ⟨S1024x512, .bf16⟩
  | .hbm, ⟨7, _⟩ => ⟨S1024x512, .bf16⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S4096x3072, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v7_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference17Ideal.lean ====
abbrev S4096x1024 : Shape := ⟨2, ![4096, 1024]⟩
abbrev S4096x512 : Shape := ⟨2, ![4096, 512]⟩
abbrev S1024x1024 : Shape := ⟨2, ![1024, 1024]⟩
abbrev S1024x512 : Shape := ⟨2, ![1024, 512]⟩
abbrev S4096x3072 : Shape := ⟨2, ![4096, 3072]⟩
abbrev S512x1024 : Shape := ⟨2, ![512, 1024]⟩
abbrev S_ : Shape := ⟨0, ![]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S1024x1024, .bf16⟩
  | .hbm, ⟨5, _⟩ => ⟨S1024x512, .bf16⟩
  | .hbm, ⟨6, _⟩ => ⟨S1024x512, .bf16⟩
  | .hbm, ⟨7, _⟩ => ⟨S1024x512, .bf16⟩
  | .hbm, ⟨8, _⟩ => ⟨S4096x3072, .f32⟩
  | .hbm, ⟨9, _⟩ => ⟨S1024x1024, .f32⟩
  | .hbm, ⟨10, _⟩ => ⟨S4096x512, .f32⟩
  | .hbm, ⟨11, _⟩ => ⟨S1024x512, .f32⟩
  | .hbm, ⟨12, _⟩ => ⟨S512x1024, .f32⟩
  | .hbm, ⟨13, _⟩ => ⟨S4096x1024, .f32⟩
  | .hbm, ⟨14, _⟩ => ⟨S4096x512, .f32⟩
  | .hbm, ⟨15, _⟩ => ⟨S1024x512, .f32⟩
  | .hbm, ⟨16, _⟩ => ⟨S512x1024, .f32⟩
  | .hbm, ⟨17, _⟩ => ⟨S4096x1024, .f32⟩
  | .hbm, ⟨18, _⟩ => ⟨S4096x512, .f32⟩
  | .hbm, ⟨19, _⟩ => ⟨S1024x512, .f32⟩
  | .hbm, ⟨20, _⟩ => ⟨S512x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .bf16⟩
  | .hbm, ⟨79, _⟩ => ⟨S4096x1024, .bf16⟩
  | .hbm, ⟨80, _⟩ => ⟨S4096x1024, .bf16⟩
  | .hbm, ⟨81, _⟩ => ⟨S4096x1024, .bf16⟩
  | .hbm, ⟨82, _⟩ => ⟨S4096x1024, .bf16⟩
  | .hbm, ⟨83, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel18.lean ====
abbrev S4096x352 : Shape := ⟨2, ![4096, 352]⟩
abbrev S1x4096x352 : Shape := ⟨3, ![1, 4096, 352]⟩
abbrev S1x512x352 : Shape := ⟨3, ![1, 512, 352]⟩
abbrev S512x352 : Shape := ⟨2, ![512, 352]⟩

abbrev nBuf : Space → Nat
  | .hbm => 9
  | .vmem => 16
  | .smem => 0
  | _ => 0

abbrev bufTy : (tb : Table) → Fin (tcTables nBuf tb) → BufTy
  | .hbm, ⟨0, _⟩ => ⟨S4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S1x4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .local _ .vmem, ⟨0, _⟩ => ⟨S1x512x352, .f32⟩
  | .local _ .vmem, ⟨1, _⟩ => ⟨S1x512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | .local _ .vmem, ⟨14, _⟩ => ⟨S512x352, .f32⟩
  | .local _ .vmem, ⟨15, _⟩ => ⟨S512x352, .f32⟩
  | _, _ => ⟨S4096x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel18Ideal.lean ====
abbrev S4096x352 : Shape := ⟨2, ![4096, 352]⟩
abbrev S1x4096x352 : Shape := ⟨3, ![1, 4096, 352]⟩
abbrev S1x512x352 : Shape := ⟨3, ![1, 512, 352]⟩
abbrev S512x352 : Shape := ⟨2, ![512, 352]⟩

abbrev nBuf : Space → Nat
  | .hbm => 9
  | .vmem => 16
  | .smem => 0
  | _ => 0

abbrev bufTy : (tb : Table) → Fin (tcTables nBuf tb) → BufTy
  | .hbm, ⟨0, _⟩ => ⟨S4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S1x4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .local _ .vmem, ⟨0, _⟩ => ⟨S1x512x352, .f32⟩
  | .local _ .vmem, ⟨1, _⟩ => ⟨S1x512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | .local _ .vmem, ⟨14, _⟩ => ⟨S512x352, .f32⟩
  | .local _ .vmem, ⟨15, _⟩ => ⟨S512x352, .f32⟩
  | _, _ => ⟨S4096x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S4096x352 : Shape := ⟨2, ![4096, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S_, .f32⟩
  | .hbm, ⟨5, _⟩ => ⟨S4096x352, .f32⟩
  | .hbm, ⟨6, _⟩ => ⟨S4096x352, .f32⟩
  | .hbm, ⟨7, _⟩ => ⟨S_, .f32⟩
  | .hbm, ⟨8, _⟩ => ⟨S4096x352, .f32⟩
  | .hbm, ⟨9, _⟩ => ⟨S4096x352, .f32⟩
  | .hbm, ⟨10, _⟩ => ⟨S4096x352, .f32⟩
  | .hbm, ⟨11, _⟩ => ⟨S_, .f32⟩
  | .hbm, ⟨12, _⟩ => ⟨S4096x352, .f32⟩
  | .hbm, ⟨13, _⟩ => ⟨S4096x352, .f32⟩
  | .hbm, ⟨14, _⟩ => ⟨S4096x352, .f32⟩
  | .hbm, ⟨15, _⟩ => ⟨S_, .f32⟩
  | .hbm, ⟨16, _⟩ => ⟨S4096x352, .f32⟩
  | .hbm, ⟨17, _⟩ => ⟨S4096x352, .f32⟩
  | .hbm, ⟨18, _⟩ => ⟨S4096x352, .f32⟩
  | .hbm, ⟨19, _⟩ => ⟨S_, .f32⟩
  | .hbm, ⟨20, _⟩ => ⟨S4096x352, .f32⟩
  | .hbm, ⟨21, _⟩ => ⟨S4096x352, .f32⟩
  | .hbm, ⟨22, _⟩ => ⟨S_, .f32⟩
  | .hbm, ⟨23, _⟩ => ⟨S4096x352, .f32⟩
  | .hbm, ⟨24, _⟩ => ⟨S4096x352, .f32⟩
  | .hbm, ⟨25, _⟩ => ⟨S4096x352, .f32⟩
  | .hbm, ⟨26, _⟩ => ⟨S_, .f32⟩
  | .hbm, ⟨27, _⟩ => ⟨S4096x352, .f32⟩
  | .hbm, ⟨28, _⟩ => ⟨S4096x352, .f32⟩
  | .hbm, ⟨29, _⟩ => ⟨S4096x352, .f32⟩
  | .hbm, ⟨30, _⟩ => ⟨S_, .f32⟩
  | .hbm, ⟨31, _⟩ => ⟨S4096x352, .f32⟩
  | .hbm, ⟨32, _⟩ => ⟨S4096x352, .f32⟩
  | .hbm, ⟨33, _⟩ => ⟨S4096x352, .f32⟩
  | .hbm, ⟨34, _⟩ => ⟨S_, .f32⟩
  | .hbm, ⟨35, _⟩ => ⟨S4096x352, .f32⟩
  | .hbm, ⟨36, _⟩ => ⟨S4096x352, .f32⟩
  | _, _ => ⟨S4096x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1408x1024 : Shape := ⟨2, ![1408, 1024]⟩
abbrev S1x1408x1024 : Shape := ⟨3, ![1, 1408, 1024]⟩
abbrev S1x352x1024 : Shape := ⟨3, ![1, 352, 1024]⟩
abbrev S352x1024 : Shape := ⟨2, ![352, 1024]⟩

abbrev nBuf : Space → Nat
  | .hbm => 9
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1x1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S1x352x1024, .f32⟩
  | .local _ .vmem, ⟨1, _⟩ => ⟨S1x352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S8x48x1024 : Shape := ⟨3, ![8, 48, 1024]⟩
abbrev S48x1024 : Shape := ⟨2, ![48, 1024]⟩
abbrev S1x48x1024 : Shape := ⟨3, ![1, 48, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S48x1024, .f32⟩
  | .hbm, ⟨5, _⟩ => ⟨S48x1024, .f32⟩
  | .hbm, ⟨6, _⟩ => ⟨S48x1024, .f32⟩
  | .hbm, ⟨7, _⟩ => ⟨S48x1024, .f32⟩
  | .local _ .vmem, ⟨0, _⟩ => ⟨S8x48x1024, .f32⟩
  | .local _ .vmem, ⟨1, _⟩ => ⟨S48x1024, .f32⟩
  | .local _ .vmem, ⟨2, _⟩ => ⟨S48x1024, .f32⟩
  | .local _ .vmem, ⟨3, _⟩ => ⟨S48x1024, .f32⟩
  | .local _ .vmem, ⟨4, _⟩ => ⟨S48x1024, .f32⟩
  | .local _ .vmem, ⟨5, _⟩ => ⟨S48x1024, .f32⟩
  | .local _ .vmem, ⟨6, _⟩ => ⟨S48x1024, .f32⟩
  | .local _ .vmem, ⟨7, _⟩ => ⟨S48x1024, .f32⟩
  | _, _ => ⟨S8x48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S48x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S48x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S48x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S48x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S48x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S8x48x1024 : Shape := ⟨3, ![8, 48, 1024]⟩
abbrev S48x1024 : Shape := ⟨2, ![48, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S_, .f32⟩
  | .hbm, ⟨5, _⟩ => ⟨S48x1024, .f32⟩
  | .hbm, ⟨6, _⟩ => ⟨S_, .f32⟩
  | .hbm, ⟨7, _⟩ => ⟨S48x1024, .f32⟩
  | .hbm, ⟨8, _⟩ => ⟨S48x1024, .f32⟩
  | .hbm, ⟨9, _⟩ => ⟨S_, .f32⟩
  | .hbm, ⟨10, _⟩ => ⟨S48x1024, .f32⟩
  | .hbm, ⟨11, _⟩ => ⟨S48x1024, .f32⟩
  | .hbm, ⟨12, _⟩ => ⟨S48x1024, .f32⟩
  | .hbm, ⟨13, _⟩ => ⟨S_, .f32⟩
  | .hbm, ⟨14, _⟩ => ⟨S48x1024, .f32⟩
  | .hbm, ⟨15, _⟩ => ⟨S48x1024, .f32⟩
  | .hbm, ⟨16, _⟩ => ⟨S48x1024, .f32⟩
  | .hbm, ⟨17, _⟩ => ⟨S_, .f32⟩
  | .hbm, ⟨18, _⟩ => ⟨S48x1024, .f32⟩
  | .hbm, ⟨19, _⟩ => ⟨S48x1024, .f32⟩
  | .hbm, ⟨20, _⟩ => ⟨S48x1024, .f32⟩
  | .hbm, ⟨21, _⟩ => ⟨S_, .f32⟩
  | .hbm, ⟨22, _⟩ => ⟨S48x1024, .f32⟩
  | .hbm, ⟨23, _⟩ => ⟨S48x1024, .f32⟩
  | .hbm, ⟨24, _⟩ => ⟨S_, .f32⟩
  | .hbm, ⟨25, _⟩ => ⟨S48x1024, .f32⟩
  | .hbm, ⟨26, _⟩ => ⟨S48x1024, .f32⟩
  | .hbm, ⟨27, _⟩ => ⟨S48x1024, .f32⟩
  | .hbm, ⟨28, _⟩ => ⟨S_, .f32⟩
  | .hbm, ⟨29, _⟩ => ⟨S48x1024, .f32⟩
  | .hbm, ⟨30, _⟩ => ⟨S48x1024, .f32⟩
  | .hbm, ⟨31, _⟩ => ⟨S48x1024, .f32⟩
  | .hbm, ⟨32, _⟩ => ⟨S_, .f32⟩
  | .hbm, ⟨33, _⟩ => ⟨S48x1024, .f32⟩
  | .hbm, ⟨34, _⟩ => ⟨S48x1024, .f32⟩
  | .hbm, ⟨35, _⟩ => ⟨S48x1024, .f32⟩
  | .hbm, ⟨36, _⟩ => ⟨S_, .f32⟩
  | .hbm, ⟨37, _⟩ => ⟨S48x1024, .f32⟩
  | .hbm, ⟨38, _⟩ => ⟨S48x1024, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Sb.Real.lean ====
/-
  The mathematics of one head of the stick-breaking attention's backward pass, over the reals, indexed by natural
  numbers: rows `t` (queries), columns `s` (keys), lanes `l`. Nothing here knows of the kernel or of the reference.
-/
module

public import Idealize.ShloMosaic.PureOps.Ideal

@[expose] public section

noncomputable section

namespace Cert.Sb

open Finset

/-- `softplus x = log (1 + exp x)`, in the form that does not overflow. -/
def sp (x : ℝ) : ℝ := max x 0 + Real.log (1 + Real.exp (-|x|))

/-- The products of the rows of `a` with the rows of `b`, over `n` lanes. -/
def dotf (n : ℕ) (a b : ℕ → ℕ → ℝ) (t s : ℕ) : ℝ := ∑ l ∈ range n, a t l * b s l

/-- `log (1 - σ z)`, without the mask. -/
def lraw (z : ℕ → ℕ → ℝ) (t s : ℕ) : ℝ := 0 - sp (z t s)

/-- `log (1 - σ z)` below the diagonal, zero elsewhere. -/
def lnf (z : ℕ → ℕ → ℝ) (t s : ℕ) : ℝ := if s < t then lraw z t s else 0

/-- `log (σ z)`. -/
def lbf (z : ℕ → ℕ → ℝ) (t s : ℕ) : ℝ := lraw z t s + z t s

/-- The sum of `lnf` over the first `n` columns. -/
def pref (z : ℕ → ℕ → ℝ) (t n : ℕ) : ℝ := ∑ s ∈ range n, lnf z t s

/-- The attention weight: `σ z` times the products of `1 - σ z` over the later columns. -/
def wf (N : ℕ) (z : ℕ → ℕ → ℝ) (t s : ℕ) : ℝ :=
  if s < t then Real.exp (lbf z t s + (pref z t N - pref z t (s + 1))) else 0

/-- The weight times its cotangent `d`. -/
def gf (N : ℕ) (z d : ℕ → ℕ → ℝ) (t s : ℕ) : ℝ := d t s * wf N z t s

/-- The sum of `gf` over the first `n` columns. -/
def cf (N : ℕ) (z d : ℕ → ℕ → ℝ) (t n : ℕ) : ℝ := ∑ s ∈ range n, gf N z d t s

/-- The cotangent of the logit `z`. -/
def dzf (N : ℕ) (z d : ℕ → ℕ → ℝ) (t s : ℕ) : ℝ :=
  if s < t then gf N z d t s * (1 - Real.exp (lbf z t s)) - cf N z d t s * Real.exp (lbf z t s) else 0

/-- A prefix sum, cut at `a`: the columns up to `a`, then `c` more. -/
theorem sum_range_cut (f : ℕ → ℝ) (a n c : ℕ) (hc : c ≤ n) :
    ∑ j ∈ range n, (if j < c then f (a + j) else 0) + ∑ s ∈ range a, f s = ∑ s ∈ range (a + c), f s := by
  have h : ∑ j ∈ range n, (if j < c then f (a + j) else 0) = ∑ j ∈ range c, f (a + j) := by
    rw [← Finset.sum_filter]
    refine Finset.sum_congr (Finset.ext fun j => ?_) fun _ _ => rfl
    simp only [mem_filter, mem_range]; omega
  rw [h, Finset.sum_range_add, add_comm]

end Cert.Sb
-- ==== Proof.Sb.Toolkit.lean ====
/-
  Matrices of extended reals that hold real numbers: `MR v f` says that the `n × m` matrix `v` holds the real `f r c` at
  row `r`, column `c`. One closure lemma for each operation the kernel applies.
-/
module

public import Idealize.ShloMosaic.Lib.ValueIdx
public import Idealize.ShloMosaic.Lib.Pointwise
public import Idealize.ShloMosaic.Lib.Pipeline.Value
public import Idealize.ShloMosaic.PureOps.Ideal
public import proofs.«01_k».proof.Proof.Sb.Real

@[expose] public section

noncomputable section

open Idealize.ShloMosaic Finset

namespace Cert.Sb

/-- The two-axis shape `n × m`. -/
abbrev Sh (n m : ℕ) : Shape := ⟨2, ![n, m]⟩

/-- The three-axis shape `k × n × m`. -/
abbrev Sh3 (k n m : ℕ) : Shape := ⟨3, ![k, n, m]⟩

/-- An `n × m` matrix of extended reals holds the real numbers `f r c`. -/
def MR {n m : ℕ} {φ : FTy} (v : FVec Ideal (Sh n m) φ) (f : ℕ → ℕ → ℝ) : Prop :=
  ∀ i : (Sh n m).Idx, v i = ((f (i 0).val (i 1).val : ℝ) : EReal)

/-- A `1 × n × m` block of extended reals holds the real numbers `f r c`. -/
def MR3 {n m : ℕ} {φ : FTy} (v : FVec Ideal (Sh3 1 n m) φ) (f : ℕ → ℕ → ℝ) : Prop :=
  ∀ i : (Sh3 1 n m).Idx, v i = ((f (i 1).val (i 2).val : ℝ) : EReal)

/-- A mask holds at row `r`, column `c` exactly when `p r c`. -/
def BM {n m : ℕ} (v : IVec (Sh n m) 1) (p : ℕ → ℕ → Prop) : Prop :=
  ∀ i : (Sh n m).Idx, v i = 1 ↔ p (i 0).val (i 1).val

/-- A matrix of words holds the numbers `f r c`, far from overflow. -/
def IM {n m : ℕ} (v : IVec (Sh n m) 32) (f : ℕ → ℕ → ℕ) : Prop :=
  ∀ i : (Sh n m).Idx, v i = BitVec.ofNat 32 (f (i 0).val (i 1).val)

theorem coe_sum_range (k : ℕ) (f : ℕ → ℝ) : ∑ l : Fin k, ((f l.val : ℝ) : EReal) = ((∑ l ∈ range k, f l : ℝ) : EReal) := by
  induction k with
  | zero => simp
  | succ k ih => rw [Fin.sum_univ_castSucc, Finset.sum_range_succ, EReal.coe_add, ← ih]; rfl

section
variable {n m : ℕ} {φ : FTy} {a b : FVec Ideal (Sh n m) φ} {f g : ℕ → ℕ → ℝ}

theorem MR.congr (h : MR a f) (e : ∀ r c, r < n → c < m → f r c = g r c) : MR a g := fun i => by
  rw [h i, e _ _ (i 0).isLt (i 1).isLt]

theorem MR.add (ha : MR a f) (hb : MR b g) : MR (addf a b) fun r c => f r c + g r c := fun i => by
  show a i + b i = _
  rw [ha, hb, ← EReal.coe_add]

theorem MR.sub (ha : MR a f) (hb : MR b g) : MR (subf a b) fun r c => f r c - g r c := fun i => by
  show a i - b i = _
  rw [ha, hb, ← EReal.coe_sub]

theorem MR.mul (ha : MR a f) (hb : MR b g) : MR (mulf a b) fun r c => f r c * g r c := fun i => by
  show a i * b i = _
  rw [ha, hb, ← EReal.coe_mul]

theorem MR.max (ha : MR a f) (hb : MR b g) : MR (maximumf a b) fun r c => Max.max (f r c) (g r c) := fun i => by
  show Max.max (a i) (b i) = _
  rw [ha, hb]; exact (EReal.coe_strictMono.monotone.map_max).symm

theorem MR.abs (ha : MR a f) : MR (absf a) fun r c => |f r c| := fun i => by
  show Max.max (a i) (-(a i)) = _
  rw [ha, ← EReal.coe_neg]; exact (EReal.coe_strictMono.monotone.map_max).symm

theorem MR.exp (ha : MR a f) : MR (Idealize.ShloMosaic.exp a) fun r c => Real.exp (f r c) := fun i => by
  show Ideal.exp (a i) = _
  rw [ha, Ideal.exp_coe]

theorem MR.log (ha : MR a f) (hp : ∀ r c, 0 < f r c) : MR (Idealize.ShloMosaic.log a) fun r c => Real.log (f r c) := fun i => by
  show Ideal.log (a i) = _
  rw [ha, Ideal.log_coe, if_neg (not_le.mpr (hp _ _))]

theorem MR.trunc {ψ : FTy} (ha : MR a f) (h : ψ.bits < φ.bits) : MR (truncf ψ a h : FVec Ideal (Sh n m) ψ) f := fun i => ha i

theorem MR.ext {ψ : FTy} (ha : MR a f) (h : φ.bits < ψ.bits) : MR (extf ψ a h : FVec Ideal (Sh n m) ψ) f := fun i => ha i

theorem MR.sel {p : ℕ → ℕ → Prop} [∀ r c, Decidable (p r c)] {v : IVec (Sh n m) 1} (hv : BM v p) (ha : MR a f) (hb : MR b g) :
    MR (select v a b) fun r c => if p r c then f r c else g r c := fun i => by
  show (if v i = 1 then a i else b i) = _
  by_cases h : p (i 0).val (i 1).val
  · rw [if_pos ((hv i).2 h), ha]; simp only [h, if_true]
  · rw [if_neg fun e => h ((hv i).1 e), hb]; simp only [h, if_false]

/-- The column of a matrix, spread over `k` columns. -/
theorem MR.bcast {k : ℕ} {x : FVec Ideal (Sh n 1) φ} (hx : MR x f) (hn : n ≠ 1) (h : (Sh n 1).Broadcasts (Sh n k)) :
    MR (broadcastTo (Sh n k) x h) fun r _ => f r 0 := fun j => by
  rw [broadcastTo_apply x h j (ix2 (j 0) 0) ?_, hx]
  · rfl
  · intro a
    match a with
    | ⟨0, _⟩ => exact (if_neg hn).symm ▸ rfl
    | ⟨1, _⟩ => rfl

theorem MR.slice {n' m' o p : ℕ} {x : FVec Ideal (Sh n m) φ} (hx : MR x f) (h : (Sh n m).Slices ![o, p] (Sh n' m')) :
    MR (extractStridedSlice (Sh n' m') ![o, p] x h) fun r c => f (o + r) (p + c) := fun j => by
  show x _ = _
  rw [hx]; rfl

theorem IM.slice {n' m' o p : ℕ} {x : IVec (Sh n m) 32} {f : ℕ → ℕ → ℕ} (hx : IM x f) (h : (Sh n m).Slices ![o, p] (Sh n' m')) :
    IM (extractStridedSlice (Sh n' m') ![o, p] x h) fun r c => f (o + r) (p + c) := fun j => by
  show x _ = _
  rw [hx]; rfl

theorem IM.add {x y : IVec (Sh n m) 32} {f g : ℕ → ℕ → ℕ} (hx : IM x f) (hy : IM y g) :
    IM (addi x y) fun r c => f r c + g r c := fun j => by
  show x j + y j = _
  rw [hx, hy, ← BitVec.ofNat_add]

theorem IM.congr {x : IVec (Sh n m) 32} {f g : ℕ → ℕ → ℕ} (hx : IM x f) (e : ∀ r c, r < n → c < m → f r c = g r c) :
    IM x g := fun j => by rw [hx, e _ _ (j 0).isLt (j 1).isLt]

theorem toInt_ofNat_small (k : ℕ) (h : k < 2 ^ 31) : (BitVec.ofNat 32 k).toInt = (k : ℤ) := by
  rw [BitVec.toInt_eq_toNat_of_lt] <;> rw [BitVec.toNat_ofNat, Nat.mod_eq_of_lt (by omega)]
  omega

theorem ofBool_eq_one (b : Bool) : BitVec.ofBool b = 1#1 ↔ b = true := by cases b <;> decide

theorem IM.slt {x y : IVec (Sh n m) 32} {f g : ℕ → ℕ → ℕ} (hx : IM x f) (hy : IM y g)
    (bf : ∀ r c, r < n → c < m → f r c < 2 ^ 31) (bg : ∀ r c, r < n → c < m → g r c < 2 ^ 31) :
    BM (cmpi .slt x y) fun r c => f r c < g r c := fun j => by
  show Scalar.cmpi .slt (x j) (y j) = 1 ↔ _
  rw [hx, hy]
  show BitVec.ofBool (BitVec.slt _ _) = 1#1 ↔ _
  rw [ofBool_eq_one, BitVec.slt_iff_toInt_lt, toInt_ofNat_small _ (bf _ _ (j 0).isLt (j 1).isLt),
    toInt_ofNat_small _ (bg _ _ (j 0).isLt (j 1).isLt), Int.ofNat_lt]

theorem MR.dropUnit {x : FVec Ideal (Sh3 1 n m) φ} (hx : MR3 x f) (h : (Sh3 1 n m).ShapeCasts (Sh n m)) :
    MR (shapeCast (Sh n m) x h) f := fun j => by
  rw [shapeCast_dropUnit_apply, hx]; rfl

theorem MR.addUnit {x : FVec Ideal (Sh n m) φ} (hx : MR x f) (h : (Sh n m).ShapeCasts (Sh3 1 n m)) :
    MR3 (shapeCast (Sh3 1 n m) x h) f := fun j => by
  rw [shapeCast_addUnit_apply]; exact hx _

theorem MR.castSelf {x : FVec Ideal (Sh n m) φ} (hx : MR x f) (h : (Sh n m).ShapeCasts (Sh n m)) :
    MR (shapeCast (Sh n m) x h) f := by rw [shapeCast_self]; exact hx

end

/-- A constant matrix. -/
theorem MR.const {n m : ℕ} {φ : FTy} {w : BitVec φ.bits} {x : ℝ} (h : Ideal.ofBits φ w = (x : EReal)) :
    MR (constant (F := Ideal) (Sh n m) φ w) fun _ _ => x := fun _ => h

theorem MR.splat {n m : ℕ} {φ : FTy} {w : BitVec φ.bits} {x : ℝ} (h : Ideal.ofBits φ w = (x : EReal)) :
    MR (φ := φ) (broadcast (Sh n m) (Scalar.ofBits (F := Ideal) φ w)) fun _ _ => x := fun _ => h

/-- The contraction sums the products of a row of the left with a row of the right. -/
def NT {n k m : ℕ} (d : DotDims (Sh n k) (Sh m k) (Sh n m)) : Prop := ∀ (a : (Sh n k).Idx → EReal) (b : (Sh m k).Idx → EReal)
  (c : (Sh n m).Idx → EReal) j, Ideal.matmul d a b c j = c j + ∑ l : Fin k, a (ix2 (j 0) l) * b (ix2 (j 1) l)

/-- The contraction sums the products of a row of the left with a column of the right. -/
def NN {n k m : ℕ} (d : DotDims (Sh n k) (Sh k m) (Sh n m)) : Prop := ∀ (a : (Sh n k).Idx → EReal) (b : (Sh k m).Idx → EReal)
  (c : (Sh n m).Idx → EReal) j, Ideal.matmul d a b c j = c j + ∑ l : Fin k, a (ix2 (j 0) l) * b (ix2 l (j 1))

/-- The contraction sums the products of a column of the left with a column of the right. -/
def TN {n k m : ℕ} (d : DotDims (Sh k n) (Sh k m) (Sh n m)) : Prop := ∀ (a : (Sh k n).Idx → EReal) (b : (Sh k m).Idx → EReal)
  (c : (Sh n m).Idx → EReal) j, Ideal.matmul d a b c j = c j + ∑ l : Fin k, a (ix2 l (j 0)) * b (ix2 l (j 1))

section
variable {n k m : ℕ} {φ ψ : FTy} {f g e : ℕ → ℕ → ℝ}

theorem MR.nt {d : DotDims (Sh n k) (Sh m k) (Sh n m)} (hd : NT d) {a : FVec Ideal (Sh n k) φ} {b : FVec Ideal (Sh m k) φ}
    {c : FVec Ideal (Sh n m) .f32} (ha : MR a f) (hb : MR b g) (hc : MR c e) :
    MR (matmul d none a b c) fun r s => e r s + ∑ l ∈ range k, f r l * g s l := fun j => by
  show Ideal.matmul d a b c j = _
  rw [hd, hc, EReal.coe_add, ← coe_sum_range]
  congr 1
  refine Finset.sum_congr rfl fun l _ => ?_
  rw [ha, hb, ← EReal.coe_mul]; rfl

theorem MR.nn {d : DotDims (Sh n k) (Sh k m) (Sh n m)} (hd : NN d) {a : FVec Ideal (Sh n k) φ} {b : FVec Ideal (Sh k m) φ}
    {c : FVec Ideal (Sh n m) .f32} (ha : MR a f) (hb : MR b g) (hc : MR c e) :
    MR (matmul d none a b c) fun r s => e r s + ∑ l ∈ range k, f r l * g l s := fun j => by
  show Ideal.matmul d a b c j = _
  rw [hd, hc, EReal.coe_add, ← coe_sum_range]
  congr 1
  refine Finset.sum_congr rfl fun l _ => ?_
  rw [ha, hb, ← EReal.coe_mul]; rfl

theorem MR.tn {d : DotDims (Sh k n) (Sh k m) (Sh n m)} (hd : TN d) {a : FVec Ideal (Sh k n) φ} {b : FVec Ideal (Sh k m) φ}
    {c : FVec Ideal (Sh n m) .f32} (ha : MR a f) (hb : MR b g) (hc : MR c e) :
    MR (matmul d none a b c) fun r s => e r s + ∑ l ∈ range k, f l r * g l s := fun j => by
  show Ideal.matmul d a b c j = _
  rw [hd, hc, EReal.coe_add, ← coe_sum_range]
  congr 1
  refine Finset.sum_congr rfl fun l _ => ?_
  rw [ha, hb, ← EReal.coe_mul]; rfl

end

end Cert.Sb
-- ==== Proof.Sb.Sub.lean ====
/-
  One sub-step of the kernel — a block of query rows against 256 keys of one head — as functions of vectors, over any
  number of rows, with or without the causal mask; and what those vectors hold over the extended reals when the arguments
  hold real numbers.
-/
module

public import proofs.«01_k».proof.Proof.Sb.Toolkit

@[expose] public section

noncomputable section

open Idealize.ShloMosaic Finset

namespace Cert.Sb

variable {F : FTy → Type} [FloatOps F]

theorem bits_lt : FTy.bits .bf16 < FTy.bits .f32 := by decide

/-- The four contractions of a sub-step over `n` rows, and the shapes' side conditions. -/
structure Dots (n : ℕ) where
  nt : DotDims (Sh n 128) (Sh 256 128) (Sh n 256)
  cu : DotDims (Sh n 256) (Sh 256 256) (Sh n 256)
  nn : DotDims (Sh n 256) (Sh 256 128) (Sh n 128)
  tn : DotDims (Sh n 256) (Sh n 128) (Sh 256 128)
  bc : (Sh n 1).Broadcasts (Sh n 256)
  sl : (Sh n 256).Slices ![0, 255] (Sh n 1)

/-- The contractions are the ones their names say. -/
structure Dots.Ok {n : ℕ} (D : Dots n) : Prop where
  nt : NT D.nt
  cu : NN D.cu
  nn : NN D.nn
  tn : TN D.tn
  pos : n ≠ 1

/-- What a sub-step reads beside the keys: the head's query rows (scaled) and cotangent rows, the two triangular
    matrices, and the rows' totals. -/
structure Env (F : FTy → Type) (n : ℕ) where
  qh : FVec F (Sh n 128) .bf16
  doh : FVec F (Sh n 128) .bf16
  upto : FVec F (Sh 256 256) .bf16
  before : FVec F (Sh 256 256) .bf16
  rt : FVec F (Sh n 256) .f32

/-- Zero where the mask does not hold. -/
def msk {n m : ℕ} (o : Option (IVec (Sh n m) 1)) (x : FVec F (Sh n m) .f32) : FVec F (Sh n m) .f32 :=
  match o with
  | none => x
  | some v => select v x (broadcast (Sh n m) (Scalar.ofBits .f32 0x00000000#32))

/-- `log (1 - σ z)`. -/
def lnV {s : Shape} (z : FVec F s .f32) : FVec F s .f32 :=
  subf (broadcast s (Scalar.ofBits .f32 0x00000000#32))
    (addf (maximumf z (broadcast s (Scalar.ofBits .f32 0x00000000#32)))
      (log (addf (broadcast s (Scalar.ofBits .f32 0x3F800000#32))
        (exp (subf (broadcast s (Scalar.ofBits .f32 0x00000000#32)) (absf z))))))

/-- `log (σ z)`. -/
def lbV {s : Shape} (z : FVec F s .f32) : FVec F s .f32 := addf (lnV z) z

variable {n : ℕ} (D : Dots n) (E : Env F n) (o : Option (IVec (Sh n 256) 1))

/-- The logits. -/
def zV (k : FVec F (Sh 256 128) .bf16) : FVec F (Sh n 256) .f32 :=
  matmul D.nt none E.qh k (constant (Sh n 256) .f32 0x00000000#32)

/-- The cotangents of the weights. -/
def dwV (v : FVec F (Sh 256 128) .bf16) : FVec F (Sh n 256) .f32 :=
  matmul D.nt none E.doh v (constant (Sh n 256) .f32 0x00000000#32)

/-- Sums along the columns, by a product with a triangular matrix. -/
def cumV (x : FVec F (Sh n 256) .f32) (u : FVec F (Sh 256 256) .bf16) : FVec F (Sh n 256) .f32 :=
  matmul D.cu none (truncf .bf16 x bits_lt) u (constant (Sh n 256) .f32 0x00000000#32)

/-- The running sums of `log (1 - σ z)`, from the running sum `p` at the block's left. -/
def pfxV (k : FVec F (Sh 256 128) .bf16) (p : FVec F (Sh n 1) .f32) : FVec F (Sh n 256) .f32 :=
  addf (cumV D (msk o (lnV (zV D E k))) E.upto) (broadcastTo (Sh n 256) p D.bc)

/-- The weights. -/
def wV (k : FVec F (Sh 256 128) .bf16) (p : FVec F (Sh n 1) .f32) : FVec F (Sh n 256) .f32 :=
  msk o (exp (addf (lbV (zV D E k)) (subf E.rt (pfxV D E o k p))))

/-- The weights times their cotangents. -/
def gV (k v : FVec F (Sh 256 128) .bf16) (p : FVec F (Sh n 1) .f32) : FVec F (Sh n 256) .f32 :=
  mulf (dwV D E v) (wV D E o k p)

/-- The running sums of the previous, the column itself left out, from the running sum `c` at the block's left. -/
def cV (k v : FVec F (Sh 256 128) .bf16) (p c : FVec F (Sh n 1) .f32) : FVec F (Sh n 256) .f32 :=
  addf (cumV D (gV D E o k v p) E.before) (broadcastTo (Sh n 256) c D.bc)

/-- The cotangents of the logits. -/
def dzV (k v : FVec F (Sh 256 128) .bf16) (p c : FVec F (Sh n 1) .f32) : FVec F (Sh n 256) .f32 :=
  msk o (subf (mulf (gV D E o k v p) (subf (broadcast (Sh n 256) (Scalar.ofBits .f32 0x3F800000#32)) (exp (lbV (zV D E k)))))
    (mulf (cV D E o k v p c) (exp (lbV (zV D E k)))))

/-- What the block adds to the query gradient. -/
def dqV (k v : FVec F (Sh 256 128) .bf16) (p c : FVec F (Sh n 1) .f32) : FVec F (Sh n 128) .f32 :=
  matmul D.nn none (truncf .bf16 (dzV D E o k v p c) bits_lt) k (constant (Sh n 128) .f32 0x00000000#32)

/-- What the block adds to the key gradient. -/
def dkV (k v : FVec F (Sh 256 128) .bf16) (p c : FVec F (Sh n 1) .f32) : FVec F (Sh 256 128) .f32 :=
  matmul D.tn none (truncf .bf16 (dzV D E o k v p c) bits_lt) E.qh (constant (Sh 256 128) .f32 0x00000000#32)

/-- What the block adds to the value gradient. -/
def dvV (k : FVec F (Sh 256 128) .bf16) (p : FVec F (Sh n 1) .f32) : FVec F (Sh 256 128) .f32 :=
  matmul D.tn none (truncf .bf16 (wV D E o k p) bits_lt) E.doh (constant (Sh 256 128) .f32 0x00000000#32)

/-- The running sum of `log (1 - σ z)` at the block's right. -/
def pN (k : FVec F (Sh 256 128) .bf16) (p : FVec F (Sh n 1) .f32) : FVec F (Sh n 1) .f32 :=
  extractStridedSlice (Sh n 1) ![0, 255] (pfxV D E o k p) D.sl

/-- The running sum of the weights times their cotangents at the block's right. -/
def cN (k v : FVec F (Sh 256 128) .bf16) (p c : FVec F (Sh n 1) .f32) : FVec F (Sh n 1) .f32 :=
  addf (extractStridedSlice (Sh n 1) ![0, 255] (cV D E o k v p c) D.sl)
    (extractStridedSlice (Sh n 1) ![0, 255] (gV D E o k v p) D.sl)

end Cert.Sb
-- ==== Proof.Sb.SubVal.lean ====
/-
  What the vectors of one sub-step hold, over the extended reals, when the arguments hold real numbers.
-/
module

public import proofs.«01_k».proof.Proof.Sb.Sub

@[expose] public section

noncomputable section

open Idealize.ShloMosaic Finset

namespace Cert.Sb

theorem zero_bits : Ideal.ofBits .f32 0x00000000#32 = ((0 : ℝ) : EReal) := by
  simp [Ideal.ofBits, Ideal.ieee, -EReal.coe_mul]

theorem one_bits : Ideal.ofBits .f32 0x3F800000#32 = ((1 : ℝ) : EReal) := by
  simp [Ideal.ofBits, Ideal.ieee, -EReal.coe_mul]; norm_num

variable {n : ℕ} {D : Dots n} {E : Env Ideal n} {o : Option (IVec (Sh n 256) 1)}

/-- The real numbers a sub-step's arguments hold, at rows `t0 …` and columns `s0 …`, and the mask's meaning. -/
structure Holds (D : Dots n) (E : Env Ideal n) (o : Option (IVec (Sh n 256) 1)) (N : ℕ) (q d : ℕ → ℕ → ℝ) (z : ℕ → ℕ → ℝ)
    (t0 s0 : ℕ) : Prop where
  ok : D.Ok
  qh : MR E.qh fun r l => q (t0 + r) l
  doh : MR E.doh fun r l => d (t0 + r) l
  upto : MR E.upto fun j c => if j ≤ c then 1 else 0
  before : MR E.before fun j c => if j < c then 1 else 0
  rt : MR E.rt fun r _ => pref z (t0 + r) N
  mask : ∀ v, o = some v → BM v fun r c => s0 + c < t0 + r
  free : o = none → ∀ r c, r < n → c < 256 → s0 + c < t0 + r

theorem lraw_MR {m : ℕ} {x : FVec Ideal (Sh n m) .f32} {f : ℕ → ℕ → ℝ} (hx : MR x f) :
    MR (lnV x) fun r c => 0 - sp (f r c) := by
  refine ((MR.splat zero_bits).sub ((hx.max (MR.splat zero_bits)).add
    (((MR.splat one_bits).add ((MR.splat zero_bits).sub hx.abs).exp).log fun r c => ?_))).congr fun r c _ _ => ?_
  · positivity
  · simp [sp]

theorem msk_MR {N : ℕ} {q d z : ℕ → ℕ → ℝ} {t0 s0 : ℕ} (H : Holds D E o N q d z t0 s0) {x : FVec Ideal (Sh n 256) .f32}
    {f : ℕ → ℕ → ℝ} (hx : MR x f) : MR (msk o x) fun r c => if s0 + c < t0 + r then f r c else 0 := by
  cases ho : o with
  | none => exact hx.congr fun r c hr hc => (if_pos (H.free ho r c hr hc)).symm
  | some v => exact MR.sel (H.mask v ho) hx (MR.splat zero_bits)

section
variable {N : ℕ} {q d : ℕ → ℕ → ℝ} {kf vf : ℕ → ℕ → ℝ} {t0 s0 : ℕ} {k v : FVec Ideal (Sh 256 128) .bf16}
  {p c : FVec Ideal (Sh n 1) .f32}

theorem zV_MR (H : Holds D E o N q d (dotf 128 q kf) t0 s0) (hk : MR k fun r l => kf (s0 + r) l) :
    MR (zV D E k) fun r c => dotf 128 q kf (t0 + r) (s0 + c) :=
  (MR.nt H.ok.nt H.qh hk (MR.const zero_bits)).congr fun r c _ _ => by rw [zero_add]; rfl

theorem dwV_MR (H : Holds D E o N q d (dotf 128 q kf) t0 s0) (hv : MR v fun r l => vf (s0 + r) l) :
    MR (dwV D E v) fun r c => dotf 128 d vf (t0 + r) (s0 + c) :=
  (MR.nt H.ok.nt H.doh hv (MR.const zero_bits)).congr fun r c _ _ => by rw [zero_add]; rfl

theorem lbV_MR (H : Holds D E o N q d (dotf 128 q kf) t0 s0) (hk : MR k fun r l => kf (s0 + r) l) :
    MR (lbV (zV D E k)) fun r c => lbf (dotf 128 q kf) (t0 + r) (s0 + c) :=
  (lraw_MR (zV_MR H hk)).add (zV_MR H hk)

/-- Sums along the columns up to and with column `c`, from the sum over the columns before `s0`. -/
theorem cum_le (f : ℕ → ℝ) (s0 c : ℕ) (hc : c < 256) :
    (0 + ∑ j ∈ range 256, f (s0 + j) * (if j ≤ c then 1 else 0)) + ∑ s ∈ range s0, f s = ∑ s ∈ range (s0 + c + 1), f s := by
  rw [zero_add, Nat.add_assoc, ← sum_range_cut f s0 256 (c + 1) hc]
  congr 1
  refine Finset.sum_congr rfl fun j _ => ?_
  by_cases h : j ≤ c
  · rw [if_pos h, if_pos (by omega), mul_one]
  · rw [if_neg h, if_neg (by omega), mul_zero]

theorem cum_lt (f : ℕ → ℝ) (s0 c : ℕ) (hc : c < 256) :
    (0 + ∑ j ∈ range 256, f (s0 + j) * (if j < c then 1 else 0)) + ∑ s ∈ range s0, f s = ∑ s ∈ range (s0 + c), f s := by
  rw [zero_add, ← sum_range_cut f s0 256 c hc.le]
  congr 1
  refine Finset.sum_congr rfl fun j _ => ?_
  by_cases h : j < c
  · rw [if_pos h, if_pos h, mul_one]
  · rw [if_neg h, if_neg h, mul_zero]

theorem pfxV_MR (H : Holds D E o N q d (dotf 128 q kf) t0 s0) (hk : MR k fun r l => kf (s0 + r) l)
    (hp : MR p fun r _ => pref (dotf 128 q kf) (t0 + r) s0) :
    MR (pfxV D E o k p) fun r c => pref (dotf 128 q kf) (t0 + r) (s0 + c + 1) :=
  ((MR.nn H.ok.cu ((msk_MR H (lraw_MR (zV_MR H hk))).trunc bits_lt) H.upto (MR.const zero_bits)).add
    (hp.bcast H.ok.pos D.bc)).congr fun r c _ hc => cum_le (lnf (dotf 128 q kf) (t0 + r)) s0 c hc

theorem wV_MR (H : Holds D E o N q d (dotf 128 q kf) t0 s0) (hk : MR k fun r l => kf (s0 + r) l)
    (hp : MR p fun r _ => pref (dotf 128 q kf) (t0 + r) s0) :
    MR (wV D E o k p) fun r c => wf N (dotf 128 q kf) (t0 + r) (s0 + c) :=
  msk_MR H ((lbV_MR H hk).add (H.rt.sub (pfxV_MR H hk hp))).exp

theorem gV_MR (H : Holds D E o N q d (dotf 128 q kf) t0 s0) (hk : MR k fun r l => kf (s0 + r) l)
    (hv : MR v fun r l => vf (s0 + r) l) (hp : MR p fun r _ => pref (dotf 128 q kf) (t0 + r) s0) :
    MR (gV D E o k v p) fun r c => gf N (dotf 128 q kf) (dotf 128 d vf) (t0 + r) (s0 + c) :=
  (dwV_MR H hv).mul (wV_MR H hk hp)

theorem cV_MR (H : Holds D E o N q d (dotf 128 q kf) t0 s0) (hk : MR k fun r l => kf (s0 + r) l)
    (hv : MR v fun r l => vf (s0 + r) l) (hp : MR p fun r _ => pref (dotf 128 q kf) (t0 + r) s0)
    (hc : MR c fun r _ => cf N (dotf 128 q kf) (dotf 128 d vf) (t0 + r) s0) :
    MR (cV D E o k v p c) fun r c => cf N (dotf 128 q kf) (dotf 128 d vf) (t0 + r) (s0 + c) :=
  ((MR.nn H.ok.cu ((gV_MR H hk hv hp).trunc bits_lt) H.before (MR.const zero_bits)).add
    (hc.bcast H.ok.pos D.bc)).congr fun r c _ hc => cum_lt (gf N (dotf 128 q kf) (dotf 128 d vf) (t0 + r)) s0 c hc

theorem dzV_MR (H : Holds D E o N q d (dotf 128 q kf) t0 s0) (hk : MR k fun r l => kf (s0 + r) l)
    (hv : MR v fun r l => vf (s0 + r) l) (hp : MR p fun r _ => pref (dotf 128 q kf) (t0 + r) s0)
    (hc : MR c fun r _ => cf N (dotf 128 q kf) (dotf 128 d vf) (t0 + r) s0) :
    MR (dzV D E o k v p c) fun r c => dzf N (dotf 128 q kf) (dotf 128 d vf) (t0 + r) (s0 + c) :=
  msk_MR H (((gV_MR H hk hv hp).mul ((MR.splat one_bits).sub (lbV_MR H hk).exp)).sub
    ((cV_MR H hk hv hp hc).mul (lbV_MR H hk).exp))

theorem dqV_MR (H : Holds D E o N q d (dotf 128 q kf) t0 s0) (hk : MR k fun r l => kf (s0 + r) l)
    (hv : MR v fun r l => vf (s0 + r) l) (hp : MR p fun r _ => pref (dotf 128 q kf) (t0 + r) s0)
    (hc : MR c fun r _ => cf N (dotf 128 q kf) (dotf 128 d vf) (t0 + r) s0) :
    MR (dqV D E o k v p c) fun r l =>
      ∑ j ∈ range 256, dzf N (dotf 128 q kf) (dotf 128 d vf) (t0 + r) (s0 + j) * kf (s0 + j) l :=
  (MR.nn H.ok.nn ((dzV_MR H hk hv hp hc).trunc bits_lt) hk (MR.const zero_bits)).congr fun r l _ _ => zero_add _

theorem dkV_MR (H : Holds D E o N q d (dotf 128 q kf) t0 s0) (hk : MR k fun r l => kf (s0 + r) l)
    (hv : MR v fun r l => vf (s0 + r) l) (hp : MR p fun r _ => pref (dotf 128 q kf) (t0 + r) s0)
    (hc : MR c fun r _ => cf N (dotf 128 q kf) (dotf 128 d vf) (t0 + r) s0) :
    MR (dkV D E o k v p c) fun s l =>
      ∑ r ∈ range n, dzf N (dotf 128 q kf) (dotf 128 d vf) (t0 + r) (s0 + s) * q (t0 + r) l :=
  (MR.tn H.ok.tn ((dzV_MR H hk hv hp hc).trunc bits_lt) H.qh (MR.const zero_bits)).congr fun r l _ _ => zero_add _

theorem dvV_MR (H : Holds D E o N q d (dotf 128 q kf) t0 s0) (hk : MR k fun r l => kf (s0 + r) l)
    (hp : MR p fun r _ => pref (dotf 128 q kf) (t0 + r) s0) :
    MR (dvV D E o k p) fun s l => ∑ r ∈ range n, wf N (dotf 128 q kf) (t0 + r) (s0 + s) * d (t0 + r) l :=
  (MR.tn H.ok.tn ((wV_MR H hk hp).trunc bits_lt) H.doh (MR.const zero_bits)).congr fun r l _ _ => zero_add _

theorem pN_MR (H : Holds D E o N q d (dotf 128 q kf) t0 s0) (hk : MR k fun r l => kf (s0 + r) l)
    (hp : MR p fun r _ => pref (dotf 128 q kf) (t0 + r) s0) :
    MR (pN D E o k p) fun r _ => pref (dotf 128 q kf) (t0 + r) (s0 + 256) :=
  ((pfxV_MR H hk hp).slice D.sl).congr fun r c _ hc => by
    obtain rfl : c = 0 := by omega
    rw [zero_add]

theorem cN_MR (H : Holds D E o N q d (dotf 128 q kf) t0 s0) (hk : MR k fun r l => kf (s0 + r) l)
    (hv : MR v fun r l => vf (s0 + r) l) (hp : MR p fun r _ => pref (dotf 128 q kf) (t0 + r) s0)
    (hc : MR c fun r _ => cf N (dotf 128 q kf) (dotf 128 d vf) (t0 + r) s0) :
    MR (cN D E o k v p c) fun r _ => cf N (dotf 128 q kf) (dotf 128 d vf) (t0 + r) (s0 + 256) :=
  (((cV_MR H hk hv hp hc).slice D.sl).add ((gV_MR H hk hv hp).slice D.sl)).congr fun r c _ hc => by
    obtain rfl : c = 0 := by omega
    rw [zero_add]; exact (Finset.sum_range_succ _ (s0 + 255)).symm

end

end Cert.Sb
-- ==== Proof.Sb.Buf.lean ====
/-
  What an accumulator holds after pieces are written over it, when everything in it is a real number.
-/
module

public import proofs.«01_k».proof.Proof.Sb.Toolkit
public import Idealize.ShloMosaic.Lib.VecWindow

@[expose] public section

noncomputable section

open Idealize.ShloMosaic Finset

namespace Cert.Sb

section Loads
variable {Val : EltTy → Type} [∀ e, Nonempty (Val e)] {sig : RefSig} {κ : Kind} {sp : Space} {s : Shape} {e : EltTy}
  (v : View sig κ sp s e)

/-- A load of the block written last reads what was written. -/
theorem cov_hit {off off' size : Fin s.rank → ℕ} (inb : ∀ a, off a + size a ≤ s.size a) (inb' : ∀ a, off' a + size a ≤ s.size a)
    (h : off = off') (w : (Rect.unit off size inb).shape.Idx → Val e) (L : List (View.Piece Val s e)) :
    v.readCov (⟨Rect.unit off size inb, w⟩ :: L) (Rect.unit off' size inb').toLoadRect = w := by
  subst h
  show v.readAt Val _ (v.writes Val v.junk _) = _
  rw [View.readAt_unit v _ inb rfl inb, View.read_writes_cons_put v _ inb w L rfl, VecWindow.window_put_same]

/-- A load apart, on some axis, from the block written last reads what the earlier pieces left. -/
theorem cov_skip {off off' size size' : Fin s.rank → ℕ} (inb : ∀ a, off a + size a ≤ s.size a) (inb' : ∀ a, off' a + size' a ≤ s.size a)
    (w : (Rect.unit off size inb).shape.Idx → Val e) (L : List (View.Piece Val s e)) (a : Fin s.rank)
    (ha : off' a + size' a ≤ off a ∨ off a + size a ≤ off' a) :
    v.readCov (⟨Rect.unit off size inb, w⟩ :: L) (Rect.unit off' size' inb').toLoadRect
      = v.readCov L (Rect.unit off' size' inb').toLoadRect := by
  show v.readAt Val _ (v.writes Val v.junk _) = v.readAt Val _ (v.writes Val v.junk _)
  rw [View.readAt_unit v _ inb' rfl inb', View.readAt_unit v _ inb' rfl inb', View.read_writes_cons_put v _ inb w L rfl,
    VecWindow.window_put_of_disjoint _ _ _ _ _ _ _ a ha]

end Loads

section Rows
variable {n m b : ℕ} {φ : FTy} {x : FVec Ideal (Sh n m) φ} {g h : ℕ → ℕ → ℝ}

/-- A window of `b` rows from row `o` on. -/
theorem MR.window (hx : MR x g) {o : ℕ} (inb : ∀ a, (![o, 0] : Fin 2 → ℕ) a + (![b, m] : Fin 2 → ℕ) a ≤ (Sh n m).size a) :
    MR (n := b) (m := m) (φ := φ) (VecWindow.window (s := Sh n m) x ![o, 0] ![b, m] inb) fun r c => g (o + r) c := fun i => by
  refine (hx _).trans ?_
  congr 2
  · show o + 1 * (i 0).val = _; omega
  · show 0 + 1 * (i 1).val = _; omega

/-- `b` rows put from row `o` on. -/
theorem MR.put (hx : MR x g) {o : ℕ} {w : FVec Ideal (Sh b m) φ} (hw : MR w h) :
    MR (n := n) (m := m) (φ := φ) (VecWindow.put (s := Sh n m) x ![o, 0] ![b, m] w)
      fun r c => if o ≤ r ∧ r < o + b then h (r - o) c else g r c := fun i => by
  have hc : (∀ a, (![o, 0] : Fin 2 → ℕ) a ≤ (i a).val ∧ (i a).val < (![o, 0] : Fin 2 → ℕ) a + (![b, m] : Fin 2 → ℕ) a)
      ↔ (o ≤ (i 0).val ∧ (i 0).val < o + b) := by
    have := (i 1).isLt
    constructor
    · exact fun H => H 0
    · intro H a
      fin_cases a
      · exact H
      · exact ⟨Nat.zero_le _, by show (i 1).val < 0 + m; have : (i 1).val < m := (i 1).isLt; omega⟩
  unfold VecWindow.put
  by_cases H : o ≤ (i 0).val ∧ (i 0).val < o + b
  · rw [dif_pos (hc.mpr H)]
    beta_reduce
    rw [if_pos H]
    refine (hw _).trans ?_
    rfl
  · rw [dif_neg (fun H' => H (hc.mp H'))]
    beta_reduce
    rw [if_neg H]
    exact hx i

end Rows

section Planes
variable {l n m b : ℕ} {φ : FTy}

/-- An `l × n × m` block of extended reals holds the real numbers `f t r c`. -/
def MQ (v : FVec Ideal (Sh3 l n m) φ) (f : ℕ → ℕ → ℕ → ℝ) : Prop :=
  ∀ i : (Sh3 l n m).Idx, v i = ((f (i 0).val (i 1).val (i 2).val : ℝ) : EReal)

variable {x : FVec Ideal (Sh3 l n m) φ} {g : ℕ → ℕ → ℕ → ℝ} {h : ℕ → ℕ → ℝ}

theorem MQ.congr {g' : ℕ → ℕ → ℕ → ℝ} (hx : MQ x g) (e : ∀ t r c, t < l → r < n → c < m → g t r c = g' t r c) : MQ x g' := fun i => by
  rw [hx i, e _ _ _ (i 0).isLt (i 1).isLt (i 2).isLt]

/-- A window of one plane, `b` rows from row `o` on. -/
theorem MQ.window (hx : MQ x g) {t o : ℕ} (inb : ∀ a, (![t, o, 0] : Fin 3 → ℕ) a + (![1, b, m] : Fin 3 → ℕ) a ≤ (Sh3 l n m).size a) :
    MR3 (n := b) (m := m) (φ := φ) (VecWindow.window (s := Sh3 l n m) x ![t, o, 0] ![1, b, m] inb) fun r c => g t (o + r) c := fun i => by
  refine (hx _).trans ?_
  have h0 : (i 0).val < 1 := (i 0).isLt
  congr 2
  · show t + 1 * (i 0).val = _; omega
  · show o + 1 * (i 1).val = _; omega
  · show 0 + 1 * (i 2).val = _; omega

/-- `b` rows of one plane put from row `o` on. -/
theorem MQ.put (hx : MQ x g) {t o : ℕ} {w : FVec Ideal (Sh3 1 b m) φ} (hw : MR3 w h) :
    MQ (l := l) (n := n) (m := m) (φ := φ) (VecWindow.put (s := Sh3 l n m) x ![t, o, 0] ![1, b, m] w)
      fun t' r c => if t' = t ∧ o ≤ r ∧ r < o + b then h (r - o) c else g t' r c := fun i => by
  have hc : (∀ a, (![t, o, 0] : Fin 3 → ℕ) a ≤ (i a).val ∧ (i a).val < (![t, o, 0] : Fin 3 → ℕ) a + (![1, b, m] : Fin 3 → ℕ) a)
      ↔ ((i 0).val = t ∧ o ≤ (i 1).val ∧ (i 1).val < o + b) := by
    constructor
    · intro H
      have h0 : t ≤ (i 0).val ∧ (i 0).val < t + 1 := H 0
      exact ⟨by omega, H 1⟩
    · intro H a
      fin_cases a
      · exact ⟨H.1.ge, by show (i 0).val < t + 1; omega⟩
      · exact H.2
      · exact ⟨Nat.zero_le _, by show (i 2).val < 0 + m; have : (i 2).val < m := (i 2).isLt; omega⟩
  unfold VecWindow.put
  by_cases H : (i 0).val = t ∧ o ≤ (i 1).val ∧ (i 1).val < o + b
  · rw [dif_pos (hc.mpr H)]
    beta_reduce
    rw [if_pos H]
    refine (hw _).trans ?_
    rfl
  · rw [dif_neg (fun H' => H (hc.mp H'))]
    beta_reduce
    rw [if_neg H]
    exact hx i

end Planes

/-! ## Eight blocks added to an accumulator -/

section Blocks
variable {F : FTy → Type} [FloatOps F] {sig : RefSig} {κ : Kind} {sp : Space}

/-- 256 rows of an accumulator, from the offset on, with `x` added to what was loaded of them. -/
def addPiece (off : Fin 2 → ℕ) (inb : ∀ a, off a + (![256, 128] : Fin 2 → ℕ) a ≤ (Sh 4096 128).size a) (l x : FVec F (Sh 256 128) .f32) :
    View.Piece (Elt F) (Sh 4096 128) .f32 :=
  ⟨Rect.unit (s := Sh 4096 128) off ![256, 128] inb, shapeCast (Sh 256 128) (addf (s := Sh 256 128) l x) rfl⟩

variable (off : Fin 4 → Fin 2 → ℕ) (inb : ∀ r a, off r a + (![256, 128] : Fin 2 → ℕ) a ≤ (Sh 4096 128).size a)
  (v : View sig κ sp (Sh 4096 128) .f32)

/-- What a load of block `r` reads of contents `f`. -/
def rdBlock (r : Fin 4) (f : v.ty.Contents (Elt F)) : FVec F (Sh 256 128) .f32 :=
  v.readAt (Elt F) (Rect.unit (s := Sh 4096 128) (off r) ![256, 128] (inb r)).toLoadRect f

/-- What a load of block `r` reads of the pieces written so far. -/
def covBlock (r : Fin 4) (L : List (View.Piece (Elt F) (Sh 4096 128) .f32)) : FVec F (Sh 256 128) .f32 :=
  v.readCov L (Rect.unit (s := Sh 4096 128) (off r) ![256, 128] (inb r)).toLoadRect

/-- The first head's four blocks, over loads `l`. -/
def firstFour (l X : ℕ → FVec F (Sh 256 128) .f32) (L : List (View.Piece (Elt F) (Sh 4096 128) .f32)) :
    List (View.Piece (Elt F) (Sh 4096 128) .f32) :=
  addPiece (off 3) (inb 3) (l 3) (X 3) :: addPiece (off 2) (inb 2) (l 2) (X 2) ::
    addPiece (off 1) (inb 1) (l 1) (X 1) :: addPiece (off 0) (inb 0) (l 0) (X 0) :: L

/-- One more block, over what the pieces so far left there. -/
def nextBlock (r : Fin 4) (x : FVec F (Sh 256 128) .f32) (L : List (View.Piece (Elt F) (Sh 4096 128) .f32)) :
    List (View.Piece (Elt F) (Sh 4096 128) .f32) :=
  addPiece (off r) (inb r) (covBlock off inb v r L) x :: L

/-- The second head's four blocks. -/
def nextFour (Y : ℕ → FVec F (Sh 256 128) .f32) (L : List (View.Piece (Elt F) (Sh 4096 128) .f32)) :
    List (View.Piece (Elt F) (Sh 4096 128) .f32) :=
  nextBlock off inb v 3 (Y 3) (nextBlock off inb v 2 (Y 2) (nextBlock off inb v 1 (Y 1) (nextBlock off inb v 0 (Y 0) L)))

end Blocks

section BlockValues
variable {sig : RefSig} {κ : Kind} {sp : Space} {off : Fin 4 → Fin 2 → ℕ}
  {inb : ∀ r a, off r a + (![256, 128] : Fin 2 → ℕ) a ≤ (Sh 4096 128).size a} {v : View sig κ sp (Sh 4096 128) .f32} {B : ℕ}
  {f : v.ty.Contents (Elt Ideal)} {L : List (View.Piece (Elt Ideal) (Sh 4096 128) .f32)} {g : ℕ → ℕ → ℝ}

/-- What the accumulator holds, as real numbers. -/
def Holds2 (v : View sig κ sp (Sh 4096 128) .f32) (f : v.ty.Contents (Elt Ideal)) (g : ℕ → ℕ → ℝ) : Prop :=
  MR (n := 4096) (m := 128) (φ := .f32) (v.read (Elt Ideal) f) g

theorem addPiece_MR {o : Fin 2 → ℕ} {b : ℕ} (io) (ho : o = ![b, 0]) {l x : FVec Ideal (Sh 256 128) .f32} {lf xf : ℕ → ℕ → ℝ}
    (hg : Holds2 v (v.writes (Elt Ideal) f L) g) (hl : MR l fun r c => lf (b + r) c) (hx : MR x fun r c => xf (b + r) c) :
    Holds2 v (v.writes (Elt Ideal) f (addPiece o io l x :: L))
      fun r c => if b ≤ r ∧ r < b + 256 then lf r c + xf r c else g r c := by
  unfold Holds2 addPiece
  rw [View.read_writes_cons_put v f io _ L ho]
  refine (MR.put (n := 4096) (m := 128) (b := 256) hg ((hl.add hx).castSelf rfl)).congr fun r c _ _ => ?_
  split_ifs with h
  · rw [Nat.add_sub_cancel' h.1]
  · rfl

theorem rdBlock_MR (r : Fin 4) (hoff : off r = ![B + 256 * r.val, 0]) (hf : Holds2 v f g) :
    MR (rdBlock off inb v r f) fun q c => g (B + 256 * r.val + q) c := by
  unfold rdBlock
  rw [View.readAt_unit v f (inb r) hoff (hoff ▸ inb r)]
  exact MR.window (n := 4096) (m := 128) (b := 256) hf _

theorem covBlock_hit (r : Fin 4) (l x : FVec Ideal (Sh 256 128) .f32) :
    covBlock off inb v r (addPiece (off r) (inb r) l x :: L) = shapeCast (Sh 256 128) (addf (s := Sh 256 128) l x) rfl :=
  cov_hit v (inb r) (inb r) rfl _ L

theorem covBlock_skip (hoff : ∀ r, off r = ![B + 256 * r.val, 0]) (r r' : Fin 4) (hr : r ≠ r') (l x : FVec Ideal (Sh 256 128) .f32) :
    covBlock off inb v r (addPiece (off r') (inb r') l x :: L) = covBlock off inb v r L := by
  refine cov_skip v (inb r') (inb r) _ L (0 : Fin 2) ?_
  have h0 : off r 0 = B + 256 * r.val := by rw [hoff]; rfl
  have h1 : off r' 0 = B + 256 * r'.val := by rw [hoff]; rfl
  have h2 : r.val ≠ r'.val := fun h => hr (Fin.ext h)
  show off r 0 + 256 ≤ off r' 0 ∨ off r' 0 + 256 ≤ off r 0
  omega

/-- Eight blocks added, four by each head: the tile's rows are increased by both heads' terms. -/
theorem eight_MR (hoff : ∀ r, off r = ![B + 256 * r.val, 0]) {l X Y : ℕ → FVec Ideal (Sh 256 128) .f32} {xf yf : ℕ → ℕ → ℝ}
    (hg : Holds2 v (v.writes (Elt Ideal) f L) g)
    (hl : ∀ u < 4, MR (l u) fun r c => g (B + 256 * u + r) c)
    (hX : ∀ u < 4, MR (X u) fun r c => xf (B + 256 * u + r) c)
    (hY : ∀ u < 4, MR (Y u) fun r c => yf (B + 256 * u + r) c) :
    Holds2 v (v.writes (Elt Ideal) f (nextFour off inb v Y (firstFour off inb l X L)))
      fun r c => g r c + if B ≤ r ∧ r < B + 1024 then xf r c + yf r c else 0 := by
  have s : ∀ u < 4, MR (shapeCast (Sh 256 128) (addf (s := Sh 256 128) (l u) (X u)) rfl : FVec Ideal (Sh 256 128) .f32)
      fun r c => (fun r c => g r c + xf r c) (B + 256 * u + r) c := fun u hu => ((hl u hu).add (hX u hu)).castSelf rfl
  have sk := fun (L : List (View.Piece (Elt Ideal) (Sh 4096 128) .f32)) (r r' : Fin 4) (hr : r ≠ r') l x =>
    covBlock_skip (L := L) (inb := inb) (v := v) hoff r r' hr l x
  unfold nextFour nextBlock firstFour
  rw [sk _ 0 3 (by decide), sk _ 0 2 (by decide), sk _ 0 1 (by decide), covBlock_hit,
    sk _ 1 0 (by decide), sk _ 1 3 (by decide), sk _ 1 2 (by decide), covBlock_hit,
    sk _ 2 1 (by decide), sk _ 2 0 (by decide), sk _ 2 3 (by decide), covBlock_hit,
    sk _ 3 2 (by decide), sk _ 3 1 (by decide), sk _ 3 0 (by decide), covBlock_hit]
  have a0 := addPiece_MR (f := f) (inb 0) (hoff 0) hg (hl 0 (by decide)) (hX 0 (by decide))
  have a1 := addPiece_MR (f := f) (inb 1) (hoff 1) a0 (hl 1 (by decide)) (hX 1 (by decide))
  have a2 := addPiece_MR (f := f) (inb 2) (hoff 2) a1 (hl 2 (by decide)) (hX 2 (by decide))
  have a3 := addPiece_MR (f := f) (inb 3) (hoff 3) a2 (hl 3 (by decide)) (hX 3 (by decide))
  have b0 := addPiece_MR (lf := fun r c => g r c + xf r c) (f := f) (inb 0) (hoff 0) a3 (s 0 (by decide)) (hY 0 (by decide))
  have b1 := addPiece_MR (lf := fun r c => g r c + xf r c) (f := f) (inb 1) (hoff 1) b0 (s 1 (by decide)) (hY 1 (by decide))
  have b2 := addPiece_MR (lf := fun r c => g r c + xf r c) (f := f) (inb 2) (hoff 2) b1 (s 2 (by decide)) (hY 2 (by decide))
  have b3 := addPiece_MR (lf := fun r c => g r c + xf r c) (f := f) (inb 3) (hoff 3) b2 (s 3 (by decide)) (hY 3 (by decide))
  refine MR.congr b3 fun r c _ _ => ?_
  have e0 : (0 : Fin 4).val = 0 := rfl
  have e1 : (1 : Fin 4).val = 1 := rfl
  have e2 : (2 : Fin 4).val = 2 := rfl
  have e3 : (3 : Fin 4).val = 3 := rfl
  simp only [e0, e1, e2, e3]
  split_ifs <;> first | (exfalso; omega) | ring

end BlockValues

/-! ## Rows of one plane of an accumulator of two planes -/

section PlanePieces
variable {F : FTy → Type} [FloatOps F] {sig : RefSig} {κ : Kind} {sp : Space} {n m : ℕ}

/-- `b` rows of plane `t`, from row `o` on. -/
def rowsOf (n m t o b : ℕ) (inb : ∀ a, (![t, o, 0] : Fin 3 → ℕ) a + (![1, b, m] : Fin 3 → ℕ) a ≤ (Sh3 2 n m).size a) : Rect (Sh3 2 n m) :=
  Rect.unit (s := Sh3 2 n m) ![t, o, 0] ![1, b, m] inb

/-- Rows of a plane with `x` added to what was loaded of them. -/
def addRows (t o b : ℕ) (inb : ∀ a, (![t, o, 0] : Fin 3 → ℕ) a + (![1, b, m] : Fin 3 → ℕ) a ≤ (Sh3 2 n m).size a)
    (hd : (Sh3 1 b m).ShapeCasts (Sh b m)) (hu : (Sh b m).ShapeCasts (Sh3 1 b m)) (l : FVec F (Sh3 1 b m) .f32) (x : FVec F (Sh b m) .f32) :
    View.Piece (Elt F) (Sh3 2 n m) .f32 :=
  ⟨rowsOf n m t o b inb, shapeCast (Sh3 1 b m) (addf (shapeCast (Sh b m) l hd) x) hu⟩

/-- Rows of a plane replaced by `x`. -/
def setRows (t o b : ℕ) (inb : ∀ a, (![t, o, 0] : Fin 3 → ℕ) a + (![1, b, m] : Fin 3 → ℕ) a ≤ (Sh3 2 n m).size a)
    (hu : (Sh b m).ShapeCasts (Sh3 1 b m)) (x : FVec F (Sh b m) .f32) : View.Piece (Elt F) (Sh3 2 n m) .f32 :=
  ⟨rowsOf n m t o b inb, shapeCast (Sh3 1 b m) x hu⟩

end PlanePieces

section PlaneValues
variable {sig : RefSig} {κ : Kind} {sp : Space} {n m t o b : ℕ} {v : View sig κ sp (Sh3 2 n m) .f32}
  {f : v.ty.Contents (Elt Ideal)} {L : List (View.Piece (Elt Ideal) (Sh3 2 n m) .f32)} {g : ℕ → ℕ → ℕ → ℝ} {xf : ℕ → ℕ → ℝ}
  {inb : ∀ a, (![t, o, 0] : Fin 3 → ℕ) a + (![1, b, m] : Fin 3 → ℕ) a ≤ (Sh3 2 n m).size a}

/-- What the accumulator of two planes holds, as real numbers. -/
def Holds3 (v : View sig κ sp (Sh3 2 n m) .f32) (f : v.ty.Contents (Elt Ideal)) (g : ℕ → ℕ → ℕ → ℝ) : Prop :=
  MQ (l := 2) (n := n) (m := m) (φ := .f32) (v.read (Elt Ideal) f) g

theorem readRows_MR (hf : Holds3 v f g) :
    MR3 (n := b) (m := m) (φ := .f32) (v.readAt (Elt Ideal) (rowsOf n m t o b inb).toLoadRect f) fun r c => g t (o + r) c := by
  unfold rowsOf
  rw [View.readAt_unit v f inb rfl inb]
  exact MQ.window (l := 2) (n := n) (b := b) hf inb

theorem setRows_MR (hu) {x : FVec Ideal (Sh b m) .f32} (hg : Holds3 v (v.writes (Elt Ideal) f L) g) (hx : MR x fun r c => xf (o + r) c) :
    Holds3 v (v.writes (Elt Ideal) f (setRows t o b inb hu x :: L))
      fun t' r c => if t' = t ∧ o ≤ r ∧ r < o + b then xf r c else g t' r c := by
  unfold Holds3 setRows rowsOf
  rw [View.read_writes_cons_put v f inb _ L rfl]
  refine (MQ.put (l := 2) (n := n) (b := b) hg (hx.addUnit hu)).congr fun t' r c _ _ _ => ?_
  split_ifs with h
  · rw [Nat.add_sub_cancel' h.2.1]
  · rfl

theorem addRows_MR (hd hu) {l : FVec Ideal (Sh3 1 b m) .f32} {x : FVec Ideal (Sh b m) .f32}
    (hg : Holds3 v (v.writes (Elt Ideal) f L) g) (hl : MR3 l fun r c => g t (o + r) c) (hx : MR x fun r c => xf (o + r) c) :
    Holds3 v (v.writes (Elt Ideal) f (addRows t o b inb hd hu l x :: L))
      fun t' r c => if t' = t ∧ o ≤ r ∧ r < o + b then g t r c + xf r c else g t' r c :=
  setRows_MR (inb := inb) (xf := fun r c => g t r c + xf r c) hu hg ((MR.dropUnit hl hd).add hx)

end PlaneValues

end Cert.Sb
-- ==== Proof.Sb.Trip.lean ====
/-
  One trip of the kernel's loop over the key tiles below the diagonal, as pieces written over what the accumulators hold,
  in the words of a sub-step.
-/
module

public import proofs.«01_k».proof.Proof.Sb.SubVal
public import proofs.«01_k».proof.Proof.Sb.Buf
public import proofs.«01_k».proof.Proof.Gen.KernelIdeal.Loops
public import Idealize.ShloMosaic.Lib.Tactic

@[expose] public section

set_option maxRecDepth 16384

noncomputable section

open Idealize.ShloMosaic Idealize.ShloMosaic.TcCoe Idealize.SL.Sem Finset
open Cert.KernelIdeal Cert.KernelIdeal.Gen

namespace Cert.Sb

variable {F : FTy → Type} [FloatOps F]

/-- The contractions of a sub-step over a whole block of query rows. -/
def D1024 : Dots 1024 where
  nt := dot_S1024x128_S256x128_S1024x256_1_1_0_0_n_n
  cu := dot_S1024x256_S256x256_S1024x256_1_0_0_1_n_n
  nn := dot_S1024x256_S256x128_S1024x128_1_0_0_1_n_n
  tn := dot_S1024x256_S1024x128_S256x128_0_0_1_1_n_n
  bc := Facts₀.broadcasts_S1024x1_S1024x256
  sl := Facts₀.slices_S1024x256_o0_255_S1024x1

/-- Four values, by position. -/
def at4 {α : Type} (a b c d : α) : ℕ → α
  | 0 => a
  | 1 => b
  | 2 => c
  | _ => d

section
variable {n : ℕ} (D : Dots n) (E : Env F n) (K V : ℕ → FVec F (Sh 256 128) .bf16) (p c : FVec F (Sh n 1) .f32)

/-- The running sum of `log (1 - σ z)` before sub-step `u`. -/
def pAt : ℕ → FVec F (Sh n 1) .f32
  | 0 => p
  | u + 1 => pN D E none (K u) (pAt u)

/-- The running sum of the weights times their cotangents before sub-step `u`. -/
def cAt : ℕ → FVec F (Sh n 1) .f32
  | 0 => c
  | u + 1 => cN D E none (K u) (V u) (pAt D E K p u) (cAt u)

/-- What sub-step `u` adds to the key gradient. -/
def dkAt (u : ℕ) : FVec F (Sh 256 128) .f32 := dkV D E none (K u) (V u) (pAt D E K p u) (cAt D E K V p c u)

/-- What sub-step `u` adds to the value gradient. -/
def dvAt (u : ℕ) : FVec F (Sh 256 128) .f32 := dvV D E none (K u) (pAt D E K p u)

/-- What sub-step `u` adds to the query gradient. -/
def dqAt (u : ℕ) : FVec F (Sh n 128) .f32 := dqV D E none (K u) (V u) (pAt D E K p u) (cAt D E K V p c u)

end

variable (i : grid0.Coords) (k : Fin (k0_t1_loop i).trips)

/-- Where block `r` of tile `k` starts. -/
def off1 (r : Fin 4) : Fin 2 → ℕ := k0_off1 i k (BitVec.ofNat 32 (256 * r.val))

theorem off1_inb (r : Fin 4) : ∀ a, off1 i k r a + (![256, 128] : Fin 2 → ℕ) a ≤ (Sh 4096 128).size a := Facts₀.k0_off1_inb i k r

theorem off1_eq (r : Fin 4) : off1 i k r = ![1024 * k.val + 256 * r.val, 0] := k0_off1_eq i k r

/-- The four blocks of 256 rows of tile `k`. -/
def tileOf {φ : EltTy} (a : Memref sig .tc .vmem S4096x128 φ) (X : BufTy.Contents (Elt F) a.view.ty) : ℕ → (Sh 256 128).Idx → Elt F φ :=
  let rd := fun r : Fin 4 => a.view.readAt (Elt F) (Rect.unit (s := Sh 4096 128) (off1 i k r) ![256, 128] (off1_inb i k r)).toLoadRect X
  at4 (rd 0) (rd 1) (rd 2) (rd 3)

/-- A head's plane of a two-plane buffer. -/
def plane0 {m : ℕ} (inb : ∀ a, (![0, 0, 0] : Fin 3 → ℕ) a + (![1, 1024, m] : Fin 3 → ℕ) a ≤ (Sh3 2 1024 m).size a) (a : Memref sig .tc .vmem (Sh3 2 1024 m) .f32) (f : BufTy.Contents (Elt F) a.view.ty) : FVec F (Sh3 1 1024 m) .f32 :=
  a.view.readAt (Elt F) (rowsOf 1024 m 0 0 1024 inb).toLoadRect f

/-- The other head's. -/
def plane1 {m : ℕ} (inb : ∀ a, (![1, 0, 0] : Fin 3 → ℕ) a + (![1, 1024, m] : Fin 3 → ℕ) a ≤ (Sh3 2 1024 m).size a) (a : Memref sig .tc .vmem (Sh3 2 1024 m) .f32) (f : BufTy.Contents (Elt F) a.view.ty) : FVec F (Sh3 1 1024 m) .f32 :=
  a.view.readAt (Elt F) (rowsOf 1024 m 1 0 1024 inb).toLoadRect f

/-- The first head's column of running sums. -/
def colOf0 (a : Memref sig .tc .vmem S2x1024x1 .f32) (f : BufTy.Contents (Elt F) a.view.ty) : FVec F (Sh 1024 1) .f32 :=
  shapeCast S1024x1 (plane0 Facts₀.inb_S2x1024x1_S1x1024x1_0_0_0 a f) Facts₀.shapeCasts_S1x1024x1_S1024x1

/-- The second head's column of running sums. -/
def colOf1 (a : Memref sig .tc .vmem S2x1024x1 .f32) (f : BufTy.Contents (Elt F) a.view.ty) : FVec F (Sh 1024 1) .f32 :=
  shapeCast S1024x1 (plane1 Facts₀.inb_S2x1024x1_S1x1024x1_1_0_0 a f) Facts₀.shapeCasts_S1x1024x1_S1024x1

/-- Both heads' blocks of tile `k`, over what the accumulator held. -/
def bothHeads (a : Memref sig .tc .vmem S4096x128 .f32) (f : BufTy.Contents (Elt F) a.view.ty) (X Y : ℕ → FVec F (Sh 256 128) .f32) :
    List (View.Piece (Elt F) (Sh 4096 128) .f32) :=
  nextFour (off1 i k) (off1_inb i k) a.view Y (firstFour (off1 i k) (off1_inb i k) (tileOf i k a f) X [])

/-- Four terms, added from the left. -/
def sum4 {s : Shape} (X : ℕ → FVec F s .f32) : FVec F s .f32 := addf (addf (addf (X 0) (X 1)) (X 2)) (X 3)

/-- Both heads' planes of the query accumulator, with the four sub-steps' terms added. -/
def dqPieces (a : Memref sig .tc .vmem S2x1024x128 .f32) (f : BufTy.Contents (Elt F) a.view.ty) (X Y : ℕ → FVec F (Sh 1024 128) .f32) :
    List (View.Piece (Elt F) (Sh3 2 1024 128) .f32) :=
  [addRows 1 0 1024 Facts₀.inb_S2x1024x128_S1x1024x128_1_0_0 Facts₀.shapeCasts_S1x1024x128_S1024x128 Facts₀.shapeCasts_S1024x128_S1x1024x128
     (plane1 Facts₀.inb_S2x1024x128_S1x1024x128_1_0_0 a f) (sum4 Y),
   addRows 0 0 1024 Facts₀.inb_S2x1024x128_S1x1024x128_0_0_0 Facts₀.shapeCasts_S1x1024x128_S1024x128 Facts₀.shapeCasts_S1024x128_S1x1024x128
     (plane0 Facts₀.inb_S2x1024x128_S1x1024x128_0_0_0 a f) (sum4 X)]

/-- Two columns put at the two heads' places. -/
def colPieces (x y : FVec F (Sh 1024 1) .f32) : List (View.Piece (Elt F) (Sh3 2 1024 1) .f32) :=
  [setRows 1 0 1024 Facts₀.inb_S2x1024x1_S1x1024x1_1_0_0 Facts₀.shapeCasts_S1024x1_S1x1024x1 y,
   setRows 0 0 1024 Facts₀.inb_S2x1024x1_S1x1024x1_0_0_0 Facts₀.shapeCasts_S1024x1_S1x1024x1 x]

/-- The pieces of one trip over tile `k`: the key and value gradients' blocks, the query gradient's planes, the running sums. -/
def tripOut (a3 a4 : Memref sig .tc .vmem S4096x128 .bf16) (X3 : BufTy.Contents (Elt F) a3.view.ty) (X4 : BufTy.Contents (Elt F) a4.view.ty)
    (E0 E1 : Env F 1024) (a10 a11 : Memref sig .tc .vmem S4096x128 .f32) (f10 : BufTy.Contents (Elt F) a10.view.ty)
    (f11 : BufTy.Contents (Elt F) a11.view.ty) (a12 : Memref sig .tc .vmem S2x1024x128 .f32) (f12 : BufTy.Contents (Elt F) a12.view.ty)
    (a13 a14 : Memref sig .tc .vmem S2x1024x1 .f32) (f13 : BufTy.Contents (Elt F) a13.view.ty) (f14 : BufTy.Contents (Elt F) a14.view.ty) :
    List (View.Piece (Elt F) (Sh 4096 128) .f32) × List (View.Piece (Elt F) (Sh 4096 128) .f32) × List (View.Piece (Elt F) (Sh3 2 1024 128) .f32)
      × List (View.Piece (Elt F) (Sh3 2 1024 1) .f32) × List (View.Piece (Elt F) (Sh3 2 1024 1) .f32) :=
  let K := tileOf i k a3 X3
  let V := tileOf i k a4 X4
  (bothHeads i k a10 f10 (dkAt D1024 E0 K V (colOf0 a13 f13) (colOf0 a14 f14)) (dkAt D1024 E1 K V (colOf1 a13 f13) (colOf1 a14 f14)),
   bothHeads i k a11 f11 (dvAt D1024 E0 K (colOf0 a13 f13)) (dvAt D1024 E1 K (colOf1 a13 f13)),
   dqPieces a12 f12 (dqAt D1024 E0 K V (colOf0 a13 f13) (colOf0 a14 f14)) (dqAt D1024 E1 K V (colOf1 a13 f13) (colOf1 a14 f14)),
   colPieces (pAt D1024 E0 K (colOf0 a13 f13) 4) (pAt D1024 E1 K (colOf1 a13 f13) 4),
   colPieces (cAt D1024 E0 K V (colOf0 a13 f13) (colOf0 a14 f14) 4) (cAt D1024 E1 K V (colOf1 a13 f13) (colOf1 a14 f14) 4))

section
variable (𝒱 : Variants) (c : Dev nD) (bd : Option 𝒱.V) (i : grid0.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .bf16) (harg5 : arg5.IsWhole) (arg6 : Memref sig .tc .vmem S2x1024x1 .f32) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2x1024x128 .f32) (harg12 : arg12.IsWhole) (arg13 : Memref sig .tc .vmem S2x1024x1 .f32) (harg13 : arg13.IsWhole) (arg14 : Memref sig .tc .vmem S2x1024x1 .f32) (harg14 : arg14.IsWhole) (arg1 : BitVec 32) (v13 : FVec F S1024x128 .bf16) (v20 : FVec F S1024x128 .bf16) (v29 : Vec F S1024x128 .bf16) (v36 : Vec F S1024x128 .bf16) (v49 : IVec S1024x256 32) (v50 : IVec S1024x256 32) (v56 : FVec F S256x256 .bf16) (v62 : FVec F S256x256 .bf16) (v66 : FVec F S1024x256 .f32) (v70 : FVec F S1024x256 .f32) (c0_i32_32 : BitVec 32) (c1_i32 : BitVec 32) (v73 : BitVec 32) (X_arg3 : BufTy.Contents (Elt F) arg3.view.ty) (X_arg4 : BufTy.Contents (Elt F) arg4.view.ty) (k : Fin (k0_t1_loop i).trips)
  (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)

/-- What the printed loop writes in trip `k`. -/
theorem trip_pieces : tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v13 v20 v29 v36 v49 v50 v56 v62 v66 v70 c0_i32_32 c1_i32 v73 X_arg3 X_arg4 k f10 f11 f12 f13 f14
    = tripOut i k arg3 arg4 X_arg3 X_arg4 ⟨v13, v29, v56, v62, v66⟩ ⟨v20, v36, v56, v62, v70⟩ arg10 arg11 f10 f11 arg12 f12 arg13 arg14 f13 f14 := by
  sl_kernel_rfl

end

end Cert.Sb
-- ==== Proof.Sb.TripVal.lean ====
/-
  What one trip below the diagonal does to the accumulators, in real numbers.
-/
module

public import proofs.«01_k».proof.Proof.Sb.Trip

@[expose] public section

set_option maxRecDepth 16384

noncomputable section

open Idealize.ShloMosaic Idealize.ShloMosaic.TcCoe Idealize.SL.Sem Finset
open Cert.KernelIdeal Cert.KernelIdeal.Gen

namespace Cert.Sb

/-- One head's real numbers: query rows (scaled), cotangent rows, keys, values. -/
structure Hd where
  q : ℕ → ℕ → ℝ
  d : ℕ → ℕ → ℝ
  kf : ℕ → ℕ → ℝ
  vf : ℕ → ℕ → ℝ

namespace Hd
variable (h : Hd)

/-- The logits. -/
def z : ℕ → ℕ → ℝ := dotf 128 h.q h.kf

/-- The weights' cotangents. -/
def dw : ℕ → ℕ → ℝ := dotf 128 h.d h.vf

/-- The query gradient of row `t` from the first `n` columns. -/
def dqs (N t n l : ℕ) : ℝ := ∑ s ∈ range n, dzf N h.z h.dw t s * h.kf s l

/-- The key gradient of column `s` from `n` rows from `t0` on. -/
def dks (N t0 n s l : ℕ) : ℝ := ∑ r ∈ range n, dzf N h.z h.dw (t0 + r) s * h.q (t0 + r) l

/-- The value gradient of column `s` from `n` rows from `t0` on. -/
def dvs (N t0 n s l : ℕ) : ℝ := ∑ r ∈ range n, wf N h.z (t0 + r) s * h.d (t0 + r) l

end Hd

/-! ## The sub-steps of a tile -/

section Tile
variable {n : ℕ} {D : Dots n} {E : Env Ideal n} {h : Hd} {N t0 B : ℕ} {K V : ℕ → FVec Ideal (Sh 256 128) .bf16}
  {p c : FVec Ideal (Sh n 1) .f32}

theorem pAt_MR (H : ∀ u < 4, Holds D E none N h.q h.d h.z t0 (B + 256 * u))
    (hK : ∀ u < 4, MR (K u) fun r l => h.kf (B + 256 * u + r) l) (hp : MR p fun r _ => pref h.z (t0 + r) B) :
    ∀ u ≤ 4, MR (pAt D E K p u) fun r _ => pref h.z (t0 + r) (B + 256 * u)
  | 0, _ => hp
  | u + 1, hu => (pN_MR (H u hu) (hK u hu) (pAt_MR H hK hp u (by omega))).congr fun r _ _ _ => by
      show pref h.z _ _ = _; congr 1

theorem cAt_MR (H : ∀ u < 4, Holds D E none N h.q h.d h.z t0 (B + 256 * u))
    (hK : ∀ u < 4, MR (K u) fun r l => h.kf (B + 256 * u + r) l) (hV : ∀ u < 4, MR (V u) fun r l => h.vf (B + 256 * u + r) l)
    (hp : MR p fun r _ => pref h.z (t0 + r) B) (hc : MR c fun r _ => cf N h.z h.dw (t0 + r) B) :
    ∀ u ≤ 4, MR (cAt D E K V p c u) fun r _ => cf N h.z h.dw (t0 + r) (B + 256 * u)
  | 0, _ => hc
  | u + 1, hu => (cN_MR (H u hu) (hK u hu) (hV u hu) (pAt_MR H hK hp u (by omega)) (cAt_MR H hK hV hp hc u (by omega))).congr
      fun r _ _ _ => by show cf N h.z h.dw _ _ = _; congr 1

theorem dkAt_MR (H : ∀ u < 4, Holds D E none N h.q h.d h.z t0 (B + 256 * u))
    (hK : ∀ u < 4, MR (K u) fun r l => h.kf (B + 256 * u + r) l) (hV : ∀ u < 4, MR (V u) fun r l => h.vf (B + 256 * u + r) l)
    (hp : MR p fun r _ => pref h.z (t0 + r) B) (hc : MR c fun r _ => cf N h.z h.dw (t0 + r) B) (u : ℕ) (hu : u < 4) :
    MR (dkAt D E K V p c u) fun r l => h.dks N t0 n (B + 256 * u + r) l :=
  dkV_MR (H u hu) (hK u hu) (hV u hu) (pAt_MR H hK hp u hu.le) (cAt_MR H hK hV hp hc u hu.le)

theorem dvAt_MR (H : ∀ u < 4, Holds D E none N h.q h.d h.z t0 (B + 256 * u))
    (hK : ∀ u < 4, MR (K u) fun r l => h.kf (B + 256 * u + r) l) (hp : MR p fun r _ => pref h.z (t0 + r) B) (u : ℕ) (hu : u < 4) :
    MR (dvAt D E K p u) fun r l => h.dvs N t0 n (B + 256 * u + r) l :=
  dvV_MR (H u hu) (hK u hu) (pAt_MR H hK hp u hu.le)

theorem dqAt_MR (H : ∀ u < 4, Holds D E none N h.q h.d h.z t0 (B + 256 * u))
    (hK : ∀ u < 4, MR (K u) fun r l => h.kf (B + 256 * u + r) l) (hV : ∀ u < 4, MR (V u) fun r l => h.vf (B + 256 * u + r) l)
    (hp : MR p fun r _ => pref h.z (t0 + r) B) (hc : MR c fun r _ => cf N h.z h.dw (t0 + r) B) (u : ℕ) (hu : u < 4) :
    MR (dqAt D E K V p c u) fun r l =>
      ∑ j ∈ range 256, dzf N h.z h.dw (t0 + r) (B + 256 * u + j) * h.kf (B + 256 * u + j) l :=
  dqV_MR (H u hu) (hK u hu) (hV u hu) (pAt_MR H hK hp u hu.le) (cAt_MR H hK hV hp hc u hu.le)

/-- The first `B` columns and four blocks of 256 more. -/
theorem sum_four (f : ℕ → ℝ) (B : ℕ) :
    ∑ s ∈ range B, f s + (∑ j ∈ range 256, f (B + 256 * 0 + j) + ∑ j ∈ range 256, f (B + 256 * 1 + j)
      + ∑ j ∈ range 256, f (B + 256 * 2 + j) + ∑ j ∈ range 256, f (B + 256 * 3 + j)) = ∑ s ∈ range (B + 1024), f s := by
  rw [show B + 1024 = B + 256 + 256 + 256 + 256 from by omega, sum_range_add, sum_range_add, sum_range_add, sum_range_add]
  simp only [Nat.mul_zero, Nat.mul_one, Nat.add_zero, show 256 * 2 = 256 + 256 from rfl, show 256 * 3 = 256 + 256 + 256 from rfl, ← Nat.add_assoc]
  ring

end Tile

/-! ## The accumulators -/

section Acc

/-- What the five accumulators hold for the query rows from `t0` on once the first `n` columns are done: the key and value
    gradients have grown in those columns by both heads' terms; the query gradient and the running sums are those of the
    first `n` columns. -/
structure Acc (N t0 n : ℕ) (Hs : ℕ → Hd) (gk gv : ℕ → ℕ → ℝ) (a10 a11 : Memref sig .tc .vmem S4096x128 .f32)
    (a12 : Memref sig .tc .vmem S2x1024x128 .f32) (a13 a14 : Memref sig .tc .vmem S2x1024x1 .f32)
    (f10 : BufTy.Contents (Elt Ideal) a10.view.ty) (f11 : BufTy.Contents (Elt Ideal) a11.view.ty)
    (f12 : BufTy.Contents (Elt Ideal) a12.view.ty) (f13 : BufTy.Contents (Elt Ideal) a13.view.ty)
    (f14 : BufTy.Contents (Elt Ideal) a14.view.ty) : Prop where
  dk : Holds2 a10.view f10 fun s l => gk s l + if s < n then (Hs 0).dks N t0 1024 s l + (Hs 1).dks N t0 1024 s l else 0
  dv : Holds2 a11.view f11 fun s l => gv s l + if s < n then (Hs 0).dvs N t0 1024 s l + (Hs 1).dvs N t0 1024 s l else 0
  dq : Holds3 a12.view f12 fun x r l => (Hs x).dqs N (t0 + r) n l
  p : Holds3 a13.view f13 fun x r _ => pref (Hs x).z (t0 + r) n
  c : Holds3 a14.view f14 fun x r _ => cf N (Hs x).z (Hs x).dw (t0 + r) n

theorem sum4_MR {n m : ℕ} {X : ℕ → FVec Ideal (Sh n m) .f32} {f : ℕ → ℕ → ℕ → ℝ} (h : ∀ u < 4, MR (X u) (f u)) :
    MR (sum4 X) fun r c => f 0 r c + f 1 r c + f 2 r c + f 3 r c :=
  (((h 0 (by decide)).add (h 1 (by decide))).add (h 2 (by decide))).add (h 3 (by decide))

variable {a : Memref sig .tc .vmem S2x1024x1 .f32} {f : BufTy.Contents (Elt Ideal) a.view.ty} {g : ℕ → ℕ → ℕ → ℝ}

theorem colOf0_MR (hf : Holds3 a.view f g) : MR (colOf0 a f) fun r c => g 0 r c :=
  ((MR.dropUnit (readRows_MR (t := 0) (o := 0) (b := 1024) hf) _).congr fun r c _ _ => by rw [Nat.zero_add])

theorem colOf1_MR (hf : Holds3 a.view f g) : MR (colOf1 a f) fun r c => g 1 r c :=
  ((MR.dropUnit (readRows_MR (t := 1) (o := 0) (b := 1024) hf) _).congr fun r c _ _ => by rw [Nat.zero_add])

theorem colPieces_MR (hf : Holds3 a.view f g) {x y : FVec Ideal (Sh 1024 1) .f32} {w : ℕ → ℕ → ℕ → ℝ} (hx : MR x (w 0)) (hy : MR y (w 1)) :
    Holds3 a.view (a.view.writes (Elt Ideal) f (colPieces x y)) w := by
  have h0 := setRows_MR (v := a.view) (f := f) (L := []) (t := 0) (o := 0) (b := 1024) (xf := w 0)
    (inb := Facts₀.inb_S2x1024x1_S1x1024x1_0_0_0) Facts₀.shapeCasts_S1024x1_S1x1024x1 hf (hx.congr fun r c _ _ => by rw [Nat.zero_add])
  have h1 := setRows_MR (v := a.view) (f := f) (t := 1) (o := 0) (b := 1024) (xf := w 1)
    (inb := Facts₀.inb_S2x1024x1_S1x1024x1_1_0_0) Facts₀.shapeCasts_S1024x1_S1x1024x1 h0 (hy.congr fun r c _ _ => by rw [Nat.zero_add])
  refine MQ.congr h1 fun t r c ht hr _ => ?_
  interval_cases t <;> simp_all

theorem dqPieces_MR {a : Memref sig .tc .vmem S2x1024x128 .f32} {f : BufTy.Contents (Elt Ideal) a.view.ty} (hf : Holds3 a.view f g)
    {X Y : ℕ → FVec Ideal (Sh 1024 128) .f32} {w : ℕ → ℕ → ℕ → ℝ} (hx : MR (sum4 X) (w 0)) (hy : MR (sum4 Y) (w 1)) :
    Holds3 a.view (a.view.writes (Elt Ideal) f (dqPieces a f X Y)) fun t r c => g t r c + w t r c := by
  have h0 := addRows_MR (v := a.view) (f := f) (L := []) (t := 0) (o := 0) (b := 1024) (xf := w 0)
    (inb := Facts₀.inb_S2x1024x128_S1x1024x128_0_0_0) Facts₀.shapeCasts_S1x1024x128_S1024x128 Facts₀.shapeCasts_S1024x128_S1x1024x128
    hf (readRows_MR (inb := Facts₀.inb_S2x1024x128_S1x1024x128_0_0_0) hf) (hx.congr fun r c _ _ => by rw [Nat.zero_add])
  have h1 := setRows_MR (v := a.view) (f := f) (t := 1) (o := 0) (b := 1024) (xf := fun r c => g 1 r c + w 1 r c)
    (inb := Facts₀.inb_S2x1024x128_S1x1024x128_1_0_0) Facts₀.shapeCasts_S1024x128_S1x1024x128 h0
    ((MR.dropUnit (readRows_MR (t := 1) (o := 0) (b := 1024) (inb := Facts₀.inb_S2x1024x128_S1x1024x128_1_0_0) hf)
      Facts₀.shapeCasts_S1x1024x128_S1024x128).add (hy.congr fun r c _ _ => by rw [Nat.zero_add]))
  refine MQ.congr h1 fun t r c ht hr _ => ?_
  interval_cases t <;> simp_all

end Acc

/-! ## One trip -/

theorem D1024_ok : D1024.Ok where
  nt := by intro a b c i; simp only [D1024, pointwise]
  cu := by intro a b c i; simp only [D1024, pointwise]
  nn := by intro a b c i; simp only [D1024, pointwise]
  tn := by intro a b c i; simp only [D1024, pointwise]
  pos := by decide

section Trip
variable {i : grid0.Coords} {k : Fin (k0_t1_loop i).trips} {N t0 : ℕ} {Hs : ℕ → Hd} {gk gv : ℕ → ℕ → ℝ}

theorem tileOf_window {e : EltTy} (a : Memref sig .tc .vmem S4096x128 e) (X : BufTy.Contents (Elt Ideal) a.view.ty) (u : ℕ) (hu : u < 4) :
    ∃ inb, tileOf i k a X u = VecWindow.window (s := Sh 4096 128) (a.view.read (Elt Ideal) X) ![1024 * k.val + 256 * u, 0] ![256, 128] inb := by
  have key : ∀ r : Fin 4, ∃ inb, a.view.readAt (Elt Ideal) (Rect.unit (s := Sh 4096 128) (off1 i k r) ![256, 128] (off1_inb i k r)).toLoadRect X
      = VecWindow.window (s := Sh 4096 128) (a.view.read (Elt Ideal) X) ![1024 * k.val + 256 * r.val, 0] ![256, 128] inb := fun r =>
    ⟨off1_eq i k r ▸ off1_inb i k r, View.readAt_unit a.view X (off1_inb i k r) (off1_eq i k r) (off1_eq i k r ▸ off1_inb i k r)⟩
  interval_cases u
  · exact key 0
  · exact key 1
  · exact key 2
  · exact key 3

theorem tileOf_bf16 {a : Memref sig .tc .vmem S4096x128 .bf16} {X : BufTy.Contents (Elt Ideal) a.view.ty} {g : ℕ → ℕ → ℝ}
    (hX : MR (n := 4096) (m := 128) (φ := .bf16) (a.view.read (Elt Ideal) X) g) (u : ℕ) (hu : u < 4) :
    MR (φ := .bf16) (tileOf i k a X u) fun r c => g (1024 * k.val + 256 * u + r) c := by
  obtain ⟨inb, h⟩ := tileOf_window (i := i) (k := k) a X u hu
  rw [h]
  exact MR.window (n := 4096) (m := 128) (b := 256) hX inb

theorem tileOf_f32 {a : Memref sig .tc .vmem S4096x128 .f32} {X : BufTy.Contents (Elt Ideal) a.view.ty} {g : ℕ → ℕ → ℝ}
    (hX : Holds2 a.view X g) (u : ℕ) (hu : u < 4) :
    MR (φ := .f32) (tileOf i k a X u) fun r c => g (1024 * k.val + 256 * u + r) c := by
  obtain ⟨inb, h⟩ := tileOf_window (i := i) (k := k) a X u hu
  rw [h]
  exact MR.window (n := 4096) (m := 128) (b := 256) hX inb

variable {a3 a4 : Memref sig .tc .vmem S4096x128 .bf16} {X3 : BufTy.Contents (Elt Ideal) a3.view.ty} {X4 : BufTy.Contents (Elt Ideal) a4.view.ty}
  {E0 E1 : Env Ideal 1024} {a10 a11 : Memref sig .tc .vmem S4096x128 .f32} {a12 : Memref sig .tc .vmem S2x1024x128 .f32}
  {a13 a14 : Memref sig .tc .vmem S2x1024x1 .f32} {f10 : BufTy.Contents (Elt Ideal) a10.view.ty}
  {f11 : BufTy.Contents (Elt Ideal) a11.view.ty} {f12 : BufTy.Contents (Elt Ideal) a12.view.ty} {f13 : BufTy.Contents (Elt Ideal) a13.view.ty}
  {f14 : BufTy.Contents (Elt Ideal) a14.view.ty} {kf vf : ℕ → ℕ → ℝ}

/-- A trip carries the accumulators over one tile of 1024 columns. -/
theorem trip_Acc (hk : ∀ x, (Hs x).kf = kf) (hv : ∀ x, (Hs x).vf = vf)
    (hX3 : MR (n := 4096) (m := 128) (φ := .bf16) (a3.view.read (Elt Ideal) X3) kf)
    (hX4 : MR (n := 4096) (m := 128) (φ := .bf16) (a4.view.read (Elt Ideal) X4) vf)
    (H0 : ∀ u < 4, Holds D1024 E0 none N (Hs 0).q (Hs 0).d (Hs 0).z t0 (1024 * k.val + 256 * u))
    (H1 : ∀ u < 4, Holds D1024 E1 none N (Hs 1).q (Hs 1).d (Hs 1).z t0 (1024 * k.val + 256 * u))
    (A : Acc N t0 (1024 * k.val) Hs gk gv a10 a11 a12 a13 a14 f10 f11 f12 f13 f14) :
    Acc N t0 (1024 * (k.val + 1)) Hs gk gv a10 a11 a12 a13 a14
      (a10.view.writes (Elt Ideal) f10 (tripOut i k a3 a4 X3 X4 E0 E1 a10 a11 f10 f11 a12 f12 a13 a14 f13 f14).1)
      (a11.view.writes (Elt Ideal) f11 (tripOut i k a3 a4 X3 X4 E0 E1 a10 a11 f10 f11 a12 f12 a13 a14 f13 f14).2.1)
      (a12.view.writes (Elt Ideal) f12 (tripOut i k a3 a4 X3 X4 E0 E1 a10 a11 f10 f11 a12 f12 a13 a14 f13 f14).2.2.1)
      (a13.view.writes (Elt Ideal) f13 (tripOut i k a3 a4 X3 X4 E0 E1 a10 a11 f10 f11 a12 f12 a13 a14 f13 f14).2.2.2.1)
      (a14.view.writes (Elt Ideal) f14 (tripOut i k a3 a4 X3 X4 E0 E1 a10 a11 f10 f11 a12 f12 a13 a14 f13 f14).2.2.2.2) := by
  have hK : ∀ x, ∀ u < 4, MR (φ := .bf16) (tileOf i k a3 X3 u) fun r c => (Hs x).kf (1024 * k.val + 256 * u + r) c := fun x => by
    rw [hk]; exact tileOf_bf16 hX3
  have hV : ∀ x, ∀ u < 4, MR (φ := .bf16) (tileOf i k a4 X4 u) fun r c => (Hs x).vf (1024 * k.val + 256 * u + r) c := fun x => by
    rw [hv]; exact tileOf_bf16 hX4
  have p0 := colOf0_MR A.p
  have p1 := colOf1_MR A.p
  have c0 := colOf0_MR A.c
  have c1 := colOf1_MR A.c
  have e : 1024 * (k.val + 1) = 1024 * k.val + 1024 := by ring
  refine ⟨?_, ?_, ?_, ?_, ?_⟩
  · refine MR.congr (eight_MR (L := []) (off1_eq i k) A.dk (tileOf_f32 A.dk) (dkAt_MR H0 (hK 0) (hV 0) p0 c0)
      (dkAt_MR H1 (hK 1) (hV 1) p1 c1)) fun s l _ _ => ?_
    beta_reduce
    rw [e]
    split_ifs <;> first | (exfalso; omega) | ring
  · refine MR.congr (eight_MR (L := []) (off1_eq i k) A.dv (tileOf_f32 A.dv) (dvAt_MR H0 (hK 0) p0)
      (dvAt_MR H1 (hK 1) p1)) fun s l _ _ => ?_
    beta_reduce
    rw [e]
    split_ifs <;> first | (exfalso; omega) | ring
  · refine MQ.congr (dqPieces_MR A.dq (w := fun x r l =>
      ∑ j ∈ range 256, dzf N (Hs x).z (Hs x).dw (t0 + r) (1024 * k.val + 256 * 0 + j) * (Hs x).kf (1024 * k.val + 256 * 0 + j) l
      + ∑ j ∈ range 256, dzf N (Hs x).z (Hs x).dw (t0 + r) (1024 * k.val + 256 * 1 + j) * (Hs x).kf (1024 * k.val + 256 * 1 + j) l
      + ∑ j ∈ range 256, dzf N (Hs x).z (Hs x).dw (t0 + r) (1024 * k.val + 256 * 2 + j) * (Hs x).kf (1024 * k.val + 256 * 2 + j) l
      + ∑ j ∈ range 256, dzf N (Hs x).z (Hs x).dw (t0 + r) (1024 * k.val + 256 * 3 + j) * (Hs x).kf (1024 * k.val + 256 * 3 + j) l)
      (sum4_MR (dqAt_MR H0 (hK 0) (hV 0) p0 c0)) (sum4_MR (dqAt_MR H1 (hK 1) (hV 1) p1 c1))) fun x r l _ _ _ => ?_
    rw [e]
    exact sum_four (fun s => dzf N (Hs x).z (Hs x).dw (t0 + r) s * (Hs x).kf s l) (1024 * k.val)
  · exact colPieces_MR A.p (w := fun x r _ => pref (Hs x).z (t0 + r) (1024 * (k.val + 1)))
      (pAt_MR H0 (hK 0) p0 4 le_rfl) (pAt_MR H1 (hK 1) p1 4 le_rfl)
  · exact colPieces_MR A.c (w := fun x r _ => cf N (Hs x).z (Hs x).dw (t0 + r) (1024 * (k.val + 1)))
      (cAt_MR H0 (hK 0) (hV 0) p0 c0 4 le_rfl) (cAt_MR H1 (hK 1) (hV 1) p1 c1 4 le_rfl)

end Trip

end Cert.Sb
-- ==== Proof.Sb.Diag.lean ====
/-
  The tile on the diagonal, and a whole run of the kernel's body, as pieces written over what the accumulators hold.
-/
module

public import proofs.«01_k».proof.Proof.Sb.Trip
public import proofs.«01_k».proof.Proof.Gen.KernelIdeal.Frame

@[expose] public section

set_option maxRecDepth 16384

noncomputable section

open Idealize.ShloMosaic Idealize.ShloMosaic.TcCoe Idealize.SL.Sem Finset
open Cert.KernelIdeal Cert.KernelIdeal.Gen

namespace Cert.Sb

variable {F : FTy → Type} [FloatOps F]

/-- The contractions of a sub-step over the last 768 query rows. -/
def D768 : Dots 768 where
  nt := dot_S768x128_S256x128_S768x256_1_1_0_0_n_n
  cu := dot_S768x256_S256x256_S768x256_1_0_0_1_n_n
  nn := dot_S768x256_S256x128_S768x128_1_0_0_1_n_n
  tn := dot_S768x256_S768x128_S256x128_0_0_1_1_n_n
  bc := Facts₀.broadcasts_S768x1_S768x256
  sl := Facts₀.slices_S768x256_o0_255_S768x1

/-- The contractions of a sub-step over the last 512 query rows. -/
def D512 : Dots 512 where
  nt := dot_S512x128_S256x128_S512x256_1_1_0_0_n_n
  cu := dot_S512x256_S256x256_S512x256_1_0_0_1_n_n
  nn := dot_S512x256_S256x128_S512x128_1_0_0_1_n_n
  tn := dot_S512x256_S512x128_S256x128_0_0_1_1_n_n
  bc := Facts₀.broadcasts_S512x1_S512x256
  sl := Facts₀.slices_S512x256_o0_255_S512x1

/-- The contractions of a sub-step over the last 256 query rows. -/
def D256 : Dots 256 where
  nt := dot_S256x128_S256x128_S256x256_1_1_0_0_n_n
  cu := dot_S256x256_S256x256_S256x256_1_0_0_1_n_n
  nn := dot_S256x256_S256x128_S256x128_1_0_0_1_n_n
  tn := dot_S256x256_S256x128_S256x128_0_0_1_1_n_n
  bc := Facts₀.broadcasts_S256x1_S256x256
  sl := ⟨rfl, by decide⟩

/-- The rows of `E` from row `o` on. -/
def Env.cut {n : ℕ} (E : Env F n) (m o : ℕ) (h : (Sh n 128).Slices ![o, 0] (Sh m 128)) (h' : (Sh n 256).Slices ![o, 0] (Sh m 256)) : Env F m :=
  ⟨extractStridedSlice (Sh m 128) ![o, 0] E.qh h, extractStridedSlice (Sh m 128) ![o, 0] E.doh h, E.upto, E.before,
    extractStridedSlice (Sh m 256) ![o, 0] E.rt h'⟩

/-- The row numbers of a block of 1024 × 256. -/
def rowI : IVec (Sh 1024 256) 32 := iota .tc S1024x256 32 [0] Facts₀.iota_S1024x256_d0_w32
/-- The column numbers. -/
def colI : IVec (Sh 1024 256) 32 := iota .tc S1024x256 32 [1] Facts₀.iota_S1024x256_d1_w32

/-- Below the diagonal, in the first sub-step. -/
def mask0 : IVec (Sh 1024 256) 1 := cmpi .slt (addi colI (broadcast (Sh 1024 256) 0#32)) rowI

/-- Below the diagonal, in a sub-step of the rows and columns from `o` on. -/
def maskAt (m o : ℕ) (h : (Sh 1024 256).Slices ![o, 0] (Sh m 256)) (w : BitVec 32) : IVec (Sh m 256) 1 :=
  cmpi .slt (addi (extractStridedSlice (Sh m 256) ![o, 0] colI h) (broadcast (Sh m 256) w)) (extractStridedSlice (Sh m 256) ![o, 0] rowI h)

section Diag
variable (E : Env F 1024) (K V : ℕ → FVec F (Sh 256 128) .bf16) (p c : FVec F (Sh 1024 1) .f32)

def E1 : Env F 768 := E.cut 768 256 Facts₀.slices_S1024x128_o256_0_S768x128 Facts₀.slices_S1024x256_o256_0_S768x256
def E2 : Env F 512 := E.cut 512 512 Facts₀.slices_S1024x128_o512_0_S512x128 Facts₀.slices_S1024x256_o512_0_S512x256
def E3 : Env F 256 := E.cut 256 768 Facts₀.slices_S1024x128_o768_0_S256x128 Facts₀.slices_S1024x256_o768_0_S256x256

def m1 : IVec (Sh 768 256) 1 := maskAt 768 256 Facts₀.slices_S1024x256_o256_0_S768x256 256#32
def m2 : IVec (Sh 512 256) 1 := maskAt 512 512 Facts₀.slices_S1024x256_o512_0_S512x256 512#32
def m3 : IVec (Sh 256 256) 1 := maskAt 256 768 Facts₀.slices_S1024x256_o768_0_S256x256 768#32

/-- The running sums of `log (1 - σ z)` before the second sub-step of the diagonal tile, of the rows it has. -/
def p1 : FVec F (Sh 768 1) .f32 :=
  extractStridedSlice (Sh 768 1) ![256, 0] (pN D1024 E (some mask0) (K 0) p) Facts₀.slices_S1024x1_o256_0_S768x1
def p2 : FVec F (Sh 512 1) .f32 :=
  extractStridedSlice (Sh 512 1) ![256, 0] (pN D768 (E1 E) (some m1) (K 1) (p1 E K p)) Facts₀.slices_S768x1_o256_0_S512x1
def p3 : FVec F (Sh 256 1) .f32 :=
  extractStridedSlice (Sh 256 1) ![256, 0] (pN D512 (E2 E) (some m2) (K 2) (p2 E K p)) Facts₀.slices_S512x1_o256_0_S256x1

/-- The running sums of the weights times their cotangents, likewise. -/
def c1 : FVec F (Sh 768 1) .f32 :=
  extractStridedSlice (Sh 768 1) ![256, 0] (cN D1024 E (some mask0) (K 0) (V 0) p c) Facts₀.slices_S1024x1_o256_0_S768x1
def c2 : FVec F (Sh 512 1) .f32 :=
  extractStridedSlice (Sh 512 1) ![256, 0] (cN D768 (E1 E) (some m1) (K 1) (V 1) (p1 E K p) (c1 E K V p c)) Facts₀.slices_S768x1_o256_0_S512x1
def c3 : FVec F (Sh 256 1) .f32 :=
  extractStridedSlice (Sh 256 1) ![256, 0] (cN D512 (E2 E) (some m2) (K 2) (V 2) (p2 E K p) (c2 E K V p c)) Facts₀.slices_S512x1_o256_0_S256x1

/-- What the sub-steps of the diagonal tile add to the key gradient. -/
def dkDiag : ℕ → FVec F (Sh 256 128) .f32 :=
  at4 (dkV D1024 E (some mask0) (K 0) (V 0) p c) (dkV D768 (E1 E) (some m1) (K 1) (V 1) (p1 E K p) (c1 E K V p c))
    (dkV D512 (E2 E) (some m2) (K 2) (V 2) (p2 E K p) (c2 E K V p c)) (dkV D256 (E3 E) (some m3) (K 3) (V 3) (p3 E K p) (c3 E K V p c))

/-- What they add to the value gradient. -/
def dvDiag : ℕ → FVec F (Sh 256 128) .f32 :=
  at4 (dvV D1024 E (some mask0) (K 0) p) (dvV D768 (E1 E) (some m1) (K 1) (p1 E K p))
    (dvV D512 (E2 E) (some m2) (K 2) (p2 E K p)) (dvV D256 (E3 E) (some m3) (K 3) (p3 E K p))

end Diag

/-- The first head's four blocks, each loaded from what is there before it is written. -/
def rdFour {sig : RefSig} {κ : Kind} {sp : Space} (off : Fin 4 → Fin 2 → ℕ) (inb : ∀ r a, off r a + (![256, 128] : Fin 2 → ℕ) a ≤ (Sh 4096 128).size a)
    (v : View sig κ sp (Sh 4096 128) .f32) (f : v.ty.Contents (Elt F)) (X : ℕ → FVec F (Sh 256 128) .f32)
    (L : List (View.Piece (Elt F) (Sh 4096 128) .f32)) : List (View.Piece (Elt F) (Sh 4096 128) .f32) :=
  let L1 := addPiece (off 0) (inb 0) (rdBlock off inb v 0 (v.writes (Elt F) f L)) (X 0) :: L
  let L2 := addPiece (off 1) (inb 1) (rdBlock off inb v 1 (v.writes (Elt F) f L1)) (X 1) :: L1
  let L3 := addPiece (off 2) (inb 2) (rdBlock off inb v 2 (v.writes (Elt F) f L2)) (X 2) :: L2
  addPiece (off 3) (inb 3) (rdBlock off inb v 3 (v.writes (Elt F) f L3)) (X 3) :: L3

/-- Rows of a plane with `x` added to what the pieces so far left there. -/
def moreRows {n m : ℕ} {sig : RefSig} {κ : Kind} {sp : Space} (v : View sig κ sp (Sh3 2 n m) .f32) (t o b : ℕ)
    (inb : ∀ a, (![t, o, 0] : Fin 3 → ℕ) a + (![1, b, m] : Fin 3 → ℕ) a ≤ (Sh3 2 n m).size a)
    (hd : (Sh3 1 b m).ShapeCasts (Sh b m)) (hu : (Sh b m).ShapeCasts (Sh3 1 b m)) (x : FVec F (Sh b m) .f32)
    (L : List (View.Piece (Elt F) (Sh3 2 n m) .f32)) : List (View.Piece (Elt F) (Sh3 2 n m) .f32) :=
  addRows t o b inb hd hu (v.readCov L (rowsOf n m t o b inb).toLoadRect) x :: L

section DiagRows
variable (E : Env F 1024) (K V : ℕ → FVec F (Sh 256 128) .bf16) (p c : FVec F (Sh 1024 1) .f32)

/-- One head's rows of the query gradient, over the diagonal tile's sub-steps. -/
def dqRows {sig : RefSig} {κ : Kind} {sp : Space} (v : View sig κ sp (Sh3 2 1024 128) .f32) (t : ℕ) (ht : t < 2)
    (L : List (View.Piece (Elt F) (Sh3 2 1024 128) .f32)) : List (View.Piece (Elt F) (Sh3 2 1024 128) .f32) :=
  moreRows v t 768 256 (by intro a; fin_cases a <;> simp <;> omega) Facts₀.shapeCasts_S1x256x128_S256x128 Facts₀.shapeCasts_S256x128_S1x256x128
    (dqV D256 (E3 E) (some m3) (K 3) (V 3) (p3 E K p) (c3 E K V p c))
  (moreRows v t 512 512 (by intro a; fin_cases a <;> simp <;> omega) Facts₀.shapeCasts_S1x512x128_S512x128 Facts₀.shapeCasts_S512x128_S1x512x128
    (dqV D512 (E2 E) (some m2) (K 2) (V 2) (p2 E K p) (c2 E K V p c))
  (moreRows v t 256 768 (by intro a; fin_cases a <;> simp <;> omega) Facts₀.shapeCasts_S1x768x128_S768x128 Facts₀.shapeCasts_S768x128_S1x768x128
    (dqV D768 (E1 E) (some m1) (K 1) (V 1) (p1 E K p) (c1 E K V p c))
  (moreRows v t 0 1024 (by intro a; fin_cases a <;> simp <;> omega) Facts₀.shapeCasts_S1x1024x128_S1024x128 Facts₀.shapeCasts_S1024x128_S1x1024x128
    (dqV D1024 E (some mask0) (K 0) (V 0) p c) L)))

end DiagRows

/-- Where block `r` of the diagonal tile starts. -/
def off3 (i : grid0.Coords) (r : Fin 4) : Fin 2 → ℕ := k0_off3 i (BitVec.ofNat 32 (256 * r.val))

theorem off3_inb (i : grid0.Coords) (r : Fin 4) : ∀ a, off3 i r a + (![256, 128] : Fin 2 → ℕ) a ≤ (Sh 4096 128).size a := Facts₀.k0_off3_inb i r

theorem off3_eq (i : grid0.Coords) (r : Fin 4) : off3 i r = ![1024 * (i 1).val + 256 * r.val, 0] := k0_off3_eq i r

/-- The four blocks of 256 rows of the diagonal tile. -/
def tile3 {φ : EltTy} (i : grid0.Coords) (a : Memref sig .tc .vmem S4096x128 φ) (X : BufTy.Contents (Elt F) a.view.ty) : ℕ → (Sh 256 128).Idx → Elt F φ :=
  let rd := fun r : Fin 4 => a.view.readAt (Elt F) (Rect.unit (s := Sh 4096 128) (off3 i r) ![256, 128] (off3_inb i r)).toLoadRect X
  at4 (rd 0) (rd 1) (rd 2) (rd 3)

/-- The two heads' rows joined, scaled, rounded. -/
def joinV (x y : FVec F (Sh 1024 128) .f32) : FVec F (Sh 1024 128) .bf16 :=
  truncf .bf16 (mulf (select (cmpi .slt (iota .tc S1024x128 32 [1] Facts₀.iota_S1024x128_d1_w32) (broadcast (Sh 1024 128) 64#32)) x y)
    (broadcast (Sh 1024 128) (Scalar.ofBits .f32 0x3E000000#32))) bits_lt

section Run
variable (c : Dev nD) (i : grid0.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .bf16) (harg5 : arg5.IsWhole) (arg6 : Memref sig .tc .vmem S2x1024x1 .f32) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2x1024x128 .f32) (harg12 : arg12.IsWhole) (arg13 : Memref sig .tc .vmem S2x1024x1 .f32) (harg13 : arg13.IsWhole) (arg14 : Memref sig .tc .vmem S2x1024x1 .f32) (harg14 : arg14.IsWhole)
  (x0 : Vec F S1024x128 .bf16) (x1 : Vec F S4096x128 .bf16) (x2 : Vec F S4096x128 .bf16) (x3 : Vec F S1024x128 .bf16) (x4 : Vec F S2x1024x1 .f32)

/-- The query block. -/
def qX : FVec F (Sh 1024 128) .bf16 :=
  arg2.view.readAt (Elt F) (Rect.unit (s := S1024x128) ![0, 0] ![1024, 128] Facts₀.inb_S1024x128_S1024x128_0_0).toLoadRect (harg2.unread x0)
/-- The cotangent block. -/
def dX : FVec F (Sh 1024 128) .bf16 :=
  arg5.view.readAt (Elt F) (Rect.unit (s := S1024x128) ![0, 0] ![1024, 128] Facts₀.inb_S1024x128_S1024x128_0_0).toLoadRect (harg5.unread x3)
/-- The two heads' totals. -/
def t0X : FVec F (Sh3 1 1024 1) .f32 := plane0 Facts₀.inb_S2x1024x1_S1x1024x1_0_0_0 arg6 (harg6.unread x4)
def t1X : FVec F (Sh3 1 1024 1) .f32 := plane1 Facts₀.inb_S2x1024x1_S1x1024x1_1_0_0 arg6 (harg6.unread x4)

/-- What the first head reads beside keys and values. -/
def envA : Env F 1024 := ⟨k0_pay267 (qX arg2 harg2 x0), k0_pay269 (dX arg5 harg5 x3), k0_pay274, k0_pay275, k0_pay276 (t0X arg6 harg6 x4)⟩
/-- What the second head reads. -/
def envB : Env F 1024 := ⟨k0_pay268 (qX arg2 harg2 x0), k0_pay270 (dX arg5 harg5 x3), k0_pay274, k0_pay275, k0_pay277 (t1X arg6 harg6 x4)⟩

variable (G10 : BufTy.Contents (Elt F) arg10.view.ty) (G11 : BufTy.Contents (Elt F) arg11.view.ty) (G12 : BufTy.Contents (Elt F) arg12.view.ty)
  (G13 : BufTy.Contents (Elt F) arg13.view.ty) (G14 : BufTy.Contents (Elt F) arg14.view.ty)

/-- The tiles below the diagonal. -/
def lp1 := pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val)
  (k0_pay267 (qX arg2 harg2 x0)) (k0_pay268 (qX arg2 harg2 x0)) (k0_pay269 (dX arg5 harg5 x3)) (k0_pay270 (dX arg5 harg5 x3)) rowI colI
  k0_pay274 k0_pay275 (k0_pay276 (t0X arg6 harg6 x4)) (k0_pay277 (t1X arg6 harg6 x4)) 0#32 1#32
  (Scalar.divsi (Scalar.subi (BitVec.ofNat 32 (i 1).val) 0#32) 1#32) (harg3.unread x1) (harg4.unread x2) G10 G11 G12 G13 G14

/-- The same loop's remainder, which has no trips. -/
def lp2 := pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val)
  (k0_pay267 (qX arg2 harg2 x0)) (k0_pay268 (qX arg2 harg2 x0)) (k0_pay269 (dX arg5 harg5 x3)) (k0_pay270 (dX arg5 harg5 x3)) rowI colI
  k0_pay274 k0_pay275 (k0_pay276 (t0X arg6 harg6 x4)) (k0_pay277 (t1X arg6 harg6 x4)) 0#32 1#32
  (Scalar.divsi (Scalar.subi (BitVec.ofNat 32 (i 1).val) 0#32) 1#32)
  (Scalar.addi 0#32 (Scalar.muli (Scalar.divsi (Scalar.subi (BitVec.ofNat 32 (i 1).val) 0#32) 1#32) 1#32))
  (harg3.unread x1) (harg4.unread x2) G10 G11 G12 G13 G14

/-- The query gradient's and the running sums' accumulators, cleared. -/
def clear12 : List (View.Piece (Elt F) S2x1024x128 .f32) :=
  [⟨Rect.unit (s := S2x1024x128) ![0, 0, 0] ![2, 1024, 128] Facts₀.inb_S2x1024x128_S2x1024x128_0_0_0, k0_pay271 (Scalar.ofBits .f32 0x00000000#32)⟩]
def clear13 : List (View.Piece (Elt F) S2x1024x1 .f32) :=
  [⟨Rect.unit (s := S2x1024x1) ![0, 0, 0] ![2, 1024, 1] Facts₀.inb_S2x1024x1_S2x1024x1_0_0_0, k0_pay272⟩]
def clear14 : List (View.Piece (Elt F) S2x1024x1 .f32) :=
  [⟨Rect.unit (s := S2x1024x1) ![0, 0, 0] ![2, 1024, 1] Facts₀.inb_S2x1024x1_S2x1024x1_0_0_0, k0_pay273⟩]
/-- The key and value gradients' accumulators, cleared. -/
def clear10 : List (View.Piece (Elt F) S4096x128 .f32) :=
  [⟨Rect.unit (s := S4096x128) ![0, 0] ![4096, 128] Facts₀.inb_S4096x128_S4096x128_0_0, k0_pay264⟩]
def clear11 : List (View.Piece (Elt F) S4096x128 .f32) :=
  [⟨Rect.unit (s := S4096x128) ![0, 0] ![4096, 128] Facts₀.inb_S4096x128_S4096x128_0_0, k0_pay265⟩]

/-- The diagonal tile's blocks of an accumulator, both heads'. -/
def diag2 (a : Memref sig .tc .vmem S4096x128 .f32) (f : BufTy.Contents (Elt F) a.view.ty) (X Y : ℕ → FVec F (Sh 256 128) .f32)
    (L : List (View.Piece (Elt F) (Sh 4096 128) .f32)) : List (View.Piece (Elt F) (Sh 4096 128) .f32) :=
  nextFour (off3 i) (off3_inb i) a.view Y (rdFour (off3 i) (off3_inb i) a.view f X L)

variable (L12 : List (View.Piece (Elt F) S2x1024x128 .f32)) (L13 L14 : List (View.Piece (Elt F) S2x1024x1 .f32))

/-- The running sums where the diagonal tile begins. -/
def pAtDiag (a : Memref sig .tc .vmem S2x1024x1 .f32) (L : List (View.Piece (Elt F) S2x1024x1 .f32)) : FVec F (Sh 1024 1) .f32 :=
  colOf0 a (a.view.writes (Elt F) a.view.junk L)
def pAtDiag' (a : Memref sig .tc .vmem S2x1024x1 .f32) (L : List (View.Piece (Elt F) S2x1024x1 .f32)) : FVec F (Sh 1024 1) .f32 :=
  colOf1 a (a.view.writes (Elt F) a.view.junk L)

/-- The key gradient's pieces after the diagonal tile. -/
def dkRun (f : BufTy.Contents (Elt F) arg10.view.ty) (L10 : List (View.Piece (Elt F) S4096x128 .f32)) : List (View.Piece (Elt F) (Sh 4096 128) .f32) :=
  diag2 i arg10 f
    (dkDiag (envA arg2 harg2 arg5 harg5 arg6 harg6 x0 x3 x4) (tile3 i arg3 (harg3.unread x1)) (tile3 i arg4 (harg4.unread x2)) (pAtDiag arg13 L13) (pAtDiag arg14 L14))
    (dkDiag (envB arg2 harg2 arg5 harg5 arg6 harg6 x0 x3 x4) (tile3 i arg3 (harg3.unread x1)) (tile3 i arg4 (harg4.unread x2)) (pAtDiag' arg13 L13) (pAtDiag' arg14 L14)) L10

/-- The value gradient's. -/
def dvRun (f : BufTy.Contents (Elt F) arg11.view.ty) (L11 : List (View.Piece (Elt F) S4096x128 .f32)) : List (View.Piece (Elt F) (Sh 4096 128) .f32) :=
  diag2 i arg11 f
    (dvDiag (envA arg2 harg2 arg5 harg5 arg6 harg6 x0 x3 x4) (tile3 i arg3 (harg3.unread x1)) (pAtDiag arg13 L13))
    (dvDiag (envB arg2 harg2 arg5 harg5 arg6 harg6 x0 x3 x4) (tile3 i arg3 (harg3.unread x1)) (pAtDiag' arg13 L13)) L11

/-- The query gradient's. -/
def dqRun : List (View.Piece (Elt F) (Sh3 2 1024 128) .f32) :=
  dqRows (envB arg2 harg2 arg5 harg5 arg6 harg6 x0 x3 x4) (tile3 i arg3 (harg3.unread x1)) (tile3 i arg4 (harg4.unread x2)) (pAtDiag' arg13 L13) (pAtDiag' arg14 L14) arg12.view 1 (by decide)
    (dqRows (envA arg2 harg2 arg5 harg5 arg6 harg6 x0 x3 x4) (tile3 i arg3 (harg3.unread x1)) (tile3 i arg4 (harg4.unread x2)) (pAtDiag arg13 L13) (pAtDiag arg14 L14) arg12.view 0 (by decide) L12)

/-- The query gradient's block, joined from the two planes the pieces left. -/
def dqOut (L : List (View.Piece (Elt F) (Sh3 2 1024 128) .f32)) : FVec F (Sh 1024 128) .bf16 :=
  let f := arg12.view.writes (Elt F) arg12.view.junk L
  joinV (shapeCast (Sh 1024 128) (plane0 Facts₀.inb_S2x1024x128_S1x1024x128_0_0_0 arg12 f) Facts₀.shapeCasts_S1x1024x128_S1024x128)
    (shapeCast (Sh 1024 128) (plane1 Facts₀.inb_S2x1024x128_S1x1024x128_1_0_0 arg12 f) Facts₀.shapeCasts_S1x1024x128_S1024x128)

/-- The pieces of the five accumulators after both loops. -/
def afterLoops (k10 k11 : List (View.Piece (Elt F) S4096x128 .f32) → List (View.Piece (Elt F) S4096x128 .f32))
    (g10 f10 : BufTy.Contents (Elt F) arg10.view.ty) (g11 f11 : BufTy.Contents (Elt F) arg11.view.ty) :
    List (View.Piece (Elt F) S4096x128 .f32) × List (View.Piece (Elt F) S4096x128 .f32) × List (View.Piece (Elt F) S2x1024x128 .f32)
      × List (View.Piece (Elt F) S2x1024x1 .f32) × List (View.Piece (Elt F) S2x1024x1 .f32) :=
  let P := lp1 c i arg2 harg2 arg3 harg3 arg4 harg4 arg5 harg5 arg6 harg6 arg7 harg7 arg8 harg8 arg9 harg9 arg10 harg10 arg11 harg11 arg12 harg12 arg13 harg13 arg14 harg14 x0 x1 x2 x3 x4 g10 g11
    (arg12.view.writes (Elt F) arg12.view.junk clear12) (arg13.view.writes (Elt F) arg13.view.junk clear13)
    (arg14.view.writes (Elt F) arg14.view.junk clear14) (k0_t1_loop i).trips
  let L10 := k10 P.1
  let L11 := k11 P.2.1
  let L12 := P.2.2.1 ++ clear12
  let L13 := P.2.2.2.1 ++ clear13
  let L14 := P.2.2.2.2 ++ clear14
  let Q := lp2 c i arg2 harg2 arg3 harg3 arg4 harg4 arg5 harg5 arg6 harg6 arg7 harg7 arg8 harg8 arg9 harg9 arg10 harg10 arg11 harg11 arg12 harg12 arg13 harg13 arg14 harg14 x0 x1 x2 x3 x4 (arg10.view.writes (Elt F) f10 L10) (arg11.view.writes (Elt F) f11 L11)
    (arg12.view.writes (Elt F) arg12.view.junk L12) (arg13.view.writes (Elt F) arg13.view.junk L13)
    (arg14.view.writes (Elt F) arg14.view.junk L14) (k0_t2_loop i).trips
  (Q.1 ++ L10, Q.2.1 ++ L11, Q.2.2.1 ++ L12, Q.2.2.2.1 ++ L13, Q.2.2.2.2 ++ L14)

end Run

end Cert.Sb
-- ==== Proof.Sb.DiagVal.lean ====
/-
  What a whole run of the kernel's body leaves, in real numbers.
-/
module

public import proofs.«01_k».proof.Proof.Sb.TripVal
public import proofs.«01_k».proof.Proof.Sb.Diag

@[expose] public section

set_option maxRecDepth 16384

noncomputable section

open Idealize.ShloMosaic Idealize.ShloMosaic.TcCoe Idealize.SL.Sem Finset
open Cert.KernelIdeal Cert.KernelIdeal.Gen

namespace Cert.Sb

/-- What a head reads beside keys and values holds the head's real numbers, from row `t0` on. -/
structure EnvOk {n : ℕ} (E : Env Ideal n) (N : ℕ) (h : Hd) (t0 : ℕ) : Prop where
  qh : MR E.qh fun r l => h.q (t0 + r) l
  doh : MR E.doh fun r l => h.d (t0 + r) l
  upto : MR E.upto fun j c => if j ≤ c then 1 else 0
  before : MR E.before fun j c => if j < c then 1 else 0
  rt : MR E.rt fun r _ => pref h.z (t0 + r) N

theorem EnvOk.free {n : ℕ} {E : Env Ideal n} {N : ℕ} {h : Hd} {t0 s0 : ℕ} (H : EnvOk E N h t0) {D : Dots n} (ok : D.Ok)
    (hs : s0 + 256 ≤ t0) : Holds D E none N h.q h.d h.z t0 s0 :=
  ⟨ok, H.qh, H.doh, H.upto, H.before, H.rt, fun _ h => by simp at h, fun _ r c _ _ => by omega⟩

theorem EnvOk.masked {n : ℕ} {E : Env Ideal n} {N : ℕ} {h : Hd} {t0 s0 : ℕ} (H : EnvOk E N h t0) {D : Dots n} (ok : D.Ok)
    {m : IVec (Sh n 256) 1} (hm : BM m fun r c => s0 + c < t0 + r) : Holds D E (some m) N h.q h.d h.z t0 s0 :=
  ⟨ok, H.qh, H.doh, H.upto, H.before, H.rt, fun v e => by obtain rfl := Option.some.inj e; exact hm, fun e => by simp at e⟩

theorem EnvOk.cut {n m o : ℕ} {E : Env Ideal n} {N : ℕ} {h : Hd} {t0 : ℕ} (H : EnvOk E N h t0) (hs hs') : EnvOk (E.cut m o hs hs') N h (t0 + o) where
  qh := (H.qh.slice hs).congr fun r l _ _ => by rw [Nat.zero_add, Nat.add_assoc]
  doh := (H.doh.slice hs).congr fun r l _ _ => by rw [Nat.zero_add, Nat.add_assoc]
  upto := H.upto
  before := H.before
  rt := (H.rt.slice hs').congr fun r l _ _ => by rw [Nat.add_assoc]

theorem D768_ok : D768.Ok where
  nt := by intro a b c i; simp only [D768, pointwise]
  cu := by intro a b c i; simp only [D768, pointwise]
  nn := by intro a b c i; simp only [D768, pointwise]
  tn := by intro a b c i; simp only [D768, pointwise]
  pos := by decide

theorem D512_ok : D512.Ok where
  nt := by intro a b c i; simp only [D512, pointwise]
  cu := by intro a b c i; simp only [D512, pointwise]
  nn := by intro a b c i; simp only [D512, pointwise]
  tn := by intro a b c i; simp only [D512, pointwise]
  pos := by decide

theorem D256_ok : D256.Ok where
  nt := by intro a b c i; simp only [D256, pointwise]
  cu := by intro a b c i; simp only [D256, pointwise]
  nn := by intro a b c i; simp only [D256, pointwise]
  tn := by intro a b c i; simp only [D256, pointwise]
  pos := by decide

/-! ## The masks of the diagonal tile -/

theorem rowI_IM : IM rowI fun r _ => r := fun j => by
  show BitVec.ofNat 32 (0 * _ + (j 0).val) = _
  rw [Nat.zero_mul, Nat.zero_add]

theorem colI_IM : IM colI fun _ c => c := fun j => by
  show BitVec.ofNat 32 (0 * _ + (j 1).val) = _
  rw [Nat.zero_mul, Nat.zero_add]

theorem splat_IM {n m : ℕ} (w : ℕ) : IM (broadcast (Sh n m) (BitVec.ofNat 32 w)) fun _ _ => w := fun _ => rfl

theorem mask0_BM (t0 : ℕ) : BM mask0 fun r c => t0 + c < t0 + r := fun j => by
  have h := IM.slt (colI_IM.add (splat_IM 0)) rowI_IM (fun r c _ _ => by omega) (fun r c _ _ => by omega) j
  rw [show mask0 j = _ from rfl]
  refine h.trans ?_
  omega

theorem maskAt_BM (m o : ℕ) (h) (hm : o + m = 1024) (t0 : ℕ) : BM (maskAt m o h (BitVec.ofNat 32 o)) fun r c => t0 + o + c < t0 + o + r := fun j => by
  have h := IM.slt ((colI_IM.slice h).add (splat_IM o)) (rowI_IM.slice h) (fun r c _ _ => by omega) (fun r c _ _ => by omega) j
  refine h.trans ?_
  omega

/-! ## The diagonal tile -/

/-- Rows above a column add nothing to its gradients. -/
theorem dzf_zero {N : ℕ} {z d : ℕ → ℕ → ℝ} {t s : ℕ} (h : t ≤ s) : dzf N z d t s = 0 := if_neg (by omega)
theorem wf_zero {N : ℕ} {z : ℕ → ℕ → ℝ} {t s : ℕ} (h : t ≤ s) : wf N z t s = 0 := if_neg (by omega)

theorem sum_skip (f : ℕ → ℝ) (a n : ℕ) (h : ∀ r < a, f r = 0) : ∑ r ∈ range (a + n), f r = ∑ r ∈ range n, f (a + r) := by
  rw [sum_range_add, sum_eq_zero (fun r hr => h r (mem_range.mp hr)), zero_add]

theorem Hd.dks_skip (h : Hd) (N t0 a n s l : ℕ) (hs : t0 + a ≤ s) : h.dks N (t0 + a) n s l = h.dks N t0 (a + n) s l := by
  unfold Hd.dks
  rw [sum_skip _ a n fun r hr => by rw [dzf_zero (by omega), zero_mul]]
  simp only [Nat.add_assoc]

theorem Hd.dvs_skip (h : Hd) (N t0 a n s l : ℕ) (hs : t0 + a ≤ s) : h.dvs N (t0 + a) n s l = h.dvs N t0 (a + n) s l := by
  unfold Hd.dvs
  rw [sum_skip _ a n fun r hr => by rw [wf_zero (by omega), zero_mul]]
  simp only [Nat.add_assoc]

section Diag
variable {E : Env Ideal 1024} {h : Hd} {N t0 : ℕ} {K V : ℕ → FVec Ideal (Sh 256 128) .bf16} {p c : FVec Ideal (Sh 1024 1) .f32}

/-- What the diagonal tile's sub-steps read holds the head's real numbers. -/
structure DiagOk (E : Env Ideal 1024) (h : Hd) (N t0 : ℕ) (K V : ℕ → FVec Ideal (Sh 256 128) .bf16) (p c : FVec Ideal (Sh 1024 1) .f32) : Prop where
  env : EnvOk E N h t0
  hK : ∀ u < 4, MR (K u) fun r l => h.kf (t0 + 256 * u + r) l
  hV : ∀ u < 4, MR (V u) fun r l => h.vf (t0 + 256 * u + r) l
  hp : MR p fun r _ => pref h.z (t0 + r) t0
  hc : MR c fun r _ => cf N h.z h.dw (t0 + r) t0

variable (O : DiagOk E h N t0 K V p c)
include O

theorem DiagOk.h0 : Holds D1024 E (some mask0) N h.q h.d h.z t0 t0 := O.env.masked D1024_ok (mask0_BM t0)
theorem DiagOk.h1 : Holds D768 (E1 E) (some m1) N h.q h.d h.z (t0 + 256) (t0 + 256) := (O.env.cut _ _).masked D768_ok (maskAt_BM 768 256 _ rfl t0)
theorem DiagOk.h2 : Holds D512 (E2 E) (some m2) N h.q h.d h.z (t0 + 512) (t0 + 512) := (O.env.cut _ _).masked D512_ok (maskAt_BM 512 512 _ rfl t0)
theorem DiagOk.h3 : Holds D256 (E3 E) (some m3) N h.q h.d h.z (t0 + 768) (t0 + 768) := (O.env.cut _ _).masked D256_ok (maskAt_BM 256 768 _ rfl t0)

theorem DiagOk.p1 : MR (p1 E K p) fun r _ => pref h.z (t0 + 256 + r) (t0 + 256) :=
  ((pN_MR O.h0 (O.hK 0 (by decide)) O.hp).slice _).congr fun r c _ _ => by rw [Nat.add_assoc t0 256 r]; rfl
theorem DiagOk.p2 : MR (p2 E K p) fun r _ => pref h.z (t0 + 512 + r) (t0 + 512) :=
  ((pN_MR O.h1 (O.hK 1 (by decide)) O.p1).slice _).congr fun r c _ _ => by
    rw [show t0 + 512 + r = t0 + 256 + (256 + r) by omega]; rfl
theorem DiagOk.p3 : MR (p3 E K p) fun r _ => pref h.z (t0 + 768 + r) (t0 + 768) :=
  ((pN_MR O.h2 (O.hK 2 (by decide)) O.p2).slice _).congr fun r c _ _ => by
    rw [show t0 + 768 + r = t0 + 512 + (256 + r) by omega]; rfl

theorem DiagOk.c1 : MR (c1 E K V p c) fun r _ => cf N h.z h.dw (t0 + 256 + r) (t0 + 256) :=
  ((cN_MR O.h0 (O.hK 0 (by decide)) (O.hV 0 (by decide)) O.hp O.hc).slice _).congr fun r c _ _ => by rw [Nat.add_assoc t0 256 r]; rfl
theorem DiagOk.c2 : MR (c2 E K V p c) fun r _ => cf N h.z h.dw (t0 + 512 + r) (t0 + 512) :=
  ((cN_MR O.h1 (O.hK 1 (by decide)) (O.hV 1 (by decide)) O.p1 O.c1).slice _).congr fun r c _ _ => by
    rw [show t0 + 512 + r = t0 + 256 + (256 + r) by omega]; rfl
theorem DiagOk.c3 : MR (c3 E K V p c) fun r _ => cf N h.z h.dw (t0 + 768 + r) (t0 + 768) :=
  ((cN_MR O.h2 (O.hK 2 (by decide)) (O.hV 2 (by decide)) O.p2 O.c2).slice _).congr fun r c _ _ => by
    rw [show t0 + 768 + r = t0 + 512 + (256 + r) by omega]; rfl

theorem DiagOk.dk (u : ℕ) (hu : u < 4) : MR (dkDiag E K V p c u) fun r l => h.dks N t0 1024 (t0 + 256 * u + r) l := by
  interval_cases u
  · exact dkV_MR O.h0 (O.hK 0 (by decide)) (O.hV 0 (by decide)) O.hp O.hc
  · exact (dkV_MR O.h1 (O.hK 1 (by decide)) (O.hV 1 (by decide)) O.p1 O.c1).congr fun r l _ _ => h.dks_skip N t0 256 768 _ l (by omega)
  · exact (dkV_MR O.h2 (O.hK 2 (by decide)) (O.hV 2 (by decide)) O.p2 O.c2).congr fun r l _ _ => h.dks_skip N t0 512 512 _ l (by omega)
  · exact (dkV_MR O.h3 (O.hK 3 (by decide)) (O.hV 3 (by decide)) O.p3 O.c3).congr fun r l _ _ => h.dks_skip N t0 768 256 _ l (by omega)

theorem DiagOk.dv (u : ℕ) (hu : u < 4) : MR (dvDiag E K p u) fun r l => h.dvs N t0 1024 (t0 + 256 * u + r) l := by
  interval_cases u
  · exact dvV_MR O.h0 (O.hK 0 (by decide)) O.hp
  · exact (dvV_MR O.h1 (O.hK 1 (by decide)) O.p1).congr fun r l _ _ => h.dvs_skip N t0 256 768 _ l (by omega)
  · exact (dvV_MR O.h2 (O.hK 2 (by decide)) O.p2).congr fun r l _ _ => h.dvs_skip N t0 512 512 _ l (by omega)
  · exact (dvV_MR O.h3 (O.hK 3 (by decide)) O.p3).congr fun r l _ _ => h.dvs_skip N t0 768 256 _ l (by omega)

omit O in
/-- What sub-step `u` of the diagonal tile adds to row `r` of the query gradient. -/
def Hd.dqTerm (h : Hd) (N t0 u r l : ℕ) : ℝ :=
  ∑ j ∈ range 256, dzf N h.z h.dw (t0 + r) (t0 + 256 * u + j) * h.kf (t0 + 256 * u + j) l

omit O in
theorem Hd.dqTerm_zero (h : Hd) (N t0 u r l : ℕ) (hr : r < 256 * u) : h.dqTerm N t0 u r l = 0 :=
  sum_eq_zero fun j _ => by rw [dzf_zero (by omega), zero_mul]

omit O in
theorem moreRows_MR {sig : RefSig} {κ : Kind} {sp : Space} {v : View sig κ sp (Sh3 2 1024 128) .f32} {t o b : ℕ} (inb hd hu)
    {x : FVec Ideal (Sh b 128) .f32} {L : List (View.Piece (Elt Ideal) (Sh3 2 1024 128) .f32)} {g : ℕ → ℕ → ℕ → ℝ} {xf : ℕ → ℕ → ℝ}
    (hob : o + b = 1024) (hg : Holds3 v (v.writes (Elt Ideal) v.junk L) g) (hx : MR x fun r c => xf (o + r) c)
    (hz : ∀ r c, r < o → xf r c = 0) :
    Holds3 v (v.writes (Elt Ideal) v.junk (moreRows v t o b inb hd hu x L)) fun t' r c => if t' = t then g t r c + xf r c else g t' r c := by
  refine MQ.congr (addRows_MR (inb := inb) hd hu hg (readRows_MR (inb := inb) hg) hx) fun t' r c _ hr _ => ?_
  by_cases ht : t' = t
  · subst ht
    by_cases ho : o ≤ r
    · rw [if_pos ⟨rfl, ho, by omega⟩, if_pos rfl]
    · rw [if_neg (fun H => ho H.2.1), if_pos rfl, hz r c (by omega), add_zero]
  · rw [if_neg (fun H => ht H.1), if_neg ht]

/-- The diagonal tile adds its columns' terms to the head's plane of the query gradient. -/
theorem DiagOk.dq {sig : RefSig} {κ : Kind} {sp : Space} {v : View sig κ sp (Sh3 2 1024 128) .f32} {t : ℕ} (ht : t < 2)
    {L : List (View.Piece (Elt Ideal) (Sh3 2 1024 128) .f32)} {g : ℕ → ℕ → ℕ → ℝ} (hg : Holds3 v (v.writes (Elt Ideal) v.junk L) g) :
    Holds3 v (v.writes (Elt Ideal) v.junk (dqRows E K V p c v t ht L)) fun t' r l =>
      if t' = t then g t r l + (h.dqTerm N t0 0 r l + h.dqTerm N t0 1 r l + h.dqTerm N t0 2 r l + h.dqTerm N t0 3 r l) else g t' r l := by
  have x0 := dqV_MR O.h0 (O.hK 0 (by decide)) (O.hV 0 (by decide)) O.hp O.hc
  have x1 := dqV_MR O.h1 (O.hK 1 (by decide)) (O.hV 1 (by decide)) O.p1 O.c1
  have x2 := dqV_MR O.h2 (O.hK 2 (by decide)) (O.hV 2 (by decide)) O.p2 O.c2
  have x3 := dqV_MR O.h3 (O.hK 3 (by decide)) (O.hV 3 (by decide)) O.p3 O.c3
  have a0 := moreRows_MR (t := t) (o := 0) (b := 1024) (xf := h.dqTerm N t0 0) (by intro a; fin_cases a <;> simp <;> omega)
    Facts₀.shapeCasts_S1x1024x128_S1024x128 Facts₀.shapeCasts_S1024x128_S1x1024x128 rfl hg
    (x0.congr fun r l _ _ => by rw [Nat.zero_add]; rfl) (fun r c hr => h.dqTerm_zero _ _ 0 _ _ hr)
  have a1 := moreRows_MR (t := t) (o := 256) (b := 768) (xf := h.dqTerm N t0 1) (by intro a; fin_cases a <;> simp <;> omega)
    Facts₀.shapeCasts_S1x768x128_S768x128 Facts₀.shapeCasts_S768x128_S1x768x128 rfl a0
    (x1.congr fun r l _ _ => by unfold Hd.dqTerm; rw [← Nat.add_assoc]; rfl) (fun r c hr => h.dqTerm_zero _ _ 1 _ _ hr)
  have a2 := moreRows_MR (t := t) (o := 512) (b := 512) (xf := h.dqTerm N t0 2) (by intro a; fin_cases a <;> simp <;> omega)
    Facts₀.shapeCasts_S1x512x128_S512x128 Facts₀.shapeCasts_S512x128_S1x512x128 rfl a1
    (x2.congr fun r l _ _ => by unfold Hd.dqTerm; rw [← Nat.add_assoc]; rfl) (fun r c hr => h.dqTerm_zero _ _ 2 _ _ hr)
  have a3 := moreRows_MR (t := t) (o := 768) (b := 256) (xf := h.dqTerm N t0 3) (by intro a; fin_cases a <;> simp <;> omega)
    Facts₀.shapeCasts_S1x256x128_S256x128 Facts₀.shapeCasts_S256x128_S1x256x128 rfl a2
    (x3.congr fun r l _ _ => by unfold Hd.dqTerm; rw [← Nat.add_assoc]; rfl) (fun r c hr => h.dqTerm_zero _ _ 3 _ _ hr)
  refine MQ.congr a3 fun t' r l _ _ _ => ?_
  by_cases e : t' = t
  · simp only [if_pos e, if_true]; ring
  · simp only [if_neg e]

omit O in
theorem Hd.dqs_diag (h : Hd) (N t0 r l : ℕ) :
    h.dqs N (t0 + r) t0 l + (h.dqTerm N t0 0 r l + h.dqTerm N t0 1 r l + h.dqTerm N t0 2 r l + h.dqTerm N t0 3 r l)
      = h.dqs N (t0 + r) (t0 + 1024) l :=
  sum_four (fun s => dzf N h.z h.dw (t0 + r) s * h.kf s l) t0

end Diag

end Cert.Sb
-- ==== Proof.Sb.Heads.lean ====
/-
  What a whole run of the kernel's body leaves, in real numbers.
-/
module

public import proofs.«01_k».proof.Proof.Sb.DiagVal

@[expose] public section

set_option maxRecDepth 16384

noncomputable section

open Idealize.ShloMosaic Idealize.ShloMosaic.TcCoe Idealize.SL.Sem Finset
open Cert.KernelIdeal Cert.KernelIdeal.Gen

namespace Cert.Sb

/-! ## What the heads read -/

/-- Head `x` of a lane tile: the query rows, scaled, and the cotangent rows, in the head's own lanes; the tile's keys and
    values in all lanes. -/
def hd (qf df kf vf : ℕ → ℕ → ℝ) (x : ℕ) : Hd where
  q t l := if l / 64 = x then qf t l * (1 / 8) else 0
  d t l := if l / 64 = x then df t l else 0
  kf := kf
  vf := vf

/-- The blocks a run reads hold these real numbers. -/
structure Blk (qf df kf vf : ℕ → ℕ → ℝ) (t0 : ℕ) (x0 : FVec Ideal (Sh 1024 128) .bf16) (x1 x2 : FVec Ideal (Sh 4096 128) .bf16)
    (x3 : FVec Ideal (Sh 1024 128) .bf16) (x4 : FVec Ideal (Sh3 2 1024 1) .f32) : Prop where
  q : MR x0 fun r l => qf (t0 + r) l
  k : MR x1 kf
  v : MR x2 vf
  d : MR x3 fun r l => df (t0 + r) l
  rt : MQ x4 fun x r _ => pref (hd qf df kf vf x).z (t0 + r) 4096

theorem BM.and {n m : ℕ} {a b : IVec (Sh n m) 1} {p q : ℕ → ℕ → Prop} (ha : BM a p) (hb : BM b q) :
    BM (andi a b) fun r c => p r c ∧ q r c := fun j => by
  show a j &&& b j = 1 ↔ p (j 0).val (j 1).val ∧ q (j 0).val (j 1).val
  rw [← ha j, ← hb j]
  generalize a j = x
  generalize b j = y
  revert x y; decide

theorem IM.sge {n m : ℕ} {x y : IVec (Sh n m) 32} {f g : ℕ → ℕ → ℕ} (hx : IM x f) (hy : IM y g)
    (bf : ∀ r c, r < n → c < m → f r c < 2 ^ 31) (bg : ∀ r c, r < n → c < m → g r c < 2 ^ 31) :
    BM (cmpi .sge x y) fun r c => g r c ≤ f r c := fun j => by
  show Scalar.cmpi .sge (x j) (y j) = 1 ↔ _
  rw [hx, hy]
  show BitVec.ofBool (BitVec.sle _ _) = 1#1 ↔ _
  rw [ofBool_eq_one, BitVec.sle_iff_toInt_le, toInt_ofNat_small _ (bf _ _ (j 0).isLt (j 1).isLt),
    toInt_ofNat_small _ (bg _ _ (j 0).isLt (j 1).isLt), Int.ofNat_le]

theorem lane_IM : IM (n := 1024) (m := 128) (iota .tc S1024x128 32 [1] Facts₀.iota_S1024x128_d1_w32) fun _ c => c := fun j => by
  show BitVec.ofNat 32 (0 * _ + (j 1).val) = _
  rw [Nat.zero_mul, Nat.zero_add]

theorem eighth_bf16 : Ideal.ofBits .bf16 0x3E00#16 = ((1 / 8 : ℝ) : EReal) := by
  simp [Ideal.ofBits, Ideal.ieee, -EReal.coe_mul]; norm_num

theorem zero_bf16 : Ideal.ofBits .bf16 0x0000#16 = ((0 : ℝ) : EReal) := by
  simp [Ideal.ofBits, Ideal.ieee, -EReal.coe_mul]

theorem eighth_f32 : Ideal.ofBits .f32 0x3E000000#32 = ((1 / 8 : ℝ) : EReal) := by
  simp [Ideal.ofBits, Ideal.ieee, -EReal.coe_mul]; norm_num

/-- The lanes of a head. -/
theorem head_BM (a b : ℕ) (ha : a < 2 ^ 31) (hb : b < 2 ^ 31) :
    BM (n := 1024) (m := 128) (andi (cmpi .sge (iota .tc S1024x128 32 [1] Facts₀.iota_S1024x128_d1_w32) (broadcast S1024x128 (BitVec.ofNat 32 a)))
      (cmpi .slt (iota .tc S1024x128 32 [1] Facts₀.iota_S1024x128_d1_w32) (broadcast S1024x128 (BitVec.ofNat 32 b)))) fun _ c => a ≤ c ∧ c < b :=
  BM.and (IM.sge lane_IM (splat_IM a) (fun r c _ _ => by omega) fun r c _ _ => ha)
    (IM.slt lane_IM (splat_IM b) (fun r c _ _ => by omega) fun r c _ _ => hb)

section Heads
variable {x : FVec Ideal (Sh 1024 128) .bf16} {f : ℕ → ℕ → ℝ} (hx : MR x f)
include hx

theorem scaled_MR : MR (k0_pay266 x) fun r c => f r c * (1 / 8) := hx.mul (MR.splat eighth_bf16)

theorem q0_MR : MR (k0_pay267 x) fun r c => if c / 64 = 0 then f r c * (1 / 8) else 0 :=
  (MR.sel (head_BM 0 64 (by norm_num) (by norm_num)) (scaled_MR hx) (MR.splat zero_bf16)).congr fun r c _ hc => by
    by_cases h : c < 64
    · rw [if_pos ⟨Nat.zero_le _, h⟩, if_pos (by omega)]
    · rw [if_neg (fun H => h H.2), if_neg (by omega)]

theorem q1_MR : MR (k0_pay268 x) fun r c => if c / 64 = 1 then f r c * (1 / 8) else 0 :=
  (MR.sel (head_BM 64 128 (by norm_num) (by norm_num)) (scaled_MR hx) (MR.splat zero_bf16)).congr fun r c _ hc => by
    by_cases h : 64 ≤ c
    · rw [if_pos ⟨h, hc⟩, if_pos (by omega)]
    · rw [if_neg (fun H => h H.1), if_neg (by omega)]

theorem d0_MR : MR (φ := .bf16) (k0_pay269 (F := Ideal) x) fun r c => if c / 64 = 0 then f r c else 0 :=
  (MR.sel (head_BM 0 64 (by norm_num) (by norm_num)) hx (MR.splat zero_bf16)).congr fun r c _ hc => by
    by_cases h : c < 64
    · rw [if_pos ⟨Nat.zero_le _, h⟩, if_pos (by omega)]
    · rw [if_neg (fun H => h H.2), if_neg (by omega)]

theorem d1_MR : MR (φ := .bf16) (k0_pay270 (F := Ideal) x) fun r c => if c / 64 = 1 then f r c else 0 :=
  (MR.sel (head_BM 64 128 (by norm_num) (by norm_num)) hx (MR.splat zero_bf16)).congr fun r c _ hc => by
    by_cases h : 64 ≤ c
    · rw [if_pos ⟨h, hc⟩, if_pos (by omega)]
    · rw [if_neg (fun H => h H.1), if_neg (by omega)]

end Heads

/-- A mask as numbers. -/
theorem ones_MR {n m : ℕ} {v : IVec (Sh n m) 1} {p : ℕ → ℕ → Prop} [∀ r c, Decidable (p r c)] (hv : BM v p) (h h') :
    MR (truncf .bf16 (sitofp (F := Ideal) .f32 (extui 32 v h)) h' : FVec Ideal (Sh n m) .bf16) fun r c => if p r c then 1 else 0 := fun j => by
  show (((((v j).setWidth 32).toInt : ℤ) : ℝ) : EReal) = _
  have hj := hv j
  revert hj
  generalize v j = w
  intro hj
  by_cases hp : p (j 0).val (j 1).val
  · have : w = 1 := hj.2 hp
    subst this
    simp only [hp, if_true]
    have e : ((1 : BitVec 1).setWidth 32).toInt = 1 := by decide
    rw [e]; norm_num
  · have : w = 0 := by
      have h0 : w ≠ 1 := fun e => hp (hj.1 e)
      clear hj
      revert h0; revert w; decide
    subst this
    simp only [hp, if_false]
    norm_num

theorem square_row : IM (n := 256) (m := 256) (iota .tc S256x256 32 [0] Facts₀.iota_S256x256_d0_w32) fun r _ => r := fun j => by
  show BitVec.ofNat 32 (0 * _ + (j 0).val) = _
  rw [Nat.zero_mul, Nat.zero_add]

theorem square_col : IM (n := 256) (m := 256) (iota .tc S256x256 32 [1] Facts₀.iota_S256x256_d1_w32) fun _ c => c := fun j => by
  show BitVec.ofNat 32 (0 * _ + (j 1).val) = _
  rw [Nat.zero_mul, Nat.zero_add]

theorem IM.sle {n m : ℕ} {x y : IVec (Sh n m) 32} {f g : ℕ → ℕ → ℕ} (hx : IM x f) (hy : IM y g)
    (bf : ∀ r c, r < n → c < m → f r c < 2 ^ 31) (bg : ∀ r c, r < n → c < m → g r c < 2 ^ 31) :
    BM (cmpi .sle x y) fun r c => f r c ≤ g r c := fun j => by
  show Scalar.cmpi .sle (x j) (y j) = 1 ↔ _
  rw [hx, hy]
  show BitVec.ofBool (BitVec.sle _ _) = 1#1 ↔ _
  rw [ofBool_eq_one, BitVec.sle_iff_toInt_le, toInt_ofNat_small _ (bf _ _ (j 0).isLt (j 1).isLt),
    toInt_ofNat_small _ (bg _ _ (j 0).isLt (j 1).isLt), Int.ofNat_le]

theorem upto_MR : MR (k0_pay274 (F := Ideal)) fun j c => if j ≤ c then 1 else 0 :=
  ones_MR (IM.sle square_row square_col (fun r c _ _ => by omega) fun r c _ _ => by omega) _ _

theorem before_MR : MR (k0_pay275 (F := Ideal)) fun j c => if j < c then 1 else 0 :=
  ones_MR (IM.slt square_row square_col (fun r c _ _ => by omega) fun r c _ _ => by omega) _ _

theorem wide0_MR {x : FVec Ideal (Sh3 1 1024 1) .f32} {f : ℕ → ℕ → ℝ} (hx : MR3 x f) : MR (k0_pay276 (F := Ideal) x) fun r _ => f r 0 :=
  MR.bcast (MR.castSelf (MR.dropUnit hx _) _) (by decide) Facts₀.broadcasts_S1024x1_S1024x256

theorem wide1_MR {x : FVec Ideal (Sh3 1 1024 1) .f32} {f : ℕ → ℕ → ℝ} (hx : MR3 x f) : MR (k0_pay277 (F := Ideal) x) fun r _ => f r 0 :=
  MR.bcast (MR.castSelf (MR.dropUnit hx _) _) (by decide) Facts₀.broadcasts_S1024x1_S1024x256

/-! ## Pieces over pieces -/

section RdFour
variable {sig : RefSig} {κ : Kind} {sp : Space} {off : Fin 4 → Fin 2 → ℕ}
  {inb : ∀ r a, off r a + (![256, 128] : Fin 2 → ℕ) a ≤ (Sh 4096 128).size a} {v : View sig κ sp (Sh 4096 128) .f32} {B : ℕ}
  {f : v.ty.Contents (Elt Ideal)} {L : List (View.Piece (Elt Ideal) (Sh 4096 128) .f32)} {g : ℕ → ℕ → ℝ}

/-- The same eight blocks, the first head's loaded as they stand. -/
theorem diagEight_MR (hoff : ∀ r, off r = ![B + 256 * r.val, 0]) {X Y : ℕ → FVec Ideal (Sh 256 128) .f32} {xf yf : ℕ → ℕ → ℝ}
    (hg : Holds2 v (v.writes (Elt Ideal) f L) g)
    (hX : ∀ u < 4, MR (X u) fun r c => xf (B + 256 * u + r) c)
    (hY : ∀ u < 4, MR (Y u) fun r c => yf (B + 256 * u + r) c) :
    Holds2 v (v.writes (Elt Ideal) f (nextFour off inb v Y (rdFour off inb v f X L)))
      fun r c => g r c + if B ≤ r ∧ r < B + 1024 then xf r c + yf r c else 0 := by
  have l0 := rdBlock_MR (off := off) (inb := inb) 0 (hoff 0) hg
  have a0 := addPiece_MR (f := f) (inb 0) (hoff 0) hg l0 (hX 0 (by decide))
  have l1 := (rdBlock_MR (off := off) (inb := inb) 1 (hoff 1) a0)
  have l1' : MR (rdBlock off inb v 1 _) fun r c => g (B + 256 * 1 + r) c := l1.congr fun r c _ _ => if_neg (by
    rintro ⟨h1, h2⟩; simp at h1 h2 <;> omega)
  have a1 := addPiece_MR (f := f) (inb 1) (hoff 1) a0 l1' (hX 1 (by decide))
  have l2 := (rdBlock_MR (off := off) (inb := inb) 2 (hoff 2) a1)
  have l2' : MR (rdBlock off inb v 2 _) fun r c => g (B + 256 * 2 + r) c := l2.congr fun r c _ _ => by
    rw [if_neg, if_neg] <;> first | rfl | (rintro ⟨h1, h2⟩; simp at h1 h2 <;> omega)
  have a2 := addPiece_MR (f := f) (inb 2) (hoff 2) a1 l2' (hX 2 (by decide))
  have l3 := (rdBlock_MR (off := off) (inb := inb) 3 (hoff 3) a2)
  have l3' : MR (rdBlock off inb v 3 _) fun r c => g (B + 256 * 3 + r) c := l3.congr fun r c _ _ => by
    rw [if_neg, if_neg, if_neg] <;> first | rfl | (rintro ⟨h1, h2⟩; simp at h1 h2 <;> omega)
  refine eight_MR (l := at4 _ _ _ _) hoff hg (fun u hu => ?_) hX hY
  interval_cases u
  · exact l0
  · exact l1'
  · exact l2'
  · exact l3'

end RdFour

end Cert.Sb
-- ==== Proof.Sb.BodyVal.lean ====
/-
  What a whole run of the kernel's body leaves, in real numbers.
-/
module

public import proofs.«01_k».proof.Proof.Sb.Heads

@[expose] public section

set_option maxRecDepth 16384

noncomputable section

open Idealize.ShloMosaic Idealize.ShloMosaic.TcCoe Idealize.SL.Sem Finset
open Cert.KernelIdeal Cert.KernelIdeal.Gen

namespace Cert.Sb

/-- The first loop takes one trip per tile below the diagonal. -/
theorem trips1 (i : grid0.Coords) : (k0_t1_loop i).trips = (i 1).val := by
  have h : ∀ x : Fin 4, Scf.trips 0#32 (Scalar.addi 0#32 (Scalar.muli (Scalar.divsi (Scalar.subi (BitVec.ofNat 32 x.val) 0#32) 1#32) 1#32)) 1#32 = x.val := by decide
  exact h (i 1)

/-- The second loop takes none. -/
theorem trips2 (i : grid0.Coords) : (k0_t2_loop i).trips = 0 := by
  have h : ∀ x : Fin 4, Scf.trips (Scalar.addi 0#32 (Scalar.muli (Scalar.divsi (Scalar.subi (BitVec.ofNat 32 x.val) 0#32) 1#32) 1#32))
      (Scalar.addi 0#32 (Scalar.subi (BitVec.ofNat 32 x.val) 0#32)) 1#32 = 0 := by decide
  exact h (i 1)

theorem Hd.dks_zero (h : Hd) (N t0 n s l : ℕ) (hs : t0 + n ≤ s) : h.dks N t0 n s l = 0 :=
  sum_eq_zero fun r hr => by rw [dzf_zero (by have := mem_range.1 hr; omega), zero_mul]

theorem Hd.dvs_zero (h : Hd) (N t0 n s l : ℕ) (hs : t0 + n ≤ s) : h.dvs N t0 n s l = 0 :=
  sum_eq_zero fun r hr => by rw [wf_zero (by have := mem_range.1 hr; omega), zero_mul]

/-- The columns from a row's own on add nothing to its query gradient. -/
theorem Hd.dqs_rest (h : Hd) (N t a b l : ℕ) (hab : a ≤ b) (ha : t < a) : h.dqs N t a l = h.dqs N t b l :=
  sum_subset (range_subset_range.2 hab) fun s _ hs => by
    rw [dzf_zero (by have : ¬ s < a := fun H => hs (mem_range.2 H); omega), zero_mul]

section Body
variable (c : Dev nD) (i : grid0.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .bf16) (harg5 : arg5.IsWhole) (arg6 : Memref sig .tc .vmem S2x1024x1 .f32) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2x1024x128 .f32) (harg12 : arg12.IsWhole) (arg13 : Memref sig .tc .vmem S2x1024x1 .f32) (harg13 : arg13.IsWhole) (arg14 : Memref sig .tc .vmem S2x1024x1 .f32) (harg14 : arg14.IsWhole)
  {x0 : FVec Ideal (Sh 1024 128) .bf16} {x1 x2 : FVec Ideal (Sh 4096 128) .bf16} {x3 : FVec Ideal (Sh 1024 128) .bf16} {x4 : FVec Ideal (Sh3 2 1024 1) .f32}
  {qf df kf vf : ℕ → ℕ → ℝ} {t0 : ℕ}

theorem qX_eq : qX (F := Ideal) arg2 harg2 x0 = x0 := by
  unfold qX
  exact (View.readAt_full _ _ _).trans (Memref.IsWhole.read_unread (Val := Elt Ideal) harg2 x0)

theorem dX_eq : dX (F := Ideal) arg5 harg5 x3 = x3 := by
  unfold dX
  exact (View.readAt_full _ _ _).trans (Memref.IsWhole.read_unread (Val := Elt Ideal) harg5 x3)

variable (B : Blk qf df kf vf t0 x0 x1 x2 x3 x4)
include B

theorem rtX : Holds3 (n := 1024) (m := 1) arg6.view (harg6.unread x4) fun x r _ => pref (hd qf df kf vf x).z (t0 + r) 4096 := by
  unfold Holds3
  have e : arg6.view.read (Elt Ideal) (harg6.unread x4) = x4 := Memref.IsWhole.read_unread (Val := Elt Ideal) harg6 x4
  exact e.symm ▸ B.rt

theorem envA_ok : EnvOk (envA (F := Ideal) arg2 harg2 arg5 harg5 arg6 harg6 x0 x3 x4) 4096 (hd qf df kf vf 0) t0 where
  qh := by
    unfold envA; rw [qX_eq]; exact q0_MR B.q
  doh := by
    unfold envA; rw [dX_eq]; exact d0_MR B.d
  upto := upto_MR
  before := before_MR
  rt := (wide0_MR (readRows_MR (t := 0) (o := 0) (b := 1024) (rtX arg6 harg6 B))).congr fun r c _ _ => by rw [Nat.zero_add]

theorem envB_ok : EnvOk (envB (F := Ideal) arg2 harg2 arg5 harg5 arg6 harg6 x0 x3 x4) 4096 (hd qf df kf vf 1) t0 where
  qh := by
    unfold envB; rw [qX_eq]; exact q1_MR B.q
  doh := by
    unfold envB; rw [dX_eq]; exact d1_MR B.d
  upto := upto_MR
  before := before_MR
  rt := (wide1_MR (readRows_MR (t := 1) (o := 0) (b := 1024) (rtX arg6 harg6 B))).congr fun r c _ _ => by rw [Nat.zero_add]

theorem x1_MR : MR (n := 4096) (m := 128) (φ := .bf16) (arg3.view.read (Elt Ideal) (harg3.unread x1)) kf := by
  have e : arg3.view.read (Elt Ideal) (harg3.unread x1) = x1 := Memref.IsWhole.read_unread (Val := Elt Ideal) harg3 x1
  exact e.symm ▸ B.k

theorem x2_MR : MR (n := 4096) (m := 128) (φ := .bf16) (arg4.view.read (Elt Ideal) (harg4.unread x2)) vf := by
  have e : arg4.view.read (Elt Ideal) (harg4.unread x2) = x2 := Memref.IsWhole.read_unread (Val := Elt Ideal) harg4 x2
  exact e.symm ▸ B.v

variable {G10 : BufTy.Contents (Elt Ideal) arg10.view.ty} {G11 : BufTy.Contents (Elt Ideal) arg11.view.ty} {G12 : BufTy.Contents (Elt Ideal) arg12.view.ty}
  {G13 : BufTy.Contents (Elt Ideal) arg13.view.ty} {G14 : BufTy.Contents (Elt Ideal) arg14.view.ty} {gk gv : ℕ → ℕ → ℝ}

omit B in
/-- The pieces after one more trip. -/
theorem lp1_succ (n : ℕ) (hn : n < (k0_t1_loop i).trips) :
    lp1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 G10 G11 G12 G13 G14 (n + 1) =
      let P := lp1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 G10 G11 G12 G13 G14 n
      let T := tripOut i ⟨n, hn⟩ arg3 arg4 (harg3.unread x1) (harg4.unread x2) (envA (F := Ideal) arg2 harg2 arg5 harg5 arg6 harg6 x0 x3 x4)
        (envB (F := Ideal) arg2 harg2 arg5 harg5 arg6 harg6 x0 x3 x4) arg10 arg11
        (arg10.view.writes (Elt Ideal) G10 P.1) (arg11.view.writes (Elt Ideal) G11 P.2.1) arg12 (arg12.view.writes (Elt Ideal) G12 P.2.2.1)
        arg13 arg14 (arg13.view.writes (Elt Ideal) G13 P.2.2.2.1) (arg14.view.writes (Elt Ideal) G14 P.2.2.2.2)
      (T.1 ++ P.1, T.2.1 ++ P.2.1, T.2.2.1 ++ P.2.2.1, T.2.2.2.1 ++ P.2.2.2.1, T.2.2.2.2 ++ P.2.2.2.2) := by
  unfold lp1
  have S := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val)
    (k0_pay267 (qX (F := Ideal) arg2 harg2 x0)) (k0_pay268 (qX (F := Ideal) arg2 harg2 x0)) (k0_pay269 (dX (F := Ideal) arg5 harg5 x3)) (k0_pay270 (dX (F := Ideal) arg5 harg5 x3)) rowI colI
    k0_pay274 k0_pay275 (k0_pay276 (t0X (F := Ideal) arg6 harg6 x4)) (k0_pay277 (t1X (F := Ideal) arg6 harg6 x4)) 0#32 1#32
    (Scalar.divsi (Scalar.subi (BitVec.ofNat 32 (i 1).val) 0#32) 1#32) (harg3.unread x1) (harg4.unread x2) G10 G11 G12 G13 G14 ⟨n, hn⟩
  rw [trip_pieces] at S
  refine S.trans ?_
  sl_kernel_rfl

/-- The accumulators after `n` trips of the first loop. -/
theorem lp1_Acc (ht0 : t0 = 1024 * (i 1).val)
    (A : Acc 4096 t0 0 (hd qf df kf vf) gk gv arg10 arg11 arg12 arg13 arg14 G10 G11 G12 G13 G14) (n : ℕ) (hn : n ≤ (k0_t1_loop i).trips) :
    Acc 4096 t0 (1024 * n) (hd qf df kf vf) gk gv arg10 arg11 arg12 arg13 arg14
      (arg10.view.writes (Elt Ideal) G10 (lp1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 G10 G11 G12 G13 G14 n).1)
      (arg11.view.writes (Elt Ideal) G11 (lp1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 G10 G11 G12 G13 G14 n).2.1)
      (arg12.view.writes (Elt Ideal) G12 (lp1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 G10 G11 G12 G13 G14 n).2.2.1)
      (arg13.view.writes (Elt Ideal) G13 (lp1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 G10 G11 G12 G13 G14 n).2.2.2.1)
      (arg14.view.writes (Elt Ideal) G14 (lp1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 G10 G11 G12 G13 G14 n).2.2.2.2) := by
  induction n with
  | zero => exact A
  | succ n ih =>
    have IH := ih (Nat.le_of_succ_le hn)
    have hlt : n < (k0_t1_loop i).trips := hn
    have htr : n < (i 1).val := trips1 i ▸ hlt
    have T := trip_Acc (Hs := hd qf df kf vf) (i := i) (k := ⟨n, hlt⟩) (a3 := arg3) (a4 := arg4) (fun _ => rfl) (fun _ => rfl)
      (x1_MR arg3 harg3 B) (x2_MR arg4 harg4 B)
      (fun u hu => (envA_ok arg2 harg2 arg5 harg5 arg6 harg6 B).free D1024_ok (by show 1024 * n + 256 * u + 256 ≤ t0; omega))
      (fun u hu => (envB_ok arg2 harg2 arg5 harg5 arg6 harg6 B).free D1024_ok (by show 1024 * n + 256 * u + 256 ≤ t0; omega)) IH
    rw [lp1_succ]
    simp only [View.writes_append]
    exact T

omit B in
/-- The cleared accumulators. -/
theorem clear_Acc {N : ℕ} (h10 : Holds2 arg10.view G10 gk) (h11 : Holds2 arg11.view G11 gv) :
    Acc N t0 0 (hd qf df kf vf) gk gv arg10 arg11 arg12 arg13 arg14 G10 G11 (arg12.view.writes (Elt Ideal) arg12.view.junk clear12)
      (arg13.view.writes (Elt Ideal) arg13.view.junk clear13) (arg14.view.writes (Elt Ideal) arg14.view.junk clear14) where
  dk := h10.congr fun s l _ _ => by rw [if_neg (Nat.not_lt_zero _), add_zero]
  dv := h11.congr fun s l _ _ => by rw [if_neg (Nat.not_lt_zero _), add_zero]
  dq := by
    unfold Holds3 clear12
    rw [View.read_writes_full]
    intro j
    exact zero_bits
  p := by
    unfold Holds3 clear13
    rw [View.read_writes_full]
    intro j
    exact zero_bits
  c := by
    unfold Holds3 clear14
    rw [View.read_writes_full]
    intro j
    exact zero_bits

omit B in
/-- A tile of the diagonal, block by block. -/
theorem tile3_MR {a : Memref sig .tc .vmem S4096x128 .bf16} {X : BufTy.Contents (Elt Ideal) a.view.ty} {g : ℕ → ℕ → ℝ}
    (hX : MR (n := 4096) (m := 128) (φ := .bf16) (a.view.read (Elt Ideal) X) g) (u : ℕ) (hu : u < 4) :
    MR (φ := .bf16) (tile3 i a X u) fun r c => g (1024 * (i 1).val + 256 * u + r) c := by
  have key : ∀ r : Fin 4, MR (n := 256) (m := 128) (φ := .bf16)
      (a.view.readAt (Elt Ideal) (Rect.unit (s := Sh 4096 128) (off3 i r) ![256, 128] (off3_inb i r)).toLoadRect X)
      fun q c => g (1024 * (i 1).val + 256 * r.val + q) c := fun r => by
    rw [View.readAt_unit a.view X (off3_inb i r) (off3_eq i r) (off3_eq i r ▸ off3_inb i r)]
    exact MR.window (n := 4096) (m := 128) (b := 256) hX _
  interval_cases u
  · exact key 0
  · exact key 1
  · exact key 2
  · exact key 3

variable {f10 : BufTy.Contents (Elt Ideal) arg10.view.ty} {f11 : BufTy.Contents (Elt Ideal) arg11.view.ty}
  {k10 k11 : List (View.Piece (Elt Ideal) S4096x128 .f32) → List (View.Piece (Elt Ideal) S4096x128 .f32)}

omit B in
theorem AL_eq : afterLoops (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 k10 k11 G10 f10 G11 f11 =
    let P := lp1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 G10 G11 (arg12.view.writes (Elt Ideal) arg12.view.junk clear12)
      (arg13.view.writes (Elt Ideal) arg13.view.junk clear13) (arg14.view.writes (Elt Ideal) arg14.view.junk clear14) (k0_t1_loop i).trips
    (k10 P.1, k11 P.2.1, P.2.2.1 ++ clear12, P.2.2.2.1 ++ clear13, P.2.2.2.2 ++ clear14) := by
  unfold afterLoops lp2
  rw [trips2]
  rfl

/-- The accumulators after both loops. -/
theorem loops_Acc (ht0 : t0 = 1024 * (i 1).val) (h10 : Holds2 arg10.view G10 gk) (h11 : Holds2 arg11.view G11 gv)
    (hk10 : ∀ P, arg10.view.writes (Elt Ideal) f10 (k10 P) = arg10.view.writes (Elt Ideal) G10 P)
    (hk11 : ∀ P, arg11.view.writes (Elt Ideal) f11 (k11 P) = arg11.view.writes (Elt Ideal) G11 P) :
    Acc 4096 t0 t0 (hd qf df kf vf) gk gv arg10 arg11 arg12 arg13 arg14
      (arg10.view.writes (Elt Ideal) f10 (afterLoops (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 k10 k11 G10 f10 G11 f11).1)
      (arg11.view.writes (Elt Ideal) f11 (afterLoops (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 k10 k11 G10 f10 G11 f11).2.1)
      (arg12.view.writes (Elt Ideal) arg12.view.junk (afterLoops (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 k10 k11 G10 f10 G11 f11).2.2.1)
      (arg13.view.writes (Elt Ideal) arg13.view.junk (afterLoops (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 k10 k11 G10 f10 G11 f11).2.2.2.1)
      (arg14.view.writes (Elt Ideal) arg14.view.junk (afterLoops (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 k10 k11 G10 f10 G11 f11).2.2.2.2) := by
  rw [AL_eq]
  simp only [hk10, hk11, View.writes_append]
  have A := lp1_Acc c i arg2 harg2 arg3 harg3 arg4 harg4 arg5 harg5 arg6 harg6 arg7 harg7 arg8 harg8 arg9 harg9 arg10 harg10 arg11 harg11 arg12 harg12 arg13 harg13 arg14 harg14 B ht0 (clear_Acc arg10 arg11 arg12 arg13 arg14 h10 h11) (k0_t1_loop i).trips le_rfl
  have e : 1024 * (k0_t1_loop i).trips = t0 := by rw [trips1, ht0]
  rw [e] at A
  exact A

section After
variable {L13 : List (View.Piece (Elt Ideal) S2x1024x1 .f32)} {L14 : List (View.Piece (Elt Ideal) S2x1024x1 .f32)}
  (ht0 : t0 = 1024 * (i 1).val)
  (hp : Holds3 (n := 1024) (m := 1) arg13.view (arg13.view.writes (Elt Ideal) arg13.view.junk L13) fun x r _ => pref (hd qf df kf vf x).z (t0 + r) t0)
  (hc : Holds3 (n := 1024) (m := 1) arg14.view (arg14.view.writes (Elt Ideal) arg14.view.junk L14) fun x r _ =>
    cf 4096 (hd qf df kf vf x).z (hd qf df kf vf x).dw (t0 + r) t0)
include ht0 hp hc

theorem diagA_ok : DiagOk (envA (F := Ideal) arg2 harg2 arg5 harg5 arg6 harg6 x0 x3 x4) (hd qf df kf vf 0) 4096 t0
    (tile3 (F := Ideal) (φ := .bf16) i arg3 (harg3.unread x1)) (tile3 (F := Ideal) (φ := .bf16) i arg4 (harg4.unread x2)) (pAtDiag arg13 L13) (pAtDiag arg14 L14) where
  env := envA_ok arg2 harg2 arg5 harg5 arg6 harg6 B
  hK u hu := by rw [ht0]; exact tile3_MR i (x1_MR arg3 harg3 B) u hu
  hV u hu := by rw [ht0]; exact tile3_MR i (x2_MR arg4 harg4 B) u hu
  hp := colOf0_MR hp
  hc := colOf0_MR hc

theorem diagB_ok : DiagOk (envB (F := Ideal) arg2 harg2 arg5 harg5 arg6 harg6 x0 x3 x4) (hd qf df kf vf 1) 4096 t0
    (tile3 (F := Ideal) (φ := .bf16) i arg3 (harg3.unread x1)) (tile3 (F := Ideal) (φ := .bf16) i arg4 (harg4.unread x2)) (pAtDiag' arg13 L13) (pAtDiag' arg14 L14) where
  env := envB_ok arg2 harg2 arg5 harg5 arg6 harg6 B
  hK u hu := by rw [ht0]; exact tile3_MR i (x1_MR arg3 harg3 B) u hu
  hV u hu := by rw [ht0]; exact tile3_MR i (x2_MR arg4 harg4 B) u hu
  hp := colOf1_MR hp
  hc := colOf1_MR hc

/-- A run adds the query block's terms to the key gradient. -/
theorem dkRun_MR {L10 : List (View.Piece (Elt Ideal) S4096x128 .f32)}
    (h : Holds2 arg10.view (arg10.view.writes (Elt Ideal) f10 L10) fun s l =>
      gk s l + if s < t0 then (hd qf df kf vf 0).dks 4096 t0 1024 s l + (hd qf df kf vf 1).dks 4096 t0 1024 s l else 0) :
    Holds2 arg10.view (arg10.view.writes (Elt Ideal) f10 (dkRun i arg2 harg2 arg3 harg3 arg4 harg4 arg5 harg5 arg6 harg6 arg10 arg13 arg14 x0 x1 x2 x3 x4 L13 L14 f10 L10)) fun s l =>
      gk s l + ((hd qf df kf vf 0).dks 4096 t0 1024 s l + (hd qf df kf vf 1).dks 4096 t0 1024 s l) := by
  refine MR.congr (diagEight_MR (B := t0) (fun r => by rw [off3_eq, ht0]) h
    (xf := (hd qf df kf vf 0).dks 4096 t0 1024) (yf := (hd qf df kf vf 1).dks 4096 t0 1024)
    (DiagOk.dk (diagA_ok i arg2 harg2 arg3 harg3 arg4 harg4 arg5 harg5 arg6 harg6 arg13 arg14 B ht0 hp hc)) (DiagOk.dk (diagB_ok i arg2 harg2 arg3 harg3 arg4 harg4 arg5 harg5 arg6 harg6 arg13 arg14 B ht0 hp hc))) fun s l _ _ => ?_
  beta_reduce
  by_cases h1 : s < t0
  · rw [if_pos h1, if_neg (by omega)]; ring
  · rw [if_neg h1]
    by_cases h2 : s < t0 + 1024
    · rw [if_pos (by omega)]; ring
    · rw [if_neg (by omega), Hd.dks_zero _ _ _ _ _ _ (by omega), Hd.dks_zero _ _ _ _ _ _ (by omega)]; ring

include arg4 harg4 in
/-- And to the value gradient. -/
theorem dvRun_MR {L11 : List (View.Piece (Elt Ideal) S4096x128 .f32)}
    (h : Holds2 arg11.view (arg11.view.writes (Elt Ideal) f11 L11) fun s l =>
      gv s l + if s < t0 then (hd qf df kf vf 0).dvs 4096 t0 1024 s l + (hd qf df kf vf 1).dvs 4096 t0 1024 s l else 0) :
    Holds2 arg11.view (arg11.view.writes (Elt Ideal) f11 (dvRun i arg2 harg2 arg3 harg3 arg5 harg5 arg6 harg6 arg11 arg13 x0 x1 x3 x4 L13 f11 L11)) fun s l =>
      gv s l + ((hd qf df kf vf 0).dvs 4096 t0 1024 s l + (hd qf df kf vf 1).dvs 4096 t0 1024 s l) := by
  refine MR.congr (diagEight_MR (B := t0) (fun r => by rw [off3_eq, ht0]) h
    (xf := (hd qf df kf vf 0).dvs 4096 t0 1024) (yf := (hd qf df kf vf 1).dvs 4096 t0 1024)
    (DiagOk.dv (diagA_ok i arg2 harg2 arg3 harg3 arg4 harg4 arg5 harg5 arg6 harg6 arg13 arg14 B ht0 hp hc)) (DiagOk.dv (diagB_ok i arg2 harg2 arg3 harg3 arg4 harg4 arg5 harg5 arg6 harg6 arg13 arg14 B ht0 hp hc))) fun s l _ _ => ?_
  beta_reduce
  by_cases h1 : s < t0
  · rw [if_pos h1, if_neg (by omega)]; ring
  · rw [if_neg h1]
    by_cases h2 : s < t0 + 1024
    · rw [if_pos (by omega)]; ring
    · rw [if_neg (by omega), Hd.dvs_zero _ _ _ _ _ _ (by omega), Hd.dvs_zero _ _ _ _ _ _ (by omega)]; ring

/-- A run's query gradient: every row's sum over all columns, scaled. -/
theorem dqRun_MR {L12 : List (View.Piece (Elt Ideal) S2x1024x128 .f32)} (ht : t0 + 1024 ≤ 4096)
    (h : Holds3 (n := 1024) (m := 128) arg12.view (arg12.view.writes (Elt Ideal) arg12.view.junk L12) fun x r l => (hd qf df kf vf x).dqs 4096 (t0 + r) t0 l) :
    MR (dqOut arg12 (dqRun i arg2 harg2 arg3 harg3 arg4 harg4 arg5 harg5 arg6 harg6 arg12 arg13 arg14 x0 x1 x2 x3 x4 L12 L13 L14)) fun r l =>
      (hd qf df kf vf (l / 64)).dqs 4096 (t0 + r) 4096 l * (1 / 8) := by
  have a := (diagA_ok i arg2 harg2 arg3 harg3 arg4 harg4 arg5 harg5 arg6 harg6 arg13 arg14 B ht0 hp hc).dq (t := 0) (by decide) h
  have b := (diagB_ok i arg2 harg2 arg3 harg3 arg4 harg4 arg5 harg5 arg6 harg6 arg13 arg14 B ht0 hp hc).dq (t := 1) (by decide) a
  have e0 := (MR.dropUnit (readRows_MR (t := 0) (o := 0) (b := 1024) (inb := Facts₀.inb_S2x1024x128_S1x1024x128_0_0_0) b) Facts₀.shapeCasts_S1x1024x128_S1024x128)
  have e1 := (MR.dropUnit (readRows_MR (t := 1) (o := 0) (b := 1024) (inb := Facts₀.inb_S2x1024x128_S1x1024x128_1_0_0) b) Facts₀.shapeCasts_S1x1024x128_S1024x128)
  refine MR.congr (MR.trunc (((MR.sel (IM.slt lane_IM (splat_IM 64) (fun r c _ _ => by omega) fun r c _ _ => by norm_num) e0 e1).mul (MR.splat eighth_f32))) _)
    fun r l hr hl => ?_
  beta_reduce
  rw [Nat.zero_add]
  by_cases hl' : l < 64
  · have : l / 64 = 0 := by omega
    rw [if_pos hl', if_neg (by decide), if_pos rfl, Hd.dqs_diag, Hd.dqs_rest _ _ _ _ _ _ ht (by omega), this]
  · have : l / 64 = 1 := by omega
    rw [if_neg hl', if_pos rfl, if_neg (by decide), Hd.dqs_diag, Hd.dqs_rest _ _ _ _ _ _ ht (by omega), this]

end After

end Body

end Cert.Sb
-- ==== Proof.Sb.HeadMath.lean ====
/-
  The step's heads, eight of 64 lanes: their logits, cotangents and gradients over the reals; and that a lane tile's two
  masked heads of 128 lanes are two of them.
-/
module

public import proofs.«01_k».proof.Proof.Sb.BodyVal

@[expose] public section

set_option maxRecDepth 16384

noncomputable section

open Finset

namespace Cert.Sb

/-- The logits of head `h`: `P` holds queries, keys and values side by side, 512 lanes each. -/
def zz (P : ℕ → ℕ → ℝ) (h t s : ℕ) : ℝ := (∑ l ∈ range 64, P t (64 * h + l) * P s (512 + (64 * h + l))) * (1 / 8)

/-- The cotangents of head `h`'s weights: `D` holds the cotangents of the attention's output. -/
def dd (P D : ℕ → ℕ → ℝ) (h t s : ℕ) : ℝ := ∑ l ∈ range 64, D t (64 * h + l) * P s (1024 + (64 * h + l))

/-- The query gradient at row `t`, lane `j` of 512. -/
def gradQ (P D : ℕ → ℕ → ℝ) (t j : ℕ) : ℝ :=
  (∑ s ∈ range 4096, dzf 4096 (zz P (j / 64)) (dd P D (j / 64)) t s * P s (512 + j)) * (1 / 8)

/-- The key gradient at row `s`, lane `j`. -/
def gradK (P D : ℕ → ℕ → ℝ) (s j : ℕ) : ℝ :=
  ∑ t ∈ range 4096, dzf 4096 (zz P (j / 64)) (dd P D (j / 64)) t s * (P t j * (1 / 8))

/-- The value gradient at row `s`, lane `j`. -/
def gradV (P D : ℕ → ℕ → ℝ) (s j : ℕ) : ℝ := ∑ t ∈ range 4096, wf 4096 (zz P (j / 64)) t s * D t j

/-- Lane tile `g`'s heads. -/
def tileHd (P D : ℕ → ℕ → ℝ) (g : ℕ) : ℕ → Hd :=
  hd (fun t l => P t (128 * g + l)) (fun t l => D t (128 * g + l)) (fun t l => P t (512 + (128 * g + l))) (fun t l => P t (1024 + (128 * g + l)))

/-- A sum over 128 lanes, masked to one head's 64. -/
theorem sum_half (x : ℕ) (hx : x < 2) (a b : ℕ → ℝ) :
    ∑ l ∈ range 128, (if l / 64 = x then a l else 0) * b l = ∑ l ∈ range 64, a (64 * x + l) * b (64 * x + l) := by
  rw [show (128 : ℕ) = 64 + 64 from rfl, sum_range_add]
  interval_cases x
  · rw [sum_congr rfl fun l hl => by rw [if_pos (by have := mem_range.1 hl; omega)],
      sum_eq_zero (s := range 64) (f := fun l => (if (64 + l) / 64 = 0 then a (64 + l) else 0) * b (64 + l)) fun l hl => by
        rw [if_neg (by omega), zero_mul], add_zero]
    simp only [Nat.mul_zero, Nat.zero_add]
  · rw [sum_eq_zero (s := range 64) (f := fun l => (if l / 64 = 1 then a l else 0) * b l) fun l hl => by
        rw [if_neg (by have := mem_range.1 hl; omega), zero_mul], zero_add]
    refine sum_congr rfl fun l hl => ?_
    rw [if_pos (by have := mem_range.1 hl; omega)]

variable (P D : ℕ → ℕ → ℝ) (g x : ℕ) (hx : x < 2)
include hx

theorem tileHd_z : (tileHd P D g x).z = zz P (2 * g + x) := by
  funext t s
  refine (sum_half x hx (fun l => P t (128 * g + l) * (1 / 8)) fun l => P s (512 + (128 * g + l))).trans ?_
  unfold zz
  rw [sum_mul]
  refine sum_congr rfl fun l _ => ?_
  rw [show 128 * g + (64 * x + l) = 64 * (2 * g + x) + l by ring]
  ring

theorem tileHd_dw : (tileHd P D g x).dw = dd P D (2 * g + x) := by
  funext t s
  refine (sum_half x hx (fun l => D t (128 * g + l)) fun l => P s (1024 + (128 * g + l))).trans ?_
  unfold dd
  refine sum_congr rfl fun l _ => ?_
  rw [show 128 * g + (64 * x + l) = 64 * (2 * g + x) + l by ring]

omit hx in
/-- The tile's query gradient is the step's. -/
theorem tileHd_dq (t l : ℕ) (hl : l < 128) : (tileHd P D g (l / 64)).dqs 4096 t 4096 l * (1 / 8) = gradQ P D t (128 * g + l) := by
  have e : (128 * g + l) / 64 = 2 * g + l / 64 := by omega
  unfold gradQ Hd.dqs
  rw [tileHd_z _ _ _ _ (by omega), tileHd_dw _ _ _ _ (by omega), e]
  rfl

omit hx in
/-- Of the tile's two heads one has lane `l`. -/
theorem add_heads (f : ℕ → ℝ) (l : ℕ) (hl : l < 128) (h : ∀ x < 2, x ≠ l / 64 → f x = 0) : f 0 + f 1 = f (l / 64) := by
  by_cases h0 : l < 64
  · rw [show l / 64 = 0 by omega, h 1 (by decide) (by omega), add_zero]
  · rw [show l / 64 = 1 by omega, h 0 (by decide) (by omega), zero_add]

omit hx in
/-- The tile's key gradient is the step's. -/
theorem tileHd_dk (s l : ℕ) (hl : l < 128) :
    (tileHd P D g 0).dks 4096 0 4096 s l + (tileHd P D g 1).dks 4096 0 4096 s l = gradK P D s (128 * g + l) := by
  have e : (128 * g + l) / 64 = 2 * g + l / 64 := by omega
  rw [add_heads (fun x => (tileHd P D g x).dks 4096 0 4096 s l) l hl fun x _ hxl => sum_eq_zero fun r _ => by
    rw [show (tileHd P D g x).q (0 + r) l = 0 from if_neg (fun H => hxl H.symm), mul_zero]]
  unfold gradK Hd.dks
  rw [tileHd_z _ _ _ _ (by omega), tileHd_dw _ _ _ _ (by omega), e]
  refine sum_congr rfl fun r _ => ?_
  rw [show (tileHd P D g (l / 64)).q (0 + r) l = P (0 + r) (128 * g + l) * (1 / 8) from if_pos rfl, Nat.zero_add]

omit hx in
/-- The tile's value gradient is the step's. -/
theorem tileHd_dv (s l : ℕ) (hl : l < 128) :
    (tileHd P D g 0).dvs 4096 0 4096 s l + (tileHd P D g 1).dvs 4096 0 4096 s l = gradV P D s (128 * g + l) := by
  have e : (128 * g + l) / 64 = 2 * g + l / 64 := by omega
  rw [add_heads (fun x => (tileHd P D g x).dvs 4096 0 4096 s l) l hl fun x _ hxl => sum_eq_zero fun r _ => by
    rw [show (tileHd P D g x).d (0 + r) l = 0 from if_neg (fun H => hxl H.symm), mul_zero]]
  unfold gradV Hd.dvs
  rw [tileHd_z _ _ _ _ (by omega), e]
  refine sum_congr rfl fun r _ => ?_
  rw [show (tileHd P D g (l / 64)).d (0 + r) l = D (0 + r) (128 * g + l) from if_pos rfl, Nat.zero_add]

omit hx in
theorem dks_append (h : Hd) (N a b s l : ℕ) : h.dks N 0 a s l + h.dks N a b s l = h.dks N 0 (a + b) s l := by
  unfold Hd.dks
  rw [sum_range_add]
  simp only [Nat.zero_add]

omit hx in
theorem dvs_append (h : Hd) (N a b s l : ℕ) : h.dvs N 0 a s l + h.dvs N a b s l = h.dvs N 0 (a + b) s l := by
  unfold Hd.dvs
  rw [sum_range_add]
  simp only [Nat.zero_add]

end Cert.Sb
-- ==== Proof.Sb.HostMath.lean ====
/-
  Facts used by both programs' host operations: softplus over the reals, and running sums along the last axis.
-/
module

public import proofs.«01_k».proof.Proof.Sb.HeadMath
public import Idealize.ShloMosaic.PureOps.Ideal.Laws

@[expose] public section

set_option maxRecDepth 16384

noncomputable section

open Idealize.ShloMosaic Idealize.ShloMosaic.TcCoe Finset

namespace Cert.Sb

/-- `softplus (-x) + x = softplus x`. -/
theorem sp_neg (x : ℝ) : sp (-x) + x = sp x := by
  unfold sp
  rw [abs_neg]
  have h : max (-x) 0 + x = max x 0 := by
    rcases le_total x 0 with hx | hx
    · rw [max_eq_left (by linarith), max_eq_right hx]; ring
    · rw [max_eq_right (by linarith), max_eq_left hx]; ring
  linarith

/-- `exp (softplus x) = 1 + exp x`. -/
theorem exp_sp (x : ℝ) : Real.exp (sp x) = 1 + Real.exp x := by
  unfold sp
  rw [Real.exp_add, Real.exp_log (by positivity)]
  rcases le_total x 0 with hx | hx
  · rw [max_eq_right hx, abs_of_nonpos hx, Real.exp_zero, neg_neg, one_mul]
  · rw [max_eq_left hx, abs_of_nonneg hx, mul_add, mul_one, ← Real.exp_add, add_neg_cancel, Real.exp_zero, add_comm]

/-- `1 - σ x`, as the reference saves it. -/
theorem one_sub_exp (x : ℝ) : Real.exp (-x - sp (-x)) = 1 - Real.exp (0 - sp x + x) := by
  have e : sp (-x) = sp x - x := by linarith [sp_neg x]
  rw [e, show -x - (sp x - x) = -sp x by ring, show 0 - sp x + x = -sp x + x by ring, Real.exp_add, Real.exp_neg, exp_sp]
  have : (1 + Real.exp x) ≠ 0 := by positivity
  field_simp
  ring

theorem coe_max (a b : ℝ) : max (a : EReal) (b : EReal) = ((max a b : ℝ) : EReal) := (EReal.coe_strictMono.monotone.map_max).symm

/-- jax's softplus of a real number. -/
theorem softplus_coe (x : ℝ) : max (x : EReal) ((0 : ℝ) : EReal)
    + Ideal.log1p (Ideal.exp (-(max ((x : EReal) - ((0 : ℝ) : EReal)) (-((x : EReal) - ((0 : ℝ) : EReal)))))) = ((sp x : ℝ) : EReal) := by
  rw [← EReal.coe_sub, sub_zero, ← EReal.coe_neg, coe_max, coe_max, ← EReal.coe_neg, Ideal.exp_coe]
  show _ + Ideal.log (1 + ((Real.exp (-(max x (-x))) : ℝ) : EReal)) = _
  rw [show (1 : EReal) = ((1 : ℝ) : EReal) from rfl, ← EReal.coe_add, Ideal.log_coe, if_neg (not_le.mpr (by positivity)), ← EReal.coe_add]
  rfl

/-! ## Running sums -/

abbrev Cube (A B N : ℕ) : Shape := ⟨3, ![A, B, N]⟩
abbrev Win (N : ℕ) : Shape := ⟨3, ![1, 1, N]⟩

/-- The positions of a window along the last axis. -/
def winEquiv (N : ℕ) : (Win N).Idx ≃ Fin N where
  toFun w := ⟨(w 2).val, (w 2).isLt⟩
  invFun k := fun a => match a with
    | ⟨0, _⟩ => ⟨0, Nat.one_pos⟩
    | ⟨1, _⟩ => ⟨0, Nat.one_pos⟩
    | ⟨2, _⟩ => ⟨k.val, k.isLt⟩
  left_inv w := funext fun a => Fin.ext (by
    match a with
    | ⟨0, _⟩ => have h : (w 0).val < 1 := (w 0).isLt; show 0 = (w 0).val; omega
    | ⟨1, _⟩ => have h : (w 1).val < 1 := (w 1).isLt; show 0 = (w 1).val; omega
    | ⟨2, _⟩ => rfl)
  right_inv k := rfl

theorem foldl_add_eq (n : ℕ) (g : Fin n → EReal) : (List.finRange n).foldl (fun r k => r + g k) 0 = ∑ k, g k := by
  rw [← List.sum_ofFn, List.ofFn_eq_map, List.sum_eq_foldl, List.foldl_map]

/-- A window sum along the last axis of real numbers, the padding holding zero. -/
theorem window_real {u : Shape} {A B N : ℕ} (L H : ℕ) (x : FVec Ideal (Cube A B N) .f32) (f : ℕ → ℕ → ℕ → ℝ)
    (hx : ∀ i : (Cube A B N).Idx, x i = ((f (i 0).val (i 1).val (i 2).val : ℝ) : EReal)) (init : FVec Ideal u .f32)
    (h : (Cube A B N).ReduceWindows (![1, 1, N] : Fin 3 → ℕ) ![1, 1, 1] ![0, 0, L] ![0, 0, H] (Cube A B N)) (hu : 0 < u.numel)
    (hi : init (Shape.Idx.first hu) = 0) (j : (Cube A B N).Idx) :
    (Host.reduceWindowAdd ![1, 1, N] ![1, 1, 1] ![0, 0, L] ![0, 0, H] x init h hu : FVec Ideal (Cube A B N) .f32) j
      = ((∑ k ∈ range N, if L ≤ (j 2).val + k ∧ (j 2).val + k - L < N then f (j 0).val (j 1).val ((j 2).val + k - L) else 0 : ℝ) : EReal) := by
  have h0 : (j 0).val < A := (j 0).isLt
  have h1 : (j 1).val < B := (j 1).isLt
  have h2 : (j 2).val < N := (j 2).isLt
  rw [← coe_sum_range]
  unfold Host.reduceWindowAdd
  show Host.reduceWindow (· + ·) _ _ _ _ x (fun _ : (⟨0, ![]⟩ : Shape).Idx => init (Shape.Idx.first hu)) h (by decide) j = _
  rw [hi]
  unfold Host.reduceWindow
  refine (foldl_add_eq _ _).trans ?_
  refine (Fintype.sum_equiv (((Win N).rowMajor.symm).trans (winEquiv N)) _ _ fun n => ?_)
  obtain ⟨w, hw⟩ : ∃ w, (Win N).rowMajor.symm n = w := ⟨_, rfl⟩
  have hw0 : (w 0).val = 0 := by have h : (w 0).val < 1 := (w 0).isLt; omega
  have hw1 : (w 1).val = 0 := by have h : (w 1).val < 1 := (w 1).isLt; omega
  have hv : ((((Win N).rowMajor.symm).trans (winEquiv N)) n).val = (w 2).val := by rw [← hw]; rfl
  rw [hv]
  have hw' : (⟨(Cube A B N).rank, ![1, 1, N]⟩ : Shape).rowMajor.symm n = w := hw
  dsimp only
  by_cases hc : L ≤ (j 2).val + (w 2).val ∧ (j 2).val + (w 2).val - L < N
  · rw [if_pos hc, dif_pos (fun a => by
      match a with
      | ⟨0, _⟩ =>
        show 0 ≤ (j 0).val * 1 + _ ∧ (j 0).val * 1 + (((⟨(Cube A B N).rank, ![1, 1, N]⟩ : Shape).rowMajor.symm n) 0).val - 0 < A
        rw [hw']; rw [hw0]; omega
      | ⟨1, _⟩ =>
        show 0 ≤ (j 1).val * 1 + _ ∧ (j 1).val * 1 + (((⟨(Cube A B N).rank, ![1, 1, N]⟩ : Shape).rowMajor.symm n) 1).val - 0 < B
        rw [hw']; rw [hw1]; omega
      | ⟨2, _⟩ =>
        show L ≤ (j 2).val * 1 + (((⟨(Cube A B N).rank, ![1, 1, N]⟩ : Shape).rowMajor.symm n) 2).val ∧ (j 2).val * 1 + (((⟨(Cube A B N).rank, ![1, 1, N]⟩ : Shape).rowMajor.symm n) 2).val - L < N
        rw [hw', Nat.mul_one]; exact hc), hx]
    show ((f ((j 0).val * 1 + (((⟨(Cube A B N).rank, ![1, 1, N]⟩ : Shape).rowMajor.symm n) 0).val - 0) ((j 1).val * 1 + (((⟨(Cube A B N).rank, ![1, 1, N]⟩ : Shape).rowMajor.symm n) 1).val - 0) ((j 2).val * 1 + (((⟨(Cube A B N).rank, ![1, 1, N]⟩ : Shape).rowMajor.symm n) 2).val - L) : ℝ) : EReal) = _
    rw [hw', hw0, hw1, Nat.mul_one, Nat.mul_one, Nat.mul_one]
    rfl
  · rw [if_neg hc, dif_neg fun hin => hc (by
      have h := hin 2
      change L ≤ (j 2).val * 1 + (((⟨(Cube A B N).rank, ![1, 1, N]⟩ : Shape).rowMajor.symm n) 2).val ∧ (j 2).val * 1 + (((⟨(Cube A B N).rank, ![1, 1, N]⟩ : Shape).rowMajor.symm n) 2).val - L < N at h
      rw [hw', Nat.mul_one] at h
      exact h)]
    rfl

/-- From `s` on: the total less what comes before. -/
theorem window_suffix (f : ℕ → ℝ) (N s : ℕ) (hs : s ≤ N) :
    (∑ k ∈ range N, if 0 ≤ s + k ∧ s + k - 0 < N then f (s + k - 0) else 0) = ∑ k ∈ range N, f k - ∑ k ∈ range s, f k := by
  obtain ⟨c, rfl⟩ := Nat.exists_eq_add_of_le hs
  rw [sum_range_add f s c, add_sub_cancel_left, show s + c = c + s by omega, sum_range_add _ c s,
    sum_eq_zero (s := range s) fun k _ => if_neg (by omega), add_zero]
  exact sum_congr rfl fun k hk => if_pos (by have := mem_range.1 hk; omega)

/-- Up to and including `s`. -/
theorem window_prefix (f : ℕ → ℝ) (L s : ℕ) (hs : s ≤ L) :
    (∑ k ∈ range (L + 1), if L ≤ s + k ∧ s + k - L < L + 1 then f (s + k - L) else 0) = ∑ k ∈ range (s + 1), f k := by
  obtain ⟨c, rfl⟩ := Nat.exists_eq_add_of_le hs
  rw [show s + c + 1 = c + (s + 1) by omega, sum_range_add _ c (s + 1), sum_eq_zero (s := range c) fun k hk => if_neg (by
    have := mem_range.1 hk; omega), zero_add]
  refine sum_congr rfl fun k hk => ?_
  have := mem_range.1 hk
  rw [if_pos (by omega)]
  congr 1; omega

end Cert.Sb
-- ==== Proof.Sb.RefVal.lean ====
/-
  The reference's three results in real numbers, stage by stage.
-/
module

public import proofs.«01_k».proof.Proof.Sb.HostMath
public import proofs.«01_k».proof.Proof.Gen.ReferenceIdeal.Read

@[expose] public section

set_option maxRecDepth 16384

noncomputable section

open Idealize.ShloMosaic Idealize.ShloMosaic.TcCoe Finset
open Cert.ReferenceIdeal Cert.ReferenceIdeal.Gen Cert.ReferenceIdeal.Read

namespace Cert.Sb

variable {x0 : (⟨S4096x3840, .bf16⟩ : BufTy).Contents (Elt Ideal)} {x1 : (⟨S4096x512, .bf16⟩ : BufTy).Contents (Elt Ideal)} {P D : ℕ → ℕ → ℝ}

/-- The first argument's queries, keys and values are real numbers. -/
def ArgP (x0 : (⟨S4096x3840, .bf16⟩ : BufTy).Contents (Elt Ideal)) (P : ℕ → ℕ → ℝ) : Prop :=
  ∀ i : S4096x3840.Idx, (i 1).val < 1536 → (x0 i : EReal) = ((P (i 0).val (i 1).val : ℝ) : EReal)

/-- The second argument's entries are real numbers. -/
def ArgD (x1 : (⟨S4096x512, .bf16⟩ : BufTy).Contents (Elt Ideal)) (D : ℕ → ℕ → ℝ) : Prop :=
  ∀ i : S4096x512.Idx, (x1 i : EReal) = ((D (i 0).val (i 1).val : ℝ) : EReal)

/-- Entry by entry, an array by head, row and column is `f`. -/
def R8 (v : (⟨S8x4096x4096, .f32⟩ : BufTy).Contents (Elt Ideal)) (f : ℕ → ℕ → ℕ → ℝ) : Prop :=
  ∀ i : S8x4096x4096.Idx, (v i : EReal) = ((f (i 0).val (i 1).val (i 2).val : ℝ) : EReal)

/-- The same of an array by head, row and lane. -/
def RH (v : (⟨S8x4096x64, .f32⟩ : BufTy).Contents (Elt Ideal)) (f : ℕ → ℕ → ℕ → ℝ) : Prop :=
  ∀ i : S8x4096x64.Idx, (v i : EReal) = ((f (i 0).val (i 1).val (i 2).val : ℝ) : EReal)

section heads
variable (hp : ArgP x0 P) (hd : ArgD x1 D)
include hp

theorem r_q : RH (val_main_v7 (F := Ideal) x0) fun h t l => P t (64 * h + l) := fun i => by
  have h0 : (i 0).val < 8 := (i 0).isLt
  have h1 : (i 1).val < 4096 := (i 1).isLt
  have h2 : (i 2).val < 64 := (i 2).isLt
  rw [val_main_v7_apply, val_main_v6_apply, val_main_v1_apply, val_main_v0_apply]
  refine (hp _ ?_).trans ?_
  · show (((i 1).val * 8 + (i 0).val) * 64 + (i 2).val) % 512 < 1536; omega
  · show ((P ((((i 1).val * 8 + (i 0).val) * 64 + (i 2).val) / 512) ((((i 1).val * 8 + (i 0).val) * 64 + (i 2).val) % 512) : ℝ) : EReal) = _
    congr 2 <;> omega

theorem r_k : RH (val_main_v9 (F := Ideal) x0) fun h t l => P t (512 + (64 * h + l)) := fun i => by
  have h0 : (i 0).val < 8 := (i 0).isLt
  have h1 : (i 1).val < 4096 := (i 1).isLt
  have h2 : (i 2).val < 64 := (i 2).isLt
  rw [val_main_v9_apply, val_main_v8_apply, val_main_v3_apply, val_main_v2_apply]
  refine (hp _ ?_).trans ?_
  · show 512 + (((i 1).val * 8 + (i 0).val) * 64 + (i 2).val) % 512 < 1536; omega
  · show ((P ((((i 1).val * 8 + (i 0).val) * 64 + (i 2).val) / 512) (512 + (((i 1).val * 8 + (i 0).val) * 64 + (i 2).val) % 512) : ℝ) : EReal) = _
    congr 2 <;> omega

theorem r_v : RH (val_main_v11 (F := Ideal) x0) fun h t l => P t (1024 + (64 * h + l)) := fun i => by
  have h0 : (i 0).val < 8 := (i 0).isLt
  have h1 : (i 1).val < 4096 := (i 1).isLt
  have h2 : (i 2).val < 64 := (i 2).isLt
  rw [val_main_v11_apply, val_main_v10_apply, val_main_v5_apply, val_main_v4_apply]
  refine (hp _ ?_).trans ?_
  · show 1024 + (((i 1).val * 8 + (i 0).val) * 64 + (i 2).val) % 512 < 1536; omega
  · show ((P ((((i 1).val * 8 + (i 0).val) * 64 + (i 2).val) / 512) (1024 + (((i 1).val * 8 + (i 0).val) * 64 + (i 2).val) % 512) : ℝ) : EReal) = _
    congr 2 <;> omega

omit hp in
include hd in
theorem r_do : RH (val_main_v35 (F := Ideal) x1) fun h t l => D t (64 * h + l) := fun i => by
  have h0 : (i 0).val < 8 := (i 0).isLt
  have h1 : (i 1).val < 4096 := (i 1).isLt
  have h2 : (i 2).val < 64 := (i 2).isLt
  rw [val_main_v35_apply, val_main_v34_apply, val_main_v33_apply]
  refine (hd _).trans ?_
  show ((D ((((i 1).val * 8 + (i 0).val) * 64 + (i 2).val) / 512) ((((i 1).val * 8 + (i 0).val) * 64 + (i 2).val) % 512) : ℝ) : EReal) = _
  congr 2 <;> omega

/-- The logits. -/
theorem r_z : R8 (val_main_v14 (F := Ideal) x0) (zz P) := fun i => by
  rw [val_main_v14_apply, val_main_v13_apply, val_main_cst_apply]
  show (val_main_v12 (F := Ideal) x0 i : EReal) * Ideal.ofBits .f32 0x3E000000#32 = _
  rw [eighth_f32, val_main_v12_apply]
  unfold zz
  rw [EReal.coe_mul, ← coe_sum_range]
  congr 1
  refine sum_congr rfl fun k _ => ?_
  rw [r_q hp, r_k hp, EReal.coe_mul]

omit hp in
/-- The mask: a column before its row. -/
theorem r_mask (i : S8x4096x4096.Idx) : val_main_v24_1 (F := Ideal) i = 1#1 ↔ (i 2).val < (i 1).val := by
  have h1 : (i 1).val < 4096 := (i 1).isLt
  have h2 : (i 2).val < 4096 := (i 2).isLt
  rw [val_main_v24_1_apply, val_main_v21_apply, val_main_v19_apply, val_main_v20_apply, val_main_v16_apply, val_main_v18_apply,
    val_main_v15_apply, val_main_v17_apply]
  show BitVec.ofBool (BitVec.slt (BitVec.ofNat 32 (i 2).val) (BitVec.ofNat 32 (i 1).val)) = 1#1 ↔ _
  rw [ofBool_eq_one, BitVec.slt_iff_toInt_lt, toInt_ofNat_small _ (by omega), toInt_ofNat_small _ (by omega), Int.ofNat_lt]

omit hp in
theorem r_mask' (i : S8x4096x4096.Idx) : val_main_v29_1 (F := Ideal) i = val_main_v24_1 (F := Ideal) i := by
  rw [val_main_v29_1_apply, val_main_v24_1_apply]

omit hp in
/-- A masked real number. -/
theorem select_real {p : Prop} [Decidable p] {b : BitVec 1} (hb : b = 1#1 ↔ p) (x y : ℝ) {u v : EReal} (hu : u = (x : EReal)) (hv : v = (y : EReal)) :
    (Scalar.select b u v : EReal) = ((if p then x else y : ℝ) : EReal) := by
  show (if b = 1#1 then u else v) = _
  by_cases h : p
  · rw [if_pos (hb.2 h), if_pos h, hu]
  · rw [if_neg fun H => h (hb.1 H), if_neg h, hv]

omit hp in
theorem cmp_ne_self (x : EReal) : Ideal.cmp .une x x = 0#1 := by simp [Ideal.cmp]

omit hp in
theorem inf_bits : Ideal.ofBits .f32 0x7F800000#32 = ⊤ := by simp [Ideal.ofBits, Ideal.ieee]

omit hp in
theorem cmp_inf (x : ℝ) : Ideal.cmp .oeq (x : EReal) ⊤ = 0#1 := by simp [Ideal.cmp]

omit hp in
theorem select_zero (u v : EReal) : (Scalar.select 0#1 u v : EReal) = v := if_neg (by decide)

/-- The softplus of minus the logit. -/
theorem r_sp : R8 (val_main_call0_v1_0 (F := Ideal) x0) fun h t s => sp (-zz P h t s) := fun i => by
  have e : -(val_main_v14 (F := Ideal) x0 i : EReal) = ((-zz P (i 0).val (i 1).val (i 2).val : ℝ) : EReal) := by
    rw [r_z hp, EReal.coe_neg]
  rw [val_main_call0_v1_0_apply, val_main_call0_call0_v4_apply]
  refine (congrArg (fun b => (Scalar.select b _ _ : EReal)) (cmp_ne_self _)).trans ((select_zero _ _).trans ?_)
  rw [val_main_call0_call0_v11_apply, val_main_call0_call0_v1_apply, val_main_call0_call0_v10_apply, val_main_call0_call0_v9_apply,
    val_main_call0_call0_v8_apply, val_main_call0_call0_v7_apply, val_main_call0_call0_v3_apply, val_main_call0_call0_v0_apply,
    val_main_call0_call0_v2_apply, val_main_call0_v0_apply, val_main_call0_call0_cst_apply]
  show max (-(val_main_v14 (F := Ideal) x0 i : EReal)) (Ideal.ofBits .f32 0x00000000#32)
    + Ideal.log1p (Ideal.exp (-(max ((-(val_main_v14 (F := Ideal) x0 i : EReal)) - Ideal.ofBits .f32 0x00000000#32)
      (-((-(val_main_v14 (F := Ideal) x0 i : EReal)) - Ideal.ofBits .f32 0x00000000#32))))) = _
  rw [e, zero_bits, softplus_coe]

/-- `log σ`. -/
theorem r_ls : R8 (val_main_v22_0 (F := Ideal) x0) fun h => lbf (zz P h) := fun i => by
  rw [val_main_v22_0_apply]
  show -(val_main_call0_v1_0 (F := Ideal) x0 i : EReal) = _
  rw [r_sp hp, ← EReal.coe_neg]
  unfold lbf lraw
  congr 1
  linarith [sp_neg (zz P (i 0).val (i 1).val (i 2).val)]

/-- `1 - σ`, as saved for the gradient. -/
theorem r_one_sub : R8 (val_main_v22_1 (F := Ideal) x0) fun h t s => 1 - Real.exp (lbf (zz P h) t s) := fun i => by
  have e : (val_main_call0_v0 (F := Ideal) x0 i : EReal) = ((-zz P (i 0).val (i 1).val (i 2).val : ℝ) : EReal) := by
    rw [val_main_call0_v0_apply]
    show -(val_main_v14 (F := Ideal) x0 i : EReal) = _
    rw [r_z hp, EReal.coe_neg]
  have e1 : (val_main_call0_call0_v14 (F := Ideal) x0 i) = 0#1 := by
    rw [val_main_call0_call0_v14_apply, val_main_call0_call0_v13_apply, val_main_call0_call0_cst_0_apply]
    show Ideal.cmp .oeq (val_main_call0_v0 (F := Ideal) x0 i : EReal) (Ideal.ofBits .f32 0x7F800000#32) = _
    rw [e, inf_bits, cmp_inf]
  have e2 : (val_main_call0_call0_v18 (F := Ideal) x0 i) = 0#1 := by
    rw [val_main_call0_call0_v18_apply, val_main_call0_call0_v17_apply, val_main_call0_call0_cst_2_apply]
    show Ideal.cmp .oeq (val_main_call0_v1_0 (F := Ideal) x0 i : EReal) (Ideal.ofBits .f32 0x7F800000#32) = _
    rw [r_sp hp, inf_bits, cmp_inf]
  rw [val_main_v22_1_apply, val_main_call0_call0_v21_apply, val_main_call0_call0_v16_apply, val_main_call0_call0_v20_apply, e1, e2]
  show Ideal.exp ((Scalar.select 0#1 _ (val_main_call0_v0 (F := Ideal) x0 i) : EReal) - (Scalar.select 0#1 _ (val_main_call0_v1_0 (F := Ideal) x0 i) : EReal)) = _
  rw [select_zero, select_zero, e, r_sp hp, ← EReal.coe_sub, Ideal.exp_coe, one_sub_exp]
  rfl

/-- `log (1 - σ)`, masked. -/
theorem r_ln : R8 (val_main_v24_0 (F := Ideal) x0) fun h => lnf (zz P h) := fun i => by
  rw [val_main_v24_0_apply]
  refine select_real (r_mask i) (lraw (zz P (i 0).val) (i 1).val (i 2).val) 0 ?_ ?_
  · rw [val_main_v23_apply]
    show (val_main_v22_0 (F := Ideal) x0 i : EReal) - (val_main_v14 (F := Ideal) x0 i : EReal) = _
    rw [r_ls hp, r_z hp, ← EReal.coe_sub]
    unfold lbf
    rw [add_sub_cancel_right]
  · exact zero_bits

/-- The sum from a column on. -/
theorem r_suffix : R8 (val_main_v25 (F := Ideal) x0) fun h t s => pref (zz P h) t 4096 - pref (zz P h) t s := fun i => by
  unfold val_main_v25
  refine (window_real 0 4095 _ (fun h => lnf (zz P h)) (r_ln hp) _ _ _ ?_ i).trans ?_
  · exact zero_bits
  · rw [window_suffix (fun s => lnf (zz P (i 0).val) (i 1).val s) 4096 (i 2).val (i 2).isLt.le]
    rfl

/-- The weight before it is masked. -/
theorem r_e : R8 (val_main_v28 (F := Ideal) x0) fun h t s => Real.exp (lbf (zz P h) t s + (pref (zz P h) t 4096 - pref (zz P h) t (s + 1))) := fun i => by
  rw [val_main_v28_apply, val_main_v27_apply, val_main_v26_apply]
  show Ideal.exp ((val_main_v22_0 (F := Ideal) x0 i : EReal) + ((val_main_v25 (F := Ideal) x0 i : EReal) - (val_main_v24_0 (F := Ideal) x0 i : EReal))) = _
  rw [r_ls hp, r_suffix hp, r_ln hp, ← EReal.coe_sub, ← EReal.coe_add, Ideal.exp_coe]
  have h : pref (zz P (i 0).val) (i 1).val ((i 2).val + 1) = pref (zz P (i 0).val) (i 1).val (i 2).val + lnf (zz P (i 0).val) (i 1).val (i 2).val :=
    sum_range_succ _ _
  dsimp only
  rw [h, sub_add_eq_sub_sub]

/-- The weight. -/
theorem r_w : R8 (val_main_v29_0 (F := Ideal) x0) fun h => wf 4096 (zz P h) := fun i => by
  rw [val_main_v29_0_apply, r_mask']
  exact select_real (r_mask i) _ 0 (r_e hp i) zero_bits

include hd

/-- The weights' cotangents. -/
theorem r_dw : R8 (val_main_v38 (F := Ideal) x0 x1) (dd P D) := fun i => by
  rw [val_main_v38_apply]
  unfold dd
  rw [← coe_sum_range]
  refine sum_congr rfl fun k _ => ?_
  rw [r_do hd, r_v hp, EReal.coe_mul]

/-- The weights times their cotangents. -/
theorem r_g : R8 (val_main_v40 (F := Ideal) x0 x1) fun h => gf 4096 (zz P h) (dd P D h) := fun i => by
  rw [val_main_v40_apply, val_main_v39_apply, r_mask']
  show (Scalar.select (val_main_v24_1 (F := Ideal) i) (val_main_v38 (F := Ideal) x0 x1 i) _ : EReal) * (val_main_v28 (F := Ideal) x0 i : EReal) = _
  have e : (val_main_call4_v0 (F := Ideal) i : EReal) = ((0 : ℝ) : EReal) := zero_bits
  rw [select_real (r_mask i) _ 0 (r_dw hp hd i) e, r_e hp, ← EReal.coe_mul]
  unfold gf wf
  congr 1
  dsimp only
  by_cases h : (i 2).val < (i 1).val
  · rw [if_pos h, if_pos h]
  · rw [if_neg h, if_neg h, zero_mul, mul_zero]

/-- The cotangents of `log (1 - σ)`, masked: the sum over the columns before. -/
theorem r_c : R8 (val_main_v44 (F := Ideal) x0 x1) fun h t s => if s < t then cf 4096 (zz P h) (dd P D h) t s else 0 := fun i => by
  have h2 : (i 2).val < 4096 := (i 2).isLt
  have e : (val_main_v42 (F := Ideal) x0 x1 i : EReal) = ((cf 4096 (zz P (i 0).val) (dd P D (i 0).val) (i 1).val ((i 2).val + 1) : ℝ) : EReal) := by
    unfold val_main_v42
    refine (window_real 4095 0 _ (fun h => gf 4096 (zz P h) (dd P D h)) (r_g hp hd) _ _ _ ?_ i).trans ?_
    · exact zero_bits
    · rw [window_prefix (fun s => gf 4096 (zz P (i 0).val) (dd P D (i 0).val) (i 1).val s) 4095 (i 2).val (by omega)]
      rfl
  rw [val_main_v44_apply]
  refine select_real (r_mask i) _ 0 ?_ zero_bits
  rw [val_main_v43_apply, val_main_v41_apply]
  show -(val_main_v40 (F := Ideal) x0 x1 i : EReal) + (val_main_v42 (F := Ideal) x0 x1 i : EReal) = _
  rw [e, r_g hp hd, ← EReal.coe_neg, ← EReal.coe_add]
  unfold cf
  rw [sum_range_succ, add_comm, add_neg_cancel_right]

/-- The logits' cotangents, scaled. -/
theorem r_dz : R8 (val_main_v50 (F := Ideal) x0 x1) fun h t s => dzf 4096 (zz P h) (dd P D h) t s * (1 / 8) := fun i => by
  rw [val_main_v50_apply, val_main_v49_apply, val_main_cst_2_apply, val_main_v48_apply, val_main_v47_apply, val_main_v45_apply,
    val_main_call7_v1_apply, val_main_call7_v0_apply, val_main_v46_apply]
  show (-(val_main_v44 (F := Ideal) x0 x1 i : EReal) + -(-((val_main_v40 (F := Ideal) x0 x1 i : EReal) + (val_main_v44 (F := Ideal) x0 x1 i : EReal))
    * (val_main_v22_1 (F := Ideal) x0 i : EReal))) * Ideal.ofBits .f32 0x3E000000#32 = _
  rw [r_c hp hd, r_g hp hd, r_one_sub hp, eighth_f32, ← EReal.coe_add, ← EReal.coe_neg, ← EReal.coe_neg, ← EReal.coe_mul, ← EReal.coe_neg,
    ← EReal.coe_add, ← EReal.coe_mul]
  unfold dzf
  congr 2
  dsimp only
  by_cases h : (i 2).val < (i 1).val
  · rw [if_pos h, if_pos h]; ring
  · unfold gf wf
    rw [if_neg h, if_neg h, if_neg h]; ring

/-- The reference's query gradient. -/
theorem r_dq (i : S4096x512.Idx) : (val_main_v59 (F := Ideal) x0 x1 i : EReal) = ((gradQ P D (i 0).val (i 1).val : ℝ) : EReal) := by
  have h0 : (i 0).val < 4096 := (i 0).isLt
  have h1 : (i 1).val < 512 := (i 1).isLt
  rw [val_main_v59_apply, val_main_v58_apply, val_main_v57_apply]
  show (val_main_v52 (F := Ideal) x0 x1 _ : EReal) = _
  rw [val_main_v52_apply]
  unfold gradQ
  rw [sum_mul, ← coe_sum_range]
  refine sum_congr rfl fun k _ => ?_
  rw [r_dz hp hd, r_k hp, ← EReal.coe_mul]
  show ((dzf 4096 (zz P (((i 0).val * 512 + (i 1).val) / 64 % 8)) (dd P D (((i 0).val * 512 + (i 1).val) / 64 % 8)) (((i 0).val * 512 + (i 1).val) / 512) k.val * (1 / 8)
    * P k.val (512 + (64 * (((i 0).val * 512 + (i 1).val) / 64 % 8) + ((i 0).val * 512 + (i 1).val) % 64)) : ℝ) : EReal) = _
  rw [show ((i 0).val * 512 + (i 1).val) / 64 % 8 = (i 1).val / 64 by omega, show ((i 0).val * 512 + (i 1).val) / 512 = (i 0).val by omega,
    show 64 * ((i 1).val / 64) + ((i 0).val * 512 + (i 1).val) % 64 = (i 1).val by omega]
  congr 1; ring

/-- The reference's key gradient. -/
theorem r_dk (i : S4096x512.Idx) : (val_main_v60 (F := Ideal) x0 x1 i : EReal) = ((gradK P D (i 0).val (i 1).val : ℝ) : EReal) := by
  have h0 : (i 0).val < 4096 := (i 0).isLt
  have h1 : (i 1).val < 512 := (i 1).isLt
  rw [val_main_v60_apply, val_main_v56_apply, val_main_v55_apply]
  show (val_main_v51 (F := Ideal) x0 x1 _ : EReal) = _
  rw [val_main_v51_apply]
  unfold gradK
  rw [← coe_sum_range]
  refine sum_congr rfl fun k _ => ?_
  rw [r_dz hp hd, r_q hp, ← EReal.coe_mul]
  show ((dzf 4096 (zz P (((i 0).val * 512 + (i 1).val) / 64 % 8)) (dd P D (((i 0).val * 512 + (i 1).val) / 64 % 8)) k.val (((i 0).val * 512 + (i 1).val) / 512) * (1 / 8)
    * P k.val (64 * (((i 0).val * 512 + (i 1).val) / 64 % 8) + ((i 0).val * 512 + (i 1).val) % 64) : ℝ) : EReal) = _
  rw [show ((i 0).val * 512 + (i 1).val) / 64 % 8 = (i 1).val / 64 by omega, show ((i 0).val * 512 + (i 1).val) / 512 = (i 0).val by omega,
    show 64 * ((i 1).val / 64) + ((i 0).val * 512 + (i 1).val) % 64 = (i 1).val by omega]
  congr 1; ring

/-- The reference's value gradient. -/
theorem r_dv (i : S4096x512.Idx) : (val_main_v61 (F := Ideal) x0 x1 i : EReal) = ((gradV P D (i 0).val (i 1).val : ℝ) : EReal) := by
  have h0 : (i 0).val < 4096 := (i 0).isLt
  have h1 : (i 1).val < 512 := (i 1).isLt
  rw [val_main_v61_apply, val_main_v54_apply, val_main_v53_apply, val_main_v37_apply]
  show (val_main_v36 (F := Ideal) x0 x1 _ : EReal) = _
  rw [val_main_v36_apply]
  unfold gradV
  rw [← coe_sum_range]
  refine sum_congr rfl fun k _ => ?_
  rw [r_do hd, r_w hp, ← EReal.coe_mul]
  show ((D k.val (64 * (((i 0).val * 512 + (i 1).val) / 64 % 8) + ((i 0).val * 512 + (i 1).val) % 64)
    * wf 4096 (zz P (((i 0).val * 512 + (i 1).val) / 64 % 8)) k.val (((i 0).val * 512 + (i 1).val) / 512) : ℝ) : EReal) = _
  rw [show ((i 0).val * 512 + (i 1).val) / 64 % 8 = (i 1).val / 64 by omega, show ((i 0).val * 512 + (i 1).val) / 512 = (i 0).val by omega,
    show 64 * ((i 1).val / 64) + ((i 0).val * 512 + (i 1).val) % 64 = (i 1).val by omega]
  congr 1; ring

end heads

end Cert.Sb
-- ==== Proof.Sb.Run.lean ====
/-
  A whole run of the kernel's body, as pieces written over what the accumulators hold.
-/
module

public import proofs.«01_k».proof.Proof.Sb.Diag

@[expose] public section

set_option maxRecDepth 16384

noncomputable section

open Idealize.ShloMosaic Idealize.ShloMosaic.TcCoe Idealize.SL.Sem Finset
open Cert.KernelIdeal Cert.KernelIdeal.Gen

namespace Cert.Sb

variable {F : FTy → Type} [FloatOps F]
section Run
variable (c : Dev nD) (i : grid0.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .bf16) (harg5 : arg5.IsWhole) (arg6 : Memref sig .tc .vmem S2x1024x1 .f32) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2x1024x128 .f32) (harg12 : arg12.IsWhole) (arg13 : Memref sig .tc .vmem S2x1024x1 .f32) (harg13 : arg13.IsWhole) (arg14 : Memref sig .tc .vmem S2x1024x1 .f32) (harg14 : arg14.IsWhole)
  (x0 : Vec F S1024x128 .bf16) (x1 : Vec F S4096x128 .bf16) (x2 : Vec F S4096x128 .bf16) (x3 : Vec F S1024x128 .bf16) (x4 : Vec F S2x1024x1 .f32)

variable (xs0 : Vec F S4096x128 .f32) (xs1 : Vec F S4096x128 .f32)
/-- At a lane tile's first query block: the block of the query gradient. -/
theorem runA_dq (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).1
    = [⟨Rect.unit (s := S1024x128) ![0, 0] ![1024, 128] Facts₀.inb_S1024x128_S1024x128_0_0,
        let L := afterLoops c i arg2 harg2 arg3 harg3 arg4 harg4 arg5 harg5 arg6 harg6 arg7 harg7 arg8 harg8 arg9 harg9 arg10 harg10 arg11 harg11 arg12 harg12 arg13 harg13 arg14 harg14 x0 x1 x2 x3 x4 (· ++ clear10) (· ++ clear11)
          (arg10.view.writes (Elt F) arg10.view.junk clear10) arg10.view.junk (arg11.view.writes (Elt F) arg11.view.junk clear11) arg11.view.junk
        dqOut arg12 (dqRun i arg2 harg2 arg3 harg3 arg4 harg4 arg5 harg5 arg6 harg6 arg12 arg13 arg14 x0 x1 x2 x3 x4 L.2.2.1 L.2.2.2.1 L.2.2.2.2)⟩] := by
  sl_kernel_rfl

/-- At a lane tile's first query block: the pieces of the key gradient's accumulator. -/
theorem runA_dk (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.1
    = let L := afterLoops c i arg2 harg2 arg3 harg3 arg4 harg4 arg5 harg5 arg6 harg6 arg7 harg7 arg8 harg8 arg9 harg9 arg10 harg10 arg11 harg11 arg12 harg12 arg13 harg13 arg14 harg14 x0 x1 x2 x3 x4 (· ++ clear10) (· ++ clear11)
          (arg10.view.writes (Elt F) arg10.view.junk clear10) arg10.view.junk (arg11.view.writes (Elt F) arg11.view.junk clear11) arg11.view.junk
      dkRun i arg2 harg2 arg3 harg3 arg4 harg4 arg5 harg5 arg6 harg6 arg10 arg13 arg14 x0 x1 x2 x3 x4 L.2.2.2.1 L.2.2.2.2 arg10.view.junk L.1 := by
  sl_kernel_rfl

/-- At a lane tile's first query block: the pieces of the value gradient's accumulator. -/
theorem runA_dv (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.1
    = let L := afterLoops c i arg2 harg2 arg3 harg3 arg4 harg4 arg5 harg5 arg6 harg6 arg7 harg7 arg8 harg8 arg9 harg9 arg10 harg10 arg11 harg11 arg12 harg12 arg13 harg13 arg14 harg14 x0 x1 x2 x3 x4 (· ++ clear10) (· ++ clear11)
          (arg10.view.writes (Elt F) arg10.view.junk clear10) arg10.view.junk (arg11.view.writes (Elt F) arg11.view.junk clear11) arg11.view.junk
      dvRun i arg2 harg2 arg3 harg3 arg5 harg5 arg6 harg6 arg11 arg13 x0 x1 x3 x4 L.2.2.2.1 arg11.view.junk L.2.1 := by
  sl_kernel_rfl

/-- At a lane tile's middle query blocks: the block of the query gradient. -/
theorem runB_dq (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).1
    = [⟨Rect.unit (s := S1024x128) ![0, 0] ![1024, 128] Facts₀.inb_S1024x128_S1024x128_0_0,
        let L := afterLoops c i arg2 harg2 arg3 harg3 arg4 harg4 arg5 harg5 arg6 harg6 arg7 harg7 arg8 harg8 arg9 harg9 arg10 harg10 arg11 harg11 arg12 harg12 arg13 harg13 arg14 harg14 x0 x1 x2 x3 x4 id id (harg10.unread xs0) (harg10.unread xs0) (harg11.unread xs1) (harg11.unread xs1)
        dqOut arg12 (dqRun i arg2 harg2 arg3 harg3 arg4 harg4 arg5 harg5 arg6 harg6 arg12 arg13 arg14 x0 x1 x2 x3 x4 L.2.2.1 L.2.2.2.1 L.2.2.2.2)⟩] := by
  sl_kernel_rfl

/-- At a lane tile's middle query blocks: the pieces of the key gradient's accumulator. -/
theorem runB_dk (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).2.2.2.1
    = let L := afterLoops c i arg2 harg2 arg3 harg3 arg4 harg4 arg5 harg5 arg6 harg6 arg7 harg7 arg8 harg8 arg9 harg9 arg10 harg10 arg11 harg11 arg12 harg12 arg13 harg13 arg14 harg14 x0 x1 x2 x3 x4 id id (harg10.unread xs0) (harg10.unread xs0) (harg11.unread xs1) (harg11.unread xs1)
      dkRun i arg2 harg2 arg3 harg3 arg4 harg4 arg5 harg5 arg6 harg6 arg10 arg13 arg14 x0 x1 x2 x3 x4 L.2.2.2.1 L.2.2.2.2 (harg10.unread xs0) L.1 := by
  sl_kernel_rfl

/-- At a lane tile's middle query blocks: the pieces of the value gradient's accumulator. -/
theorem runB_dv (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).2.2.2.2.1
    = let L := afterLoops c i arg2 harg2 arg3 harg3 arg4 harg4 arg5 harg5 arg6 harg6 arg7 harg7 arg8 harg8 arg9 harg9 arg10 harg10 arg11 harg11 arg12 harg12 arg13 harg13 arg14 harg14 x0 x1 x2 x3 x4 id id (harg10.unread xs0) (harg10.unread xs0) (harg11.unread xs1) (harg11.unread xs1)
      dvRun i arg2 harg2 arg3 harg3 arg5 harg5 arg6 harg6 arg11 arg13 x0 x1 x3 x4 L.2.2.2.1 (harg11.unread xs1) L.2.1 := by
  sl_kernel_rfl

/-- At a lane tile's last query block: the block of the query gradient. -/
theorem runC_dq (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).1
    = [⟨Rect.unit (s := S1024x128) ![0, 0] ![1024, 128] Facts₀.inb_S1024x128_S1024x128_0_0,
        let L := afterLoops c i arg2 harg2 arg3 harg3 arg4 harg4 arg5 harg5 arg6 harg6 arg7 harg7 arg8 harg8 arg9 harg9 arg10 harg10 arg11 harg11 arg12 harg12 arg13 harg13 arg14 harg14 x0 x1 x2 x3 x4 id id (harg10.unread xs0) (harg10.unread xs0) (harg11.unread xs1) (harg11.unread xs1)
        dqOut arg12 (dqRun i arg2 harg2 arg3 harg3 arg4 harg4 arg5 harg5 arg6 harg6 arg12 arg13 arg14 x0 x1 x2 x3 x4 L.2.2.1 L.2.2.2.1 L.2.2.2.2)⟩] := by
  sl_kernel_rfl

/-- At a lane tile's last query block: the pieces of the key gradient's accumulator. -/
theorem runC_dk (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).2.2.2.1
    = let L := afterLoops c i arg2 harg2 arg3 harg3 arg4 harg4 arg5 harg5 arg6 harg6 arg7 harg7 arg8 harg8 arg9 harg9 arg10 harg10 arg11 harg11 arg12 harg12 arg13 harg13 arg14 harg14 x0 x1 x2 x3 x4 id id (harg10.unread xs0) (harg10.unread xs0) (harg11.unread xs1) (harg11.unread xs1)
      dkRun i arg2 harg2 arg3 harg3 arg4 harg4 arg5 harg5 arg6 harg6 arg10 arg13 arg14 x0 x1 x2 x3 x4 L.2.2.2.1 L.2.2.2.2 (harg10.unread xs0) L.1 := by
  sl_kernel_rfl

/-- At a lane tile's last query block: the pieces of the value gradient's accumulator. -/
theorem runC_dv (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).2.2.2.2.1
    = let L := afterLoops c i arg2 harg2 arg3 harg3 arg4 harg4 arg5 harg5 arg6 harg6 arg7 harg7 arg8 harg8 arg9 harg9 arg10 harg10 arg11 harg11 arg12 harg12 arg13 harg13 arg14 harg14 x0 x1 x2 x3 x4 id id (harg10.unread xs0) (harg10.unread xs0) (harg11.unread xs1) (harg11.unread xs1)
      dvRun i arg2 harg2 arg3 harg3 arg5 harg5 arg6 harg6 arg11 arg13 x0 x1 x3 x4 L.2.2.2.1 (harg11.unread xs1) L.2.1 := by
  sl_kernel_rfl

/-- The last run's block of the key gradient: the accumulator, rounded. -/
theorem runC_dkOut (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).2.1
    = [⟨Rect.unit (s := S4096x128) ![0, 0] ![4096, 128] Facts₀.inb_S4096x128_S4096x128_0_0,
        truncf .bf16 (arg10.view.readAt (Elt F) (Rect.unit (s := S4096x128) ![0, 0] ![4096, 128] Facts₀.inb_S4096x128_S4096x128_0_0).toLoadRect
          (arg10.view.writes (Elt F) (harg10.unread xs0) (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).2.2.2.1)) bits_lt⟩] := by
  sl_kernel_rfl

/-- The last run's block of the value gradient: the accumulator, rounded. -/
theorem runC_dvOut (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).2.2.1
    = [⟨Rect.unit (s := S4096x128) ![0, 0] ![4096, 128] Facts₀.inb_S4096x128_S4096x128_0_0,
        truncf .bf16 (arg11.view.readAt (Elt F) (Rect.unit (s := S4096x128) ![0, 0] ![4096, 128] Facts₀.inb_S4096x128_S4096x128_0_0).toLoadRect
          (arg11.view.writes (Elt F) (harg11.unread xs1) (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).2.2.2.2.1)) bits_lt⟩] := by
  sl_kernel_rfl

end Run

end Cert.Sb
-- ==== Proof.Sb.CaseVal.lean ====
/-
  What each kind of grid point leaves, in real numbers.
-/
module

public import proofs.«01_k».proof.Proof.Sb.BodyVal
public import proofs.«01_k».proof.Proof.Sb.Run

@[expose] public section

set_option maxRecDepth 16384

noncomputable section

open Idealize.ShloMosaic Idealize.ShloMosaic.TcCoe Idealize.SL.Sem Finset
open Cert.KernelIdeal Cert.KernelIdeal.Gen

namespace Cert.Sb

section Case
variable (c : Dev nD) (i : grid0.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .bf16) (harg5 : arg5.IsWhole) (arg6 : Memref sig .tc .vmem S2x1024x1 .f32) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2x1024x128 .f32) (harg12 : arg12.IsWhole) (arg13 : Memref sig .tc .vmem S2x1024x1 .f32) (harg13 : arg13.IsWhole) (arg14 : Memref sig .tc .vmem S2x1024x1 .f32) (harg14 : arg14.IsWhole)
  {x0 : FVec Ideal (Sh 1024 128) .bf16} {x1 x2 : FVec Ideal (Sh 4096 128) .bf16} {x3 : FVec Ideal (Sh 1024 128) .bf16} {x4 : FVec Ideal (Sh3 2 1024 1) .f32}
  {qf df kf vf : ℕ → ℕ → ℝ} {t0 : ℕ} (xs0 xs1 : Vec Ideal S4096x128 .f32) {gk gv : ℕ → ℕ → ℝ} (B : Blk qf df kf vf t0 x0 x1 x2 x3 x4)

include B

theorem accA (ht0 : t0 = 1024 * (i 1).val) :
    let L := afterLoops (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 (· ++ clear10) (· ++ clear11) (arg10.view.writes (Elt Ideal) arg10.view.junk clear10) arg10.view.junk
      (arg11.view.writes (Elt Ideal) arg11.view.junk clear11) arg11.view.junk
    Acc 4096 t0 t0 (hd qf df kf vf) (fun _ _ => 0) (fun _ _ => 0) arg10 arg11 arg12 arg13 arg14
      (arg10.view.writes (Elt Ideal) arg10.view.junk L.1) (arg11.view.writes (Elt Ideal) arg11.view.junk L.2.1)
      (arg12.view.writes (Elt Ideal) arg12.view.junk L.2.2.1) (arg13.view.writes (Elt Ideal) arg13.view.junk L.2.2.2.1)
      (arg14.view.writes (Elt Ideal) arg14.view.junk L.2.2.2.2) := by
  refine loops_Acc c i arg2 harg2 arg3 harg3 arg4 harg4 arg5 harg5 arg6 harg6 arg7 harg7 arg8 harg8 arg9 harg9 arg10 harg10 arg11 harg11 arg12 harg12 arg13 harg13 arg14 harg14 B ht0 ?_ ?_ (fun P => View.writes_append _ _ _ _) (fun P => View.writes_append _ _ _ _)
  · unfold Holds2 clear10
    rw [View.read_writes_full]
    intro j
    exact zero_bits
  · unfold Holds2 clear11
    rw [View.read_writes_full]
    intro j
    exact zero_bits

theorem accB (ht0 : t0 = 1024 * (i 1).val) (h10 : MR (n := 4096) (m := 128) (φ := .f32) xs0 gk) (h11 : MR (n := 4096) (m := 128) (φ := .f32) xs1 gv) :
    let L := afterLoops (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 id id (harg10.unread xs0) (harg10.unread xs0) (harg11.unread xs1) (harg11.unread xs1)
    Acc 4096 t0 t0 (hd qf df kf vf) gk gv arg10 arg11 arg12 arg13 arg14
      (arg10.view.writes (Elt Ideal) (harg10.unread xs0) L.1) (arg11.view.writes (Elt Ideal) (harg11.unread xs1) L.2.1)
      (arg12.view.writes (Elt Ideal) arg12.view.junk L.2.2.1) (arg13.view.writes (Elt Ideal) arg13.view.junk L.2.2.2.1)
      (arg14.view.writes (Elt Ideal) arg14.view.junk L.2.2.2.2) := by
  refine loops_Acc c i arg2 harg2 arg3 harg3 arg4 harg4 arg5 harg5 arg6 harg6 arg7 harg7 arg8 harg8 arg9 harg9 arg10 harg10 arg11 harg11 arg12 harg12 arg13 harg13 arg14 harg14 B ht0 ?_ ?_ (fun P => rfl) (fun P => rfl)
  · have e : arg10.view.read (Elt Ideal) (harg10.unread xs0) = xs0 := Memref.IsWhole.read_unread (Val := Elt Ideal) harg10 xs0
    unfold Holds2
    exact e.symm ▸ h10
  · have e : arg11.view.read (Elt Ideal) (harg11.unread xs1) = xs1 := Memref.IsWhole.read_unread (Val := Elt Ideal) harg11 xs1
    unfold Holds2
    exact e.symm ▸ h11

/-- The first query block: the query gradient's block. -/
theorem outA_dq (hc0 : cond0_0 i) (hc1 : ¬cond0_1 i) (ht0 : t0 = 1024 * (i 1).val) (ht : t0 + 1024 ≤ 4096) :
    MR (n := 1024) (m := 128) (φ := .bf16) (out0_A_5 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4) fun r l =>
      (hd qf df kf vf (l / 64)).dqs 4096 (t0 + r) 4096 l * (1 / 8) := by
  unfold out0_A_5
  rw [runA_dq, View.read_writes_full]
  have A := accA c i arg2 harg2 arg3 harg3 arg4 harg4 arg5 harg5 arg6 harg6 arg7 harg7 arg8 harg8 arg9 harg9 arg10 harg10 arg11 harg11 arg12 harg12 arg13 harg13 arg14 harg14 B ht0
  exact dqRun_MR i arg2 harg2 arg3 harg3 arg4 harg4 arg5 harg5 arg6 harg6 arg12 arg13 arg14 B ht0 A.p A.c ht A.dq

/-- The first query block: the key gradient's accumulator. -/
theorem soutA_dk (hc0 : cond0_0 i) (hc1 : ¬cond0_1 i) (ht0 : t0 = 1024 * (i 1).val) :
    MR (n := 4096) (m := 128) (φ := .f32) (sout0_A_0 (F := Ideal) c i arg2 harg2 arg3 harg3 arg4 harg4 arg5 harg5 arg6 harg6 arg7 harg7 arg8 harg8 arg9 harg9 scM0_0 (Memref.isWhole_whole _) scM0_1 (Memref.isWhole_whole _) arg12 harg12 arg13 harg13 arg14 harg14 hc0 hc1 x0 x1 x2 x3 x4) fun s l =>
      ((hd qf df kf vf 0).dks 4096 t0 1024 s l + (hd qf df kf vf 1).dks 4096 t0 1024 s l) := by
  unfold sout0_A_0
  rw [runA_dk]
  have A := accA c i arg2 harg2 arg3 harg3 arg4 harg4 arg5 harg5 arg6 harg6 arg7 harg7 arg8 harg8 arg9 harg9 scM0_0 (Memref.isWhole_whole _) scM0_1 (Memref.isWhole_whole _) arg12 harg12 arg13 harg13 arg14 harg14 B ht0
  exact MR.congr (dkRun_MR i arg2 harg2 arg3 harg3 arg4 harg4 arg5 harg5 arg6 harg6 scM0_0 arg13 arg14 B ht0 A.p A.c A.dk) fun s l _ _ => zero_add _

/-- The first query block: the value gradient's accumulator. -/
theorem soutA_dv (hc0 : cond0_0 i) (hc1 : ¬cond0_1 i) (ht0 : t0 = 1024 * (i 1).val) :
    MR (n := 4096) (m := 128) (φ := .f32) (sout0_A_1 (F := Ideal) c i arg2 harg2 arg3 harg3 arg4 harg4 arg5 harg5 arg6 harg6 arg7 harg7 arg8 harg8 arg9 harg9 scM0_0 (Memref.isWhole_whole _) scM0_1 (Memref.isWhole_whole _) arg12 harg12 arg13 harg13 arg14 harg14 hc0 hc1 x0 x1 x2 x3 x4) fun s l =>
      ((hd qf df kf vf 0).dvs 4096 t0 1024 s l + (hd qf df kf vf 1).dvs 4096 t0 1024 s l) := by
  unfold sout0_A_1
  rw [runA_dv]
  have A := accA c i arg2 harg2 arg3 harg3 arg4 harg4 arg5 harg5 arg6 harg6 arg7 harg7 arg8 harg8 arg9 harg9 scM0_0 (Memref.isWhole_whole _) scM0_1 (Memref.isWhole_whole _) arg12 harg12 arg13 harg13 arg14 harg14 B ht0
  exact MR.congr (dvRun_MR i arg2 harg2 arg3 harg3 arg4 harg4 arg5 harg5 arg6 harg6 scM0_1 arg13 arg14 B ht0 A.p A.c A.dv) fun s l _ _ => zero_add _

/-- The middle query block: the query gradient's block. -/
theorem outB_dq (hc0 : ¬cond0_0 i) (hc1 : ¬cond0_1 i) (ht0 : t0 = 1024 * (i 1).val) (ht : t0 + 1024 ≤ 4096) (h10 : MR (n := 4096) (m := 128) (φ := .f32) xs0 gk) (h11 : MR (n := 4096) (m := 128) (φ := .f32) xs1 gv) :
    MR (n := 1024) (m := 128) (φ := .bf16) (out0_B_5 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1) fun r l =>
      (hd qf df kf vf (l / 64)).dqs 4096 (t0 + r) 4096 l * (1 / 8) := by
  unfold out0_B_5
  rw [runB_dq, View.read_writes_full]
  have A := accB c i arg2 harg2 arg3 harg3 arg4 harg4 arg5 harg5 arg6 harg6 arg7 harg7 arg8 harg8 arg9 harg9 arg10 harg10 arg11 harg11 arg12 harg12 arg13 harg13 arg14 harg14 xs0 xs1 B ht0 h10 h11
  exact dqRun_MR i arg2 harg2 arg3 harg3 arg4 harg4 arg5 harg5 arg6 harg6 arg12 arg13 arg14 B ht0 A.p A.c ht A.dq

/-- The middle query block: the key gradient's accumulator. -/
theorem soutB_dk (hc0 : ¬cond0_0 i) (hc1 : ¬cond0_1 i) (ht0 : t0 = 1024 * (i 1).val) (h10 : MR (n := 4096) (m := 128) (φ := .f32) xs0 gk) (h11 : MR (n := 4096) (m := 128) (φ := .f32) xs1 gv) :
    MR (n := 4096) (m := 128) (φ := .f32) (sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1) fun s l =>
      gk s l + ((hd qf df kf vf 0).dks 4096 t0 1024 s l + (hd qf df kf vf 1).dks 4096 t0 1024 s l) := by
  unfold sout0_B_0
  rw [runB_dk]
  have A := accB c i arg2 harg2 arg3 harg3 arg4 harg4 arg5 harg5 arg6 harg6 arg7 harg7 arg8 harg8 arg9 harg9 arg10 harg10 arg11 harg11 arg12 harg12 arg13 harg13 arg14 harg14 xs0 xs1 B ht0 h10 h11
  exact dkRun_MR i arg2 harg2 arg3 harg3 arg4 harg4 arg5 harg5 arg6 harg6 arg10 arg13 arg14 B ht0 A.p A.c A.dk

/-- The middle query block: the value gradient's accumulator. -/
theorem soutB_dv (hc0 : ¬cond0_0 i) (hc1 : ¬cond0_1 i) (ht0 : t0 = 1024 * (i 1).val) (h10 : MR (n := 4096) (m := 128) (φ := .f32) xs0 gk) (h11 : MR (n := 4096) (m := 128) (φ := .f32) xs1 gv) :
    MR (n := 4096) (m := 128) (φ := .f32) (sout0_B_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1) fun s l =>
      gv s l + ((hd qf df kf vf 0).dvs 4096 t0 1024 s l + (hd qf df kf vf 1).dvs 4096 t0 1024 s l) := by
  unfold sout0_B_1
  rw [runB_dv]
  have A := accB c i arg2 harg2 arg3 harg3 arg4 harg4 arg5 harg5 arg6 harg6 arg7 harg7 arg8 harg8 arg9 harg9 arg10 harg10 arg11 harg11 arg12 harg12 arg13 harg13 arg14 harg14 xs0 xs1 B ht0 h10 h11
  exact dvRun_MR i arg2 harg2 arg3 harg3 arg4 harg4 arg5 harg5 arg6 harg6 arg11 arg13 arg14 B ht0 A.p A.c A.dv

/-- The last query block: the query gradient's block. -/
theorem outC_dq (hc0 : ¬cond0_0 i) (hc1 : cond0_1 i) (ht0 : t0 = 1024 * (i 1).val) (ht : t0 + 1024 ≤ 4096) (h10 : MR (n := 4096) (m := 128) (φ := .f32) xs0 gk) (h11 : MR (n := 4096) (m := 128) (φ := .f32) xs1 gv) :
    MR (n := 1024) (m := 128) (φ := .bf16) (out0_C_5 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1) fun r l =>
      (hd qf df kf vf (l / 64)).dqs 4096 (t0 + r) 4096 l * (1 / 8) := by
  unfold out0_C_5
  rw [runC_dq, View.read_writes_full]
  have A := accB c i arg2 harg2 arg3 harg3 arg4 harg4 arg5 harg5 arg6 harg6 arg7 harg7 arg8 harg8 arg9 harg9 arg10 harg10 arg11 harg11 arg12 harg12 arg13 harg13 arg14 harg14 xs0 xs1 B ht0 h10 h11
  exact dqRun_MR i arg2 harg2 arg3 harg3 arg4 harg4 arg5 harg5 arg6 harg6 arg12 arg13 arg14 B ht0 A.p A.c ht A.dq

/-- The last query block: the key gradient's accumulator. -/
theorem soutC_dk (hc0 : ¬cond0_0 i) (hc1 : cond0_1 i) (ht0 : t0 = 1024 * (i 1).val) (h10 : MR (n := 4096) (m := 128) (φ := .f32) xs0 gk) (h11 : MR (n := 4096) (m := 128) (φ := .f32) xs1 gv) :
    MR (n := 4096) (m := 128) (φ := .f32) (sout0_C_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1) fun s l =>
      gk s l + ((hd qf df kf vf 0).dks 4096 t0 1024 s l + (hd qf df kf vf 1).dks 4096 t0 1024 s l) := by
  unfold sout0_C_0
  rw [runC_dk]
  have A := accB c i arg2 harg2 arg3 harg3 arg4 harg4 arg5 harg5 arg6 harg6 arg7 harg7 arg8 harg8 arg9 harg9 arg10 harg10 arg11 harg11 arg12 harg12 arg13 harg13 arg14 harg14 xs0 xs1 B ht0 h10 h11
  exact dkRun_MR i arg2 harg2 arg3 harg3 arg4 harg4 arg5 harg5 arg6 harg6 arg10 arg13 arg14 B ht0 A.p A.c A.dk

/-- The last query block: the value gradient's accumulator. -/
theorem soutC_dv (hc0 : ¬cond0_0 i) (hc1 : cond0_1 i) (ht0 : t0 = 1024 * (i 1).val) (h10 : MR (n := 4096) (m := 128) (φ := .f32) xs0 gk) (h11 : MR (n := 4096) (m := 128) (φ := .f32) xs1 gv) :
    MR (n := 4096) (m := 128) (φ := .f32) (sout0_C_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1) fun s l =>
      gv s l + ((hd qf df kf vf 0).dvs 4096 t0 1024 s l + (hd qf df kf vf 1).dvs 4096 t0 1024 s l) := by
  unfold sout0_C_1
  rw [runC_dv]
  have A := accB c i arg2 harg2 arg3 harg3 arg4 harg4 arg5 harg5 arg6 harg6 arg7 harg7 arg8 harg8 arg9 harg9 arg10 harg10 arg11 harg11 arg12 harg12 arg13 harg13 arg14 harg14 xs0 xs1 B ht0 h10 h11
  exact dvRun_MR i arg2 harg2 arg3 harg3 arg4 harg4 arg5 harg5 arg6 harg6 arg11 arg13 arg14 B ht0 A.p A.c A.dv

/-- The last query block writes the accumulator out. -/
theorem outC_dk (hc0 : ¬cond0_0 i) (hc1 : cond0_1 i) (ht0 : t0 = 1024 * (i 1).val) (h10 : MR (n := 4096) (m := 128) (φ := .f32) xs0 gk) (h11 : MR (n := 4096) (m := 128) (φ := .f32) xs1 gv) :
    MR (n := 4096) (m := 128) (φ := .bf16) (out0_C_6 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1) fun s l =>
      gk s l + ((hd qf df kf vf 0).dks 4096 t0 1024 s l + (hd qf df kf vf 1).dks 4096 t0 1024 s l) := by
  unfold out0_C_6
  rw [runC_dkOut, View.read_writes_full, View.readAt_full]
  have h := soutC_dk c i arg2 harg2 arg3 harg3 arg4 harg4 arg5 harg5 arg6 harg6 arg7 harg7 arg8 harg8 arg9 harg9 arg10 harg10 arg11 harg11 arg12 harg12 arg13 harg13 arg14 harg14 xs0 xs1 B hc0 hc1 ht0 h10 h11
  unfold sout0_C_0 at h
  exact MR.trunc h _

/-- The last query block writes the accumulator out. -/
theorem outC_dv (hc0 : ¬cond0_0 i) (hc1 : cond0_1 i) (ht0 : t0 = 1024 * (i 1).val) (h10 : MR (n := 4096) (m := 128) (φ := .f32) xs0 gk) (h11 : MR (n := 4096) (m := 128) (φ := .f32) xs1 gv) :
    MR (n := 4096) (m := 128) (φ := .bf16) (out0_C_7 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1) fun s l =>
      gv s l + ((hd qf df kf vf 0).dvs 4096 t0 1024 s l + (hd qf df kf vf 1).dvs 4096 t0 1024 s l) := by
  unfold out0_C_7
  rw [runC_dvOut, View.read_writes_full, View.readAt_full]
  have h := soutC_dv c i arg2 harg2 arg3 harg3 arg4 harg4 arg5 harg5 arg6 harg6 arg7 harg7 arg8 harg8 arg9 harg9 arg10 harg10 arg11 harg11 arg12 harg12 arg13 harg13 arg14 harg14 xs0 xs1 B hc0 hc1 ht0 h10 h11
  unfold sout0_C_1 at h
  exact MR.trunc h _

end Case

end Cert.Sb
-- ==== Proof.Sb.Fold.lean ====
/-
  The kernel's three arrays after the run, in real numbers: the query gradient block by block, the key and value gradients
  accumulated over a lane tile's four query blocks.
-/
module

public import proofs.«01_k».proof.Proof.Sb.CaseVal
public import proofs.«01_k».proof.Proof.Sb.HeadMath
public import proofs.«01_k».proof.Proof.Gen.KernelIdeal.Value

@[expose] public section

set_option maxRecDepth 16384

noncomputable section

open Idealize.ShloMosaic Idealize.ShloMosaic.TcCoe Idealize.SL.Sem Finset
open Cert.KernelIdeal Cert.KernelIdeal.Gen Cert.KernelIdeal.Value

namespace Cert.Sb

theorem coord1 : ∀ t : Fin cfg0.N, ((grid0.coords t) 1).val = t.val % 4 :=
  (by decide +kernel : ∀ t : Fin grid0.N, _)
theorem at0 : ∀ t : Fin cfg0.N, win0_0.index t (0 : Fin 2) = t.val % 4 ∧ win0_0.index t (1 : Fin 2) = t.val / 4 :=
  (by decide +kernel : ∀ t : Fin grid0.N, _)
theorem at1 : ∀ t : Fin cfg0.N, win0_1.index t (0 : Fin 2) = 0 ∧ win0_1.index t (1 : Fin 2) = 4 + t.val / 4 :=
  (by decide +kernel : ∀ t : Fin grid0.N, _)
theorem at2 : ∀ t : Fin cfg0.N, win0_2.index t (0 : Fin 2) = 0 ∧ win0_2.index t (1 : Fin 2) = 8 + t.val / 4 :=
  (by decide +kernel : ∀ t : Fin grid0.N, _)
theorem at3 : ∀ t : Fin cfg0.N, win0_3.index t (0 : Fin 2) = t.val % 4 ∧ win0_3.index t (1 : Fin 2) = t.val / 4 :=
  (by decide +kernel : ∀ t : Fin grid0.N, _)
theorem at4w : ∀ t : Fin cfg0.N, win0_4.index t (0 : Fin 3) = t.val / 4 ∧ win0_4.index t (1 : Fin 3) = t.val % 4 ∧ win0_4.index t (2 : Fin 3) = 0 :=
  (by decide +kernel : ∀ t : Fin grid0.N, _)

variable (m : (ℓ : Loc nD τ sig) → Buf (Elt Ideal) ℓ) (c : Dev nD)

/-- The arrays the kernel reads hold real numbers: queries, keys and values side by side in `P`, the output's cotangents in `D`,
    and every row's total. -/
structure Reads (P D : ℕ → ℕ → ℝ) : Prop where
  p : ∀ i : S4096x3840.Idx, (i 1).val < 1536 → (m ((c : Thread nD τ).loc main_arg0) : S4096x3840.Idx → EReal) i = ((P (i 0).val (i 1).val : ℝ) : EReal)
  d : ∀ i : S4096x512.Idx, (m ((c : Thread nD τ).loc main_arg1) : S4096x512.Idx → EReal) i = ((D (i 0).val (i 1).val : ℝ) : EReal)
  rt : ∀ i : S8x4096x1.Idx, (V m c main_v22 : S8x4096x1.Idx → EReal) i = ((pref (zz P (i 0).val) (i 1).val 4096 : ℝ) : EReal)

variable {m c} {P D : ℕ → ℕ → ℝ} (R : Reads m c P D)
include R

/-- What a grid point's blocks hold. -/
theorem blk_at (t : Fin cfg0.N) :
    Blk (fun r l => P r (128 * (t.val / 4) + l)) (fun r l => D r (128 * (t.val / 4) + l)) (fun r l => P r (512 + (128 * (t.val / 4) + l)))
      (fun r l => P r (1024 + (128 * (t.val / 4) + l))) (1024 * (t.val % 4)) (iblk m c 0 t) (iblk m c 1 t) (iblk m c 2 t) (iblk m c 3 t) (iblk m c 4 t) := by
  have hN : t.val < 16 := lt_of_lt_of_eq t.isLt (show cfg0.N = 16 from N_0)
  refine ⟨fun j => ?_, fun j => ?_, fun j => ?_, fun j => ?_, fun j => ?_⟩
  · have h0 : (j 0).val < 1024 := (j 0).isLt
    have h1 : (j 1).val < 128 := (j 1).isLt
    obtain ⟨e0, e1⟩ := at0 t
    unfold iblk
    rw [View.read_apply]
    show V m c main_arg0 _ = _
    rw [V_main_arg0]
    refine (R.p _ ?_).trans ?_
    · show win0_0.index t (1 : Fin 2) * 128 + 1 * (j 1).val < 1536
      rw [e1]; omega
    · show ((P (win0_0.index t (0 : Fin 2) * 1024 + 1 * (j 0).val) (win0_0.index t (1 : Fin 2) * 128 + 1 * (j 1).val) : ℝ) : EReal) = _
      rw [e0, e1]
      congr 2 <;> ring
  · have h0 : (j 0).val < 4096 := (j 0).isLt
    have h1 : (j 1).val < 128 := (j 1).isLt
    obtain ⟨e0, e1⟩ := at1 t
    unfold iblk
    rw [View.read_apply]
    show V m c main_arg0 _ = _
    rw [V_main_arg0]
    refine (R.p _ ?_).trans ?_
    · show win0_1.index t (1 : Fin 2) * 128 + 1 * (j 1).val < 1536
      rw [e1]; omega
    · show ((P (win0_1.index t (0 : Fin 2) * 4096 + 1 * (j 0).val) (win0_1.index t (1 : Fin 2) * 128 + 1 * (j 1).val) : ℝ) : EReal) = _
      rw [e0, e1]
      congr 2 <;> ring
  · have h0 : (j 0).val < 4096 := (j 0).isLt
    have h1 : (j 1).val < 128 := (j 1).isLt
    obtain ⟨e0, e1⟩ := at2 t
    unfold iblk
    rw [View.read_apply]
    show V m c main_arg0 _ = _
    rw [V_main_arg0]
    refine (R.p _ ?_).trans ?_
    · show win0_2.index t (1 : Fin 2) * 128 + 1 * (j 1).val < 1536
      rw [e1]; omega
    · show ((P (win0_2.index t (0 : Fin 2) * 4096 + 1 * (j 0).val) (win0_2.index t (1 : Fin 2) * 128 + 1 * (j 1).val) : ℝ) : EReal) = _
      rw [e0, e1]
      congr 2 <;> ring
  · obtain ⟨e0, e1⟩ := at3 t
    unfold iblk
    rw [View.read_apply]
    show V m c main_arg1 _ = _
    rw [V_main_arg1]
    refine (R.d _).trans ?_
    show ((D (win0_3.index t (0 : Fin 2) * 1024 + 1 * (j 0).val) (win0_3.index t (1 : Fin 2) * 128 + 1 * (j 1).val) : ℝ) : EReal) = _
    rw [e0, e1]
    congr 2 <;> ring
  · have h0 : (j 0).val < 2 := (j 0).isLt
    obtain ⟨e0, e1, e2⟩ := at4w t
    unfold iblk
    rw [View.read_apply]
    show V m c main_v22 _ = _
    refine (R.rt _).trans ?_
    show ((pref (zz P (win0_4.index t (0 : Fin 3) * 2 + 1 * (j 0).val)) (win0_4.index t (1 : Fin 3) * 1024 + 1 * (j 1).val) 4096 : ℝ) : EReal) = _
    have hz := tileHd_z P D (t.val / 4) (j 0).val h0
    unfold tileHd at hz
    dsimp only
    rw [e0, e1, hz]
    congr 3 <;> ring

/-- The accumulators hold the key and value gradients of the lane tile's first `b` query rows. -/
def Part (P D : ℕ → ℕ → ℝ) (g b : ℕ) (a : Vec Ideal S4096x128 .f32 × Vec Ideal S4096x128 .f32) : Prop :=
  MR (n := 4096) (m := 128) (φ := .f32) a.1 (fun s l => (tileHd P D g 0).dks 4096 0 b s l + (tileHd P D g 1).dks 4096 0 b s l)
    ∧ MR (n := 4096) (m := 128) (φ := .f32) a.2 (fun s l => (tileHd P D g 0).dvs 4096 0 b s l + (tileHd P D g 1).dvs 4096 0 b s l)

/-- What is held after point `n`: its block of the query gradient, the accumulators, and after a lane tile's last point the
    tile's key and value gradients. -/
structure After (P D : ℕ → ℕ → ℝ) (n : ℕ)
    (a : Vec Ideal S1024x128 .bf16 × Vec Ideal S4096x128 .bf16 × Vec Ideal S4096x128 .bf16 × Vec Ideal S4096x128 .f32 × Vec Ideal S4096x128 .f32) : Prop where
  dq : MR (n := 1024) (m := 128) (φ := .bf16) a.1 fun r l => (tileHd P D (n / 4) (l / 64)).dqs 4096 (1024 * (n % 4) + r) 4096 l * (1 / 8)
  part : Part P D (n / 4) (1024 * (n % 4) + 1024) a.2.2.2
  dk : n % 4 = 3 → MR (n := 4096) (m := 128) (φ := .bf16) a.2.1 fun s l =>
    (tileHd P D (n / 4) 0).dks 4096 0 4096 s l + (tileHd P D (n / 4) 1).dks 4096 0 4096 s l
  dv : n % 4 = 3 → MR (n := 4096) (m := 128) (φ := .bf16) a.2.2.1 fun s l =>
    (tileHd P D (n / 4) 0).dvs 4096 0 4096 s l + (tileHd P D (n / 4) 1).dvs 4096 0 4096 s l

omit R in
theorem grow_dk (H0 H1 : Hd) (b e : ℕ) (hb : e = b + 1024) (s l : ℕ) :
    H0.dks 4096 0 b s l + H1.dks 4096 0 b s l + (H0.dks 4096 b 1024 s l + H1.dks 4096 b 1024 s l) = H0.dks 4096 0 e s l + H1.dks 4096 0 e s l := by
  rw [add_add_add_comm, dks_append, dks_append, hb]

omit R in
theorem grow_dv (H0 H1 : Hd) (b e : ℕ) (hb : e = b + 1024) (s l : ℕ) :
    H0.dvs 4096 0 b s l + H1.dvs 4096 0 b s l + (H0.dvs 4096 b 1024 s l + H1.dvs 4096 b 1024 s l) = H0.dvs 4096 0 e s l + H1.dvs 4096 0 e s l := by
  rw [add_add_add_comm, dvs_append, dvs_append, hb]

omit R in
/-- What is held after a point, component by component. -/
theorem After.of {n : ℕ}
    {a : Vec Ideal S1024x128 .bf16 × Vec Ideal S4096x128 .bf16 × Vec Ideal S4096x128 .bf16 × Vec Ideal S4096x128 .f32 × Vec Ideal S4096x128 .f32}
    {b0 : Vec Ideal S1024x128 .bf16} {b1 b2 : Vec Ideal S4096x128 .bf16} {b3 b4 : Vec Ideal S4096x128 .f32} (h : a = (b0, b1, b2, b3, b4))
    (e0 : MR (n := 1024) (m := 128) (φ := .bf16) b0 fun r l => (tileHd P D (n / 4) (l / 64)).dqs 4096 (1024 * (n % 4) + r) 4096 l * (1 / 8))
    (e1 : MR (n := 4096) (m := 128) (φ := .f32) b3 fun s l =>
      (tileHd P D (n / 4) 0).dks 4096 0 (1024 * (n % 4) + 1024) s l + (tileHd P D (n / 4) 1).dks 4096 0 (1024 * (n % 4) + 1024) s l)
    (e2 : MR (n := 4096) (m := 128) (φ := .f32) b4 fun s l =>
      (tileHd P D (n / 4) 0).dvs 4096 0 (1024 * (n % 4) + 1024) s l + (tileHd P D (n / 4) 1).dvs 4096 0 (1024 * (n % 4) + 1024) s l)
    (e3 : n % 4 = 3 → MR (n := 4096) (m := 128) (φ := .bf16) b1 fun s l =>
      (tileHd P D (n / 4) 0).dks 4096 0 4096 s l + (tileHd P D (n / 4) 1).dks 4096 0 4096 s l)
    (e4 : n % 4 = 3 → MR (n := 4096) (m := 128) (φ := .bf16) b2 fun s l =>
      (tileHd P D (n / 4) 0).dvs 4096 0 4096 s l + (tileHd P D (n / 4) 1).dvs 4096 0 4096 s l) : After P D n a := by
  subst h
  exact ⟨e0, ⟨e1, e2⟩, e3, e4⟩

/-- One point keeps it: case A. -/
theorem stepA (t : Fin cfg0.N)
    (a : Vec Ideal S1024x128 .bf16 × Vec Ideal S4096x128 .bf16 × Vec Ideal S4096x128 .bf16 × Vec Ideal S4096x128 .f32 × Vec Ideal S4096x128 .f32)
    (h0 : t.val % 4 = 0) (h1 : ¬t.val % 4 = 3) : After P D t.val (stAt0 m c t.val t.isLt a) := by
  have ht0 : 1024 * (t.val % 4) = 1024 * ((grid0.coords t) 1).val := by rw [coord1 t]
  have ht : 1024 * (t.val % 4) + 1024 ≤ 4096 := by omega
  have B := blk_at R t
  have e0 := outA_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) B ((hcond0_0 t).mpr h0) (fun h => h1 ((hcond0_1 t).mp h)) ht0 ht
  have e1 := soutA_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_2 (Memref.isWhole_whole _) scM0_3 (Memref.isWhole_whole _) scM0_4 (Memref.isWhole_whole _) B ((hcond0_0 t).mpr h0) (fun h => h1 ((hcond0_1 t).mp h)) ht0
  have e2 := soutA_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_2 (Memref.isWhole_whole _) scM0_3 (Memref.isWhole_whole _) scM0_4 (Memref.isWhole_whole _) B ((hcond0_0 t).mpr h0) (fun h => h1 ((hcond0_1 t).mp h)) ht0
  refine After.of (stAt0_A m c t a h0 h1) e0 (e1.congr fun s l _ _ => ?_) (e2.congr fun s l _ _ => ?_) (fun H => absurd H h1) fun H => absurd H h1
  · rw [h0]; rfl
  · rw [h0]; rfl

/-- One point keeps it: case B. -/
theorem stepB (t : Fin cfg0.N)
    (a : Vec Ideal S1024x128 .bf16 × Vec Ideal S4096x128 .bf16 × Vec Ideal S4096x128 .bf16 × Vec Ideal S4096x128 .f32 × Vec Ideal S4096x128 .f32)
    (h0 : ¬t.val % 4 = 0) (h1 : ¬t.val % 4 = 3)
    (p : Part P D (t.val / 4) (1024 * (t.val % 4)) a.2.2.2) : After P D t.val (stAt0 m c t.val t.isLt a) := by
  have ht0 : 1024 * (t.val % 4) = 1024 * ((grid0.coords t) 1).val := by rw [coord1 t]
  have ht : 1024 * (t.val % 4) + 1024 ≤ 4096 := by omega
  have B := blk_at R t
  have e0 := outB_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) a.2.2.2.1 a.2.2.2.2 B (fun h => h0 ((hcond0_0 t).mp h)) (fun h => h1 ((hcond0_1 t).mp h)) ht0 ht p.1 p.2
  have e1 := soutB_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) a.2.2.2.1 a.2.2.2.2 B (fun h => h0 ((hcond0_0 t).mp h)) (fun h => h1 ((hcond0_1 t).mp h)) ht0 p.1 p.2
  have e2 := soutB_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) a.2.2.2.1 a.2.2.2.2 B (fun h => h0 ((hcond0_0 t).mp h)) (fun h => h1 ((hcond0_1 t).mp h)) ht0 p.1 p.2
  exact After.of (stAt0_B m c t a h0 h1) e0 (e1.congr fun s l _ _ => grow_dk _ _ _ _ rfl s l) (e2.congr fun s l _ _ => grow_dv _ _ _ _ rfl s l)
    (fun H => absurd H h1) fun H => absurd H h1

/-- One point keeps it: case C. -/
theorem stepC (t : Fin cfg0.N)
    (a : Vec Ideal S1024x128 .bf16 × Vec Ideal S4096x128 .bf16 × Vec Ideal S4096x128 .bf16 × Vec Ideal S4096x128 .f32 × Vec Ideal S4096x128 .f32)
    (h0 : ¬t.val % 4 = 0) (h1 : t.val % 4 = 3)
    (p : Part P D (t.val / 4) (1024 * (t.val % 4)) a.2.2.2) : After P D t.val (stAt0 m c t.val t.isLt a) := by
  have ht0 : 1024 * (t.val % 4) = 1024 * ((grid0.coords t) 1).val := by rw [coord1 t]
  have ht : 1024 * (t.val % 4) + 1024 ≤ 4096 := by omega
  have B := blk_at R t
  have e0 := outC_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) a.2.2.2.1 a.2.2.2.2 B (fun h => h0 ((hcond0_0 t).mp h)) ((hcond0_1 t).mpr h1) ht0 ht p.1 p.2
  have e1 := soutC_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) a.2.2.2.1 a.2.2.2.2 B (fun h => h0 ((hcond0_0 t).mp h)) ((hcond0_1 t).mpr h1) ht0 p.1 p.2
  have e2 := soutC_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) a.2.2.2.1 a.2.2.2.2 B (fun h => h0 ((hcond0_0 t).mp h)) ((hcond0_1 t).mpr h1) ht0 p.1 p.2
  have e3 := outC_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) a.2.2.2.1 a.2.2.2.2 B (fun h => h0 ((hcond0_0 t).mp h)) ((hcond0_1 t).mpr h1) ht0 p.1 p.2
  have e4 := outC_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) a.2.2.2.1 a.2.2.2.2 B (fun h => h0 ((hcond0_0 t).mp h)) ((hcond0_1 t).mpr h1) ht0 p.1 p.2
  exact After.of (stAt0_C m c t a h0 h1) e0 (e1.congr fun s l _ _ => grow_dk _ _ _ _ rfl s l) (e2.congr fun s l _ _ => grow_dv _ _ _ _ rfl s l)
    (fun _ => e3.congr fun s l _ _ => grow_dk _ _ _ _ (by omega) s l) fun _ => e4.congr fun s l _ _ => grow_dv _ _ _ _ (by omega) s l

/-- One point keeps it. -/
theorem step_ok (t : Fin cfg0.N)
    (a : Vec Ideal S1024x128 .bf16 × Vec Ideal S4096x128 .bf16 × Vec Ideal S4096x128 .bf16 × Vec Ideal S4096x128 .f32 × Vec Ideal S4096x128 .f32)
    (h : t.val % 4 ≠ 0 → Part P D (t.val / 4) (1024 * (t.val % 4)) a.2.2.2) : After P D t.val (stAt0 m c t.val t.isLt a) := by
  by_cases h0 : t.val % 4 = 0
  · exact stepA R t a h0 (by omega)
  · by_cases h1 : t.val % 4 = 3
    · exact stepC R t a h0 h1 (h h0)
    · exact stepB R t a h0 h1 (h h0)

/-- After every point. -/
theorem after_ok (n : ℕ) : ∀ hn : n < cfg0.N, After P D n (outsAt0 m c n hn) := by
  induction n with
  | zero =>
    intro hn
    rw [outsAt0_zero]
    exact step_ok R ⟨0, hn⟩ _ fun H => absurd rfl H
  | succ n ih =>
    intro hn
    rw [outsAt0_succ]
    refine step_ok R ⟨n + 1, hn⟩ _ fun H => ?_
    have p := (ih (Nat.lt_of_succ_lt hn)).part
    dsimp only at H ⊢
    rw [show (n + 1) / 4 = n / 4 by omega, show 1024 * ((n + 1) % 4) = 1024 * (n % 4) + 1024 by omega]
    exact p

/-- The kernel's query gradient. -/
theorem G5_real (i : S4096x512.Idx) : (G5 m c : S4096x512.Idx → EReal) i = ((gradQ P D (i 0).val (i 1).val : ℝ) : EReal) := by
  have h0 : (i 0).val < 4096 := (i 0).isLt
  have h1 : (i 1).val < 512 := (i 1).isLt
  have hp : pt5Of i = (i 0).val / 1024 + 4 * ((i 1).val / 128) := by
    show 1 * ((i 0).val / 1024 - 0) + 4 * ((i 1).val / 128 - 0) = _
    omega
  have hN : pt5Of i < cfg0.N := by rw [hp, show cfg0.N = 16 from N_0]; omega
  have E := after_ok R (pt5Of i) hN
  rw [outsAt0_sweep] at E
  unfold G5
  rw [dif_pos hN]
  refine (E.dq (loc5Of i)).trans ?_
  have l0 : (loc5Of i 0).val = (i 0).val % 1024 := rfl
  have l1 : (loc5Of i 1).val = (i 1).val % 128 := rfl
  dsimp only
  rw [tileHd_dq _ _ _ _ _ (by omega), hp]
  congr 2 <;> omega

/-- The kernel's key gradient. -/
theorem G6_real (i : S4096x512.Idx) : (G6 m c : S4096x512.Idx → EReal) i = ((gradK P D (i 0).val (i 1).val : ℝ) : EReal) := by
  have h0 : (i 0).val < 4096 := (i 0).isLt
  have h1 : (i 1).val < 512 := (i 1).isLt
  have hp : pt6Of i = 4 * ((i 1).val / 128) + 3 := by
    show 4 * (4 * ((i 0).val / 4096 - 0) + 1 * ((i 1).val / 128 - 0)) + 3 = _
    omega
  have hN : pt6Of i < cfg0.N := by rw [hp, show cfg0.N = 16 from N_0]; omega
  have E := after_ok R (pt6Of i) hN
  rw [outsAt0_sweep] at E
  unfold G6
  rw [dif_pos hN]
  refine (E.dk (by rw [hp]; omega) (loc6Of i)).trans ?_
  have l0 : (loc6Of i 0).val = (i 0).val % 4096 := rfl
  have l1 : (loc6Of i 1).val = (i 1).val % 128 := rfl
  dsimp only
  rw [tileHd_dk _ _ _ _ _ (by omega), hp]
  congr 2 <;> omega

/-- The kernel's value gradient. -/
theorem G7_real (i : S4096x512.Idx) : (G7 m c : S4096x512.Idx → EReal) i = ((gradV P D (i 0).val (i 1).val : ℝ) : EReal) := by
  have h0 : (i 0).val < 4096 := (i 0).isLt
  have h1 : (i 1).val < 512 := (i 1).isLt
  have hp : pt7Of i = 4 * ((i 1).val / 128) + 3 := by
    show 4 * (4 * ((i 0).val / 4096 - 0) + 1 * ((i 1).val / 128 - 0)) + 3 = _
    omega
  have hN : pt7Of i < cfg0.N := by rw [hp, show cfg0.N = 16 from N_0]; omega
  have E := after_ok R (pt7Of i) hN
  rw [outsAt0_sweep] at E
  unfold G7
  rw [dif_pos hN]
  refine (E.dv (by rw [hp]; omega) (loc7Of i)).trans ?_
  have l0 : (loc7Of i 0).val = (i 0).val % 4096 := rfl
  have l1 : (loc7Of i 1).val = (i 1).val % 128 := rfl
  dsimp only
  rw [tileHd_dv _ _ _ _ _ (by omega), hp]
  congr 2 <;> omega

end Cert.Sb
-- ==== Proof.Sb.Total.lean ====
/-
  Every row's total, as the kernel program's host operations compute it, in real numbers.
-/
module

public import proofs.«01_k».proof.Proof.Sb.RefVal
public import proofs.«01_k».proof.Proof.Sb.Fold

@[expose] public section

set_option maxRecDepth 16384

noncomputable section

open Idealize.ShloMosaic Idealize.ShloMosaic.TcCoe Idealize.SL.Sem Finset
open Cert.KernelIdeal Cert.KernelIdeal.Gen Cert.KernelIdeal.Value

namespace Cert.Sb

variable (m : (ℓ : Loc nD τ sig) → Buf (Elt Ideal) ℓ) (c : Dev nD)

/-- The totals: the reference's masked `log (1 - σ)`, summed over the columns. -/
theorem total_eq : (V m c main_v22 : FVec Ideal S8x4096x1 .f32) =
    broadcastInDim S8x4096x1 ![0, 1] bcast_S8x4096_S8x4096x1_0_1
      (Host.reduceAdd (Cert.ReferenceIdeal.Read.val_main_v24_0 (F := Ideal) (m ((c : Thread nD τ).loc main_arg0))) (constant S_ .f32 0x00000000#32)
        reducesTo_S8x4096x4096_S8x4096_d2 h_S_ : FVec Ideal S8x4096 .f32) := by
  unfold V
  simp only [hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp
  rfl

/-- A row's total is the sum of the row's masked `log (1 - σ)`. -/
theorem total_real {P : ℕ → ℕ → ℝ} (hp : ArgP (m ((c : Thread nD τ).loc main_arg0)) P) (i : S8x4096x1.Idx) :
    (V m c main_v22 : S8x4096x1.Idx → EReal) i = ((pref (zz P (i 0).val) (i 1).val 4096 : ℝ) : EReal) := by
  have hr : S8x4096x4096.Reduces [2] S8x4096 := by decide
  rw [total_eq m c]
  refine (broadcastInDim_apply _ _ _ i (ValueIdx.ix2 (i 0) (i 1)) (fun a => ?_)).trans ?_
  · fin_cases a <;> rfl
  refine (Ideal.hostReduceAdd_single _ hr _ _ _).trans ?_
  refine Eq.trans (congrArg₂ (· + ·) zero_bits (sum_congr rfl fun k _ => r_ln hp _)) ?_
  rw [EReal.coe_zero, zero_add]
  exact coe_sum_range 4096 fun s => lnf (zz P (i 0).val) (i 1).val s

end Cert.Sb
-- ==== Proof.Sb.Final.lean ====
/-
  The kernel's gradients are the reference's, where the arguments' entries are real numbers.
-/
module

public import proofs.«01_k».proof.Defs
public import proofs.«01_k».proof.Proof.Sb.Total

@[expose] public section

set_option maxRecDepth 16384

noncomputable section

open Idealize.ShloMosaic Idealize.ShloMosaic.TcCoe Idealize.SL.Sem Finset
open Cert.KernelIdeal Cert.KernelIdeal.Gen Cert.KernelIdeal.Value

namespace Cert.Sb

/-- The side conditions of the precondition's operations. -/
instance pre_facts : Cert.Pre_finite.Facts := ⟨by decide, by decide, by decide, by decide⟩

/-- A number whose absolute value compares below infinity is real. -/
theorem real_of_lt (x : EReal) (h : Ideal.cmp .olt (max x (-x)) (Ideal.ofBits .f32 0x7F800000#32) = 1#1) : x = ((x.toReal : ℝ) : EReal) := by
  have h' : max x (-x) < ⊤ := by
    rw [inf_bits] at h
    by_contra hn
    simp [Ideal.cmp, hn] at h
  refine (EReal.coe_toReal (fun e => ?_) (fun e => ?_)).symm
  · rw [e] at h'; simp at h'
  · rw [e] at h'; simp at h'

/-- The real entries of a matrix, by row and column; zero outside of it. -/
def entries {a b : ℕ} (x : (⟨2, ![a, b]⟩ : Shape).Idx → EReal) (t l : ℕ) : ℝ :=
  if ht : t < a then if hl : l < b then (x (ValueIdx.ix2 ⟨t, ht⟩ ⟨l, hl⟩)).toReal else 0 else 0

theorem entries_at {a b : ℕ} (x : (⟨2, ![a, b]⟩ : Shape).Idx → EReal) (i : (⟨2, ![a, b]⟩ : Shape).Idx) : entries x (i 0).val (i 1).val = (x i).toReal := by
  unfold entries
  have h0 : (i 0).val < a := (i 0).isLt
  have h1 : (i 1).val < b := (i 1).isLt
  rw [dif_pos h0, dif_pos h1]
  refine congrArg (fun k => (x k).toReal) (funext fun k => ?_)
  fin_cases k <;> rfl

variable (x0 : FVec Ideal S4096x3840 .bf16) (x1 : FVec Ideal S4096x512 .bf16)

/-- Where the precondition holds, the queries, keys and values are real numbers. -/
theorem argP_of (h : (Cert.Pre_finite.fn (F := Ideal) x0 x1).1 = fun _ => 1#1) : ArgP x0 (entries x0) := fun i hi => by
  refine (real_of_lt (x0 i) ?_).trans (congrArg _ (entries_at x0 i).symm)
  have e := congrFun h (ValueIdx.ix2 (i 0) ⟨(i 1).val, hi⟩)
  have ei : (extractStridedSlice Cert.Pre_finite.S4096x1536 ![0, 0] x0 pre_facts.slices_S4096x3840_S4096x1536_0_0 (ValueIdx.ix2 (i 0) ⟨(i 1).val, hi⟩)) = x0 i :=
    extractStridedSlice_apply _ _ _ _ i fun a => by fin_cases a <;> exact (Nat.zero_add _).symm
  rw [← ei]
  exact e

/-- Where the precondition holds, the cotangents are real numbers. -/
theorem argD_of (h : (Cert.Pre_finite.fn (F := Ideal) x0 x1).2 = fun _ => 1#1) : ArgD x1 (entries x1) := fun i =>
  (real_of_lt (x1 i) (congrFun h i)).trans (congrArg _ (entries_at x1 i).symm)

variable (m : (ℓ : Loc nD τ sig) → Buf (Elt Ideal) ℓ) (c : Dev nD)

/-- What the kernel reads, where its arguments are real. -/
theorem reads_of {P D : ℕ → ℕ → ℝ} (hp : ArgP (m ((c : Thread nD τ).loc main_arg0)) P) (hd : ArgD (m ((c : Thread nD τ).loc main_arg1)) D) :
    Reads m c P D := ⟨hp, hd, total_real m c hp⟩

open Cert.ReferenceIdeal.Read in
/-- The three gradients of the kernel and the reference's agree. -/
theorem gradients {P D : ℕ → ℕ → ℝ} (hp : ArgP (m ((c : Thread nD τ).loc main_arg0)) P) (hd : ArgD (m ((c : Thread nD τ).loc main_arg1)) D) :
    val_main_v59 (F := Ideal) (m ((c : Thread nD τ).loc main_arg0)) (m ((c : Thread nD τ).loc main_arg1)) = G5 m c
    ∧ val_main_v60 (F := Ideal) (m ((c : Thread nD τ).loc main_arg0)) (m ((c : Thread nD τ).loc main_arg1)) = G6 m c
    ∧ val_main_v61 (F := Ideal) (m ((c : Thread nD τ).loc main_arg0)) (m ((c : Thread nD τ).loc main_arg1)) = G7 m c :=
  ⟨funext fun i => (r_dq hp hd i).trans (G5_real (reads_of m c hp hd) i).symm,
    funext fun i => (r_dk hp hd i).trans (G6_real (reads_of m c hp hd) i).symm,
    funext fun i => (r_dv hp hd i).trans (G7_real (reads_of m c hp hd) i).symm⟩

end Cert.Sb
-- ==== Proof.Ffn.Dw.lean ====
/-
  A weight's gradient: the columns of the layer's input against the columns of the cotangent.
-/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Finset
open Cert.Kernel2Ideal Cert.Kernel2Ideal.Gen Cert.Kernel2Ideal.Value
open Cert.Reference2Ideal.Read (val_main_v6)

namespace Cert.Ffn.Dw

/-- One block of the product, entry by entry. -/
theorem block (x : FVec Ideal S4096x256 .bf16) (y : FVec Ideal S4096x1024 .bf16) (j : S256x1024.Idx) :
    (out0_2 (F := Ideal) x y j : EReal) = ∑ k : Fin 4096, (x (ix2 k (j 0)) : EReal) * y (ix2 k (j 1)) := by
  unfold out0_2
  rw [View.canon_cons_unit_lit _ _ _ (by decide), View.ld_unit_lit _ _ (by decide), View.ld_unit_lit _ _ (by decide)]
  unfold k0_pay1
  simp only [truncf_apply, pointwise]
  rw [zero_add]

/-- The reference's product, entry by entry. -/
theorem plain (x : FVec Ideal S4096x2816 .bf16) (y : FVec Ideal S4096x1024 .bf16) (i : S2816x1024.Idx) :
    (val_main_v6 (F := Ideal) x y i : EReal) = ∑ k : Fin 4096, (x (ix2 k (i 0)) : EReal) * y (ix2 k (i 1)) := by
  rw [Cert.Reference2Ideal.Read.val_main_v6_apply, Cert.Reference2Ideal.Read.val_main_v5_apply, Cert.Reference2Ideal.Read.val_main_v4_apply]
  refine Finset.sum_congr rfl fun k _ => (mul_comm _ _).trans (congrArg₂ (fun u v : EReal => u * v) ?_ ?_)
  · exact congrArg x (funext fun a => by fin_cases a <;> rfl)
  · exact congrArg y (funext fun a => by fin_cases a <;> rfl)

/-- The grid's points take the blocks of the first argument's columns in turn. -/
theorem points : ∀ t : Fin cfg0.N, win0_0.index t (0 : Fin 2) = 0 ∧ win0_0.index t (1 : Fin 2) = t.val ∧ win0_1.index t (0 : Fin 2) = 0
    ∧ win0_1.index t (1 : Fin 2) = 0 ∧ win0_2.index t (0 : Fin 2) = t.val ∧ win0_2.index t (1 : Fin 2) = 0 ∧ win0_2.flush t = true :=
  (by decide +kernel : ∀ t : Fin grid0.N, _)

variable (m : (ℓ : Loc nD τ sig) → Buf (Elt Ideal) ℓ) (c : Dev nD)

/-- The array the call leaves. -/
def G : Buf (Elt Ideal) ((c : Thread nD τ).loc main_v0) :=
  val_main_v6 (F := Ideal) (m ((c : Thread nD τ).loc main_arg0)) (m ((c : Thread nD τ).loc main_arg1))

/-- Each point writes its block of the reference's product. -/
theorem flushed (t : Fin cfg0.N) : (dats m 0 c).flushed 2 t = ((cfg0.win 2).blk t).view.read (Elt Ideal) (G m c) := by
  rw [flushed2]
  obtain ⟨a0, a1, b0, b1, o0, o1, -⟩ := points t
  funext y
  refine (block (iblk m c 0 t) (iblk m c 1 t) ((cfg0.win 2).xinj (grid0.coords t) y)).trans ?_
  refine Eq.trans ?_ (plain (m ((c : Thread nD τ).loc main_arg0)) (m ((c : Thread nD τ).loc main_arg1)) (((cfg0.win 2).blk t).view.emb y)).symm
  refine Finset.sum_congr rfl fun k _ => congrArg₂ (fun u v : EReal => u * v) ?_ ?_
  · refine congrArg (m ((c : Thread nD τ).loc main_arg0)) (funext fun a => Fin.ext ?_)
    fin_cases a
    · show win0_0.index t (0 : Fin 2) * 4096 + 1 * k.val = k.val
      rw [a0]; omega
    · show win0_0.index t (1 : Fin 2) * 256 + 1 * (y 0).val = win0_2.index t (0 : Fin 2) * 256 + 1 * (y 0).val
      rw [a1, o0]
  · refine congrArg (m ((c : Thread nD τ).loc main_arg1)) (funext fun a => Fin.ext ?_)
    fin_cases a
    · show win0_1.index t (0 : Fin 2) * 4096 + 1 * k.val = k.val
      rw [b0]; omega
    · show win0_1.index t (1 : Fin 2) * 1024 + 1 * (y 1).val = win0_2.index t (1 : Fin 2) * 1024 + 1 * (y 1).val
      rw [b1, o1]

/-- The points' blocks fill the result. -/
theorem covered (i : S2816x1024.Idx) : ∃ t : Fin cfg0.N, (cfg0.win 2).flush t = true ∧ i ∈ ((cfg0.win 2).blk t).view.set := by
  have h0 : (i 0).val < 2816 := (i 0).isLt
  have h1 : (i 1).val < 1024 := (i 1).isLt
  have hN : cfg0.N = 11 := N_0
  let t : Fin cfg0.N := ⟨(i 0).val / 256, by rw [hN]; omega⟩
  obtain ⟨-, -, -, -, o0, o1, hf⟩ := points t
  refine ⟨t, hf, ?_⟩
  show i ∈ ((View.whole main_v0).slice (win0_2.rect t)).set
  rw [View.set_slice_whole, Rect.mem_set_unit]
  intro a
  have ht : t.val = (i 0).val / 256 := rfl
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

/-- The call's result is the reference's. -/
theorem final : (dats m 0 c).arrAt 2 cfg0.N = G m c :=
  (dats m 0 c).arrAt_eq_of_cover 2 (G m c) (fun t _ => flushed m c t) covered

end Cert.Ffn.Dw
-- ==== Proof.Ffn.Dact.lean ====
/-
  The gradient through the gated activation: the cotangent of the activation, and of its two factors.
-/
module

public import proofs.«01_k».proof.Proof.Gen.Kernel3Ideal.Value
public import proofs.«01_k».proof.Proof.Gen.Reference3Ideal.Read
public import proofs.«01_k».proof.Pre_finite_dact
public import proofs.«01_k».proof.Proof.Sb.Final
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem Finset
open Cert.Kernel3Ideal Cert.Kernel3Ideal.Gen Cert.Kernel3Ideal.Value

namespace Cert.Ffn.Dact

/-- The side conditions of the precondition's operations. -/
instance pre_facts : Cert.Pre_finite_dact.Facts := ⟨by decide, by decide, by decide, by decide⟩

/-- An entry of a block of the cotangent: a row of one matrix times a row of the other. -/
def mm (x : FVec Ideal S512x1024 .bf16) (w : FVec Ideal S1408x1024 .bf16) (j : S512x1408.Idx) : EReal :=
  ∑ k : Fin 1024, (x (ix2 (j 0) k) : EReal) * w (ix2 (j 1) k)

/-- The gradient of `a · logistic a · b` in `a`, as the kernel writes it. -/
def gate (d a b : EReal) : EReal := d * b * (Ideal.logistic a * (1 + a * (1 - Ideal.logistic a)))

/-- The gradient of `a · logistic a · b` in `a`, as the chain rule writes it. -/
def gate' (d a b : EReal) : EReal := d * b * Ideal.logistic a + a * (d * b) * (Ideal.logistic a * (1 - Ideal.logistic a))

/-- The two agree where the cotangent and the other factor are real, whatever `a` is. -/
theorem gate_eq (d b : ℝ) (a : EReal) : gate d a b = gate' d a b := by
  unfold gate gate'
  rw [← EReal.coe_mul]
  generalize d * b = e
  induction a using EReal.rec with
  | bot => simp
  | top =>
    have h : (1 : EReal) - 1 = 0 := by rw [← EReal.coe_one, ← EReal.coe_sub, sub_self, EReal.coe_zero]
    rw [Ideal.logistic_top, h]
    simp
  | coe r =>
    obtain ⟨s, hs⟩ : ∃ s : ℝ, Ideal.logistic (r : EReal) = (s : EReal) := ⟨_, Ideal.logistic_coe r⟩
    rw [hs, ← EReal.coe_one]
    simp only [← EReal.coe_mul, ← EReal.coe_sub, ← EReal.coe_add]
    congr 1
    ring

variable (x : FVec Ideal S512x1024 .bf16) (w : FVec Ideal S1408x1024 .bf16) (a b : FVec Ideal S512x1408 .bf16)

/-- One block of the cotangent. -/
theorem pay1 (j : S512x1408.Idx) : (k0_pay1 (F := Ideal) x w j : EReal) = mm x w j := by
  unfold k0_pay1
  simp only [pointwise]
  rw [zero_add]
  rfl

/-- The block of the first factor's gradient. -/
theorem block4 (j : S512x1408.Idx) : (out0_4 (F := Ideal) x w a b j : EReal) = gate (mm x w j) (a j) (b j) := by
  unfold out0_4
  rw [View.canon_cons_unit_lit _ _ _ (by decide), View.ld_unit_lit _ _ (by decide), View.ld_unit_lit _ _ (by decide),
    View.ld_unit_lit _ _ (by decide), View.ld_unit_lit _ _ (by decide), ← pay1 x w j, gate]
  have h1 : (1 : EReal) = Ideal.ofBits .f32 0x3F800000#32 := Ideal.ofBits_one_f32.symm
  rw [h1]
  rfl

/-- The block of the second factor's gradient. -/
theorem block5 (j : S512x1408.Idx) : (out0_5 (F := Ideal) x w a b j : EReal) = mm x w j * (a j * Ideal.logistic (a j)) := by
  unfold out0_5
  rw [View.canon_cons_unit_lit _ _ _ (by decide), View.ld_unit_lit _ _ (by decide), View.ld_unit_lit _ _ (by decide),
    View.ld_unit_lit _ _ (by decide), ← pay1 x w j]
  rfl

section Plain

open Cert.Reference3Ideal.Read

variable (x : FVec Ideal S4096x1024 .bf16) (w : FVec Ideal S2816x1024 .bf16) (a b : FVec Ideal S4096x2816 .bf16)

/-- The reference's cotangent of the activation. -/
theorem plain_d (i : S4096x2816.Idx) : (val_main_v7 (F := Ideal) x w i : EReal) = ∑ k : Fin 1024, (x (ix2 (i 0) k) : EReal) * w (ix2 (i 1) k) := by
  rw [val_main_v7_apply]
  refine Finset.sum_congr rfl fun k _ => congrArg₂ (fun u v : EReal => u * v) ?_ ?_
  · exact congrArg x (funext fun a => by fin_cases a <;> rfl)
  · exact congrArg w (funext fun a => by fin_cases a <;> rfl)

/-- The reference's logistic. -/
theorem plain_s (i : S4096x2816.Idx) : (val_main_v4_2 (F := Ideal) a i : EReal) = Ideal.logistic (a i) := by
  have h1 : (Ideal.ofBits .f32 0x3F800000#32 : EReal) = 1 := Ideal.ofBits_one_f32
  have e2 : (val_main_call0_v2 (F := Ideal) i : EReal) = 1 := by
    rw [val_main_call0_v2_apply]; exact h1
  have e4 : (val_main_call0_v4 (F := Ideal) i : EReal) = 1 := by
    rw [val_main_call0_v4_apply]; exact h1
  rw [val_main_v4_2_apply, val_main_call0_v3_apply, e2, e4]
  rfl

/-- The reference's first gradient. -/
theorem plain4 (i : S4096x2816.Idx) : (val_main_v11 (F := Ideal) x w a b i : EReal) = gate' (val_main_v7 (F := Ideal) x w i) (a i) (b i) := by
  have h1 : (Ideal.ofBits .f32 0x3F800000#32 : EReal) = 1 := Ideal.ofBits_one_f32
  have e6 : (val_main_call0_v6 (F := Ideal) i : EReal) = 1 := by
    rw [val_main_call0_v6_apply]; exact h1
  rw [val_main_v11_apply, val_main_v10_apply, val_main_call1_v1_apply, val_main_call1_v2_apply, val_main_call1_v0_apply, val_main_v4_1_apply,
    val_main_call0_v7_apply, val_main_v9_apply, plain_s, e6]
  rfl

/-- The reference's second gradient. -/
theorem plain5 (i : S4096x2816.Idx) : (val_main_v12 (F := Ideal) x w a i : EReal) = val_main_v7 (F := Ideal) x w i * (a i * Ideal.logistic (a i)) := by
  rw [val_main_v12_apply, val_main_v8_apply, val_main_v4_0_apply, plain_s]
  exact mul_comm _ _

end Plain

open Cert.Reference3Ideal.Read (val_main_v7 val_main_v11 val_main_v12)

/-- A sum of products of real numbers is real. -/
theorem sum_real (f g : Fin 1024 → EReal) (hf : ∀ k, f k = ((f k).toReal : ℝ)) (hg : ∀ k, g k = ((g k).toReal : ℝ)) :
    ∃ e : ℝ, (∑ k, f k * g k) = (e : EReal) :=
  Finset.sum_induction _ (fun v : EReal => ∃ e : ℝ, v = (e : EReal)) (fun u v ⟨p, hp⟩ ⟨q, hq⟩ => ⟨p + q, by rw [hp, hq, EReal.coe_add]⟩)
    ⟨0, EReal.coe_zero.symm⟩ fun k _ => ⟨(f k).toReal * (g k).toReal, by rw [EReal.coe_mul, ← hf, ← hg]⟩

/-- Where the precondition holds, the reference's first gradient is the kernel's formula. -/
theorem plain4_of (x : FVec Ideal S4096x1024 .bf16) (w : FVec Ideal S2816x1024 .bf16) (a b : FVec Ideal S4096x2816 .bf16)
    (h : (Cert.Pre_finite_dact.fn (F := Ideal) x w a b).1 = (fun _ => 1#1) ∧ (Cert.Pre_finite_dact.fn (F := Ideal) x w a b).2.1 = (fun _ => 1#1)
      ∧ (Cert.Pre_finite_dact.fn (F := Ideal) x w a b).2.2 = fun _ => 1#1) (i : S4096x2816.Idx) :
    (val_main_v11 (F := Ideal) x w a b i : EReal) = gate (val_main_v7 (F := Ideal) x w i) (a i) (b i) := by
  obtain ⟨h0, h1, h3⟩ := h
  obtain ⟨d, hd⟩ := sum_real (fun k => x (ix2 (i 0) k)) (fun k => w (ix2 (i 1) k))
    (fun k => Cert.Sb.real_of_lt _ (congrFun h0 (ix2 (i 0) k))) (fun k => Cert.Sb.real_of_lt _ (congrFun h1 (ix2 (i 1) k)))
  have hb := Cert.Sb.real_of_lt (b i) (congrFun h3 i)
  rw [plain4, plain_d, hd, hb]
  exact (gate_eq d _ (a i)).symm

/-- Where the grid's points read and write. -/
theorem points : ∀ t : Fin cfg0.N, (win0_0.index t (0 : Fin 2) = t.val % 8 ∧ win0_0.index t (1 : Fin 2) = 0)
    ∧ (win0_1.index t (0 : Fin 2) = t.val / 8 ∧ win0_1.index t (1 : Fin 2) = 0)
    ∧ (win0_2.index t (0 : Fin 2) = t.val % 8 ∧ win0_2.index t (1 : Fin 2) = t.val / 8)
    ∧ (win0_3.index t (0 : Fin 2) = t.val % 8 ∧ win0_3.index t (1 : Fin 2) = t.val / 8)
    ∧ (win0_4.index t (0 : Fin 2) = t.val % 8 ∧ win0_4.index t (1 : Fin 2) = t.val / 8 ∧ win0_4.flush t = true)
    ∧ (win0_5.index t (0 : Fin 2) = t.val % 8 ∧ win0_5.index t (1 : Fin 2) = t.val / 8 ∧ win0_5.flush t = true) :=
  (by decide +kernel : ∀ t : Fin grid0.N, _)

variable (m : (ℓ : Loc nD τ sig) → Buf (Elt Ideal) ℓ) (c : Dev nD)

/-- The place in the second result of entry `y` of point `t`'s block. -/
theorem place5 (t : Fin cfg0.N) (y : S512x1408.Idx) : ((cfg0.win 5).blk t).view.emb y = ((cfg0.win 4).blk t).view.emb y := by
  obtain ⟨-, -, -, -, ⟨a, b, -⟩, ⟨a', b', -⟩⟩ := points t
  refine funext fun d => Fin.ext ?_
  fin_cases d
  · show win0_5.index t (0 : Fin 2) * 512 + 1 * (y 0).val = win0_4.index t (0 : Fin 2) * 512 + 1 * (y 0).val
    rw [a, a']
  · show win0_5.index t (1 : Fin 2) * 1408 + 1 * (y 1).val = win0_4.index t (1 : Fin 2) * 1408 + 1 * (y 1).val
    rw [b, b']

/-- A point's cotangent is the reference's at the block's place. -/
theorem cotangent (t : Fin cfg0.N) (y : S512x1408.Idx) :
    mm (iblk m c 0 t) (iblk m c 1 t) y
      = val_main_v7 (F := Ideal) (m ((c : Thread nD τ).loc main_arg0)) (m ((c : Thread nD τ).loc main_arg1)) (((cfg0.win 4).blk t).view.emb y) := by
  obtain ⟨⟨a0, a1⟩, ⟨b0, b1⟩, -, -, ⟨o0, o1, -⟩, -⟩ := points t
  refine Eq.trans ?_ (plain_d _ _ _).symm
  refine Finset.sum_congr rfl fun k _ => congrArg₂ (fun u v : EReal => u * v) ?_ ?_
  · refine congrArg (m ((c : Thread nD τ).loc main_arg0)) (funext fun a => Fin.ext ?_)
    fin_cases a
    · show win0_0.index t (0 : Fin 2) * 512 + 1 * (y 0).val = win0_4.index t (0 : Fin 2) * 512 + 1 * (y 0).val
      rw [a0, o0]
    · show win0_0.index t (1 : Fin 2) * 1024 + 1 * k.val = k.val
      rw [a1]; omega
  · refine congrArg (m ((c : Thread nD τ).loc main_arg1)) (funext fun a => Fin.ext ?_)
    fin_cases a
    · show win0_1.index t (0 : Fin 2) * 1408 + 1 * (y 1).val = win0_4.index t (1 : Fin 2) * 1408 + 1 * (y 1).val
      rw [b0, o1]
    · show win0_1.index t (1 : Fin 2) * 1024 + 1 * k.val = k.val
      rw [b1]; omega

/-- A point's block of the first factor. -/
theorem factor2 (t : Fin cfg0.N) (y : S512x1408.Idx) :
    (iblk m c 2 t : FVec Ideal S512x1408 .bf16) y = (m ((c : Thread nD τ).loc main_arg2) : FVec Ideal S4096x2816 .bf16) (((cfg0.win 4).blk t).view.emb y) := by
  obtain ⟨-, -, ⟨a0, a1⟩, -, ⟨o0, o1, -⟩, -⟩ := points t
  refine congrArg (m ((c : Thread nD τ).loc main_arg2)) (funext fun a => Fin.ext ?_)
  fin_cases a
  · show win0_2.index t (0 : Fin 2) * 512 + 1 * (y 0).val = win0_4.index t (0 : Fin 2) * 512 + 1 * (y 0).val
    rw [a0, o0]
  · show win0_2.index t (1 : Fin 2) * 1408 + 1 * (y 1).val = win0_4.index t (1 : Fin 2) * 1408 + 1 * (y 1).val
    rw [a1, o1]

/-- A point's block of the second factor. -/
theorem factor3 (t : Fin cfg0.N) (y : S512x1408.Idx) :
    (iblk m c 3 t : FVec Ideal S512x1408 .bf16) y = (m ((c : Thread nD τ).loc main_arg3) : FVec Ideal S4096x2816 .bf16) (((cfg0.win 4).blk t).view.emb y) := by
  obtain ⟨-, -, -, ⟨a0, a1⟩, ⟨o0, o1, -⟩, -⟩ := points t
  refine congrArg (m ((c : Thread nD τ).loc main_arg3)) (funext fun a => Fin.ext ?_)
  fin_cases a
  · show win0_3.index t (0 : Fin 2) * 512 + 1 * (y 0).val = win0_4.index t (0 : Fin 2) * 512 + 1 * (y 0).val
    rw [a0, o0]
  · show win0_3.index t (1 : Fin 2) * 1408 + 1 * (y 1).val = win0_4.index t (1 : Fin 2) * 1408 + 1 * (y 1).val
    rw [a1, o1]

/-- The first factor's gradient the call leaves. -/
def G4 : Buf (Elt Ideal) ((c : Thread nD τ).loc main_v0_0) := fun i =>
  gate (val_main_v7 (F := Ideal) (m ((c : Thread nD τ).loc main_arg0)) (m ((c : Thread nD τ).loc main_arg1)) i)
    ((m ((c : Thread nD τ).loc main_arg2) : FVec Ideal S4096x2816 .bf16) i) ((m ((c : Thread nD τ).loc main_arg3) : FVec Ideal S4096x2816 .bf16) i)

/-- The second factor's gradient the call leaves. -/
def G5 : Buf (Elt Ideal) ((c : Thread nD τ).loc main_v0_1) :=
  val_main_v12 (F := Ideal) (m ((c : Thread nD τ).loc main_arg0)) (m ((c : Thread nD τ).loc main_arg1)) (m ((c : Thread nD τ).loc main_arg2))

/-- Each point writes its block of the first factor's gradient. -/
theorem flushed4_eq (t : Fin cfg0.N) : (dats m 0 c).flushed 4 t = ((cfg0.win 4).blk t).view.read (Elt Ideal) (G4 m c) := by
  rw [flushed4]
  funext y
  refine (block4 (iblk m c 0 t) (iblk m c 1 t) (iblk m c 2 t) (iblk m c 3 t) ((cfg0.win 4).xinj (grid0.coords t) y)).trans ?_
  have e : gate (mm (iblk m c 0 t) (iblk m c 1 t) y) ((iblk m c 2 t : FVec Ideal S512x1408 .bf16) y) ((iblk m c 3 t : FVec Ideal S512x1408 .bf16) y)
      = G4 m c (((cfg0.win 4).blk t).view.emb y) :=
    congr (congr (congrArg gate (cotangent m c t y)) (factor2 m c t y)) (factor3 m c t y)
  exact e

/-- Each point writes its block of the second factor's gradient. -/
theorem flushed5_eq (t : Fin cfg0.N) : (dats m 0 c).flushed 5 t = ((cfg0.win 5).blk t).view.read (Elt Ideal) (G5 m c) := by
  rw [flushed5]
  funext y
  refine (block5 (iblk m c 0 t) (iblk m c 1 t) (iblk m c 2 t) (iblk m c 3 t) ((cfg0.win 5).xinj (grid0.coords t) y)).trans ?_
  refine Eq.trans ?_ (congrArg (G5 m c) (place5 t y)).symm
  refine Eq.trans ?_ (plain5 _ _ _ (((cfg0.win 4).blk t).view.emb y)).symm
  exact congrArg₂ (fun u v : EReal => u * (v * Ideal.logistic v)) (cotangent m c t y) (factor2 m c t y)

/-- The point that writes an entry of an output. -/
def pointOf (i : S4096x2816.Idx) : Fin cfg0.N :=
  ⟨(i 1).val / 1408 * 8 + (i 0).val / 512, by
    have h0 : (i 0).val < 4096 := (i 0).isLt
    have h1 : (i 1).val < 2816 := (i 1).isLt
    rw [show cfg0.N = 16 from N_0]; omega⟩

/-- The row and the column of the block that holds an entry. -/
theorem pointOf_spec (i : S4096x2816.Idx) : (pointOf i).val % 8 = (i 0).val / 512 ∧ (pointOf i).val / 8 = (i 1).val / 1408 := by
  have h0 : (i 0).val < 4096 := (i 0).isLt
  have e : (pointOf i).val = (i 1).val / 1408 * 8 + (i 0).val / 512 := rfl
  omega

/-- The blocks fill the first output. -/
theorem covered4 (i : S4096x2816.Idx) : ∃ t : Fin cfg0.N, (cfg0.win 4).flush t = true ∧ i ∈ ((cfg0.win 4).blk t).view.set := by
  obtain ⟨-, -, -, -, ⟨o0, o1, hf⟩, -⟩ := points (pointOf i)
  obtain ⟨p0, p1⟩ := pointOf_spec i
  refine ⟨pointOf i, hf, ?_⟩
  show i ∈ ((View.whole main_v0_0).slice (win0_4.rect (pointOf i))).set
  rw [View.set_slice_whole, Rect.mem_set_unit]
  intro a
  match a with
  | ⟨0, _⟩ => show win0_4.index (pointOf i) (0 : Fin 2) * 512 ≤ (i 0).val ∧ (i 0).val < win0_4.index (pointOf i) (0 : Fin 2) * 512 + 512; omega
  | ⟨1, _⟩ => show win0_4.index (pointOf i) (1 : Fin 2) * 1408 ≤ (i 1).val ∧ (i 1).val < win0_4.index (pointOf i) (1 : Fin 2) * 1408 + 1408; omega

/-- The blocks fill the second output. -/
theorem covered5 (i : S4096x2816.Idx) : ∃ t : Fin cfg0.N, (cfg0.win 5).flush t = true ∧ i ∈ ((cfg0.win 5).blk t).view.set := by
  obtain ⟨-, -, -, -, -, ⟨o0, o1, hf⟩⟩ := points (pointOf i)
  obtain ⟨p0, p1⟩ := pointOf_spec i
  refine ⟨pointOf i, hf, ?_⟩
  show i ∈ ((View.whole main_v0_1).slice (win0_5.rect (pointOf i))).set
  rw [View.set_slice_whole, Rect.mem_set_unit]
  intro a
  match a with
  | ⟨0, _⟩ => show win0_5.index (pointOf i) (0 : Fin 2) * 512 ≤ (i 0).val ∧ (i 0).val < win0_5.index (pointOf i) (0 : Fin 2) * 512 + 512; omega
  | ⟨1, _⟩ => show win0_5.index (pointOf i) (1 : Fin 2) * 1408 ≤ (i 1).val ∧ (i 1).val < win0_5.index (pointOf i) (1 : Fin 2) * 1408 + 1408; omega

/-- The call's two results. -/
theorem final : (dats m 0 c).arrAt 4 cfg0.N = G4 m c ∧ (dats m 0 c).arrAt 5 cfg0.N = G5 m c :=
  ⟨(dats m 0 c).arrAt_eq_of_cover 4 (G4 m c) (fun t _ => flushed4_eq m c t) covered4,
    (dats m 0 c).arrAt_eq_of_cover 5 (G5 m c) (fun t _ => flushed5_eq m c t) covered5⟩

end Cert.Ffn.Dact
-- ==== Proof.Ffn.Up.lean ====
/-
  The feed-forward network's two products up, and the gated activation.
-/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem Finset
open Cert.Kernel4Ideal Cert.Kernel4Ideal.Gen Cert.Kernel4Ideal.Value
open Cert.Reference4Ideal.Read (val_main_v4 val_main_v6 val_main_v7 val_main_v8 val_main_v9 val_main_v10 val_main_v11)

namespace Cert.Ffn.Up

/-- An entry of one block of a product: a row of one matrix times a row of the other. -/
def mm (x : FVec Ideal S512x1024 .bf16) (w : FVec Ideal S1408x1024 .bf16) (j : S512x1408.Idx) : EReal :=
  ∑ k : Fin 1024, (x (ix2 (j 0) k) : EReal) * w (ix2 (j 1) k)

/-- One block of a product, entry by entry. -/
theorem prod (x : FVec Ideal S512x1024 .bf16) (w : FVec Ideal S1408x1024 .bf16) (j : S512x1408.Idx) :
    (k0_pay1 (F := Ideal) x w j : EReal) = mm x w j := by
  unfold k0_pay1
  simp only [pointwise]
  rw [zero_add]
  rfl

/-- The gated activation of two numbers. -/
def act (a b : EReal) : EReal := a * Ideal.logistic a * b

/-- The block of the first product. -/
theorem block4 (x y : FVec Ideal S512x1024 .bf16) (u w : FVec Ideal S1408x1024 .bf16) (j : S512x1408.Idx) :
    (out0_4 (F := Ideal) x y u w j : EReal) = mm x u j := by
  unfold out0_4
  rw [View.canon_cons_unit_lit _ _ _ (by decide), View.ld_unit_lit _ _ (by decide), View.ld_unit_lit _ _ (by decide)]
  exact prod x u j

/-- The block of the second product. -/
theorem block5 (x y : FVec Ideal S512x1024 .bf16) (u w : FVec Ideal S1408x1024 .bf16) (j : S512x1408.Idx) :
    (out0_5 (F := Ideal) x y u w j : EReal) = mm y w j := by
  unfold out0_5
  rw [View.canon_cons_unit_lit _ _ _ (by decide), View.ld_unit_lit _ _ (by decide), View.ld_unit_lit _ _ (by decide)]
  exact prod y w j

/-- The block of the activation. -/
theorem block6 (x y : FVec Ideal S512x1024 .bf16) (u w : FVec Ideal S1408x1024 .bf16) (j : S512x1408.Idx) :
    (out0_6 (F := Ideal) x y u w j : EReal)
      = act (mm x u j) (mm y w j) := by
  unfold out0_6
  rw [View.canon_cons_unit_lit _ _ _ (by decide), View.ld_unit_lit _ _ (by decide), View.ld_unit_lit _ _ (by decide),
    View.ld_unit_lit _ _ (by decide), View.ld_unit_lit _ _ (by decide), ← prod x u j, ← prod y w j]
  rfl

/-- The reference's first product, entry by entry. -/
theorem plain4 (x : FVec Ideal S4096x1024 .bf16) (u : FVec Ideal S2816x1024 .bf16) (i : S4096x2816.Idx) :
    (val_main_v4 (F := Ideal) x u i : EReal) = ∑ k : Fin 1024, (x (ix2 (i 0) k) : EReal) * u (ix2 (i 1) k) := by
  rw [Cert.Reference4Ideal.Read.val_main_v4_apply]
  refine Finset.sum_congr rfl fun k _ => congrArg₂ (fun u v : EReal => u * v) ?_ ?_
  · exact congrArg x (funext fun a => by fin_cases a <;> rfl)
  · rw [Cert.Reference4Ideal.Read.val_main_v3_apply]
    exact congrArg u (funext fun a => by fin_cases a <;> rfl)

/-- The reference's second product, entry by entry. -/
theorem plain5 (x : FVec Ideal S4096x1024 .bf16) (u : FVec Ideal S2816x1024 .bf16) (i : S4096x2816.Idx) :
    (val_main_v6 (F := Ideal) x u i : EReal) = ∑ k : Fin 1024, (x (ix2 (i 0) k) : EReal) * u (ix2 (i 1) k) := by
  rw [Cert.Reference4Ideal.Read.val_main_v6_apply]
  refine Finset.sum_congr rfl fun k _ => congrArg₂ (fun u v : EReal => u * v) ?_ ?_
  · exact congrArg x (funext fun a => by fin_cases a <;> rfl)
  · rw [Cert.Reference4Ideal.Read.val_main_v5_apply]
    exact congrArg u (funext fun a => by fin_cases a <;> rfl)

/-- The reference's activation, entry by entry. -/
theorem plain6 (x : FVec Ideal S4096x1024 .bf16) (u w : FVec Ideal S2816x1024 .bf16) (i : S4096x2816.Idx) :
    (val_main_v11 (F := Ideal) x u w i : EReal) = act (val_main_v4 (F := Ideal) x u i) (val_main_v6 (F := Ideal) x w i) := by
  have h1 : (Ideal.ofBits .f32 0x3F800000#32 : EReal) = 1 := Ideal.ofBits_one_f32
  have e2 : (Cert.Reference4Ideal.Read.val_main_call0_v2 (F := Ideal) i : EReal) = 1 := by
    rw [Cert.Reference4Ideal.Read.val_main_call0_v2_apply]; exact h1
  have e4 : (Cert.Reference4Ideal.Read.val_main_call0_v4 (F := Ideal) i : EReal) = 1 := by
    rw [Cert.Reference4Ideal.Read.val_main_call0_v4_apply]; exact h1
  have es : (Cert.Reference4Ideal.Read.val_main_call0_v5 (F := Ideal) x u i : EReal) = Ideal.logistic (val_main_v4 (F := Ideal) x u i) := by
    rw [Cert.Reference4Ideal.Read.val_main_call0_v5_apply, Cert.Reference4Ideal.Read.val_main_call0_v3_apply, e2, e4]
    rfl
  rw [Cert.Reference4Ideal.Read.val_main_v11_apply, Cert.Reference4Ideal.Read.val_main_v8_apply, Cert.Reference4Ideal.Read.val_main_v7_apply, es]
  rfl

/-- Where the grid's points read and write. -/
theorem points : ∀ t : Fin cfg0.N, (win0_0.index t (0 : Fin 2) = t.val % 8 ∧ win0_0.index t (1 : Fin 2) = 0)
    ∧ (win0_1.index t (0 : Fin 2) = t.val % 8 ∧ win0_1.index t (1 : Fin 2) = 0)
    ∧ (win0_2.index t (0 : Fin 2) = t.val / 8 ∧ win0_2.index t (1 : Fin 2) = 0)
    ∧ (win0_3.index t (0 : Fin 2) = t.val / 8 ∧ win0_3.index t (1 : Fin 2) = 0)
    ∧ (win0_4.index t (0 : Fin 2) = t.val % 8 ∧ win0_4.index t (1 : Fin 2) = t.val / 8 ∧ win0_4.flush t = true)
    ∧ (win0_5.index t (0 : Fin 2) = t.val % 8 ∧ win0_5.index t (1 : Fin 2) = t.val / 8 ∧ win0_5.flush t = true)
    ∧ (win0_6.index t (0 : Fin 2) = t.val % 8 ∧ win0_6.index t (1 : Fin 2) = t.val / 8 ∧ win0_6.flush t = true) :=
  (by decide +kernel : ∀ t : Fin grid0.N, _)

variable (m : (ℓ : Loc nD τ sig) → Buf (Elt Ideal) ℓ) (c : Dev nD)

/-- The place in an output of entry `y` of point `t`'s block. -/
theorem place5 (t : Fin cfg0.N) (y : S512x1408.Idx) : ((cfg0.win 5).blk t).view.emb y = ((cfg0.win 4).blk t).view.emb y := by
  obtain ⟨-, -, -, -, ⟨a, b, -⟩, ⟨a', b', -⟩, -⟩ := points t
  funext d
  apply Fin.ext
  fin_cases d
  · show win0_5.index t (0 : Fin 2) * 512 + 1 * (y 0).val = win0_4.index t (0 : Fin 2) * 512 + 1 * (y 0).val
    rw [a, a']
  · show win0_5.index t (1 : Fin 2) * 1408 + 1 * (y 1).val = win0_4.index t (1 : Fin 2) * 1408 + 1 * (y 1).val
    rw [b, b']

/-- The place in an output of entry `y` of point `t`'s block. -/
theorem place6 (t : Fin cfg0.N) (y : S512x1408.Idx) : ((cfg0.win 6).blk t).view.emb y = ((cfg0.win 4).blk t).view.emb y := by
  obtain ⟨-, -, -, -, ⟨a, b, -⟩, -, ⟨a', b', -⟩⟩ := points t
  funext d
  apply Fin.ext
  fin_cases d
  · show win0_6.index t (0 : Fin 2) * 512 + 1 * (y 0).val = win0_4.index t (0 : Fin 2) * 512 + 1 * (y 0).val
    rw [a, a']
  · show win0_6.index t (1 : Fin 2) * 1408 + 1 * (y 1).val = win0_4.index t (1 : Fin 2) * 1408 + 1 * (y 1).val
    rw [b, b']

/-- A point's first product is the reference's at the block's place. -/
theorem first (t : Fin cfg0.N) (y : S512x1408.Idx) :
    mm (iblk m c 0 t) (iblk m c 2 t) y
      = val_main_v4 (F := Ideal) (m ((c : Thread nD τ).loc main_arg0)) (m ((c : Thread nD τ).loc main_arg1)) (((cfg0.win 4).blk t).view.emb y) := by
  obtain ⟨⟨a0, a1⟩, -, ⟨b0, b1⟩, -, ⟨o0, o1, -⟩, -, -⟩ := points t
  refine Eq.trans ?_ (plain4 _ _ _).symm
  refine Finset.sum_congr rfl fun k _ => congrArg₂ (fun u v : EReal => u * v) ?_ ?_
  · refine congrArg (m ((c : Thread nD τ).loc main_arg0)) (funext fun a => Fin.ext ?_)
    fin_cases a
    · show win0_0.index t (0 : Fin 2) * 512 + 1 * (y 0).val = win0_4.index t (0 : Fin 2) * 512 + 1 * (y 0).val
      rw [a0, o0]
    · show win0_0.index t (1 : Fin 2) * 1024 + 1 * k.val = k.val
      rw [a1]; omega
  · refine congrArg (m ((c : Thread nD τ).loc main_arg1)) (funext fun a => Fin.ext ?_)
    fin_cases a
    · show win0_2.index t (0 : Fin 2) * 1408 + 1 * (y 1).val = win0_4.index t (1 : Fin 2) * 1408 + 1 * (y 1).val
      rw [b0, o1]
    · show win0_2.index t (1 : Fin 2) * 1024 + 1 * k.val = k.val
      rw [b1]; omega

/-- A point's second product is the reference's at the block's place. -/
theorem second (t : Fin cfg0.N) (y : S512x1408.Idx) :
    mm (iblk m c 1 t) (iblk m c 3 t) y
      = val_main_v6 (F := Ideal) (m ((c : Thread nD τ).loc main_arg0)) (m ((c : Thread nD τ).loc main_arg2)) (((cfg0.win 4).blk t).view.emb y) := by
  obtain ⟨-, ⟨a0, a1⟩, -, ⟨b0, b1⟩, ⟨o0, o1, -⟩, -, -⟩ := points t
  refine Eq.trans ?_ (plain5 _ _ _).symm
  refine Finset.sum_congr rfl fun k _ => congrArg₂ (fun u v : EReal => u * v) ?_ ?_
  · refine congrArg (m ((c : Thread nD τ).loc main_arg0)) (funext fun a => Fin.ext ?_)
    fin_cases a
    · show win0_1.index t (0 : Fin 2) * 512 + 1 * (y 0).val = win0_4.index t (0 : Fin 2) * 512 + 1 * (y 0).val
      rw [a0, o0]
    · show win0_1.index t (1 : Fin 2) * 1024 + 1 * k.val = k.val
      rw [a1]; omega
  · refine congrArg (m ((c : Thread nD τ).loc main_arg2)) (funext fun a => Fin.ext ?_)
    fin_cases a
    · show win0_3.index t (0 : Fin 2) * 1408 + 1 * (y 1).val = win0_4.index t (1 : Fin 2) * 1408 + 1 * (y 1).val
      rw [b0, o1]
    · show win0_3.index t (1 : Fin 2) * 1024 + 1 * k.val = k.val
      rw [b1]; omega

/-- The first product the call leaves. -/
def G4 : Buf (Elt Ideal) ((c : Thread nD τ).loc main_v0_0) :=
  val_main_v9 (F := Ideal) (m ((c : Thread nD τ).loc main_arg0)) (m ((c : Thread nD τ).loc main_arg1))

/-- The second product the call leaves. -/
def G5 : Buf (Elt Ideal) ((c : Thread nD τ).loc main_v0_1) :=
  val_main_v10 (F := Ideal) (m ((c : Thread nD τ).loc main_arg0)) (m ((c : Thread nD τ).loc main_arg2))

/-- The activation the call leaves. -/
def G6 : Buf (Elt Ideal) ((c : Thread nD τ).loc main_v0_2) :=
  val_main_v11 (F := Ideal) (m ((c : Thread nD τ).loc main_arg0)) (m ((c : Thread nD τ).loc main_arg1)) (m ((c : Thread nD τ).loc main_arg2))

/-- Each point writes its block of the first product. -/
theorem flushed4_eq (t : Fin cfg0.N) : (dats m 0 c).flushed 4 t = ((cfg0.win 4).blk t).view.read (Elt Ideal) (G4 m c) := by
  rw [flushed4]
  funext y
  exact (block4 (iblk m c 0 t) (iblk m c 1 t) (iblk m c 2 t) (iblk m c 3 t) ((cfg0.win 4).xinj (grid0.coords t) y)).trans (first m c t y)

/-- Each point writes its block of the second product. -/
theorem flushed5_eq (t : Fin cfg0.N) : (dats m 0 c).flushed 5 t = ((cfg0.win 5).blk t).view.read (Elt Ideal) (G5 m c) := by
  rw [flushed5]
  funext y
  refine ((block5 (iblk m c 0 t) (iblk m c 1 t) (iblk m c 2 t) (iblk m c 3 t) ((cfg0.win 5).xinj (grid0.coords t) y)).trans (second m c t y)).trans ?_
  exact congrArg (G5 m c) (place5 t y).symm

/-- Each point writes its block of the activation. -/
theorem flushed6_eq (t : Fin cfg0.N) : (dats m 0 c).flushed 6 t = ((cfg0.win 6).blk t).view.read (Elt Ideal) (G6 m c) := by
  rw [flushed6]
  funext y
  refine ((block6 (iblk m c 0 t) (iblk m c 1 t) (iblk m c 2 t) (iblk m c 3 t) ((cfg0.win 6).xinj (grid0.coords t) y)).trans
    (congrArg₂ act (first m c t y) (second m c t y))).trans ?_
  exact (plain6 _ _ _ _).symm.trans (congrArg (G6 m c) (place6 t y).symm)

/-- The point that writes an entry of an output. -/
def pointOf (i : S4096x2816.Idx) : Fin cfg0.N :=
  ⟨(i 1).val / 1408 * 8 + (i 0).val / 512, by
    have h0 : (i 0).val < 4096 := (i 0).isLt
    have h1 : (i 1).val < 2816 := (i 1).isLt
    rw [show cfg0.N = 16 from N_0]; omega⟩

/-- The row and the column of the block that holds an entry. -/
theorem pointOf_spec (i : S4096x2816.Idx) : (pointOf i).val % 8 = (i 0).val / 512 ∧ (pointOf i).val / 8 = (i 1).val / 1408 := by
  have h0 : (i 0).val < 4096 := (i 0).isLt
  have e : (pointOf i).val = (i 1).val / 1408 * 8 + (i 0).val / 512 := rfl
  omega

/-- The blocks fill the first output. -/
theorem covered4 (i : S4096x2816.Idx) : ∃ t : Fin cfg0.N, (cfg0.win 4).flush t = true ∧ i ∈ ((cfg0.win 4).blk t).view.set := by
  obtain ⟨-, -, -, -, ⟨o0, o1, hf⟩, -, -⟩ := points (pointOf i)
  obtain ⟨p0, p1⟩ := pointOf_spec i
  refine ⟨pointOf i, hf, ?_⟩
  show i ∈ ((View.whole main_v0_0).slice (win0_4.rect (pointOf i))).set
  rw [View.set_slice_whole, Rect.mem_set_unit]
  intro a
  match a with
  | ⟨0, _⟩ => show win0_4.index (pointOf i) (0 : Fin 2) * 512 ≤ (i 0).val ∧ (i 0).val < win0_4.index (pointOf i) (0 : Fin 2) * 512 + 512; omega
  | ⟨1, _⟩ => show win0_4.index (pointOf i) (1 : Fin 2) * 1408 ≤ (i 1).val ∧ (i 1).val < win0_4.index (pointOf i) (1 : Fin 2) * 1408 + 1408; omega

/-- The blocks fill the second output. -/
theorem covered5 (i : S4096x2816.Idx) : ∃ t : Fin cfg0.N, (cfg0.win 5).flush t = true ∧ i ∈ ((cfg0.win 5).blk t).view.set := by
  obtain ⟨-, -, -, -, -, ⟨o0, o1, hf⟩, -⟩ := points (pointOf i)
  obtain ⟨p0, p1⟩ := pointOf_spec i
  refine ⟨pointOf i, hf, ?_⟩
  show i ∈ ((View.whole main_v0_1).slice (win0_5.rect (pointOf i))).set
  rw [View.set_slice_whole, Rect.mem_set_unit]
  intro a
  match a with
  | ⟨0, _⟩ => show win0_5.index (pointOf i) (0 : Fin 2) * 512 ≤ (i 0).val ∧ (i 0).val < win0_5.index (pointOf i) (0 : Fin 2) * 512 + 512; omega
  | ⟨1, _⟩ => show win0_5.index (pointOf i) (1 : Fin 2) * 1408 ≤ (i 1).val ∧ (i 1).val < win0_5.index (pointOf i) (1 : Fin 2) * 1408 + 1408; omega

/-- The blocks fill the third output. -/
theorem covered6 (i : S4096x2816.Idx) : ∃ t : Fin cfg0.N, (cfg0.win 6).flush t = true ∧ i ∈ ((cfg0.win 6).blk t).view.set := by
  obtain ⟨-, -, -, -, -, -, ⟨o0, o1, hf⟩⟩ := points (pointOf i)
  obtain ⟨p0, p1⟩ := pointOf_spec i
  refine ⟨pointOf i, hf, ?_⟩
  show i ∈ ((View.whole main_v0_2).slice (win0_6.rect (pointOf i))).set
  rw [View.set_slice_whole, Rect.mem_set_unit]
  intro a
  match a with
  | ⟨0, _⟩ => show win0_6.index (pointOf i) (0 : Fin 2) * 512 ≤ (i 0).val ∧ (i 0).val < win0_6.index (pointOf i) (0 : Fin 2) * 512 + 512; omega
  | ⟨1, _⟩ => show win0_6.index (pointOf i) (1 : Fin 2) * 1408 ≤ (i 1).val ∧ (i 1).val < win0_6.index (pointOf i) (1 : Fin 2) * 1408 + 1408; omega

/-- The call's three results are the reference's. -/
theorem final : (dats m 0 c).arrAt 4 cfg0.N = G4 m c ∧ (dats m 0 c).arrAt 5 cfg0.N = G5 m c ∧ (dats m 0 c).arrAt 6 cfg0.N = G6 m c :=
  ⟨(dats m 0 c).arrAt_eq_of_cover 4 (G4 m c) (fun t _ => flushed4_eq m c t) covered4,
    (dats m 0 c).arrAt_eq_of_cover 5 (G5 m c) (fun t _ => flushed5_eq m c t) covered5,
    (dats m 0 c).arrAt_eq_of_cover 6 (G6 m c) (fun t _ => flushed6_eq m c t) covered6⟩

end Cert.Ffn.Up
-- ==== Proof.Ffn.Down.lean ====
/-
  The feed-forward network's product down, the residual added after its normalisation, and the next layer's normalised input.
-/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem Finset
open Cert.Kernel5Ideal Cert.Kernel5Ideal.Gen Cert.Kernel5Ideal.Value

namespace Cert.Ffn.Down

/-- The reciprocal of a row's root mean square. -/
def rms (f : Fin 1024 → EReal) : EReal :=
  Ideal.rsqrt (Ideal.div (∑ k, f k * f k) (Ideal.ofBits .f32 0x44800000#32) + Ideal.ofBits .f32 0x358637BD#32)

/-- A row normalised and weighed. -/
def norm (f g : Fin 1024 → EReal) (k : Fin 1024) : EReal := f k * rms f * g k

/-- The residual with half the normalised row added. -/
def add (r f g : Fin 1024 → EReal) (k : Fin 1024) : EReal := r k + Ideal.ofBits .f32 0x3F000000#32 * norm f g k

/-- A row of the product of one block. -/
def row (x : FVec Ideal S512x2816 .bf16) (w : FVec Ideal S2816x1024 .bf16) (a : Fin 512) (b : Fin 1024) : EReal :=
  ∑ k : Fin 2816, (x (ix2 a k) : EReal) * w (ix2 k b)

variable (x : FVec Ideal S512x2816 .bf16) (w : FVec Ideal S2816x1024 .bf16) (r : FVec Ideal S512x1024 .f32) (g h : FVec Ideal S1x1024 .f32)

/-- One block of the product. -/
theorem pay2 (j : S512x1024.Idx) : (k0_pay2 (F := Ideal) x w j : EReal) = row x w (j 0) (j 1) := by
  unfold k0_pay2
  simp only [pointwise]
  rw [zero_add]
  rfl

/-- One block of the sum with the residual. -/
theorem pay3 (j : S512x1024.Idx) :
    (k0_pay3 (F := Ideal) x w r g j : EReal) = add (fun k => r (ix2 (j 0) k)) (row x w (j 0)) (fun k => g (ix2 0 k)) (j 1) := by
  have e : ∀ k : Fin 1024, (k0_pay2 (F := Ideal) x w (ix2 (j 0) k) : EReal) = row x w (j 0) k := fun k => pay2 x w (ix2 (j 0) k)
  have ej := pay2 x w j
  unfold k0_pay3
  generalize k0_pay2 (F := Ideal) x w = f at e ej ⊢
  simp only [pointwise]
  rw [ej]
  simp only [add, norm, rms, ← e]
  have hj : r j = r (ix2 (j 0) (j 1)) := congrArg r (funext fun a => by fin_cases a <;> rfl)
  rw [hj]
  rfl

/-- One block of the next normalised input. -/
theorem pay4 (j : S512x1024.Idx) :
    (k0_pay4 (F := Ideal) x w r g h j : EReal)
      = norm (add (fun k => r (ix2 (j 0) k)) (row x w (j 0)) fun k => g (ix2 0 k)) (fun k => h (ix2 0 k)) (j 1) := by
  have e : ∀ k : Fin 1024, (k0_pay3 (F := Ideal) x w r g (ix2 (j 0) k) : EReal)
      = add (fun k => r (ix2 (j 0) k)) (row x w (j 0)) (fun k => g (ix2 0 k)) k := fun k => pay3 x w r g (ix2 (j 0) k)
  have ej := pay3 x w r g j
  unfold k0_pay4
  generalize k0_pay3 (F := Ideal) x w r g = f at e ej ⊢
  simp only [pointwise]
  rw [ej]
  simp only [norm, rms, ← e]
  rfl

/-- The product's block, as the stores leave it. -/
theorem block5 (j : S512x1024.Idx) : (out0_5 (F := Ideal) x w r g h j : EReal) = row x w (j 0) (j 1) := by
  unfold out0_5
  rw [View.canon_cons_unit_lit _ _ _ (by decide), View.ld_unit_lit _ _ (by decide), View.ld_unit_lit _ _ (by decide)]
  exact pay2 x w j

/-- The sum's block, as the stores leave it. -/
theorem block6 (j : S512x1024.Idx) :
    (out0_6 (F := Ideal) x w r g h j : EReal) = add (fun k => r (ix2 (j 0) k)) (row x w (j 0)) (fun k => g (ix2 0 k)) (j 1) := by
  unfold out0_6
  rw [View.canon_cons_unit_lit _ _ _ (by decide), View.ld_unit_lit _ _ (by decide), View.ld_unit_lit _ _ (by decide),
    View.ld_unit_lit _ _ (by decide), View.ld_unit_lit _ _ (by decide)]
  exact pay3 x w r g j

/-- The next input's block, as the stores leave it. -/
theorem block7 (j : S512x1024.Idx) :
    (out0_7 (F := Ideal) x w r g h j : EReal)
      = norm (add (fun k => r (ix2 (j 0) k)) (row x w (j 0)) fun k => g (ix2 0 k)) (fun k => h (ix2 0 k)) (j 1) := by
  unfold out0_7
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]
  exact pay4 x w r g h j

section Plain

open Cert.Reference5Ideal.Read

variable (x : FVec Ideal S4096x2816 .bf16) (w : FVec Ideal S2816x1024 .bf16) (r : FVec Ideal S4096x1024 .f32) (g h : FVec Ideal S1024 .f32)

/-- A row of the reference's product. -/
def prow (a : Fin 4096) (b : Fin 1024) : EReal := ∑ k : Fin 2816, (x (ix2 a k) : EReal) * w (ix2 k b)

/-- The reference's product. -/
theorem plain5 (i : S4096x1024.Idx) : (val_main_v2 (F := Ideal) x w i : EReal) = prow x w (i 0) (i 1) := by
  rw [val_main_v2_apply]
  refine Finset.sum_congr rfl fun k _ => congrArg₂ (fun u v : EReal => u * v) ?_ ?_
  · exact congrArg x (funext fun a => by fin_cases a <;> rfl)
  · exact congrArg w (funext fun a => by fin_cases a <;> rfl)

/-- The reference's reciprocal root mean square of a row. -/
theorem plain_rms (i : Cert.Reference5Ideal.S4096x1.Idx) : (val_main_v10 (F := Ideal) x w i : EReal) = rms (prow x w (i 0)) := by
  have e : (val_main_v4 (F := Ideal) x w (idx_main_v5 i) : EReal) = ∑ k, prow x w (i 0) k * prow x w (i 0) k := by
    rw [val_main_v4_apply, val_main_cst_apply]
    refine (congrArg (· + _) Ideal.ofBits_zero_f32).trans ((zero_add _).trans (Finset.sum_congr rfl fun k _ => ?_))
    rw [val_main_v3_apply, plain5]
    rfl
  rw [val_main_v10_apply, val_main_v9_apply, val_main_v7_apply, val_main_v5_apply, val_main_v6_apply, val_main_v8_apply, e]
  rfl

/-- The reference's sum with the residual. -/
theorem plain6 (i : S4096x1024.Idx) :
    (val_main_v18 (F := Ideal) x w r g i : EReal) = add (fun k => r (ix2 (i 0) k)) (prow x w (i 0)) (fun k => g (ix1 k)) (i 1) := by
  have hr : r i = r (ix2 (i 0) (i 1)) := congrArg r (funext fun a => by fin_cases a <;> rfl)
  have hg : g (idx_main_v13 (idx_main_v14 i)) = g (ix1 (i 1)) := congrArg g (funext fun a => by fin_cases a; rfl)
  rw [val_main_v18_apply, val_main_v17_apply, val_main_v15_apply, val_main_v12_apply, val_main_v11_apply, plain_rms, val_main_v14_apply,
    val_main_v13_apply, val_main_v16_apply, plain5, hr, hg]
  rfl

/-- The reference's next normalised input. -/
theorem plain7 (i : S4096x1024.Idx) :
    (val_main_v32 (F := Ideal) x w r g h i : EReal)
      = norm (add (fun k => r (ix2 (i 0) k)) (prow x w (i 0)) fun k => g (ix1 k)) (fun k => h (ix1 k)) (i 1) := by
  have hh : h (idx_main_v29 (idx_main_v30 i)) = h (ix1 (i 1)) := congrArg h (funext fun a => by fin_cases a; rfl)
  have es : (val_main_v20 (F := Ideal) x w r g (idx_main_v21 (idx_main_v27 i)) : EReal)
      = ∑ k, add (fun k => r (ix2 (i 0) k)) (prow x w (i 0)) (fun k => g (ix1 k)) k * add (fun k => r (ix2 (i 0) k)) (prow x w (i 0)) (fun k => g (ix1 k)) k := by
    rw [val_main_v20_apply, val_main_cst_3_apply]
    refine (congrArg (· + _) Ideal.ofBits_zero_f32).trans ((zero_add _).trans (Finset.sum_congr rfl fun k _ => ?_))
    rw [val_main_v19_apply, plain6]
    rfl
  rw [val_main_v32_apply, val_main_v31_apply, val_main_v28_apply, val_main_v27_apply, val_main_v26_apply, val_main_v25_apply, val_main_v23_apply,
    val_main_v21_apply, val_main_v22_apply, val_main_v24_apply, es, val_main_v30_apply, val_main_v29_apply, plain6, hh]
  rfl

end Plain

open Cert.Reference5Ideal.Read (val_main_v2 val_main_v18 val_main_v32)

/-- Where the grid's points read and write. -/
theorem points : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0 ∧ win0_5.flush t = true)
    ∧ (win0_6.index t (0 : Fin 2) = t.val ∧ win0_6.index t (1 : Fin 2) = 0 ∧ win0_6.flush t = true)
    ∧ (win0_7.index t (0 : Fin 2) = t.val ∧ win0_7.index t (1 : Fin 2) = 0 ∧ win0_7.flush t = true) :=
  (by decide +kernel : ∀ t : Fin grid0.N, _)

/-- The row of the results that row `a` of point `t`'s blocks is. -/
def rowAt (t : Fin cfg0.N) (a : Fin 512) : Fin 4096 := ⟨t.val * 512 + a.val, by
  have h : t.val < 8 := lt_of_lt_of_eq t.isLt N_0
  omega⟩

variable (m : (ℓ : Loc nD τ sig) → Buf (Elt Ideal) ℓ) (c : Dev nD)

/-- A point's rows of the product are the reference's. -/
theorem rows (t : Fin cfg0.N) (a : Fin 512) :
    row (iblk m c 0 t) (iblk m c 1 t) a = prow (m ((c : Thread nD τ).loc main_arg0)) (m ((c : Thread nD τ).loc main_arg1)) (rowAt t a) := by
  obtain ⟨⟨a0, a1⟩, ⟨b0, b1⟩, -⟩ := points t
  funext b
  refine Finset.sum_congr rfl fun k _ => congrArg₂ (fun u v : EReal => u * v) ?_ ?_
  · refine (congrFun (V_main_arg0 m c) _).trans (congrArg (m ((c : Thread nD τ).loc main_arg0)) (funext fun d => Fin.ext ?_))
    fin_cases d
    · show win0_0.index t (0 : Fin 2) * 512 + 1 * a.val = t.val * 512 + a.val
      rw [a0]; omega
    · show win0_0.index t (1 : Fin 2) * 2816 + 1 * k.val = k.val
      rw [a1]; omega
  · refine (congrFun (V_main_arg1 m c) _).trans (congrArg (m ((c : Thread nD τ).loc main_arg1)) (funext fun d => Fin.ext ?_))
    fin_cases d
    · show win0_1.index t (0 : Fin 2) * 2816 + 1 * k.val = k.val
      rw [b0]; omega
    · show win0_1.index t (1 : Fin 2) * 1024 + 1 * b.val = b.val
      rw [b1]; omega

/-- A point's rows of the residual are the argument's. -/
theorem residual (t : Fin cfg0.N) (a : Fin 512) (k : Fin 1024) :
    (iblk m c 2 t : FVec Ideal S512x1024 .f32) (ix2 a k) = (m ((c : Thread nD τ).loc main_arg2) : FVec Ideal S4096x1024 .f32) (ix2 (rowAt t a) k) := by
  obtain ⟨-, -, ⟨a0, a1⟩, -⟩ := points t
  refine (congrFun (V_main_arg2 m c) _).trans (congrArg (m ((c : Thread nD τ).loc main_arg2)) (funext fun d => Fin.ext ?_))
  fin_cases d
  · show win0_2.index t (0 : Fin 2) * 512 + 1 * a.val = t.val * 512 + a.val
    rw [a0]; omega
  · show win0_2.index t (1 : Fin 2) * 1024 + 1 * k.val = k.val
    rw [a1]; omega

/-- The host lays each weight vector out as one row. -/
theorem host_v0 : (V m c main_v0 : FVec Ideal S1x1024 .f32) = shapeCast S1x1024 (m ((c : Thread nD τ).loc main_arg3) : FVec Ideal S1024 .f32) shapeCasts_S1024_S1x1024 := by
  unfold V
  simp only [hostOps0, List.flatten_cons, List.flatten_nil, List.append_nil, List.cons_append, List.nil_append]
  after_results_simp
  rfl

/-- The host lays each weight vector out as one row. -/
theorem host_v1 : (V m c main_v1 : FVec Ideal S1x1024 .f32) = shapeCast S1x1024 (m ((c : Thread nD τ).loc main_arg4) : FVec Ideal S1024 .f32) shapeCasts_S1024_S1x1024 := by
  unfold V
  simp only [hostOps0, List.flatten_cons, List.flatten_nil, List.append_nil, List.cons_append, List.nil_append]
  after_results_simp
  rfl

/-- An entry of a vector laid out as one row. -/
theorem flat (v : FVec Ideal S1024 .f32) (k : Fin 1024) : shapeCast S1x1024 v shapeCasts_S1024_S1x1024 (ix2 0 k) = v (ix1 k) :=
  shapeCast_apply _ _ _ _ (by rw [Shape.rowMajor_val_one, Shape.rowMajor_val_two]; simp [ix1, ix2])

/-- The block of the first weights. -/
theorem weights3 (t : Fin cfg0.N) (k : Fin 1024) :
    (iblk m c 3 t : FVec Ideal S1x1024 .f32) (ix2 0 k) = (m ((c : Thread nD τ).loc main_arg3) : FVec Ideal S1024 .f32) (ix1 k) := by
  obtain ⟨-, -, -, ⟨a0, a1⟩, -⟩ := points t
  refine Eq.trans ?_ (flat (m ((c : Thread nD τ).loc main_arg3)) k)
  refine (congrFun (host_v0 m c) _).trans (congrArg (shapeCast S1x1024 _ _) (funext fun d => Fin.ext ?_))
  fin_cases d
  · show win0_3.index t (0 : Fin 2) * 1 + 1 * 0 = 0
    rw [a0]
  · show win0_3.index t (1 : Fin 2) * 1024 + 1 * k.val = k.val
    rw [a1]; omega

/-- The block of the second weights. -/
theorem weights4 (t : Fin cfg0.N) (k : Fin 1024) :
    (iblk m c 4 t : FVec Ideal S1x1024 .f32) (ix2 0 k) = (m ((c : Thread nD τ).loc main_arg4) : FVec Ideal S1024 .f32) (ix1 k) := by
  obtain ⟨-, -, -, -, ⟨a0, a1⟩, -⟩ := points t
  refine Eq.trans ?_ (flat (m ((c : Thread nD τ).loc main_arg4)) k)
  refine (congrFun (host_v1 m c) _).trans (congrArg (shapeCast S1x1024 _ _) (funext fun d => Fin.ext ?_))
  fin_cases d
  · show win0_4.index t (0 : Fin 2) * 1 + 1 * 0 = 0
    rw [a0]
  · show win0_4.index t (1 : Fin 2) * 1024 + 1 * k.val = k.val
    rw [a1]; omega

/-- The place in the first result of entry `y` of point `t`'s block. -/
theorem place5 (t : Fin cfg0.N) (y : S512x1024.Idx) : (((cfg0.win 5).blk t).view.emb y : S4096x1024.Idx) = ix2 (rowAt t (y 0)) (y 1) := by
  obtain ⟨-, -, -, -, -, ⟨a, b, -⟩, -⟩ := points t
  refine funext fun d => Fin.ext ?_
  fin_cases d
  · show win0_5.index t (0 : Fin 2) * 512 + 1 * (y 0).val = t.val * 512 + (y 0).val
    rw [a]; omega
  · show win0_5.index t (1 : Fin 2) * 1024 + 1 * (y 1).val = (y 1).val
    rw [b]; omega

/-- The place in the second result of entry `y` of point `t`'s block. -/
theorem place6 (t : Fin cfg0.N) (y : S512x1024.Idx) : (((cfg0.win 6).blk t).view.emb y : S4096x1024.Idx) = ix2 (rowAt t (y 0)) (y 1) := by
  obtain ⟨-, -, -, -, -, -, ⟨a, b, -⟩, -⟩ := points t
  refine funext fun d => Fin.ext ?_
  fin_cases d
  · show win0_6.index t (0 : Fin 2) * 512 + 1 * (y 0).val = t.val * 512 + (y 0).val
    rw [a]; omega
  · show win0_6.index t (1 : Fin 2) * 1024 + 1 * (y 1).val = (y 1).val
    rw [b]; omega

/-- The place in the third result of entry `y` of point `t`'s block. -/
theorem place7 (t : Fin cfg0.N) (y : S512x1024.Idx) : (((cfg0.win 7).blk t).view.emb y : S4096x1024.Idx) = ix2 (rowAt t (y 0)) (y 1) := by
  obtain ⟨-, -, -, -, -, -, -, ⟨a, b, -⟩⟩ := points t
  refine funext fun d => Fin.ext ?_
  fin_cases d
  · show win0_7.index t (0 : Fin 2) * 512 + 1 * (y 0).val = t.val * 512 + (y 0).val
    rw [a]; omega
  · show win0_7.index t (1 : Fin 2) * 1024 + 1 * (y 1).val = (y 1).val
    rw [b]; omega

/-- The product the call leaves. -/
def G5 : Buf (Elt Ideal) ((c : Thread nD τ).loc main_v2_0) :=
  val_main_v2 (F := Ideal) (m ((c : Thread nD τ).loc main_arg0)) (m ((c : Thread nD τ).loc main_arg1))

/-- The sum the call leaves. -/
def G6 : Buf (Elt Ideal) ((c : Thread nD τ).loc main_v2_1) :=
  val_main_v18 (F := Ideal) (m ((c : Thread nD τ).loc main_arg0)) (m ((c : Thread nD τ).loc main_arg1)) (m ((c : Thread nD τ).loc main_arg2))
    (m ((c : Thread nD τ).loc main_arg3))

/-- The next normalised input the call leaves. -/
def G7 : Buf (Elt Ideal) ((c : Thread nD τ).loc main_v2_2) :=
  val_main_v32 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- Each point writes its block of the product. -/
theorem flushed5_eq (t : Fin cfg0.N) : (dats m 0 c).flushed 5 t = ((cfg0.win 5).blk t).view.read (Elt Ideal) (G5 m c) := by
  rw [flushed5]
  funext y
  refine (block5 (iblk m c 0 t) (iblk m c 1 t) (iblk m c 2 t) (iblk m c 3 t) (iblk m c 4 t) ((cfg0.win 5).xinj (grid0.coords t) y)).trans ?_
  refine Eq.trans ?_ (congrArg (G5 m c) (place5 t y)).symm
  exact (congrFun (rows m c t (y 0)) (y 1)).trans (plain5 _ _ (ix2 (rowAt t (y 0)) (y 1))).symm

/-- A point's rows of the sum are the reference's. -/
theorem sums (t : Fin cfg0.N) (a : Fin 512) :
    add (fun k => (iblk m c 2 t : FVec Ideal S512x1024 .f32) (ix2 a k)) (row (iblk m c 0 t) (iblk m c 1 t) a)
        (fun k => (iblk m c 3 t : FVec Ideal S1x1024 .f32) (ix2 0 k))
      = add (fun k => (m ((c : Thread nD τ).loc main_arg2) : FVec Ideal S4096x1024 .f32) (ix2 (rowAt t a) k))
        (prow (m ((c : Thread nD τ).loc main_arg0)) (m ((c : Thread nD τ).loc main_arg1)) (rowAt t a))
        (fun k => (m ((c : Thread nD τ).loc main_arg3) : FVec Ideal S1024 .f32) (ix1 k)) := by
  rw [rows, show (fun k => (iblk m c 2 t : FVec Ideal S512x1024 .f32) (ix2 a k)) = _ from funext (residual m c t a),
    show (fun k => (iblk m c 3 t : FVec Ideal S1x1024 .f32) (ix2 0 k)) = _ from funext (weights3 m c t)]

/-- Each point writes its block of the sum. -/
theorem flushed6_eq (t : Fin cfg0.N) : (dats m 0 c).flushed 6 t = ((cfg0.win 6).blk t).view.read (Elt Ideal) (G6 m c) := by
  rw [flushed6]
  funext y
  refine (block6 (iblk m c 0 t) (iblk m c 1 t) (iblk m c 2 t) (iblk m c 3 t) (iblk m c 4 t) ((cfg0.win 6).xinj (grid0.coords t) y)).trans ?_
  refine Eq.trans ?_ (congrArg (G6 m c) (place6 t y)).symm
  exact (congrFun (sums m c t (y 0)) (y 1)).trans (plain6 _ _ _ _ (ix2 (rowAt t (y 0)) (y 1))).symm

/-- Each point writes its block of the next normalised input. -/
theorem flushed7_eq (t : Fin cfg0.N) : (dats m 0 c).flushed 7 t = ((cfg0.win 7).blk t).view.read (Elt Ideal) (G7 m c) := by
  rw [flushed7]
  funext y
  refine (block7 (iblk m c 0 t) (iblk m c 1 t) (iblk m c 2 t) (iblk m c 3 t) (iblk m c 4 t) ((cfg0.win 7).xinj (grid0.coords t) y)).trans ?_
  refine Eq.trans ?_ (congrArg (G7 m c) (place7 t y)).symm
  refine Eq.trans ?_ (plain7 _ _ _ _ _ (ix2 (rowAt t (y 0)) (y 1))).symm
  exact congrFun (congrArg₂ norm (sums m c t (y 0)) (funext (weights4 m c t))) (y 1)

/-- The point that writes a row. -/
def pointOf (i : S4096x1024.Idx) : Fin cfg0.N := ⟨(i 0).val / 512, by
  have h0 : (i 0).val < 4096 := (i 0).isLt
  rw [show cfg0.N = 8 from N_0]; omega⟩

/-- The blocks fill the first result. -/
theorem covered5 (i : S4096x1024.Idx) : ∃ t : Fin cfg0.N, (cfg0.win 5).flush t = true ∧ i ∈ ((cfg0.win 5).blk t).view.set := by
  obtain ⟨-, -, -, -, -, ⟨o0, o1, hf⟩, -⟩ := points (pointOf i)
  have h1 : (i 1).val < 1024 := (i 1).isLt
  have hp : (pointOf i).val = (i 0).val / 512 := rfl
  refine ⟨pointOf i, hf, ?_⟩
  show i ∈ ((View.whole main_v2_0).slice (win0_5.rect (pointOf i))).set
  rw [View.set_slice_whole, Rect.mem_set_unit]
  intro a
  match a with
  | ⟨0, _⟩ => show win0_5.index (pointOf i) (0 : Fin 2) * 512 ≤ (i 0).val ∧ (i 0).val < win0_5.index (pointOf i) (0 : Fin 2) * 512 + 512; omega
  | ⟨1, _⟩ => show win0_5.index (pointOf i) (1 : Fin 2) * 1024 ≤ (i 1).val ∧ (i 1).val < win0_5.index (pointOf i) (1 : Fin 2) * 1024 + 1024; omega

/-- The blocks fill the second result. -/
theorem covered6 (i : S4096x1024.Idx) : ∃ t : Fin cfg0.N, (cfg0.win 6).flush t = true ∧ i ∈ ((cfg0.win 6).blk t).view.set := by
  obtain ⟨-, -, -, -, -, -, ⟨o0, o1, hf⟩, -⟩ := points (pointOf i)
  have h1 : (i 1).val < 1024 := (i 1).isLt
  have hp : (pointOf i).val = (i 0).val / 512 := rfl
  refine ⟨pointOf i, hf, ?_⟩
  show i ∈ ((View.whole main_v2_1).slice (win0_6.rect (pointOf i))).set
  rw [View.set_slice_whole, Rect.mem_set_unit]
  intro a
  match a with
  | ⟨0, _⟩ => show win0_6.index (pointOf i) (0 : Fin 2) * 512 ≤ (i 0).val ∧ (i 0).val < win0_6.index (pointOf i) (0 : Fin 2) * 512 + 512; omega
  | ⟨1, _⟩ => show win0_6.index (pointOf i) (1 : Fin 2) * 1024 ≤ (i 1).val ∧ (i 1).val < win0_6.index (pointOf i) (1 : Fin 2) * 1024 + 1024; omega

/-- The blocks fill the third result. -/
theorem covered7 (i : S4096x1024.Idx) : ∃ t : Fin cfg0.N, (cfg0.win 7).flush t = true ∧ i ∈ ((cfg0.win 7).blk t).view.set := by
  obtain ⟨-, -, -, -, -, -, -, ⟨o0, o1, hf⟩⟩ := points (pointOf i)
  have h1 : (i 1).val < 1024 := (i 1).isLt
  have hp : (pointOf i).val = (i 0).val / 512 := rfl
  refine ⟨pointOf i, hf, ?_⟩
  show i ∈ ((View.whole main_v2_2).slice (win0_7.rect (pointOf i))).set
  rw [View.set_slice_whole, Rect.mem_set_unit]
  intro a
  match a with
  | ⟨0, _⟩ => show win0_7.index (pointOf i) (0 : Fin 2) * 512 ≤ (i 0).val ∧ (i 0).val < win0_7.index (pointOf i) (0 : Fin 2) * 512 + 512; omega
  | ⟨1, _⟩ => show win0_7.index (pointOf i) (1 : Fin 2) * 1024 ≤ (i 1).val ∧ (i 1).val < win0_7.index (pointOf i) (1 : Fin 2) * 1024 + 1024; omega

/-- The call's three results are the reference's. -/
theorem final : (dats m 0 c).arrAt 5 cfg0.N = G5 m c ∧ (dats m 0 c).arrAt 6 cfg0.N = G6 m c ∧ (dats m 0 c).arrAt 7 cfg0.N = G7 m c :=
  ⟨(dats m 0 c).arrAt_eq_of_cover 5 (G5 m c) (fun t _ => flushed5_eq m c t) covered5,
    (dats m 0 c).arrAt_eq_of_cover 6 (G6 m c) (fun t _ => flushed6_eq m c t) covered6,
    (dats m 0 c).arrAt_eq_of_cover 7 (G7 m c) (fun t _ => flushed7_eq m c t) covered7⟩

end Cert.Ffn.Down
-- ==== Proof.Mix.Lib.lean ====
/-
  Places in a matrix cut into blocks of equal size.
-/
module

public import Idealize.ShloMosaic.Lib.Pipeline.ValueKit
public import Idealize.ShloMosaic.Lib.Pointwise

@[expose] public section

namespace Cert.Mix

/-- Two places of a matrix with the same row and the same column are one. -/
theorem ext2 {n : Fin 2 → ℕ} {i j : (a : Fin 2) → Fin (n a)} (h0 : (i 0).val = (j 0).val) (h1 : (i 1).val = (j 1).val) : i = j :=
  funext fun a => Fin.ext (match a with
    | ⟨0, _⟩ => h0
    | ⟨1, _⟩ => h1)

/-- Place `k` of the first block. -/
theorem at_zero (n k : ℕ) {a : ℕ} (h : a = 0) : a * n + 1 * k = k := by
  rw [h]; omega

/-- Place `k` of block `b`. -/
theorem at_block (n k : ℕ) {a b : ℕ} (h : a = b) : a * n + 1 * k = b * n + k := by
  rw [h, one_mul]

/-- Place `k` of a block under two names. -/
theorem at_same (n k : ℕ) {a b : ℕ} (h : a = b) : a * n + 1 * k = b * n + 1 * k := by
  rw [h]

/-- A place is in the block its quotient names. -/
theorem in_block {n a k : ℕ} (h : a = k / n) (hn : 0 < n) : a * n ≤ k ∧ k < a * n + n := by
  have := Nat.div_add_mod k n
  have := Nat.mod_lt k hn
  rw [h, Nat.mul_comm]
  omega

/-- Every place is in a block that is the whole. -/
theorem in_whole {n a k : ℕ} (h : a = 0) (hk : k < n) : a * n ≤ k ∧ k < a * n + n := by
  rw [h]; omega

/-- A sum of products, factor by factor. -/
theorem sum_mul {n : ℕ} {f f' g g' : Fin n → EReal} (hf : ∀ k, f k = f' k) (hg : ∀ k, g k = g' k) : ∑ k, f k * g k = ∑ k, f' k * g' k :=
  Finset.sum_congr rfl fun k _ => congrArg₂ (fun u v : EReal => u * v) (hf k) (hg k)

end Cert.Mix
-- ==== Proof.Mix.DwGate.lean ====
/-
  The gradient of a square weight of the mixer: the columns of the product's input against the columns of the cotangent.
-/
module

public import proofs.«01_k».proof.Proof.Gen.Kernel6Ideal.Value
public import proofs.«01_k».proof.Proof.Gen.Reference6Ideal.Read
public import proofs.«01_k».proof.Proof.Mix.Lib

@[expose] public section

set_option maxRecDepth 16384

noncomputable section

open Idealize.ShloMosaic Idealize.ShloMosaic.TcCoe Idealize.SL.Sem Finset
open Cert.Kernel6Ideal Cert.Kernel6Ideal.Gen Cert.Kernel6Ideal.Value
open Cert.Reference6Ideal.Read

namespace Cert.Mix.DwGate

/-- One block of the product, entry by entry. -/
theorem block (x : FVec Ideal S4096x512 .bf16) (y : FVec Ideal S4096x1024 .bf16) (j : S512x1024.Idx) :
    (out0_2 (F := Ideal) x y j : EReal) = ∑ k : Fin 4096, (x (ix2 k (j 0)) : EReal) * y (ix2 k (j 1)) := by
  unfold out0_2
  rw [View.canon_cons_unit_lit _ _ _ (by decide), View.ld_unit_lit _ _ (by decide), View.ld_unit_lit _ _ (by decide)]
  unfold k0_pay1
  simp only [truncf_apply, pointwise]
  rw [zero_add]

/-- The reference's product, entry by entry. -/
theorem plain (x y : FVec Ideal S4096x1024 .bf16) (i : S1024x1024.Idx) :
    (val_main_v6 (F := Ideal) x y i : EReal) = ∑ k : Fin 4096, (x (ix2 k (i 0)) : EReal) * y (ix2 k (i 1)) := by
  rw [val_main_v6_apply, val_main_v5_apply, val_main_v4_apply]
  exact Finset.sum_congr rfl fun k _ => (mul_comm _ _).trans
    (congrArg₂ (fun u v : EReal => u * v) (congrArg x (ext2 rfl rfl)) (congrArg y (ext2 rfl rfl)))

/-- The grid's points take the blocks of the first argument's columns in turn. -/
theorem points : ∀ t : Fin cfg0.N, win0_0.index t (0 : Fin 2) = 0 ∧ win0_0.index t (1 : Fin 2) = t.val ∧ win0_1.index t (0 : Fin 2) = 0
    ∧ win0_1.index t (1 : Fin 2) = 0 ∧ win0_2.index t (0 : Fin 2) = t.val ∧ win0_2.index t (1 : Fin 2) = 0 ∧ win0_2.flush t = true :=
  (by decide +kernel : ∀ t : Fin grid0.N, _)

variable (m : (ℓ : Loc nD τ sig) → Buf (Elt Ideal) ℓ) (c : Dev nD)

/-- The array the call leaves. -/
def G : Buf (Elt Ideal) ((c : Thread nD τ).loc main_v0) :=
  val_main_v6 (F := Ideal) (m ((c : Thread nD τ).loc main_arg0)) (m ((c : Thread nD τ).loc main_arg1))

/-- Each point writes its block of the reference's product. -/
theorem flushed (t : Fin cfg0.N) : (dats m 0 c).flushed 2 t = ((cfg0.win 2).blk t).view.read (Elt Ideal) (G m c) := by
  rw [flushed2]
  obtain ⟨a0, a1, b0, b1, o0, o1, -⟩ := points t
  funext y
  refine (block (iblk m c 0 t) (iblk m c 1 t) ((cfg0.win 2).xinj (grid0.coords t) y)).trans ?_
  refine Eq.trans ?_ (plain (m ((c : Thread nD τ).loc main_arg0)) (m ((c : Thread nD τ).loc main_arg1)) (((cfg0.win 2).blk t).view.emb y)).symm
  exact sum_mul
    (fun k => congrArg (m ((c : Thread nD τ).loc main_arg0)) (ext2 (at_zero 4096 k.val a0) (at_same 512 (y 0).val (a1.trans o0.symm))))
    (fun k => congrArg (m ((c : Thread nD τ).loc main_arg1)) (ext2 (at_zero 4096 k.val b0) (at_same 1024 (y 1).val (b1.trans o1.symm))))

/-- The points' blocks fill the result. -/
theorem covered (i : S1024x1024.Idx) : ∃ t : Fin cfg0.N, (cfg0.win 2).flush t = true ∧ i ∈ ((cfg0.win 2).blk t).view.set := by
  have h0 : (i 0).val < 1024 := (i 0).isLt
  let t : Fin cfg0.N := ⟨(i 0).val / 512, by rw [show cfg0.N = 2 from N_0]; omega⟩
  obtain ⟨-, -, -, -, o0, o1, hf⟩ := points t
  refine ⟨t, hf, ?_⟩
  show i ∈ ((View.whole main_v0).slice (win0_2.rect t)).set
  rw [View.set_slice_whole, Rect.mem_set_unit]
  exact Fin.forall_fin_two.2 ⟨in_block (n := 512) o0 (by decide), in_whole (n := 1024) o1 (i 1).isLt⟩

/-- The call's result is the reference's. -/
theorem final : (dats m 0 c).arrAt 2 cfg0.N = G m c :=
  (dats m 0 c).arrAt_eq_of_cover 2 (G m c) (fun t _ => flushed m c t) covered

end Cert.Mix.DwGate
-- ==== Proof.Mix.DwIn.lean ====
/-
  The gradient of the input projection's rows of one piece: the columns of the piece's cotangent against the columns of the
  mixer's input. The grid has one point.
-/
module

public import proofs.«01_k».proof.Proof.Gen.Kernel7Ideal.Value
public import proofs.«01_k».proof.Proof.Gen.Reference7Ideal.Read
public import proofs.«01_k».proof.Proof.Mix.Lib

@[expose] public section

set_option maxRecDepth 16384

noncomputable section

open Idealize.ShloMosaic Idealize.ShloMosaic.TcCoe Idealize.SL.Sem Finset
open Cert.Kernel7Ideal Cert.Kernel7Ideal.Gen Cert.Kernel7Ideal.Value
open Cert.Reference7Ideal.Read

namespace Cert.Mix.DwIn

/-- One block of the product, entry by entry. -/
theorem block (x : FVec Ideal S4096x512 .bf16) (y : FVec Ideal S4096x1024 .bf16) (j : S512x1024.Idx) :
    (out0_2 (F := Ideal) x y j : EReal) = ∑ k : Fin 4096, (x (ix2 k (j 0)) : EReal) * y (ix2 k (j 1)) := by
  unfold out0_2
  rw [View.canon_cons_unit_lit _ _ _ (by decide), View.ld_unit_lit _ _ (by decide), View.ld_unit_lit _ _ (by decide)]
  unfold k0_pay1
  simp only [truncf_apply, pointwise]
  rw [zero_add]

/-- The reference's product, entry by entry. -/
theorem plain (x : FVec Ideal S4096x512 .bf16) (y : FVec Ideal S4096x1024 .bf16) (i : S512x1024.Idx) :
    (val_main_v6 (F := Ideal) x y i : EReal) = ∑ k : Fin 4096, (x (ix2 k (i 0)) : EReal) * y (ix2 k (i 1)) := by
  rw [val_main_v6_apply, val_main_v5_apply, val_main_v4_apply]
  exact Finset.sum_congr rfl fun k _ => (mul_comm _ _).trans
    (congrArg₂ (fun u v : EReal => u * v) (congrArg x (ext2 rfl rfl)) (congrArg y (ext2 rfl rfl)))

/-- The grid's point takes both arguments whole. -/
theorem points : ∀ t : Fin cfg0.N, win0_0.index t (0 : Fin 2) = 0 ∧ win0_0.index t (1 : Fin 2) = t.val ∧ win0_1.index t (0 : Fin 2) = 0
    ∧ win0_1.index t (1 : Fin 2) = 0 ∧ win0_2.index t (0 : Fin 2) = t.val ∧ win0_2.index t (1 : Fin 2) = 0 ∧ win0_2.flush t = true :=
  (by decide +kernel : ∀ t : Fin grid0.N, _)

variable (m : (ℓ : Loc nD τ sig) → Buf (Elt Ideal) ℓ) (c : Dev nD)

/-- The array the call leaves. -/
def G : Buf (Elt Ideal) ((c : Thread nD τ).loc main_v0) :=
  val_main_v6 (F := Ideal) (m ((c : Thread nD τ).loc main_arg0)) (m ((c : Thread nD τ).loc main_arg1))

/-- The point writes the reference's product. -/
theorem flushed (t : Fin cfg0.N) : (dats m 0 c).flushed 2 t = ((cfg0.win 2).blk t).view.read (Elt Ideal) (G m c) := by
  rw [flushed2]
  obtain ⟨a0, a1, b0, b1, o0, o1, -⟩ := points t
  funext y
  refine (block (iblk m c 0 t) (iblk m c 1 t) ((cfg0.win 2).xinj (grid0.coords t) y)).trans ?_
  refine Eq.trans ?_ (plain (m ((c : Thread nD τ).loc main_arg0)) (m ((c : Thread nD τ).loc main_arg1)) (((cfg0.win 2).blk t).view.emb y)).symm
  exact sum_mul
    (fun k => congrArg (m ((c : Thread nD τ).loc main_arg0)) (ext2 (at_zero 4096 k.val a0) (at_same 512 (y 0).val (a1.trans o0.symm))))
    (fun k => congrArg (m ((c : Thread nD τ).loc main_arg1)) (ext2 (at_zero 4096 k.val b0) (at_same 1024 (y 1).val (b1.trans o1.symm))))

/-- The point's block is the result. -/
theorem covered (i : S512x1024.Idx) : ∃ t : Fin cfg0.N, (cfg0.win 2).flush t = true ∧ i ∈ ((cfg0.win 2).blk t).view.set := by
  have h0 : (i 0).val < 512 := (i 0).isLt
  let t : Fin cfg0.N := ⟨(i 0).val / 512, by rw [show cfg0.N = 1 from N_0]; omega⟩
  obtain ⟨-, -, -, -, o0, o1, hf⟩ := points t
  refine ⟨t, hf, ?_⟩
  show i ∈ ((View.whole main_v0).slice (win0_2.rect t)).set
  rw [View.set_slice_whole, Rect.mem_set_unit]
  exact Fin.forall_fin_two.2 ⟨in_block (n := 512) o0 (by decide), in_whole (n := 1024) o1 (i 1).isLt⟩

/-- The call's result is the reference's. -/
theorem final : (dats m 0 c).arrAt 2 cfg0.N = G m c :=
  (dats m 0 c).arrAt_eq_of_cover 2 (G m c) (fun t _ => flushed m c t) covered

end Cert.Mix.DwIn
-- ==== Proof.Mix.In.lean ====
/-
  The mixer's input projection: rows of the normalised input against rows of the weight.
-/
module

public import proofs.«01_k».proof.Proof.Gen.Kernel8Ideal.Value
public import proofs.«01_k».proof.Proof.Gen.Reference8Ideal.Read
public import proofs.«01_k».proof.Proof.Mix.Lib

@[expose] public section

set_option maxRecDepth 16384

noncomputable section

open Idealize.ShloMosaic Idealize.ShloMosaic.TcCoe Idealize.SL.Sem Finset
open Cert.Kernel8Ideal Cert.Kernel8Ideal.Gen Cert.Kernel8Ideal.Value
open Cert.Reference8Ideal.Read

namespace Cert.Mix.In

/-- One block of the product, entry by entry. -/
theorem block (x : FVec Ideal S1024x1024 .bf16) (y : FVec Ideal S1280x1024 .bf16) (j : S1024x1280.Idx) :
    (out0_2 (F := Ideal) x y j : EReal) = ∑ k : Fin 1024, (x (ix2 (j 0) k) : EReal) * y (ix2 (j 1) k) := by
  unfold out0_2
  rw [View.canon_cons_unit_lit _ _ _ (by decide), View.ld_unit_lit _ _ (by decide), View.ld_unit_lit _ _ (by decide)]
  unfold k0_pay1
  simp only [truncf_apply, pointwise]
  rw [zero_add]

/-- The reference's product, entry by entry. -/
theorem plain (x : FVec Ideal S4096x1024 .bf16) (y : FVec Ideal S3840x1024 .bf16) (i : S4096x3840.Idx) :
    (val_main_v4 (F := Ideal) x y i : EReal) = ∑ k : Fin 1024, (x (ix2 (i 0) k) : EReal) * y (ix2 (i 1) k) := by
  rw [val_main_v4_apply, val_main_v3_apply]
  refine sum_mul (fun k => congrArg x (ext2 rfl rfl)) (fun k => ?_)
  rw [val_main_v2_apply]
  exact congrArg y (ext2 rfl rfl)

/-- The grid's points take, for each block of the weight's rows, the blocks of the input's rows in turn. -/
theorem points : ∀ t : Fin cfg0.N, win0_0.index t (0 : Fin 2) = t.val % 4 ∧ win0_0.index t (1 : Fin 2) = 0 ∧ win0_1.index t (0 : Fin 2) = t.val / 4
    ∧ win0_1.index t (1 : Fin 2) = 0 ∧ win0_2.index t (0 : Fin 2) = t.val % 4 ∧ win0_2.index t (1 : Fin 2) = t.val / 4 ∧ win0_2.flush t = true :=
  (by decide +kernel : ∀ t : Fin grid0.N, _)

variable (m : (ℓ : Loc nD τ sig) → Buf (Elt Ideal) ℓ) (c : Dev nD)

/-- The array the call leaves. -/
def G : Buf (Elt Ideal) ((c : Thread nD τ).loc main_v0) :=
  val_main_v4 (F := Ideal) (m ((c : Thread nD τ).loc main_arg0)) (m ((c : Thread nD τ).loc main_arg1))

/-- Each point writes its block of the reference's product. -/
theorem flushed (t : Fin cfg0.N) : (dats m 0 c).flushed 2 t = ((cfg0.win 2).blk t).view.read (Elt Ideal) (G m c) := by
  rw [flushed2]
  obtain ⟨a0, a1, b0, b1, o0, o1, -⟩ := points t
  funext y
  refine (block (iblk m c 0 t) (iblk m c 1 t) ((cfg0.win 2).xinj (grid0.coords t) y)).trans ?_
  refine Eq.trans ?_ (plain (m ((c : Thread nD τ).loc main_arg0)) (m ((c : Thread nD τ).loc main_arg1)) (((cfg0.win 2).blk t).view.emb y)).symm
  exact sum_mul
    (fun k => congrArg (m ((c : Thread nD τ).loc main_arg0)) (ext2 (at_same 1024 (y 0).val (a0.trans o0.symm)) (at_zero 1024 k.val a1)))
    (fun k => congrArg (m ((c : Thread nD τ).loc main_arg1)) (ext2 (at_same 1280 (y 1).val (b0.trans o1.symm)) (at_zero 1024 k.val b1)))

/-- The points' blocks fill the result. -/
theorem covered (i : S4096x3840.Idx) : ∃ t : Fin cfg0.N, (cfg0.win 2).flush t = true ∧ i ∈ ((cfg0.win 2).blk t).view.set := by
  have h0 : (i 0).val < 4096 := (i 0).isLt
  have h1 : (i 1).val < 3840 := (i 1).isLt
  let t : Fin cfg0.N := ⟨(i 1).val / 1280 * 4 + (i 0).val / 1024, by rw [show cfg0.N = 12 from N_0]; omega⟩
  have ht : t.val = (i 1).val / 1280 * 4 + (i 0).val / 1024 := rfl
  obtain ⟨-, -, -, -, o0, o1, hf⟩ := points t
  refine ⟨t, hf, ?_⟩
  show i ∈ ((View.whole main_v0).slice (win0_2.rect t)).set
  rw [View.set_slice_whole, Rect.mem_set_unit]
  exact Fin.forall_fin_two.2 ⟨in_block (n := 1024) (o0.trans (by omega)) (by decide), in_block (n := 1280) (o1.trans (by omega)) (by decide)⟩

/-- The call's result is the reference's. -/
theorem final : (dats m 0 c).arrAt 2 cfg0.N = G m c :=
  (dats m 0 c).arrAt_eq_of_cover 2 (G m c) (fun t _ => flushed m c t) covered

end Cert.Mix.In
-- ==== Proof.Mix.Gate.lean ====
/-
  The mixer's gates: rows of the normalised input against rows of the weight, a bias added, and the sigmoid of the sum.
-/
module

public import proofs.«01_k».proof.Proof.Gen.Kernel9Ideal.Value
public import proofs.«01_k».proof.Proof.Gen.Reference9Ideal.Read
public import proofs.«01_k».proof.Proof.Mix.Lib
public import Idealize.ShloMosaic.Lib.IdealHost

@[expose] public section

set_option maxRecDepth 16384

noncomputable section

open Idealize.ShloMosaic Idealize.ShloMosaic.TcCoe Idealize.SL.Sem Finset
open Cert.Kernel9Ideal Cert.Kernel9Ideal.Gen Cert.Kernel9Ideal.Value
open Cert.Reference9Ideal.Read

namespace Cert.Mix.Gate

/-- One block of the gates, entry by entry. -/
theorem block (x y : FVec Ideal S1024x1024 .bf16) (b : FVec Ideal S1x1024 .f32) (j : S1024x1024.Idx) :
    (out0_3 (F := Ideal) x y b j : EReal)
      = Ideal.logistic ((∑ k : Fin 1024, (x (ix2 (j 0) k) : EReal) * y (ix2 (j 1) k)) + b (ix2 0 (j 1))) := by
  unfold out0_3
  rw [View.canon_cons_unit_lit _ _ _ (by decide), View.ld_unit_lit _ _ (by decide), View.ld_unit_lit _ _ (by decide),
    View.ld_unit_lit _ _ (by decide)]
  unfold k0_pay1
  simp only [truncf_apply, pointwise]
  rw [zero_add]
  rfl

/-- The reference's product, entry by entry. -/
theorem plain_dot (x : FVec Ideal S4096x1024 .bf16) (y : FVec Ideal S3072x1024 .bf16) (i : S4096x3072.Idx) :
    (val_main_v3 (F := Ideal) x y i : EReal) = ∑ k : Fin 1024, (x (ix2 (i 0) k) : EReal) * y (ix2 (i 1) k) := by
  rw [val_main_v3_apply]
  refine sum_mul (fun k => congrArg x (ext2 rfl rfl)) (fun k => ?_)
  rw [val_main_v2_apply]
  exact congrArg y (ext2 rfl rfl)

/-- The reference's gates, entry by entry. -/
theorem plain (x : FVec Ideal S4096x1024 .bf16) (y : FVec Ideal S3072x1024 .bf16) (b : FVec Ideal S3072 .f32) (i : S4096x3072.Idx) :
    (val_main_v13 (F := Ideal) x y b i : EReal)
      = Ideal.logistic ((∑ k : Fin 1024, (x (ix2 (i 0) k) : EReal) * y (ix2 (i 1) k)) + b (ix1 (i 1))) := by
  have e9 : (val_main_v9 (F := Ideal) i : EReal) = 1 := by
    rw [val_main_v9_apply]; exact Ideal.ofBits_one_f32
  have e11 : (val_main_v11 (F := Ideal) i : EReal) = 1 := by
    rw [val_main_v11_apply]; exact Ideal.ofBits_one_f32
  have eb : (val_main_v5 (F := Ideal) b i : EReal) = b (ix1 (i 1)) := by
    rw [val_main_v5_apply, val_main_v4_apply]
    exact congrArg b (funext fun a => by fin_cases a; rfl)
  rw [val_main_v13_apply, val_main_v12_apply, val_main_v10_apply, val_main_v8_apply, val_main_v7_apply, val_main_v6_apply, e9, e11, eb,
    plain_dot]
  rfl

/-- The grid's points take, for each block of the weight's rows, the blocks of the input's rows in turn. -/
theorem points : ∀ t : Fin cfg0.N, win0_0.index t (0 : Fin 2) = t.val % 4 ∧ win0_0.index t (1 : Fin 2) = 0 ∧ win0_1.index t (0 : Fin 2) = t.val / 4
    ∧ win0_1.index t (1 : Fin 2) = 0 ∧ win0_2.index t (0 : Fin 2) = 0 ∧ win0_2.index t (1 : Fin 2) = t.val / 4
    ∧ win0_3.index t (0 : Fin 2) = t.val % 4 ∧ win0_3.index t (1 : Fin 2) = t.val / 4 ∧ win0_3.flush t = true :=
  (by decide +kernel : ∀ t : Fin grid0.N, _)

variable (m : (ℓ : Loc nD τ sig) → Buf (Elt Ideal) ℓ) (c : Dev nD)

/-- The host lays the bias out as one row. -/
theorem host_v0 : (V m c main_v0 : FVec Ideal S1x3072 .f32) = shapeCast S1x3072 (m ((c : Thread nD τ).loc main_arg2) : FVec Ideal S3072 .f32) shapeCasts_S3072_S1x3072 := by
  unfold V
  simp only [hostOps0, List.flatten_cons, List.flatten_nil, List.append_nil, List.cons_append, List.nil_append]
  after_results_simp
  rfl

/-- An entry of the bias laid out as one row. -/
theorem flat (v : FVec Ideal S3072 .f32) (k : Fin 3072) : shapeCast S1x3072 v shapeCasts_S3072_S1x3072 (ix2 0 k) = v (ix1 k) :=
  shapeCast_apply _ _ _ _ (by rw [Shape.rowMajor_val_one, Shape.rowMajor_val_two]; simp [ix1, ix2])

/-- The array the call leaves. -/
def G : Buf (Elt Ideal) ((c : Thread nD τ).loc main_v1) :=
  val_main_v13 (F := Ideal) (m ((c : Thread nD τ).loc main_arg0)) (m ((c : Thread nD τ).loc main_arg1)) (m ((c : Thread nD τ).loc main_arg2))

/-- A point's block of the bias. -/
theorem bias (t : Fin cfg0.N) (y : S1024x1024.Idx) : (iblk m c 2 t : FVec Ideal S1x1024 .f32) (ix2 0 (y 1))
    = (m ((c : Thread nD τ).loc main_arg2) : FVec Ideal S3072 .f32) (ix1 ((((cfg0.win 3).blk t).view.emb y : S4096x3072.Idx) 1)) := by
  obtain ⟨-, -, -, -, b0, b1, -, o1, -⟩ := points t
  refine Eq.trans ?_ (flat (m ((c : Thread nD τ).loc main_arg2)) ((((cfg0.win 3).blk t).view.emb y : S4096x3072.Idx) 1))
  exact (congrFun (host_v0 m c) _).trans (congrArg (shapeCast S1x3072 _ _) (ext2 (at_zero 1 0 b0) (at_same 1024 (y 1).val (b1.trans o1.symm))))

/-- Each point writes its block of the reference's gates. -/
theorem flushed (t : Fin cfg0.N) : (dats m 0 c).flushed 3 t = ((cfg0.win 3).blk t).view.read (Elt Ideal) (G m c) := by
  rw [flushed3]
  obtain ⟨a0, a1, b0, b1, -, -, o0, o1, -⟩ := points t
  funext y
  refine (block (iblk m c 0 t) (iblk m c 1 t) (iblk m c 2 t) ((cfg0.win 3).xinj (grid0.coords t) y)).trans ?_
  refine Eq.trans ?_ (plain (m ((c : Thread nD τ).loc main_arg0)) (m ((c : Thread nD τ).loc main_arg1)) (m ((c : Thread nD τ).loc main_arg2))
    (((cfg0.win 3).blk t).view.emb y)).symm
  exact congrArg Ideal.logistic (congrArg₂ (fun u v : EReal => u + v) (sum_mul
    (fun k => (congrFun (V_main_arg0 m c) _).trans (congrArg (m ((c : Thread nD τ).loc main_arg0))
      (ext2 (at_same 1024 (y 0).val (a0.trans o0.symm)) (at_zero 1024 k.val a1))))
    (fun k => (congrFun (V_main_arg1 m c) _).trans (congrArg (m ((c : Thread nD τ).loc main_arg1))
      (ext2 (at_same 1024 (y 1).val (b0.trans o1.symm)) (at_zero 1024 k.val b1))))) (bias m c t y))

/-- The points' blocks fill the result. -/
theorem covered (i : S4096x3072.Idx) : ∃ t : Fin cfg0.N, (cfg0.win 3).flush t = true ∧ i ∈ ((cfg0.win 3).blk t).view.set := by
  have h0 : (i 0).val < 4096 := (i 0).isLt
  have h1 : (i 1).val < 3072 := (i 1).isLt
  let t : Fin cfg0.N := ⟨(i 1).val / 1024 * 4 + (i 0).val / 1024, by rw [show cfg0.N = 12 from N_0]; omega⟩
  have ht : t.val = (i 1).val / 1024 * 4 + (i 0).val / 1024 := rfl
  obtain ⟨-, -, -, -, -, -, o0, o1, hf⟩ := points t
  refine ⟨t, hf, ?_⟩
  show i ∈ ((View.whole main_v1).slice (win0_3.rect t)).set
  rw [View.set_slice_whole, Rect.mem_set_unit]
  exact Fin.forall_fin_two.2 ⟨in_block (n := 1024) (o0.trans (by omega)) (by decide), in_block (n := 1024) (o1.trans (by omega)) (by decide)⟩

/-- The call's result is the reference's. -/
theorem final : (dats m 0 c).arrAt 3 cfg0.N = G m c :=
  (dats m 0 c).arrAt_eq_of_cover 3 (G m c) (fun t _ => flushed m c t) covered

end Cert.Mix.Gate
-- ==== Proof.Mix.Merge.lean ====
/-
  The mixer's merge: each branch's product by its gate, and their sum.
-/
module

public import proofs.«01_k».proof.Proof.Gen.Kernel10Ideal.Value
public import proofs.«01_k».proof.Proof.Gen.Reference10Ideal.Read
public import proofs.«01_k».proof.Proof.Mix.Lib

@[expose] public section

set_option maxRecDepth 16384

noncomputable section

open Idealize.ShloMosaic Idealize.ShloMosaic.TcCoe Idealize.SL.Sem Finset
open Cert.Kernel10Ideal Cert.Kernel10Ideal.Gen Cert.Kernel10Ideal.Value
open Cert.Reference10Ideal.Read

namespace Cert.Mix.Merge

/-- An entry of one block of a branch's product. -/
def mm (x : FVec Ideal S512x512 .bf16) (w : FVec Ideal S1024x512 .bf16) (j : S512x1024.Idx) : EReal :=
  ∑ k : Fin 512, (x (ix2 (j 0) k) : EReal) * w (ix2 (j 1) k)

/-- An entry of a branch's product. -/
def pmm (x : FVec Ideal S4096x512 .bf16) (w : FVec Ideal S1024x512 .bf16) (i : S4096x1024.Idx) : EReal :=
  ∑ k : Fin 512, (x (ix2 (i 0) k) : EReal) * w (ix2 (i 1) k)

/-- One block of the merge, entry by entry. -/
theorem block (x0 x1 x2 : FVec Ideal S512x512 .bf16) (w0 w1 w2 : FVec Ideal S1024x512 .bf16) (g0 g1 g2 : FVec Ideal S512x1024 .bf16)
    (j : S512x1024.Idx) :
    (out0_9 (F := Ideal) x0 x1 x2 w0 w1 w2 g0 g1 g2 j : EReal) = (g0 j : EReal) * mm x0 w0 j + g1 j * mm x1 w1 j + g2 j * mm x2 w2 j := by
  unfold out0_9
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide), View.ld_unit_lit _ _ (by decide),
    View.ld_unit_lit _ _ (by decide), View.ld_unit_lit _ _ (by decide), View.ld_unit_lit _ _ (by decide)]
  unfold k0_pay1
  simp only [truncf_apply, pointwise]
  simp only [zero_add]
  rfl

section Plain

variable (x0 x1 x2 : FVec Ideal S4096x512 .bf16) (w0 w1 w2 : FVec Ideal S1024x512 .bf16) (g : FVec Ideal S4096x3072 .bf16) (i : S4096x1024.Idx)

/-- The reference's first product. -/
theorem plain7 : (val_main_v7 (F := Ideal) x0 w0 i : EReal) = pmm x0 w0 i := by
  rw [val_main_v7_apply]
  refine sum_mul (fun k => congrArg x0 (ext2 rfl rfl)) (fun k => ?_)
  rw [val_main_v6_apply]
  exact congrArg w0 (ext2 rfl rfl)

/-- The reference's second product. -/
theorem plain12 : (val_main_v12 (F := Ideal) x1 w1 i : EReal) = pmm x1 w1 i := by
  rw [val_main_v12_apply]
  refine sum_mul (fun k => congrArg x1 (ext2 rfl rfl)) (fun k => ?_)
  rw [val_main_v11_apply]
  exact congrArg w1 (ext2 rfl rfl)

/-- The reference's third product. -/
theorem plain18 : (val_main_v18 (F := Ideal) x2 w2 i : EReal) = pmm x2 w2 i := by
  rw [val_main_v18_apply]
  refine sum_mul (fun k => congrArg x2 (ext2 rfl rfl)) (fun k => ?_)
  rw [val_main_v17_apply]
  exact congrArg w2 (ext2 rfl rfl)

/-- The reference's merge, entry by entry. -/
theorem plain : (val_main_v21 (F := Ideal) x0 x1 x2 w0 w1 w2 g i : EReal)
    = (g (idx_main_v1 i) : EReal) * pmm x0 w0 i + g (idx_main_v2 i) * pmm x1 w1 i + g (idx_main_v3 i) * pmm x2 w2 i := by
  rw [val_main_v21_apply, val_main_v20_apply, val_main_v14_apply, val_main_v8_apply, val_main_v13_apply, val_main_v19_apply, plain7, plain12,
    plain18, val_main_v1_apply, val_main_v2_apply, val_main_v3_apply]
  rfl

end Plain

/-- Where the grid's points read the branches and write. -/
theorem points : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ win0_9.index t (0 : Fin 2) = t.val ∧ win0_9.index t (1 : Fin 2) = 0 ∧ win0_9.flush t = true :=
  (by decide +kernel : ∀ t : Fin grid0.N, _)

/-- The grid's points read the weights whole. -/
theorem wholes : ∀ t : Fin cfg0.N, (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- The grid's points read the three thirds of the gates. -/
theorem thirds : ∀ t : Fin cfg0.N, (win0_6.index t (0 : Fin 2) = t.val ∧ win0_6.index t (1 : Fin 2) = 0)
    ∧ (win0_7.index t (0 : Fin 2) = t.val ∧ win0_7.index t (1 : Fin 2) = 1)
    ∧ (win0_8.index t (0 : Fin 2) = t.val ∧ win0_8.index t (1 : Fin 2) = 2) :=
  (by decide +kernel : ∀ t : Fin grid0.N, _)

variable (m : (ℓ : Loc nD τ sig) → Buf (Elt Ideal) ℓ) (c : Dev nD)

/-- The array the call leaves. -/
def G : Buf (Elt Ideal) ((c : Thread nD τ).loc main_v0) :=
  val_main_v21 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

section Blocks

variable (t : Fin cfg0.N) (y : S512x1024.Idx)

/-- A point's first product is the reference's at the block's place. -/
theorem first : mm (iblk m c 0 t) (iblk m c 3 t) y
    = pmm (m ((c : Thread nD τ).loc main_arg0)) (m ((c : Thread nD τ).loc main_arg3)) (((cfg0.win 9).blk t).view.emb y) := by
  obtain ⟨⟨a0, a1⟩, -, -, o0, o1, -⟩ := points t
  obtain ⟨⟨b0, b1⟩, -, -⟩ := wholes t
  exact sum_mul
    (fun k => congrArg (m ((c : Thread nD τ).loc main_arg0)) (ext2 (at_same 512 (y 0).val (a0.trans o0.symm)) (at_zero 512 k.val a1)))
    (fun k => congrArg (m ((c : Thread nD τ).loc main_arg3)) (ext2 (at_same 1024 (y 1).val (b0.trans o1.symm)) (at_zero 512 k.val b1)))

/-- A point's second product is the reference's at the block's place. -/
theorem second : mm (iblk m c 1 t) (iblk m c 4 t) y
    = pmm (m ((c : Thread nD τ).loc main_arg1)) (m ((c : Thread nD τ).loc main_arg4)) (((cfg0.win 9).blk t).view.emb y) := by
  obtain ⟨-, ⟨a0, a1⟩, -, o0, o1, -⟩ := points t
  obtain ⟨-, ⟨b0, b1⟩, -⟩ := wholes t
  exact sum_mul
    (fun k => congrArg (m ((c : Thread nD τ).loc main_arg1)) (ext2 (at_same 512 (y 0).val (a0.trans o0.symm)) (at_zero 512 k.val a1)))
    (fun k => congrArg (m ((c : Thread nD τ).loc main_arg4)) (ext2 (at_same 1024 (y 1).val (b0.trans o1.symm)) (at_zero 512 k.val b1)))

/-- A point's third product is the reference's at the block's place. -/
theorem third : mm (iblk m c 2 t) (iblk m c 5 t) y
    = pmm (m ((c : Thread nD τ).loc main_arg2)) (m ((c : Thread nD τ).loc main_arg5)) (((cfg0.win 9).blk t).view.emb y) := by
  obtain ⟨-, -, ⟨a0, a1⟩, o0, o1, -⟩ := points t
  obtain ⟨-, -, ⟨b0, b1⟩⟩ := wholes t
  exact sum_mul
    (fun k => congrArg (m ((c : Thread nD τ).loc main_arg2)) (ext2 (at_same 512 (y 0).val (a0.trans o0.symm)) (at_zero 512 k.val a1)))
    (fun k => congrArg (m ((c : Thread nD τ).loc main_arg5)) (ext2 (at_same 1024 (y 1).val (b0.trans o1.symm)) (at_zero 512 k.val b1)))

/-- A point's first gates. -/
theorem gate0 : (iblk m c 6 t : FVec Ideal S512x1024 .bf16) y
    = (m ((c : Thread nD τ).loc main_arg6) : FVec Ideal S4096x3072 .bf16) (idx_main_v1 (((cfg0.win 9).blk t).view.emb y)) := by
  obtain ⟨-, -, -, o0, o1, -⟩ := points t
  obtain ⟨⟨a0, a1⟩, -, -⟩ := thirds t
  refine congrArg (m ((c : Thread nD τ).loc main_arg6)) (ext2 ?_ ?_)
  · show win0_6.index t (0 : Fin 2) * 512 + 1 * (y 0).val = win0_9.index t (0 : Fin 2) * 512 + 1 * (y 0).val
    omega
  · show win0_6.index t (1 : Fin 2) * 1024 + 1 * (y 1).val = win0_9.index t (1 : Fin 2) * 1024 + 1 * (y 1).val
    omega

/-- A point's second gates. -/
theorem gate1 : (iblk m c 7 t : FVec Ideal S512x1024 .bf16) y
    = (m ((c : Thread nD τ).loc main_arg6) : FVec Ideal S4096x3072 .bf16) (idx_main_v2 (((cfg0.win 9).blk t).view.emb y)) := by
  obtain ⟨-, -, -, o0, o1, -⟩ := points t
  obtain ⟨-, ⟨a0, a1⟩, -⟩ := thirds t
  refine congrArg (m ((c : Thread nD τ).loc main_arg6)) (ext2 ?_ ?_)
  · show win0_7.index t (0 : Fin 2) * 512 + 1 * (y 0).val = win0_9.index t (0 : Fin 2) * 512 + 1 * (y 0).val
    omega
  · show win0_7.index t (1 : Fin 2) * 1024 + 1 * (y 1).val = 1024 + (win0_9.index t (1 : Fin 2) * 1024 + 1 * (y 1).val)
    omega

/-- A point's third gates. -/
theorem gate2 : (iblk m c 8 t : FVec Ideal S512x1024 .bf16) y
    = (m ((c : Thread nD τ).loc main_arg6) : FVec Ideal S4096x3072 .bf16) (idx_main_v3 (((cfg0.win 9).blk t).view.emb y)) := by
  obtain ⟨-, -, -, o0, o1, -⟩ := points t
  obtain ⟨-, -, ⟨a0, a1⟩⟩ := thirds t
  refine congrArg (m ((c : Thread nD τ).loc main_arg6)) (ext2 ?_ ?_)
  · show win0_8.index t (0 : Fin 2) * 512 + 1 * (y 0).val = win0_9.index t (0 : Fin 2) * 512 + 1 * (y 0).val
    omega
  · show win0_8.index t (1 : Fin 2) * 1024 + 1 * (y 1).val = 2048 + (win0_9.index t (1 : Fin 2) * 1024 + 1 * (y 1).val)
    omega

end Blocks

/-- Each point writes its block of the reference's merge. -/
theorem flushed (t : Fin cfg0.N) : (dats m 0 c).flushed 9 t = ((cfg0.win 9).blk t).view.read (Elt Ideal) (G m c) := by
  rw [flushed9]
  funext y
  refine (block (iblk m c 0 t) (iblk m c 1 t) (iblk m c 2 t) (iblk m c 3 t) (iblk m c 4 t) (iblk m c 5 t) (iblk m c 6 t) (iblk m c 7 t)
    (iblk m c 8 t) ((cfg0.win 9).xinj (grid0.coords t) y)).trans ?_
  refine Eq.trans ?_ (plain (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (((cfg0.win 9).blk t).view.emb y)).symm
  exact congrArg₂ (fun u v : EReal => u + v) (congrArg₂ (fun u v : EReal => u + v)
    (congrArg₂ (fun u v : EReal => u * v) (gate0 m c t y) (first m c t y)) (congrArg₂ (fun u v : EReal => u * v) (gate1 m c t y) (second m c t y)))
    (congrArg₂ (fun u v : EReal => u * v) (gate2 m c t y) (third m c t y))

/-- The points' blocks fill the result. -/
theorem covered (i : S4096x1024.Idx) : ∃ t : Fin cfg0.N, (cfg0.win 9).flush t = true ∧ i ∈ ((cfg0.win 9).blk t).view.set := by
  have h0 : (i 0).val < 4096 := (i 0).isLt
  let t : Fin cfg0.N := ⟨(i 0).val / 512, by rw [show cfg0.N = 8 from N_0]; omega⟩
  obtain ⟨-, -, -, o0, o1, hf⟩ := points t
  refine ⟨t, hf, ?_⟩
  show i ∈ ((View.whole main_v0).slice (win0_9.rect t)).set
  rw [View.set_slice_whole, Rect.mem_set_unit]
  exact Fin.forall_fin_two.2 ⟨in_block (n := 512) o0 (by decide), in_whole (n := 1024) o1 (i 1).isLt⟩

/-- The call's result is the reference's. -/
theorem final : (dats m 0 c).arrAt 9 cfg0.N = G m c :=
  (dats m 0 c).arrAt_eq_of_cover 9 (G m c) (fun t _ => flushed m c t) covered

end Cert.Mix.Merge
-- ==== Proof.Mix.Dmerge.lean ====
/-
  The gradient through the mixer's merge: each branch's product's, and each gate's logits'.
-/
module

public import proofs.«01_k».proof.Proof.Gen.Kernel17Ideal.Frame
public import proofs.«01_k».proof.Proof.Gen.Reference17Ideal.Read
public import proofs.«01_k».proof.Proof.Mix.Lib

@[expose] public section

set_option maxRecDepth 16384

noncomputable section

open Idealize.ShloMosaic Idealize.ShloMosaic.TcCoe Idealize.SL.Sem Finset
open Cert.Kernel17Ideal Cert.Kernel17Ideal.Gen
open Cert.Reference17Ideal.Read

namespace Cert.Mix.Dmerge

/-- An entry of one block of the merged branches' cotangent. -/
def top (z w : FVec Ideal S512x1024 .bf16) (j : S512x512.Idx) : EReal := ∑ k : Fin 1024, (z (ix2 (j 0) k) : EReal) * w (ix2 (j 1) k)

/-- An entry of one block of a branch's product. -/
def mm (x w : FVec Ideal S512x512 .bf16) (j : S512x512.Idx) : EReal := ∑ k : Fin 512, (x (ix2 (j 0) k) : EReal) * w (ix2 (j 1) k)

/-- An entry of the merged branches' cotangent. -/
def ptop (z : FVec Ideal S4096x1024 .bf16) (w : FVec Ideal S1024x1024 .bf16) (i : S4096x1024.Idx) : EReal :=
  ∑ k : Fin 1024, (z (ix2 (i 0) k) : EReal) * w (ix2 (i 1) k)

/-- An entry of a branch's product. -/
def pmm (x : FVec Ideal S4096x512 .bf16) (w : FVec Ideal S1024x512 .bf16) (i : S4096x1024.Idx) : EReal :=
  ∑ k : Fin 512, (x (ix2 (i 0) k) : EReal) * w (ix2 (i 1) k)

/-- The gates the host passes: the logistic function of the logits. -/
def gates (l : FVec Ideal S4096x3072 .f32) : FVec Ideal S4096x3072 .bf16 :=
  truncf .bf16 (Host.divf (broadcastInDim S4096x3072 ![] bcast_S_S4096x3072 (constant (F := Ideal) S_ .f32 0x3F800000#32))
    (addf (broadcastInDim S4096x3072 ![] bcast_S_S4096x3072 (constant (F := Ideal) S_ .f32 0x3F800000#32)) (Host.exp (Host.negf l)))) bitsLt_bf16_f32

/-- A gate's logit's gradient, from the cotangent, the branch's product and the gate. -/
def slope (d b g : EReal) : EReal := d * b * g * (1 - g)

section Block

variable (z w : FVec Ideal S512x1024 .bf16) (x0 x1 x2 w0 w1 w2 g0 g1 g2 : FVec Ideal S512x512 .bf16) (j : S512x512.Idx)

theorem pay7 : (k0_pay7 (F := Ideal) z w j : EReal) = top z w j := by
  unfold k0_pay7
  simp only [pointwise]
  simp only [zero_add]
  rfl

theorem pay8 : (k0_pay8 (F := Ideal) x0 w0 j : EReal) = mm x0 w0 j := by
  unfold k0_pay8
  simp only [pointwise]
  simp only [zero_add]
  rfl

/-- A gate, widened, is the gate. -/
theorem pay9 : (k0_pay9 (F := Ideal) g0 j : EReal) = g0 j := by
  unfold k0_pay9
  simp only [pointwise]

/-- A branch's gradient, entry by entry. -/
theorem weighed : (k0_pay1 (F := Ideal) (k0_pay12 (F := Ideal) z w g0) j : EReal) = top z w j * g0 j := by
  have e := pay7 z w j
  have e' := pay9 g0 j
  unfold k0_pay1 k0_pay12
  simp only [truncf_apply, pointwise]
  rw [e, e']

/-- A gate's logits' gradient, entry by entry. -/
theorem sloped : (k0_pay6 (F := Ideal) (k0_pay7 (F := Ideal) z w) (k0_pay8 (F := Ideal) x0 w0) (k0_pay9 (F := Ideal) g0) j : EReal)
    = slope (top z w j) (mm x0 w0 j) (g0 j) := by
  have e := pay7 z w j
  have e' := pay8 x0 w0 j
  have e'' := pay9 g0 j
  unfold k0_pay6
  simp only [truncf_apply, pointwise]
  rw [e, e', e'']
  rfl

/-- The six results, as the stores leave their blocks. -/
theorem block11 : (out0_11 (F := Ideal) z x0 x1 x2 w w0 w1 w2 g0 g1 g2 j : EReal) = top z w j * g0 j := by
  unfold out0_11
  rw [View.canon_cons_unit_lit _ _ _ (by decide)]
  iterate 3 rw [View.ld_unit_lit _ _ (by decide)]
  exact weighed z w g0 j

theorem block12 : (out0_12 (F := Ideal) z x0 x1 x2 w w0 w1 w2 g0 g1 g2 j : EReal) = top z w j * g1 j := by
  unfold out0_12
  rw [View.canon_cons_unit_lit _ _ _ (by decide)]
  iterate 3 rw [View.ld_unit_lit _ _ (by decide)]
  exact weighed z w g1 j

theorem block13 : (out0_13 (F := Ideal) z x0 x1 x2 w w0 w1 w2 g0 g1 g2 j : EReal) = top z w j * g2 j := by
  unfold out0_13
  rw [View.canon_cons_unit_lit _ _ _ (by decide)]
  iterate 3 rw [View.ld_unit_lit _ _ (by decide)]
  exact weighed z w g2 j

theorem block14 : (out0_14 (F := Ideal) z x0 x1 x2 w w0 w1 w2 g0 g1 g2 j : EReal) = slope (top z w j) (mm x0 w0 j) (g0 j) := by
  unfold out0_14
  rw [View.canon_cons_unit_lit _ _ _ (by decide)]
  iterate 5 rw [View.ld_unit_lit _ _ (by decide)]
  exact sloped z w x0 w0 g0 j

theorem block15 : (out0_15 (F := Ideal) z x0 x1 x2 w w0 w1 w2 g0 g1 g2 j : EReal) = slope (top z w j) (mm x1 w1 j) (g1 j) := by
  unfold out0_15
  rw [View.canon_cons_unit_lit _ _ _ (by decide)]
  iterate 5 rw [View.ld_unit_lit _ _ (by decide)]
  exact sloped z w x1 w1 g1 j

theorem block16 : (out0_16 (F := Ideal) z x0 x1 x2 w w0 w1 w2 g0 g1 g2 j : EReal) = slope (top z w j) (mm x2 w2 j) (g2 j) := by
  unfold out0_16
  rw [View.canon_cons_unit_lit _ _ _ (by decide)]
  iterate 5 rw [View.ld_unit_lit _ _ (by decide)]
  exact sloped z w x2 w2 g2 j

end Block

section Plain

variable (z : FVec Ideal S4096x1024 .bf16) (w : FVec Ideal S1024x1024 .bf16) (x : FVec Ideal S4096x512 .bf16) (u : FVec Ideal S1024x512 .bf16)
  (l : FVec Ideal S4096x3072 .f32) (i : S4096x1024.Idx)

/-- The reference's cotangent of the merged branches. -/
theorem plain50 : (val_main_v50 (F := Ideal) z w i : EReal) = ptop z w i := by
  rw [val_main_v50_apply]
  exact sum_mul (fun k => congrArg z (ext2 rfl rfl)) (fun k => congrArg w (ext2 rfl rfl))

/-- The reference's product of a branch. -/
theorem plain4 : (val_main_v4 (F := Ideal) x u i : EReal) = pmm x u i := by
  rw [val_main_v4_apply]
  refine sum_mul (fun k => congrArg x (ext2 rfl rfl)) (fun k => ?_)
  rw [val_main_v3_apply]
  exact congrArg u (ext2 rfl rfl)

/-- The reference's gates are the thirds of the host's. -/
theorem plain21 : (val_main_v21 (F := Ideal) l i : EReal) = gates l (idx_main_v13 i) := by
  rw [val_main_v21_apply, val_main_v20_apply, val_main_v19_apply, val_main_v18_apply, val_main_v17_apply, val_main_v16_apply, val_main_v13_apply, val_main_cst_0_apply,
    val_main_cst_apply]
  unfold gates
  simp only [truncf_apply, pointwise]

theorem plain31 : (val_main_v31 (F := Ideal) l i : EReal) = gates l (idx_main_v14 i) := by
  rw [val_main_v31_apply, val_main_v30_apply, val_main_v29_apply, val_main_v28_apply, val_main_v27_apply, val_main_v26_apply, val_main_v14_apply, val_main_cst_3_apply, val_main_cst_2_apply]
  unfold gates
  simp only [truncf_apply, pointwise]

theorem plain42 : (val_main_v42 (F := Ideal) l i : EReal) = gates l (idx_main_v15 i) := by
  rw [val_main_v42_apply, val_main_v41_apply, val_main_v40_apply, val_main_v39_apply, val_main_v38_apply, val_main_v37_apply, val_main_v15_apply, val_main_cst_6_apply,
    val_main_cst_5_apply]
  unfold gates
  simp only [truncf_apply, pointwise]

/-- The reference's gradient of a gate's logits is the kernel's form of it. -/
theorem slope_eq (d b g : EReal) : d * b * (g * (Ideal.ofBits .f32 0x3F800000#32 - g)) = slope d b g := by
  rw [Ideal.ofBits_one_f32]
  exact (mul_assoc (d * b) g (1 - g)).symm

/-- The reference's six results, entry by entry. -/
theorem plain60 : (val_main_v60 (F := Ideal) z w l i : EReal) = ptop z w i * gates l (idx_main_v13 i) := by
  rw [val_main_v60_apply, val_main_v57_apply, ← plain50, ← plain21]
  exact mul_comm _ _

theorem plain61 : (val_main_v61 (F := Ideal) z w l i : EReal) = ptop z w i * gates l (idx_main_v14 i) := by
  rw [val_main_v61_apply, val_main_v54_apply, ← plain50, ← plain31]
  exact mul_comm _ _

theorem plain62 : (val_main_v62 (F := Ideal) z w l i : EReal) = ptop z w i * gates l (idx_main_v15 i) := by
  rw [val_main_v62_apply, val_main_v51_apply, ← plain50, ← plain42]
  exact mul_comm _ _

theorem plain63 : (val_main_v63 (F := Ideal) z x w u l i : EReal) = slope (ptop z w i) (pmm x u i) (gates l (idx_main_v13 i)) := by
  rw [val_main_v63_apply, val_main_v59_apply, val_main_v58_apply, val_main_v24_apply, val_main_v23_apply, val_main_v22_apply, ← plain50, ← plain4,
    ← plain21]
  exact slope_eq _ _ _

theorem plain64 : (val_main_v64 (F := Ideal) z x w u l i : EReal) = slope (ptop z w i) (pmm x u i) (gates l (idx_main_v14 i)) := by
  rw [val_main_v64_apply, val_main_v56_apply, val_main_v55_apply, val_main_v34_apply, val_main_v33_apply, val_main_v32_apply, ← plain50, ← plain4,
    ← plain31]
  exact slope_eq _ _ _

theorem plain65 : (val_main_v65 (F := Ideal) z x w u l i : EReal) = slope (ptop z w i) (pmm x u i) (gates l (idx_main_v15 i)) := by
  rw [val_main_v65_apply, val_main_v53_apply, val_main_v52_apply, val_main_v45_apply, val_main_v44_apply, val_main_v43_apply, ← plain50, ← plain4,
    ← plain42]
  exact slope_eq _ _ _

end Plain

/-- Where the grid's points read the activations. -/
theorem points : ∀ t : Fin cfg0.N, (win0_0.index t (0 : Fin 2) = t.val % 8 ∧ win0_0.index t (1 : Fin 2) = 0)
    ∧ (win0_1.index t (0 : Fin 2) = t.val % 8 ∧ win0_1.index t (1 : Fin 2) = 0)
    ∧ (win0_2.index t (0 : Fin 2) = t.val % 8 ∧ win0_2.index t (1 : Fin 2) = 0)
    ∧ (win0_3.index t (0 : Fin 2) = t.val % 8 ∧ win0_3.index t (1 : Fin 2) = 0) :=
  (by decide +kernel : ∀ t : Fin grid0.N, _)

/-- Where the grid's points read the weights. -/
theorem weights : ∀ t : Fin cfg0.N, (win0_4.index t (0 : Fin 2) = t.val / 8 ∧ win0_4.index t (1 : Fin 2) = 0)
    ∧ (win0_5.index t (0 : Fin 2) = t.val / 8 ∧ win0_5.index t (1 : Fin 2) = 0)
    ∧ (win0_6.index t (0 : Fin 2) = t.val / 8 ∧ win0_6.index t (1 : Fin 2) = 0)
    ∧ (win0_7.index t (0 : Fin 2) = t.val / 8 ∧ win0_7.index t (1 : Fin 2) = 0) :=
  (by decide +kernel : ∀ t : Fin grid0.N, _)

/-- Where the grid's points read the three thirds of the gates. -/
theorem thirds : ∀ t : Fin cfg0.N, (win0_8.index t (0 : Fin 2) = t.val % 8 ∧ win0_8.index t (1 : Fin 2) = t.val / 8)
    ∧ (win0_9.index t (0 : Fin 2) = t.val % 8 ∧ win0_9.index t (1 : Fin 2) = t.val / 8 + 2)
    ∧ (win0_10.index t (0 : Fin 2) = t.val % 8 ∧ win0_10.index t (1 : Fin 2) = t.val / 8 + 4) :=
  (by decide +kernel : ∀ t : Fin grid0.N, _)

/-- Where the grid's points write. -/
theorem places : ∀ t : Fin cfg0.N, (win0_11.index t (0 : Fin 2) = t.val % 8 ∧ win0_11.index t (1 : Fin 2) = t.val / 8)
    ∧ (win0_12.index t (0 : Fin 2) = t.val % 8 ∧ win0_12.index t (1 : Fin 2) = t.val / 8)
    ∧ (win0_13.index t (0 : Fin 2) = t.val % 8 ∧ win0_13.index t (1 : Fin 2) = t.val / 8)
    ∧ (win0_14.index t (0 : Fin 2) = t.val % 8 ∧ win0_14.index t (1 : Fin 2) = t.val / 8)
    ∧ (win0_15.index t (0 : Fin 2) = t.val % 8 ∧ win0_15.index t (1 : Fin 2) = t.val / 8)
    ∧ (win0_16.index t (0 : Fin 2) = t.val % 8 ∧ win0_16.index t (1 : Fin 2) = t.val / 8) :=
  (by decide +kernel : ∀ t : Fin grid0.N, _)

theorem points_lt (t : Fin cfg0.N) : t.val < 16 := lt_of_lt_of_eq t.isLt N_0

/-- A point's row and column of the whole array. -/
def rowAt (t : Fin cfg0.N) (a : Fin 512) : Fin 4096 := ⟨t.val % 8 * 512 + a.val, by omega⟩
def colAt (t : Fin cfg0.N) (b : Fin 512) : Fin 1024 := ⟨t.val / 8 * 512 + b.val, by have := points_lt t; omega⟩

theorem row_val {t : Fin cfg0.N} {k : ℕ} (h : k = t.val % 8) (a : Fin 512) : k * 512 + 1 * a.val = (rowAt t a).val := by
  subst h; show _ = t.val % 8 * 512 + a.val; omega

theorem col_val {t : Fin cfg0.N} {k : ℕ} (h : k = t.val / 8) (b : Fin 512) : k * 512 + 1 * b.val = (colAt t b).val := by
  subst h; show _ = t.val / 8 * 512 + b.val; omega

/-- The place of a block's entry in the whole array. -/
def place (t : Fin cfg0.N) (y : S512x512.Idx) : S4096x1024.Idx := ix2 (rowAt t (y 0)) (colAt t (y 1))

/-- The point that writes an entry. -/
def pointOf (i : S4096x1024.Idx) : Fin cfg0.N :=
  ⟨(i 1).val / 512 * 8 + (i 0).val / 512, by
    have h0 : (i 0).val < 4096 := (i 0).isLt
    have h1 : (i 1).val < 1024 := (i 1).isLt
    rw [show cfg0.N = 16 from N_0]; omega⟩

theorem pointOf_row (i : S4096x1024.Idx) : (pointOf i).val % 8 = (i 0).val / 512 := by
  have h0 : (i 0).val < 4096 := (i 0).isLt
  show ((i 1).val / 512 * 8 + (i 0).val / 512) % 8 = _
  omega

theorem pointOf_col (i : S4096x1024.Idx) : (pointOf i).val / 8 = (i 1).val / 512 := by
  have h0 : (i 0).val < 4096 := (i 0).isLt
  show ((i 1).val / 512 * 8 + (i 0).val / 512) / 8 = _
  omega

variable (m : (ℓ : Loc nD τ sig) → Buf (Elt Ideal) ℓ) (c : Dev nD)

/-- The argument arrays at one core. -/
def a0 : FVec Ideal S4096x1024 .bf16 := m ((c : Thread nD τ).loc main_arg0)
def a1 : FVec Ideal S4096x512 .bf16 := m ((c : Thread nD τ).loc main_arg1)
def a2 : FVec Ideal S4096x512 .bf16 := m ((c : Thread nD τ).loc main_arg2)
def a3 : FVec Ideal S4096x512 .bf16 := m ((c : Thread nD τ).loc main_arg3)
def a4 : FVec Ideal S1024x1024 .bf16 := m ((c : Thread nD τ).loc main_arg4)
def a5 : FVec Ideal S1024x512 .bf16 := m ((c : Thread nD τ).loc main_arg5)
def a6 : FVec Ideal S1024x512 .bf16 := m ((c : Thread nD τ).loc main_arg6)
def a7 : FVec Ideal S1024x512 .bf16 := m ((c : Thread nD τ).loc main_arg7)
def a8 : FVec Ideal S4096x3072 .f32 := m ((c : Thread nD τ).loc main_arg8)

/-- The host's gates, in the array the call reads. -/
theorem host : (V m c main_v6 : FVec Ideal S4096x3072 .bf16) = gates (a8 m c) := by
  unfold V
  simp only [hostOps0, List.flatten_cons, List.flatten_nil, List.append_nil, List.cons_append, List.nil_append]
  after_results_simp
  rfl

section Blocks

variable (t : Fin cfg0.N) (y : S512x512.Idx)

/-- A point's block of the merged branches' cotangent. -/
theorem tops : top (iblk m c 0 t) (iblk m c 4 t) y = ptop (a0 m c) (a4 m c) (place t y) := by
  obtain ⟨⟨p, q⟩, -⟩ := points t
  obtain ⟨⟨r, s⟩, -⟩ := weights t
  exact sum_mul (fun k => (congrFun (V_main_arg0 m c) _).trans (congrArg (a0 m c) (ext2 (row_val p (y 0)) (at_zero 1024 k.val q))))
    fun k => (congrFun (V_main_arg4 m c) _).trans (congrArg (a4 m c) (ext2 (col_val r (y 1)) (at_zero 1024 k.val s)))

/-- A point's blocks of the three branches' products. -/
theorem mms : mm (iblk m c 1 t) (iblk m c 5 t) y = pmm (a1 m c) (a5 m c) (place t y)
    ∧ mm (iblk m c 2 t) (iblk m c 6 t) y = pmm (a2 m c) (a6 m c) (place t y)
    ∧ mm (iblk m c 3 t) (iblk m c 7 t) y = pmm (a3 m c) (a7 m c) (place t y) := by
  obtain ⟨-, ⟨p1, q1⟩, ⟨p2, q2⟩, ⟨p3, q3⟩⟩ := points t
  obtain ⟨-, ⟨r1, s1⟩, ⟨r2, s2⟩, ⟨r3, s3⟩⟩ := weights t
  exact ⟨sum_mul (fun k => (congrFun (V_main_arg1 m c) _).trans (congrArg (a1 m c) (ext2 (row_val p1 (y 0)) (at_zero 512 k.val q1))))
      fun k => (congrFun (V_main_arg5 m c) _).trans (congrArg (a5 m c) (ext2 (col_val r1 (y 1)) (at_zero 512 k.val s1))),
    sum_mul (fun k => (congrFun (V_main_arg2 m c) _).trans (congrArg (a2 m c) (ext2 (row_val p2 (y 0)) (at_zero 512 k.val q2))))
      fun k => (congrFun (V_main_arg6 m c) _).trans (congrArg (a6 m c) (ext2 (col_val r2 (y 1)) (at_zero 512 k.val s2))),
    sum_mul (fun k => (congrFun (V_main_arg3 m c) _).trans (congrArg (a3 m c) (ext2 (row_val p3 (y 0)) (at_zero 512 k.val q3))))
      fun k => (congrFun (V_main_arg7 m c) _).trans (congrArg (a7 m c) (ext2 (col_val r3 (y 1)) (at_zero 512 k.val s3)))⟩

/-- A point's blocks of the three thirds of the gates. -/
theorem opens : (iblk m c 8 t : FVec Ideal S512x512 .bf16) y = gates (a8 m c) (idx_main_v13 (place t y))
    ∧ (iblk m c 9 t : FVec Ideal S512x512 .bf16) y = gates (a8 m c) (idx_main_v14 (place t y))
    ∧ (iblk m c 10 t : FVec Ideal S512x512 .bf16) y = gates (a8 m c) (idx_main_v15 (place t y)) := by
  obtain ⟨⟨p8, q8⟩, ⟨p9, q9⟩, ⟨p10, q10⟩⟩ := thirds t
  refine ⟨(congrFun (host m c) _).trans (congrArg (gates (a8 m c)) (ext2 (row_val p8 (y 0)) ?_)),
    (congrFun (host m c) _).trans (congrArg (gates (a8 m c)) (ext2 (row_val p9 (y 0)) ?_)),
    (congrFun (host m c) _).trans (congrArg (gates (a8 m c)) (ext2 (row_val p10 (y 0)) ?_))⟩
  · exact col_val q8 (y 1)
  · show win0_9.index t (1 : Fin 2) * 512 + 1 * (y 1).val = 1024 + (t.val / 8 * 512 + (y 1).val)
    omega
  · show win0_10.index t (1 : Fin 2) * 512 + 1 * (y 1).val = 2048 + (t.val / 8 * 512 + (y 1).val)
    omega

end Blocks

/-- The six arrays the call leaves. -/
def G11 : Buf (Elt Ideal) ((c : Thread nD τ).loc main_v7_0) := val_main_v60 (F := Ideal) (a0 m c) (a4 m c) (a8 m c)
def G12 : Buf (Elt Ideal) ((c : Thread nD τ).loc main_v7_1) := val_main_v61 (F := Ideal) (a0 m c) (a4 m c) (a8 m c)
def G13 : Buf (Elt Ideal) ((c : Thread nD τ).loc main_v7_2) := val_main_v62 (F := Ideal) (a0 m c) (a4 m c) (a8 m c)
def G14 : Buf (Elt Ideal) ((c : Thread nD τ).loc main_v7_3) :=
  val_main_v63 (F := Ideal) (a0 m c) (a1 m c) (a4 m c) (a5 m c) (a8 m c)
def G15 : Buf (Elt Ideal) ((c : Thread nD τ).loc main_v7_4) :=
  val_main_v64 (F := Ideal) (a0 m c) (a2 m c) (a4 m c) (a6 m c) (a8 m c)
def G16 : Buf (Elt Ideal) ((c : Thread nD τ).loc main_v7_5) :=
  val_main_v65 (F := Ideal) (a0 m c) (a3 m c) (a4 m c) (a7 m c) (a8 m c)

/-- Each point writes its block of each of the six. -/
theorem flushed11_eq (t : Fin cfg0.N) : (dats m 0 c).flushed 11 t = ((cfg0.win 11).blk t).view.read (Elt Ideal) (G11 m c) := by
  obtain ⟨⟨o0, o1⟩, -⟩ := places t
  show (cfg0.win 11).cut (grid0.coords t) ((dats m 0 c).after 11 t) = _
  rw [after0_11]
  funext y
  have e : place t y = ((cfg0.win 11).blk t).view.emb y := ext2 (row_val o0 (y 0)).symm (col_val o1 (y 1)).symm
  refine (block11 (iblk m c 0 t) (iblk m c 4 t) (iblk m c 1 t) (iblk m c 2 t) (iblk m c 3 t) (iblk m c 5 t) (iblk m c 6 t) (iblk m c 7 t)
    (iblk m c 8 t) (iblk m c 9 t) (iblk m c 10 t) ((cfg0.win 11).xinj (grid0.coords t) y)).trans ?_
  refine (congrArg₂ (fun u v : EReal => u * v) (tops m c t y) (opens m c t y).1).trans ?_
  exact (plain60 (a0 m c) (a4 m c) (a8 m c) (place t y)).symm.trans (congrArg (G11 m c) e)

theorem flushed12_eq (t : Fin cfg0.N) : (dats m 0 c).flushed 12 t = ((cfg0.win 12).blk t).view.read (Elt Ideal) (G12 m c) := by
  obtain ⟨-, ⟨o0, o1⟩, -⟩ := places t
  show (cfg0.win 12).cut (grid0.coords t) ((dats m 0 c).after 12 t) = _
  rw [after0_12]
  funext y
  have e : place t y = ((cfg0.win 12).blk t).view.emb y := ext2 (row_val o0 (y 0)).symm (col_val o1 (y 1)).symm
  refine (block12 (iblk m c 0 t) (iblk m c 4 t) (iblk m c 1 t) (iblk m c 2 t) (iblk m c 3 t) (iblk m c 5 t) (iblk m c 6 t) (iblk m c 7 t)
    (iblk m c 8 t) (iblk m c 9 t) (iblk m c 10 t) ((cfg0.win 12).xinj (grid0.coords t) y)).trans ?_
  refine (congrArg₂ (fun u v : EReal => u * v) (tops m c t y) (opens m c t y).2.1).trans ?_
  exact (plain61 (a0 m c) (a4 m c) (a8 m c) (place t y)).symm.trans (congrArg (G12 m c) e)

theorem flushed13_eq (t : Fin cfg0.N) : (dats m 0 c).flushed 13 t = ((cfg0.win 13).blk t).view.read (Elt Ideal) (G13 m c) := by
  obtain ⟨-, -, ⟨o0, o1⟩, -⟩ := places t
  show (cfg0.win 13).cut (grid0.coords t) ((dats m 0 c).after 13 t) = _
  rw [after0_13]
  funext y
  have e : place t y = ((cfg0.win 13).blk t).view.emb y := ext2 (row_val o0 (y 0)).symm (col_val o1 (y 1)).symm
  refine (block13 (iblk m c 0 t) (iblk m c 4 t) (iblk m c 1 t) (iblk m c 2 t) (iblk m c 3 t) (iblk m c 5 t) (iblk m c 6 t) (iblk m c 7 t)
    (iblk m c 8 t) (iblk m c 9 t) (iblk m c 10 t) ((cfg0.win 13).xinj (grid0.coords t) y)).trans ?_
  refine (congrArg₂ (fun u v : EReal => u * v) (tops m c t y) (opens m c t y).2.2).trans ?_
  exact (plain62 (a0 m c) (a4 m c) (a8 m c) (place t y)).symm.trans (congrArg (G13 m c) e)

theorem flushed14_eq (t : Fin cfg0.N) : (dats m 0 c).flushed 14 t = ((cfg0.win 14).blk t).view.read (Elt Ideal) (G14 m c) := by
  obtain ⟨-, -, -, ⟨o0, o1⟩, -⟩ := places t
  show (cfg0.win 14).cut (grid0.coords t) ((dats m 0 c).after 14 t) = _
  rw [after0_14]
  funext y
  have e : place t y = ((cfg0.win 14).blk t).view.emb y := ext2 (row_val o0 (y 0)).symm (col_val o1 (y 1)).symm
  refine (block14 (iblk m c 0 t) (iblk m c 4 t) (iblk m c 1 t) (iblk m c 2 t) (iblk m c 3 t) (iblk m c 5 t) (iblk m c 6 t) (iblk m c 7 t)
    (iblk m c 8 t) (iblk m c 9 t) (iblk m c 10 t) ((cfg0.win 14).xinj (grid0.coords t) y)).trans ?_
  refine (congr (congrArg₂ slope (tops m c t y) (mms m c t y).1) (opens m c t y).1).trans ?_
  exact (plain63 (a0 m c) (a4 m c) (a1 m c) (a5 m c) (a8 m c) (place t y)).symm.trans (congrArg (G14 m c) e)

theorem flushed15_eq (t : Fin cfg0.N) : (dats m 0 c).flushed 15 t = ((cfg0.win 15).blk t).view.read (Elt Ideal) (G15 m c) := by
  obtain ⟨-, -, -, -, ⟨o0, o1⟩, -⟩ := places t
  show (cfg0.win 15).cut (grid0.coords t) ((dats m 0 c).after 15 t) = _
  rw [after0_15]
  funext y
  have e : place t y = ((cfg0.win 15).blk t).view.emb y := ext2 (row_val o0 (y 0)).symm (col_val o1 (y 1)).symm
  refine (block15 (iblk m c 0 t) (iblk m c 4 t) (iblk m c 1 t) (iblk m c 2 t) (iblk m c 3 t) (iblk m c 5 t) (iblk m c 6 t) (iblk m c 7 t)
    (iblk m c 8 t) (iblk m c 9 t) (iblk m c 10 t) ((cfg0.win 15).xinj (grid0.coords t) y)).trans ?_
  refine (congr (congrArg₂ slope (tops m c t y) (mms m c t y).2.1) (opens m c t y).2.1).trans ?_
  exact (plain64 (a0 m c) (a4 m c) (a2 m c) (a6 m c) (a8 m c) (place t y)).symm.trans (congrArg (G15 m c) e)

theorem flushed16_eq (t : Fin cfg0.N) : (dats m 0 c).flushed 16 t = ((cfg0.win 16).blk t).view.read (Elt Ideal) (G16 m c) := by
  obtain ⟨-, -, -, -, -, ⟨o0, o1⟩⟩ := places t
  show (cfg0.win 16).cut (grid0.coords t) ((dats m 0 c).after 16 t) = _
  rw [after0_16]
  funext y
  have e : place t y = ((cfg0.win 16).blk t).view.emb y := ext2 (row_val o0 (y 0)).symm (col_val o1 (y 1)).symm
  refine (block16 (iblk m c 0 t) (iblk m c 4 t) (iblk m c 1 t) (iblk m c 2 t) (iblk m c 3 t) (iblk m c 5 t) (iblk m c 6 t) (iblk m c 7 t)
    (iblk m c 8 t) (iblk m c 9 t) (iblk m c 10 t) ((cfg0.win 16).xinj (grid0.coords t) y)).trans ?_
  refine (congr (congrArg₂ slope (tops m c t y) (mms m c t y).2.2) (opens m c t y).2.2).trans ?_
  exact (plain65 (a0 m c) (a4 m c) (a3 m c) (a7 m c) (a8 m c) (place t y)).symm.trans (congrArg (G16 m c) e)

/-- The blocks fill each result. -/
theorem covered11 (i : S4096x1024.Idx) : ∃ t : Fin cfg0.N, (cfg0.win 11).flush t = true ∧ i ∈ ((cfg0.win 11).blk t).view.set := by
  obtain ⟨⟨o0, o1⟩, -⟩ := places (pointOf i)
  refine ⟨pointOf i, flush0_11 _, ?_⟩
  show i ∈ ((View.whole main_v7_0).slice (win0_11.rect (pointOf i))).set
  rw [View.set_slice_whole, Rect.mem_set_unit]
  exact Fin.forall_fin_two.2 ⟨in_block (n := 512) (o0.trans (pointOf_row i)) (by decide), in_block (n := 512) (o1.trans (pointOf_col i)) (by decide)⟩

theorem covered12 (i : S4096x1024.Idx) : ∃ t : Fin cfg0.N, (cfg0.win 12).flush t = true ∧ i ∈ ((cfg0.win 12).blk t).view.set := by
  obtain ⟨-, ⟨o0, o1⟩, -⟩ := places (pointOf i)
  refine ⟨pointOf i, flush0_12 _, ?_⟩
  show i ∈ ((View.whole main_v7_1).slice (win0_12.rect (pointOf i))).set
  rw [View.set_slice_whole, Rect.mem_set_unit]
  exact Fin.forall_fin_two.2 ⟨in_block (n := 512) (o0.trans (pointOf_row i)) (by decide), in_block (n := 512) (o1.trans (pointOf_col i)) (by decide)⟩

theorem covered13 (i : S4096x1024.Idx) : ∃ t : Fin cfg0.N, (cfg0.win 13).flush t = true ∧ i ∈ ((cfg0.win 13).blk t).view.set := by
  obtain ⟨-, -, ⟨o0, o1⟩, -⟩ := places (pointOf i)
  refine ⟨pointOf i, flush0_13 _, ?_⟩
  show i ∈ ((View.whole main_v7_2).slice (win0_13.rect (pointOf i))).set
  rw [View.set_slice_whole, Rect.mem_set_unit]
  exact Fin.forall_fin_two.2 ⟨in_block (n := 512) (o0.trans (pointOf_row i)) (by decide), in_block (n := 512) (o1.trans (pointOf_col i)) (by decide)⟩

theorem covered14 (i : S4096x1024.Idx) : ∃ t : Fin cfg0.N, (cfg0.win 14).flush t = true ∧ i ∈ ((cfg0.win 14).blk t).view.set := by
  obtain ⟨-, -, -, ⟨o0, o1⟩, -⟩ := places (pointOf i)
  refine ⟨pointOf i, flush0_14 _, ?_⟩
  show i ∈ ((View.whole main_v7_3).slice (win0_14.rect (pointOf i))).set
  rw [View.set_slice_whole, Rect.mem_set_unit]
  exact Fin.forall_fin_two.2 ⟨in_block (n := 512) (o0.trans (pointOf_row i)) (by decide), in_block (n := 512) (o1.trans (pointOf_col i)) (by decide)⟩

theorem covered15 (i : S4096x1024.Idx) : ∃ t : Fin cfg0.N, (cfg0.win 15).flush t = true ∧ i ∈ ((cfg0.win 15).blk t).view.set := by
  obtain ⟨-, -, -, -, ⟨o0, o1⟩, -⟩ := places (pointOf i)
  refine ⟨pointOf i, flush0_15 _, ?_⟩
  show i ∈ ((View.whole main_v7_4).slice (win0_15.rect (pointOf i))).set
  rw [View.set_slice_whole, Rect.mem_set_unit]
  exact Fin.forall_fin_two.2 ⟨in_block (n := 512) (o0.trans (pointOf_row i)) (by decide), in_block (n := 512) (o1.trans (pointOf_col i)) (by decide)⟩

theorem covered16 (i : S4096x1024.Idx) : ∃ t : Fin cfg0.N, (cfg0.win 16).flush t = true ∧ i ∈ ((cfg0.win 16).blk t).view.set := by
  obtain ⟨-, -, -, -, -, ⟨o0, o1⟩⟩ := places (pointOf i)
  refine ⟨pointOf i, flush0_16 _, ?_⟩
  show i ∈ ((View.whole main_v7_5).slice (win0_16.rect (pointOf i))).set
  rw [View.set_slice_whole, Rect.mem_set_unit]
  exact Fin.forall_fin_two.2 ⟨in_block (n := 512) (o0.trans (pointOf_row i)) (by decide), in_block (n := 512) (o1.trans (pointOf_col i)) (by decide)⟩

/-- The call's six arrays. -/
theorem final : (dats m 0 c).arrAt 11 cfg0.N = G11 m c ∧ (dats m 0 c).arrAt 12 cfg0.N = G12 m c ∧ (dats m 0 c).arrAt 13 cfg0.N = G13 m c
    ∧ (dats m 0 c).arrAt 14 cfg0.N = G14 m c ∧ (dats m 0 c).arrAt 15 cfg0.N = G15 m c ∧ (dats m 0 c).arrAt 16 cfg0.N = G16 m c := by
  exact ⟨(dats m 0 c).arrAt_eq_of_cover 11 (G11 m c) (fun t _ => flushed11_eq m c t) covered11,
    (dats m 0 c).arrAt_eq_of_cover 12 (G12 m c) (fun t _ => flushed12_eq m c t) covered12,
    (dats m 0 c).arrAt_eq_of_cover 13 (G13 m c) (fun t _ => flushed13_eq m c t) covered13,
    (dats m 0 c).arrAt_eq_of_cover 14 (G14 m c) (fun t _ => flushed14_eq m c t) covered14,
    (dats m 0 c).arrAt_eq_of_cover 15 (G15 m c) (fun t _ => flushed15_eq m c t) covered15,
    (dats m 0 c).arrAt_eq_of_cover 16 (G16 m c) (fun t _ => flushed16_eq m c t) covered16⟩

/-- The kernel's run ends with the reference's six results. -/
theorem kernel_run (ρ : Dev nD → PrngReg) :
    θ_run defs (onTc (τ := τ) (main (F := Ideal))) ⟨m, fun _ => 0, ρ⟩ (fun r => ∀ c : Dev nD,
      r.2.mem ((c : Thread nD τ).loc main_v7_0) = G11 m c ∧ r.2.mem ((c : Thread nD τ).loc main_v7_1) = G12 m c
      ∧ r.2.mem ((c : Thread nD τ).loc main_v7_2) = G13 m c ∧ r.2.mem ((c : Thread nD τ).loc main_v7_3) = G14 m c
      ∧ r.2.mem ((c : Thread nD τ).loc main_v7_4) = G15 m c ∧ r.2.mem ((c : Thread nD τ).loc main_v7_5) = G16 m c) := by
  refine (θ_run defs _ _).mono (fun r h c => ?_) (Gen.run_main m ρ)
  obtain ⟨e11, e12, e13, e14, e15, e16⟩ := final m c
  exact ⟨((h c).1 11).trans e11, ((h c).1 12).trans e12, ((h c).1 13).trans e13, ((h c).1 14).trans e14, ((h c).1 15).trans e15,
    ((h c).1 16).trans e16⟩

end Cert.Mix.Dmerge

end
-- ==== Proof.Mix.Dbr.lean ====
/-
  The gradient of a branch's output: the rows of its cotangent against the columns of the projection.
-/
module

public import proofs.«01_k».proof.Proof.Gen.Kernel11Ideal.Value
public import proofs.«01_k».proof.Proof.Gen.Reference11Ideal.Read
public import proofs.«01_k».proof.Proof.Mix.Lib

@[expose] public section

set_option maxRecDepth 16384

noncomputable section

open Idealize.ShloMosaic Idealize.ShloMosaic.TcCoe Idealize.SL.Sem Finset
open Cert.Kernel11Ideal Cert.Kernel11Ideal.Gen Cert.Kernel11Ideal.Value
open Cert.Reference11Ideal.Read

namespace Cert.Mix.Dbr

/-- One block of the product, entry by entry. -/
theorem block (x : FVec Ideal S512x1024 .bf16) (y : FVec Ideal S1024x512 .bf16) (j : S512x512.Idx) :
    (out0_2 (F := Ideal) x y j : EReal) = ∑ k : Fin 1024, (x (ix2 (j 0) k) : EReal) * y (ix2 k (j 1)) := by
  unfold out0_2
  rw [View.canon_cons_unit_lit _ _ _ (by decide), View.ld_unit_lit _ _ (by decide), View.ld_unit_lit _ _ (by decide)]
  unfold k0_pay1
  simp only [truncf_apply, pointwise]
  rw [zero_add]

/-- The reference's product, entry by entry. -/
theorem plain (x : FVec Ideal S4096x1024 .bf16) (y : FVec Ideal S1024x512 .bf16) (i : S4096x512.Idx) :
    (val_main_v6 (F := Ideal) x y i : EReal) = ∑ k : Fin 1024, (x (ix2 (i 0) k) : EReal) * y (ix2 k (i 1)) := by
  rw [val_main_v6_apply, val_main_v5_apply]
  refine sum_mul (fun k => congrArg x (ext2 rfl rfl)) (fun k => ?_)
  rw [val_main_v2_apply]
  exact congrArg y (ext2 rfl rfl)

/-- The grid's points take the blocks of the first argument's rows in turn. -/
theorem points : ∀ t : Fin cfg0.N, win0_0.index t (0 : Fin 2) = t.val ∧ win0_0.index t (1 : Fin 2) = 0 ∧ win0_1.index t (0 : Fin 2) = 0
    ∧ win0_1.index t (1 : Fin 2) = 0 ∧ win0_2.index t (0 : Fin 2) = t.val ∧ win0_2.index t (1 : Fin 2) = 0 ∧ win0_2.flush t = true :=
  (by decide +kernel : ∀ t : Fin grid0.N, _)

variable (m : (ℓ : Loc nD τ sig) → Buf (Elt Ideal) ℓ) (c : Dev nD)

/-- The array the call leaves. -/
def G : Buf (Elt Ideal) ((c : Thread nD τ).loc main_v0) :=
  val_main_v6 (F := Ideal) (m ((c : Thread nD τ).loc main_arg0)) (m ((c : Thread nD τ).loc main_arg1))

/-- Each point writes its block of the reference's product. -/
theorem flushed (t : Fin cfg0.N) : (dats m 0 c).flushed 2 t = ((cfg0.win 2).blk t).view.read (Elt Ideal) (G m c) := by
  rw [flushed2]
  obtain ⟨a0, a1, b0, b1, o0, o1, -⟩ := points t
  funext y
  refine (block (iblk m c 0 t) (iblk m c 1 t) ((cfg0.win 2).xinj (grid0.coords t) y)).trans ?_
  refine Eq.trans ?_ (plain (m ((c : Thread nD τ).loc main_arg0)) (m ((c : Thread nD τ).loc main_arg1)) (((cfg0.win 2).blk t).view.emb y)).symm
  exact sum_mul
    (fun k => congrArg (m ((c : Thread nD τ).loc main_arg0)) (ext2 (at_same 512 (y 0).val (a0.trans o0.symm)) (at_zero 1024 k.val a1)))
    (fun k => congrArg (m ((c : Thread nD τ).loc main_arg1)) (ext2 (at_zero 1024 k.val b0) (at_same 512 (y 1).val (b1.trans o1.symm))))

/-- The points' blocks fill the result. -/
theorem covered (i : S4096x512.Idx) : ∃ t : Fin cfg0.N, (cfg0.win 2).flush t = true ∧ i ∈ ((cfg0.win 2).blk t).view.set := by
  have h0 : (i 0).val < 4096 := (i 0).isLt
  let t : Fin cfg0.N := ⟨(i 0).val / 512, by rw [show cfg0.N = 8 from N_0]; omega⟩
  obtain ⟨-, -, -, -, o0, o1, hf⟩ := points t
  refine ⟨t, hf, ?_⟩
  show i ∈ ((View.whole main_v0).slice (win0_2.rect t)).set
  rw [View.set_slice_whole, Rect.mem_set_unit]
  exact Fin.forall_fin_two.2 ⟨in_block (n := 512) o0 (by decide), in_whole (n := 512) o1 (i 1).isLt⟩

/-- The call's result is the reference's. -/
theorem final : (dats m 0 c).arrAt 2 cfg0.N = G m c :=
  (dats m 0 c).arrAt_eq_of_cover 2 (G m c) (fun t _ => flushed m c t) covered

end Cert.Mix.Dbr
-- ==== Proof.Mix.DwBr.lean ====
/-
  The gradient of a branch's projection: the columns of the branch's cotangent against the columns of the branch.
-/
module

public import proofs.«01_k».proof.Proof.Gen.Kernel12Ideal.Value
public import proofs.«01_k».proof.Proof.Gen.Reference12Ideal.Read
public import proofs.«01_k».proof.Proof.Mix.Lib

@[expose] public section

set_option maxRecDepth 16384

noncomputable section

open Idealize.ShloMosaic Idealize.ShloMosaic.TcCoe Idealize.SL.Sem Finset
open Cert.Kernel12Ideal Cert.Kernel12Ideal.Gen Cert.Kernel12Ideal.Value
open Cert.Reference12Ideal.Read

namespace Cert.Mix.DwBr

/-- One block of the product, entry by entry. -/
theorem block (x : FVec Ideal S4096x512 .bf16) (y : FVec Ideal S4096x512 .bf16) (j : S512x512.Idx) :
    (out0_2 (F := Ideal) x y j : EReal) = ∑ k : Fin 4096, (x (ix2 k (j 0)) : EReal) * y (ix2 k (j 1)) := by
  unfold out0_2
  rw [View.canon_cons_unit_lit _ _ _ (by decide), View.ld_unit_lit _ _ (by decide), View.ld_unit_lit _ _ (by decide)]
  unfold k0_pay1
  simp only [truncf_apply, pointwise]
  rw [zero_add]

/-- The reference's product, entry by entry. -/
theorem plain (x : FVec Ideal S4096x1024 .bf16) (y : FVec Ideal S4096x512 .bf16) (i : S1024x512.Idx) :
    (val_main_v6 (F := Ideal) x y i : EReal) = ∑ k : Fin 4096, (x (ix2 k (i 0)) : EReal) * y (ix2 k (i 1)) := by
  rw [val_main_v6_apply, val_main_v5_apply, val_main_v4_apply]
  exact Finset.sum_congr rfl fun k _ => (mul_comm _ _).trans
    (congrArg₂ (fun u v : EReal => u * v) (congrArg x (ext2 rfl rfl)) (congrArg y (ext2 rfl rfl)))

/-- The grid's points take the blocks of the first argument's columns in turn. -/
theorem points : ∀ t : Fin cfg0.N, win0_0.index t (0 : Fin 2) = 0 ∧ win0_0.index t (1 : Fin 2) = t.val ∧ win0_1.index t (0 : Fin 2) = 0
    ∧ win0_1.index t (1 : Fin 2) = 0 ∧ win0_2.index t (0 : Fin 2) = t.val ∧ win0_2.index t (1 : Fin 2) = 0 ∧ win0_2.flush t = true :=
  (by decide +kernel : ∀ t : Fin grid0.N, _)

variable (m : (ℓ : Loc nD τ sig) → Buf (Elt Ideal) ℓ) (c : Dev nD)

/-- The array the call leaves. -/
def G : Buf (Elt Ideal) ((c : Thread nD τ).loc main_v0) :=
  val_main_v6 (F := Ideal) (m ((c : Thread nD τ).loc main_arg0)) (m ((c : Thread nD τ).loc main_arg1))

/-- Each point writes its block of the reference's product. -/
theorem flushed (t : Fin cfg0.N) : (dats m 0 c).flushed 2 t = ((cfg0.win 2).blk t).view.read (Elt Ideal) (G m c) := by
  rw [flushed2]
  obtain ⟨a0, a1, b0, b1, o0, o1, -⟩ := points t
  funext y
  refine (block (iblk m c 0 t) (iblk m c 1 t) ((cfg0.win 2).xinj (grid0.coords t) y)).trans ?_
  refine Eq.trans ?_ (plain (m ((c : Thread nD τ).loc main_arg0)) (m ((c : Thread nD τ).loc main_arg1)) (((cfg0.win 2).blk t).view.emb y)).symm
  exact sum_mul
    (fun k => congrArg (m ((c : Thread nD τ).loc main_arg0)) (ext2 (at_zero 4096 k.val a0) (at_same 512 (y 0).val (a1.trans o0.symm))))
    (fun k => congrArg (m ((c : Thread nD τ).loc main_arg1)) (ext2 (at_zero 4096 k.val b0) (at_same 512 (y 1).val (b1.trans o1.symm))))

/-- The points' blocks fill the result. -/
theorem covered (i : S1024x512.Idx) : ∃ t : Fin cfg0.N, (cfg0.win 2).flush t = true ∧ i ∈ ((cfg0.win 2).blk t).view.set := by
  have h0 : (i 0).val < 1024 := (i 0).isLt
  let t : Fin cfg0.N := ⟨(i 0).val / 512, by rw [show cfg0.N = 2 from N_0]; omega⟩
  obtain ⟨-, -, -, -, o0, o1, hf⟩ := points t
  refine ⟨t, hf, ?_⟩
  show i ∈ ((View.whole main_v0).slice (win0_2.rect t)).set
  rw [View.set_slice_whole, Rect.mem_set_unit]
  exact Fin.forall_fin_two.2 ⟨in_block (n := 512) o0 (by decide), in_whole (n := 512) o1 (i 1).isLt⟩

/-- The call's result is the reference's. -/
theorem final : (dats m 0 c).arrAt 2 cfg0.N = G m c :=
  (dats m 0 c).arrAt_eq_of_cover 2 (G m c) (fun t _ => flushed m c t) covered

end Cert.Mix.DwBr
-- ==== Proof.Mix.Out.lean ====
/-
  The mixer's output projection, the residual added after its normalisation, and the next layer's normalised input.
-/
module

public import proofs.«01_k».proof.Proof.Gen.Kernel13Ideal.Value
public import proofs.«01_k».proof.Proof.Gen.Reference13Ideal.Read
public import proofs.«01_k».proof.Proof.Mix.Lib
public import proofs.«01_k».proof.Proof.Ffn.Down

@[expose] public section

set_option maxRecDepth 16384

noncomputable section

open Idealize.ShloMosaic Idealize.ShloMosaic.TcCoe Idealize.SL.Sem Finset
open Cert.Kernel13Ideal Cert.Kernel13Ideal.Gen Cert.Kernel13Ideal.Value
open Cert.Reference13Ideal.Read

namespace Cert.Mix.Out

open Cert.Ffn.Down (rms norm)

/-- The residual with the normalised row added. -/
def add (r f g : Fin 1024 → EReal) (k : Fin 1024) : EReal := r k + norm f g k

/-- A row of the product of one block. -/
def row (x : FVec Ideal S512x1024 .bf16) (w : FVec Ideal S1024x1024 .bf16) (a : Fin 512) (b : Fin 1024) : EReal :=
  ∑ k : Fin 1024, (x (ix2 a k) : EReal) * w (ix2 k b)

variable (x : FVec Ideal S512x1024 .bf16) (w : FVec Ideal S1024x1024 .bf16) (r : FVec Ideal S512x1024 .f32) (g h : FVec Ideal S1x1024 .f32)

/-- One block of the product. -/
theorem pay2 (j : S512x1024.Idx) : (k0_pay2 (F := Ideal) x w j : EReal) = row x w (j 0) (j 1) := by
  unfold k0_pay2
  simp only [pointwise]
  rw [zero_add]
  rfl

/-- One block of the sum with the residual. -/
theorem pay3 (j : S512x1024.Idx) :
    (k0_pay3 (F := Ideal) x w r g j : EReal) = add (fun k => r (ix2 (j 0) k)) (row x w (j 0)) (fun k => g (ix2 0 k)) (j 1) := by
  have e : ∀ k : Fin 1024, (k0_pay2 (F := Ideal) x w (ix2 (j 0) k) : EReal) = row x w (j 0) k := fun k => pay2 x w (ix2 (j 0) k)
  have ej := pay2 x w j
  unfold k0_pay3
  generalize k0_pay2 (F := Ideal) x w = f at e ej ⊢
  simp only [pointwise]
  rw [ej]
  simp only [add, Cert.Ffn.Down.norm, Cert.Ffn.Down.rms, ← e]
  have hj : r j = r (ix2 (j 0) (j 1)) := congrArg r (ext2 rfl rfl)
  rw [hj, one_mul]
  rfl

/-- One block of the next normalised input. -/
theorem pay4 (j : S512x1024.Idx) :
    (k0_pay4 (F := Ideal) x w r g h j : EReal)
      = norm (add (fun k => r (ix2 (j 0) k)) (row x w (j 0)) fun k => g (ix2 0 k)) (fun k => h (ix2 0 k)) (j 1) := by
  have e : ∀ k : Fin 1024, (k0_pay3 (F := Ideal) x w r g (ix2 (j 0) k) : EReal)
      = add (fun k => r (ix2 (j 0) k)) (row x w (j 0)) (fun k => g (ix2 0 k)) k := fun k => pay3 x w r g (ix2 (j 0) k)
  have ej := pay3 x w r g j
  unfold k0_pay4
  generalize k0_pay3 (F := Ideal) x w r g = f at e ej ⊢
  simp only [pointwise]
  rw [ej]
  simp only [Cert.Ffn.Down.norm, Cert.Ffn.Down.rms, ← e]
  rfl

/-- The product's block, as the stores leave it. -/
theorem block5 (j : S512x1024.Idx) : (out0_5 (F := Ideal) x w r g h j : EReal) = row x w (j 0) (j 1) := by
  unfold out0_5
  rw [View.canon_cons_unit_lit _ _ _ (by decide), View.ld_unit_lit _ _ (by decide), View.ld_unit_lit _ _ (by decide)]
  exact pay2 x w j

/-- The sum's block, as the stores leave it. -/
theorem block6 (j : S512x1024.Idx) :
    (out0_6 (F := Ideal) x w r g h j : EReal) = add (fun k => r (ix2 (j 0) k)) (row x w (j 0)) (fun k => g (ix2 0 k)) (j 1) := by
  unfold out0_6
  rw [View.canon_cons_unit_lit _ _ _ (by decide), View.ld_unit_lit _ _ (by decide), View.ld_unit_lit _ _ (by decide),
    View.ld_unit_lit _ _ (by decide), View.ld_unit_lit _ _ (by decide)]
  exact pay3 x w r g j

/-- The next input's block, as the stores leave it. -/
theorem block7 (j : S512x1024.Idx) :
    (out0_7 (F := Ideal) x w r g h j : EReal)
      = norm (add (fun k => r (ix2 (j 0) k)) (row x w (j 0)) fun k => g (ix2 0 k)) (fun k => h (ix2 0 k)) (j 1) := by
  unfold out0_7
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]
  exact pay4 x w r g h j

section Plain

variable (x : FVec Ideal S4096x1024 .bf16) (w : FVec Ideal S1024x1024 .bf16) (r : FVec Ideal S4096x1024 .f32) (g h : FVec Ideal S1024 .f32)

/-- A row of the reference's product. -/
def prow (a : Fin 4096) (b : Fin 1024) : EReal := ∑ k : Fin 1024, (x (ix2 a k) : EReal) * w (ix2 k b)

/-- The reference's product. -/
theorem plain5 (i : S4096x1024.Idx) : (val_main_v2 (F := Ideal) x w i : EReal) = prow x w (i 0) (i 1) := by
  rw [val_main_v2_apply]
  refine Finset.sum_congr rfl fun k _ => congrArg₂ (fun u v : EReal => u * v) ?_ ?_
  · exact congrArg x (ext2 rfl rfl)
  · exact congrArg w (ext2 rfl rfl)

/-- The reference's reciprocal root mean square of a row. -/
theorem plain_rms (i : Cert.Reference13Ideal.S4096x1.Idx) : (val_main_v10 (F := Ideal) x w i : EReal) = rms (prow x w (i 0)) := by
  have e : (val_main_v4 (F := Ideal) x w (idx_main_v5 i) : EReal) = ∑ k, prow x w (i 0) k * prow x w (i 0) k := by
    rw [val_main_v4_apply, val_main_cst_apply]
    refine (congrArg (· + _) Ideal.ofBits_zero_f32).trans ((zero_add _).trans (Finset.sum_congr rfl fun k _ => ?_))
    rw [val_main_v3_apply, plain5]
    rfl
  rw [val_main_v10_apply, val_main_v9_apply, val_main_v7_apply, val_main_v5_apply, val_main_v6_apply, val_main_v8_apply, e]
  rfl

/-- The reference's sum with the residual. -/
theorem plain6 (i : S4096x1024.Idx) :
    (val_main_v16 (F := Ideal) x w r g i : EReal) = add (fun k => r (ix2 (i 0) k)) (prow x w (i 0)) (fun k => g (ix1 k)) (i 1) := by
  have hr : r i = r (ix2 (i 0) (i 1)) := congrArg r (ext2 rfl rfl)
  have hg : g (idx_main_v13 (idx_main_v14 i)) = g (ix1 (i 1)) := congrArg g (funext fun a => by fin_cases a; rfl)
  rw [val_main_v16_apply, val_main_v15_apply, val_main_v12_apply, val_main_v11_apply, plain_rms, val_main_v14_apply,
    val_main_v13_apply, plain5, hr, hg]
  rfl

/-- The reference's next normalised input. -/
theorem plain7 (i : S4096x1024.Idx) :
    (val_main_v30 (F := Ideal) x w r g h i : EReal)
      = norm (add (fun k => r (ix2 (i 0) k)) (prow x w (i 0)) fun k => g (ix1 k)) (fun k => h (ix1 k)) (i 1) := by
  have hh : h (idx_main_v27 (idx_main_v28 i)) = h (ix1 (i 1)) := congrArg h (funext fun a => by fin_cases a; rfl)
  have es : (val_main_v18 (F := Ideal) x w r g (idx_main_v19 (idx_main_v25 i)) : EReal)
      = ∑ k, add (fun k => r (ix2 (i 0) k)) (prow x w (i 0)) (fun k => g (ix1 k)) k * add (fun k => r (ix2 (i 0) k)) (prow x w (i 0)) (fun k => g (ix1 k)) k := by
    rw [val_main_v18_apply, val_main_cst_2_apply]
    refine (congrArg (· + _) Ideal.ofBits_zero_f32).trans ((zero_add _).trans (Finset.sum_congr rfl fun k _ => ?_))
    rw [val_main_v17_apply, plain6]
    rfl
  rw [val_main_v30_apply, val_main_v29_apply, val_main_v26_apply, val_main_v25_apply, val_main_v24_apply, val_main_v23_apply, val_main_v21_apply,
    val_main_v19_apply, val_main_v20_apply, val_main_v22_apply, es, val_main_v28_apply, val_main_v27_apply, plain6, hh]
  rfl

end Plain

open Cert.Reference13Ideal.Read (val_main_v2 val_main_v16 val_main_v28)

/-- Where the grid's points read and write. -/
theorem points : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0 ∧ win0_5.flush t = true)
    ∧ (win0_6.index t (0 : Fin 2) = t.val ∧ win0_6.index t (1 : Fin 2) = 0 ∧ win0_6.flush t = true)
    ∧ (win0_7.index t (0 : Fin 2) = t.val ∧ win0_7.index t (1 : Fin 2) = 0 ∧ win0_7.flush t = true) :=
  (by decide +kernel : ∀ t : Fin grid0.N, _)

/-- The row of the results that row `a` of point `t`'s blocks is. -/
def rowAt (t : Fin cfg0.N) (a : Fin 512) : Fin 4096 := ⟨t.val * 512 + a.val, by
  have h : t.val < 8 := lt_of_lt_of_eq t.isLt N_0
  omega⟩

variable (m : (ℓ : Loc nD τ sig) → Buf (Elt Ideal) ℓ) (c : Dev nD)

/-- A point's rows of the product are the reference's. -/
theorem rows (t : Fin cfg0.N) (a : Fin 512) :
    row (iblk m c 0 t) (iblk m c 1 t) a = prow (m ((c : Thread nD τ).loc main_arg0)) (m ((c : Thread nD τ).loc main_arg1)) (rowAt t a) := by
  obtain ⟨⟨a0, a1⟩, ⟨b0, b1⟩, -⟩ := points t
  funext b
  refine Finset.sum_congr rfl fun k _ => congrArg₂ (fun u v : EReal => u * v) ?_ ?_
  · refine (congrFun (V_main_arg0 m c) _).trans (congrArg (m ((c : Thread nD τ).loc main_arg0)) (funext fun d => Fin.ext ?_))
    fin_cases d
    · show win0_0.index t (0 : Fin 2) * 512 + 1 * a.val = t.val * 512 + a.val
      rw [a0]; omega
    · show win0_0.index t (1 : Fin 2) * 1024 + 1 * k.val = k.val
      rw [a1]; omega
  · refine (congrFun (V_main_arg1 m c) _).trans (congrArg (m ((c : Thread nD τ).loc main_arg1)) (funext fun d => Fin.ext ?_))
    fin_cases d
    · show win0_1.index t (0 : Fin 2) * 1024 + 1 * k.val = k.val
      rw [b0]; omega
    · show win0_1.index t (1 : Fin 2) * 1024 + 1 * b.val = b.val
      rw [b1]; omega

/-- A point's rows of the residual are the argument's. -/
theorem residual (t : Fin cfg0.N) (a : Fin 512) (k : Fin 1024) :
    (iblk m c 2 t : FVec Ideal S512x1024 .f32) (ix2 a k) = (m ((c : Thread nD τ).loc main_arg2) : FVec Ideal S4096x1024 .f32) (ix2 (rowAt t a) k) := by
  obtain ⟨-, -, ⟨a0, a1⟩, -⟩ := points t
  refine (congrFun (V_main_arg2 m c) _).trans (congrArg (m ((c : Thread nD τ).loc main_arg2)) (funext fun d => Fin.ext ?_))
  fin_cases d
  · show win0_2.index t (0 : Fin 2) * 512 + 1 * a.val = t.val * 512 + a.val
    rw [a0]; omega
  · show win0_2.index t (1 : Fin 2) * 1024 + 1 * k.val = k.val
    rw [a1]; omega

/-- The host lays each weight vector out as one row. -/
theorem host_v0 : (V m c main_v0 : FVec Ideal S1x1024 .f32) = shapeCast S1x1024 (m ((c : Thread nD τ).loc main_arg3) : FVec Ideal S1024 .f32) shapeCasts_S1024_S1x1024 := by
  unfold V
  simp only [hostOps0, List.flatten_cons, List.flatten_nil, List.append_nil, List.cons_append, List.nil_append]
  after_results_simp
  rfl

/-- The host lays each weight vector out as one row. -/
theorem host_v1 : (V m c main_v1 : FVec Ideal S1x1024 .f32) = shapeCast S1x1024 (m ((c : Thread nD τ).loc main_arg4) : FVec Ideal S1024 .f32) shapeCasts_S1024_S1x1024 := by
  unfold V
  simp only [hostOps0, List.flatten_cons, List.flatten_nil, List.append_nil, List.cons_append, List.nil_append]
  after_results_simp
  rfl

/-- An entry of a vector laid out as one row. -/
theorem flat (v : FVec Ideal S1024 .f32) (k : Fin 1024) : shapeCast S1x1024 v shapeCasts_S1024_S1x1024 (ix2 0 k) = v (ix1 k) :=
  shapeCast_apply _ _ _ _ (by rw [Shape.rowMajor_val_one, Shape.rowMajor_val_two]; simp [ix1, ix2])

/-- The block of the first weights. -/
theorem weights3 (t : Fin cfg0.N) (k : Fin 1024) :
    (iblk m c 3 t : FVec Ideal S1x1024 .f32) (ix2 0 k) = (m ((c : Thread nD τ).loc main_arg3) : FVec Ideal S1024 .f32) (ix1 k) := by
  obtain ⟨-, -, -, ⟨a0, a1⟩, -⟩ := points t
  refine Eq.trans ?_ (flat (m ((c : Thread nD τ).loc main_arg3)) k)
  refine (congrFun (host_v0 m c) _).trans (congrArg (shapeCast S1x1024 _ _) (funext fun d => Fin.ext ?_))
  fin_cases d
  · show win0_3.index t (0 : Fin 2) * 1 + 1 * 0 = 0
    rw [a0]
  · show win0_3.index t (1 : Fin 2) * 1024 + 1 * k.val = k.val
    rw [a1]; omega

/-- The block of the second weights. -/
theorem weights4 (t : Fin cfg0.N) (k : Fin 1024) :
    (iblk m c 4 t : FVec Ideal S1x1024 .f32) (ix2 0 k) = (m ((c : Thread nD τ).loc main_arg4) : FVec Ideal S1024 .f32) (ix1 k) := by
  obtain ⟨-, -, -, -, ⟨a0, a1⟩, -⟩ := points t
  refine Eq.trans ?_ (flat (m ((c : Thread nD τ).loc main_arg4)) k)
  refine (congrFun (host_v1 m c) _).trans (congrArg (shapeCast S1x1024 _ _) (funext fun d => Fin.ext ?_))
  fin_cases d
  · show win0_4.index t (0 : Fin 2) * 1 + 1 * 0 = 0
    rw [a0]
  · show win0_4.index t (1 : Fin 2) * 1024 + 1 * k.val = k.val
    rw [a1]; omega

/-- The place in the first result of entry `y` of point `t`'s block. -/
theorem place5 (t : Fin cfg0.N) (y : S512x1024.Idx) : (((cfg0.win 5).blk t).view.emb y : S4096x1024.Idx) = ix2 (rowAt t (y 0)) (y 1) := by
  obtain ⟨-, -, -, -, -, ⟨a, b, -⟩, -⟩ := points t
  refine funext fun d => Fin.ext ?_
  fin_cases d
  · show win0_5.index t (0 : Fin 2) * 512 + 1 * (y 0).val = t.val * 512 + (y 0).val
    rw [a]; omega
  · show win0_5.index t (1 : Fin 2) * 1024 + 1 * (y 1).val = (y 1).val
    rw [b]; omega

/-- The place in the second result of entry `y` of point `t`'s block. -/
theorem place6 (t : Fin cfg0.N) (y : S512x1024.Idx) : (((cfg0.win 6).blk t).view.emb y : S4096x1024.Idx) = ix2 (rowAt t (y 0)) (y 1) := by
  obtain ⟨-, -, -, -, -, -, ⟨a, b, -⟩, -⟩ := points t
  refine funext fun d => Fin.ext ?_
  fin_cases d
  · show win0_6.index t (0 : Fin 2) * 512 + 1 * (y 0).val = t.val * 512 + (y 0).val
    rw [a]; omega
  · show win0_6.index t (1 : Fin 2) * 1024 + 1 * (y 1).val = (y 1).val
    rw [b]; omega

/-- The place in the third result of entry `y` of point `t`'s block. -/
theorem place7 (t : Fin cfg0.N) (y : S512x1024.Idx) : (((cfg0.win 7).blk t).view.emb y : S4096x1024.Idx) = ix2 (rowAt t (y 0)) (y 1) := by
  obtain ⟨-, -, -, -, -, -, -, ⟨a, b, -⟩⟩ := points t
  refine funext fun d => Fin.ext ?_
  fin_cases d
  · show win0_7.index t (0 : Fin 2) * 512 + 1 * (y 0).val = t.val * 512 + (y 0).val
    rw [a]; omega
  · show win0_7.index t (1 : Fin 2) * 1024 + 1 * (y 1).val = (y 1).val
    rw [b]; omega

/-- The product the call leaves. -/
def G5 : Buf (Elt Ideal) ((c : Thread nD τ).loc main_v2_0) :=
  val_main_v2 (F := Ideal) (m ((c : Thread nD τ).loc main_arg0)) (m ((c : Thread nD τ).loc main_arg1))

/-- The sum the call leaves. -/
def G6 : Buf (Elt Ideal) ((c : Thread nD τ).loc main_v2_1) :=
  val_main_v16 (F := Ideal) (m ((c : Thread nD τ).loc main_arg0)) (m ((c : Thread nD τ).loc main_arg1)) (m ((c : Thread nD τ).loc main_arg2))
    (m ((c : Thread nD τ).loc main_arg3))

/-- The next normalised input the call leaves. -/
def G7 : Buf (Elt Ideal) ((c : Thread nD τ).loc main_v2_2) :=
  val_main_v30 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- Each point writes its block of the product. -/
theorem flushed5_eq (t : Fin cfg0.N) : (dats m 0 c).flushed 5 t = ((cfg0.win 5).blk t).view.read (Elt Ideal) (G5 m c) := by
  rw [flushed5]
  funext y
  refine (block5 (iblk m c 0 t) (iblk m c 1 t) (iblk m c 2 t) (iblk m c 3 t) (iblk m c 4 t) ((cfg0.win 5).xinj (grid0.coords t) y)).trans ?_
  refine Eq.trans ?_ (congrArg (G5 m c) (place5 t y)).symm
  exact (congrFun (rows m c t (y 0)) (y 1)).trans (plain5 _ _ (ix2 (rowAt t (y 0)) (y 1))).symm

/-- A point's rows of the sum are the reference's. -/
theorem sums (t : Fin cfg0.N) (a : Fin 512) :
    add (fun k => (iblk m c 2 t : FVec Ideal S512x1024 .f32) (ix2 a k)) (row (iblk m c 0 t) (iblk m c 1 t) a)
        (fun k => (iblk m c 3 t : FVec Ideal S1x1024 .f32) (ix2 0 k))
      = add (fun k => (m ((c : Thread nD τ).loc main_arg2) : FVec Ideal S4096x1024 .f32) (ix2 (rowAt t a) k))
        (prow (m ((c : Thread nD τ).loc main_arg0)) (m ((c : Thread nD τ).loc main_arg1)) (rowAt t a))
        (fun k => (m ((c : Thread nD τ).loc main_arg3) : FVec Ideal S1024 .f32) (ix1 k)) := by
  rw [rows, show (fun k => (iblk m c 2 t : FVec Ideal S512x1024 .f32) (ix2 a k)) = _ from funext (residual m c t a),
    show (fun k => (iblk m c 3 t : FVec Ideal S1x1024 .f32) (ix2 0 k)) = _ from funext (weights3 m c t)]

/-- Each point writes its block of the sum. -/
theorem flushed6_eq (t : Fin cfg0.N) : (dats m 0 c).flushed 6 t = ((cfg0.win 6).blk t).view.read (Elt Ideal) (G6 m c) := by
  rw [flushed6]
  funext y
  refine (block6 (iblk m c 0 t) (iblk m c 1 t) (iblk m c 2 t) (iblk m c 3 t) (iblk m c 4 t) ((cfg0.win 6).xinj (grid0.coords t) y)).trans ?_
  refine Eq.trans ?_ (congrArg (G6 m c) (place6 t y)).symm
  exact (congrFun (sums m c t (y 0)) (y 1)).trans (plain6 _ _ _ _ (ix2 (rowAt t (y 0)) (y 1))).symm

/-- Each point writes its block of the next normalised input. -/
theorem flushed7_eq (t : Fin cfg0.N) : (dats m 0 c).flushed 7 t = ((cfg0.win 7).blk t).view.read (Elt Ideal) (G7 m c) := by
  rw [flushed7]
  funext y
  refine (block7 (iblk m c 0 t) (iblk m c 1 t) (iblk m c 2 t) (iblk m c 3 t) (iblk m c 4 t) ((cfg0.win 7).xinj (grid0.coords t) y)).trans ?_
  refine Eq.trans ?_ (congrArg (G7 m c) (place7 t y)).symm
  refine Eq.trans ?_ (plain7 _ _ _ _ _ (ix2 (rowAt t (y 0)) (y 1))).symm
  exact congrFun (congrArg₂ norm (sums m c t (y 0)) (funext (weights4 m c t))) (y 1)

/-- The point that writes a row. -/
def pointOf (i : S4096x1024.Idx) : Fin cfg0.N := ⟨(i 0).val / 512, by
  have h0 : (i 0).val < 4096 := (i 0).isLt
  rw [show cfg0.N = 8 from N_0]; omega⟩

/-- The blocks fill the first result. -/
theorem covered5 (i : S4096x1024.Idx) : ∃ t : Fin cfg0.N, (cfg0.win 5).flush t = true ∧ i ∈ ((cfg0.win 5).blk t).view.set := by
  obtain ⟨-, -, -, -, -, ⟨o0, o1, hf⟩, -⟩ := points (pointOf i)
  have h1 : (i 1).val < 1024 := (i 1).isLt
  have hp : (pointOf i).val = (i 0).val / 512 := rfl
  refine ⟨pointOf i, hf, ?_⟩
  show i ∈ ((View.whole main_v2_0).slice (win0_5.rect (pointOf i))).set
  rw [View.set_slice_whole, Rect.mem_set_unit]
  intro a
  match a with
  | ⟨0, _⟩ => show win0_5.index (pointOf i) (0 : Fin 2) * 512 ≤ (i 0).val ∧ (i 0).val < win0_5.index (pointOf i) (0 : Fin 2) * 512 + 512; omega
  | ⟨1, _⟩ => show win0_5.index (pointOf i) (1 : Fin 2) * 1024 ≤ (i 1).val ∧ (i 1).val < win0_5.index (pointOf i) (1 : Fin 2) * 1024 + 1024; omega

/-- The blocks fill the second result. -/
theorem covered6 (i : S4096x1024.Idx) : ∃ t : Fin cfg0.N, (cfg0.win 6).flush t = true ∧ i ∈ ((cfg0.win 6).blk t).view.set := by
  obtain ⟨-, -, -, -, -, -, ⟨o0, o1, hf⟩, -⟩ := points (pointOf i)
  have h1 : (i 1).val < 1024 := (i 1).isLt
  have hp : (pointOf i).val = (i 0).val / 512 := rfl
  refine ⟨pointOf i, hf, ?_⟩
  show i ∈ ((View.whole main_v2_1).slice (win0_6.rect (pointOf i))).set
  rw [View.set_slice_whole, Rect.mem_set_unit]
  intro a
  match a with
  | ⟨0, _⟩ => show win0_6.index (pointOf i) (0 : Fin 2) * 512 ≤ (i 0).val ∧ (i 0).val < win0_6.index (pointOf i) (0 : Fin 2) * 512 + 512; omega
  | ⟨1, _⟩ => show win0_6.index (pointOf i) (1 : Fin 2) * 1024 ≤ (i 1).val ∧ (i 1).val < win0_6.index (pointOf i) (1 : Fin 2) * 1024 + 1024; omega

/-- The blocks fill the third result. -/
theorem covered7 (i : S4096x1024.Idx) : ∃ t : Fin cfg0.N, (cfg0.win 7).flush t = true ∧ i ∈ ((cfg0.win 7).blk t).view.set := by
  obtain ⟨-, -, -, -, -, -, -, ⟨o0, o1, hf⟩⟩ := points (pointOf i)
  have h1 : (i 1).val < 1024 := (i 1).isLt
  have hp : (pointOf i).val = (i 0).val / 512 := rfl
  refine ⟨pointOf i, hf, ?_⟩
  show i ∈ ((View.whole main_v2_2).slice (win0_7.rect (pointOf i))).set
  rw [View.set_slice_whole, Rect.mem_set_unit]
  intro a
  match a with
  | ⟨0, _⟩ => show win0_7.index (pointOf i) (0 : Fin 2) * 512 ≤ (i 0).val ∧ (i 0).val < win0_7.index (pointOf i) (0 : Fin 2) * 512 + 512; omega
  | ⟨1, _⟩ => show win0_7.index (pointOf i) (1 : Fin 2) * 1024 ≤ (i 1).val ∧ (i 1).val < win0_7.index (pointOf i) (1 : Fin 2) * 1024 + 1024; omega

/-- The call's three results are the reference's. -/
theorem final : (dats m 0 c).arrAt 5 cfg0.N = G5 m c ∧ (dats m 0 c).arrAt 6 cfg0.N = G6 m c ∧ (dats m 0 c).arrAt 7 cfg0.N = G7 m c :=
  ⟨(dats m 0 c).arrAt_eq_of_cover 5 (G5 m c) (fun t _ => flushed5_eq m c t) covered5,
    (dats m 0 c).arrAt_eq_of_cover 6 (G6 m c) (fun t _ => flushed6_eq m c t) covered6,
    (dats m 0 c).arrAt_eq_of_cover 7 (G7 m c) (fun t _ => flushed7_eq m c t) covered7⟩

end Cert.Mix.Out
-- ==== Proof.Mix.Claims.lean ====
/-
  The frames of the mixer's references, and the equality of each of the mixer's calls with its reference.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Mix.DwGate
public import proofs.«01_k».proof.Proof.Mix.DwIn
public import proofs.«01_k».proof.Proof.Mix.In
public import proofs.«01_k».proof.Proof.Mix.Gate
public import proofs.«01_k».proof.Proof.Mix.Merge
public import proofs.«01_k».proof.Proof.Mix.Dmerge
public import proofs.«01_k».proof.Proof.Mix.Dbr
public import proofs.«01_k».proof.Proof.Mix.DwBr
public import proofs.«01_k».proof.Proof.Mix.Out

@[expose] public section

noncomputable section

namespace Cert.Proof

open Idealize.ShloMosaic Idealize.SL.Sem

/-- The frame of reference 6: it terminates, its arguments unchanged, no semaphore left. -/
theorem frame_reference6 : Cert.quiescent_Reference6Ideal (hReference6Ideal := Cert.Reference6Ideal.Gen.facts) := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- A square weight's gradient is the reference's. -/
theorem equal6 : Cert.algebraic_Kernel6Ideal_Reference6Ideal (hKernel6Ideal := Cert.Kernel6Ideal.Gen.facts)
    (hReference6Ideal := Cert.Reference6Ideal.Gen.facts) := fun m ρ m' ρ' _ hargs => by
  refine ⟨Cert.Mix.DwGate.G m,
    (θ_run Cert.Kernel6Ideal.defs _ _).mono (fun r h c => ⟨(h c).1.trans (Cert.Mix.DwGate.final m c), (h c).2⟩)
      (Cert.Kernel6Ideal.Value.run_blocks (F := Ideal) m ρ),
    (θ_run Cert.Reference6Ideal.defs _ _).mono (fun r h c => ⟨(h c).1.trans ?_, (h c).2⟩)
      (Cert.Reference6Ideal.Value.run (F := Ideal) m' ρ')⟩
  obtain ⟨a0, a1⟩ := hargs c
  refine (Cert.Reference6Ideal.Read.val_main_v6_eq _ _).trans ?_
  rw [a0, a1]
  rfl

/-- The frame of reference 7: it terminates, its arguments unchanged, no semaphore left. -/
theorem frame_reference7 : Cert.quiescent_Reference7Ideal (hReference7Ideal := Cert.Reference7Ideal.Gen.facts) := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The gradient of one piece of the input projection is the reference's. -/
theorem equal7 : Cert.algebraic_Kernel7Ideal_Reference7Ideal (hKernel7Ideal := Cert.Kernel7Ideal.Gen.facts)
    (hReference7Ideal := Cert.Reference7Ideal.Gen.facts) := fun m ρ m' ρ' _ hargs => by
  refine ⟨Cert.Mix.DwIn.G m,
    (θ_run Cert.Kernel7Ideal.defs _ _).mono (fun r h c => ⟨(h c).1.trans (Cert.Mix.DwIn.final m c), (h c).2⟩)
      (Cert.Kernel7Ideal.Value.run_blocks (F := Ideal) m ρ),
    (θ_run Cert.Reference7Ideal.defs _ _).mono (fun r h c => ⟨(h c).1.trans ?_, (h c).2⟩)
      (Cert.Reference7Ideal.Value.run (F := Ideal) m' ρ')⟩
  obtain ⟨a0, a1⟩ := hargs c
  refine (Cert.Reference7Ideal.Read.val_main_v6_eq _ _).trans ?_
  rw [a0, a1]
  rfl

/-- The frame of reference 8: it terminates, its arguments unchanged, no semaphore left. -/
theorem frame_reference8 : Cert.quiescent_Reference8Ideal (hReference8Ideal := Cert.Reference8Ideal.Gen.facts) := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- The input projection is the reference's. -/
theorem equal8 : Cert.algebraic_Kernel8Ideal_Reference8Ideal (hKernel8Ideal := Cert.Kernel8Ideal.Gen.facts)
    (hReference8Ideal := Cert.Reference8Ideal.Gen.facts) := fun m ρ m' ρ' _ hargs => by
  refine ⟨Cert.Mix.In.G m,
    (θ_run Cert.Kernel8Ideal.defs _ _).mono (fun r h c => ⟨(h c).1.trans (Cert.Mix.In.final m c), (h c).2⟩)
      (Cert.Kernel8Ideal.Value.run_blocks (F := Ideal) m ρ),
    (θ_run Cert.Reference8Ideal.defs _ _).mono (fun r h c => ⟨(h c).1.trans ?_, (h c).2⟩)
      (Cert.Reference8Ideal.Value.run (F := Ideal) m' ρ')⟩
  obtain ⟨a0, a1⟩ := hargs c
  refine (Cert.Reference8Ideal.Read.val_main_v4_eq _ _).trans ?_
  rw [a0, a1]
  rfl

/-- The frame of reference 9: it terminates, its arguments unchanged, no semaphore left. -/
theorem frame_reference9 : Cert.quiescent_Reference9Ideal (hReference9Ideal := Cert.Reference9Ideal.Gen.facts) := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- The gates are the reference's. -/
theorem equal9 : Cert.algebraic_Kernel9Ideal_Reference9Ideal (hKernel9Ideal := Cert.Kernel9Ideal.Gen.facts)
    (hReference9Ideal := Cert.Reference9Ideal.Gen.facts) := fun m ρ m' ρ' _ hargs => by
  refine ⟨Cert.Mix.Gate.G m,
    (θ_run Cert.Kernel9Ideal.defs _ _).mono (fun r h c => ⟨(h c).1.trans (Cert.Mix.Gate.final m c), (h c).2⟩)
      (Cert.Kernel9Ideal.Value.run_blocks (F := Ideal) m ρ),
    (θ_run Cert.Reference9Ideal.defs _ _).mono (fun r h c => ⟨(h c).1.trans ?_, (h c).2⟩)
      (Cert.Reference9Ideal.Value.run (F := Ideal) m' ρ')⟩
  obtain ⟨a0, a1, a2⟩ := hargs c
  refine (Cert.Reference9Ideal.Read.val_main_v13_eq _ _ _).trans ?_
  rw [a0, a1, a2]
  rfl

/-- The frame of reference 10: it terminates, its arguments unchanged, no semaphore left. -/
theorem frame_reference10 : Cert.quiescent_Reference10Ideal (hReference10Ideal := Cert.Reference10Ideal.Gen.facts) := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- The merged branches are the reference's. -/
theorem equal10 : Cert.algebraic_Kernel10Ideal_Reference10Ideal (hKernel10Ideal := Cert.Kernel10Ideal.Gen.facts)
    (hReference10Ideal := Cert.Reference10Ideal.Gen.facts) := fun m ρ m' ρ' _ hargs => by
  refine ⟨Cert.Mix.Merge.G m,
    (θ_run Cert.Kernel10Ideal.defs _ _).mono (fun r h c => ⟨(h c).1.trans (Cert.Mix.Merge.final m c), (h c).2⟩)
      (Cert.Kernel10Ideal.Value.run_blocks (F := Ideal) m ρ),
    (θ_run Cert.Reference10Ideal.defs _ _).mono (fun r h c => ⟨(h c).1.trans ?_, (h c).2⟩)
      (Cert.Reference10Ideal.Value.run (F := Ideal) m' ρ')⟩
  obtain ⟨a0, a1, a2, a3, a4, a5, a6⟩ := hargs c
  refine (Cert.Reference10Ideal.Read.val_main_v21_eq _ _ _ _ _ _ _).trans ?_
  rw [a0, a1, a2, a3, a4, a5, a6]
  rfl

/-- The frame of reference 11: it terminates, its arguments unchanged, no semaphore left. -/
theorem frame_reference11 : Cert.quiescent_Reference11Ideal (hReference11Ideal := Cert.Reference11Ideal.Gen.facts) := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- The gradient of a branch's output is the reference's. -/
theorem equal11 : Cert.algebraic_Kernel11Ideal_Reference11Ideal (hKernel11Ideal := Cert.Kernel11Ideal.Gen.facts)
    (hReference11Ideal := Cert.Reference11Ideal.Gen.facts) := fun m ρ m' ρ' _ hargs => by
  refine ⟨Cert.Mix.Dbr.G m,
    (θ_run Cert.Kernel11Ideal.defs _ _).mono (fun r h c => ⟨(h c).1.trans (Cert.Mix.Dbr.final m c), (h c).2⟩)
      (Cert.Kernel11Ideal.Value.run_blocks (F := Ideal) m ρ),
    (θ_run Cert.Reference11Ideal.defs _ _).mono (fun r h c => ⟨(h c).1.trans ?_, (h c).2⟩)
      (Cert.Reference11Ideal.Value.run (F := Ideal) m' ρ')⟩
  obtain ⟨a0, a1⟩ := hargs c
  refine (Cert.Reference11Ideal.Read.val_main_v6_eq _ _).trans ?_
  rw [a0, a1]
  rfl

/-- The frame of reference 12: it terminates, its arguments unchanged, no semaphore left. -/
theorem frame_reference12 : Cert.quiescent_Reference12Ideal (hReference12Ideal := Cert.Reference12Ideal.Gen.facts) := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

/-- The gradient of a branch's projection is the reference's. -/
theorem equal12 : Cert.algebraic_Kernel12Ideal_Reference12Ideal (hKernel12Ideal := Cert.Kernel12Ideal.Gen.facts)
    (hReference12Ideal := Cert.Reference12Ideal.Gen.facts) := fun m ρ m' ρ' _ hargs => by
  refine ⟨Cert.Mix.DwBr.G m,
    (θ_run Cert.Kernel12Ideal.defs _ _).mono (fun r h c => ⟨(h c).1.trans (Cert.Mix.DwBr.final m c), (h c).2⟩)
      (Cert.Kernel12Ideal.Value.run_blocks (F := Ideal) m ρ),
    (θ_run Cert.Reference12Ideal.defs _ _).mono (fun r h c => ⟨(h c).1.trans ?_, (h c).2⟩)
      (Cert.Reference12Ideal.Value.run (F := Ideal) m' ρ')⟩
  obtain ⟨a0, a1⟩ := hargs c
  refine (Cert.Reference12Ideal.Read.val_main_v6_eq _ _).trans ?_
  rw [a0, a1]
  rfl

/-- The frame of reference 13: it terminates, its arguments unchanged, no semaphore left. -/
theorem frame_reference13 : Cert.quiescent_Reference13Ideal (hReference13Ideal := Cert.Reference13Ideal.Gen.facts) := fun m ρ _ =>
  (θ_run Cert.Reference13Ideal.defs _ _).mono (fun r h => ⟨fun c => (h c).2.2.2, Idealize.ShloMosaic.sem_eq_zero_of_no_sems (by decide) r.2⟩)
    (Cert.Reference13Ideal.Value.run (F := Ideal) m ρ)

/-- The output projection, the residual sum and the next normalised input are the reference's. -/
theorem equal13 : Cert.algebraic_Kernel13Ideal_Reference13Ideal (hKernel13Ideal := Cert.Kernel13Ideal.Gen.facts)
    (hReference13Ideal := Cert.Reference13Ideal.Gen.facts) := fun m ρ m' ρ' _ hargs => by
  refine ⟨Cert.Mix.Out.G5 m, Cert.Mix.Out.G6 m, Cert.Mix.Out.G7 m,
    (θ_run Cert.Kernel13Ideal.defs _ _).mono (fun r h c => ⟨(h c).1.trans (Cert.Mix.Out.final m c).1, (h c).2.1.trans (Cert.Mix.Out.final m c).2.1,
        (h c).2.2.1.trans (Cert.Mix.Out.final m c).2.2, (h c).2.2.2⟩)
      (Cert.Kernel13Ideal.Value.run_blocks (F := Ideal) m ρ),
    (θ_run Cert.Reference13Ideal.defs _ _).mono (fun r h c => ⟨(h c).1.trans ?_, (h c).2.1.trans ?_, (h c).2.2.1.trans ?_, (h c).2.2.2⟩)
      (Cert.Reference13Ideal.Value.run (F := Ideal) m' ρ')⟩
  · obtain ⟨a0, a1, a2, a3, a4⟩ := hargs c
    refine (Cert.Reference13Ideal.Read.val_main_v2_eq _ _).trans ?_
    rw [a0, a1]
    rfl
  · obtain ⟨a0, a1, a2, a3, a4⟩ := hargs c
    refine (Cert.Reference13Ideal.Read.val_main_v16_eq _ _ _ _).trans ?_
    rw [a0, a1, a2, a3]
    rfl
  · obtain ⟨a0, a1, a2, a3, a4⟩ := hargs c
    refine (Cert.Reference13Ideal.Read.val_main_v30_eq m' c).trans ?_
    rw [a0, a1, a2, a3, a4]
    rfl

/-- The frame of reference 17: it terminates, its arguments unchanged, no semaphore left. -/
theorem frame_reference17 : Cert.quiescent_Reference17Ideal (hReference17Ideal := Cert.Reference17Ideal.Gen.facts) := fun m ρ _ =>
  (θ_run Cert.Reference17Ideal.defs _ _).mono
    (fun r h => ⟨fun c => (h c).2.2.2.2.2.2, Idealize.ShloMosaic.sem_eq_zero_of_no_sems (by decide) r.2⟩)
    (Cert.Reference17Ideal.Value.run (F := Ideal) m ρ)

/-- The gradients of the three branches' products and of the three gates' logits are the reference's. -/
theorem equal17 : Cert.algebraic_Kernel17Ideal_Reference17Ideal (hKernel17Ideal := Cert.Kernel17Ideal.Gen.facts)
    (hReference17Ideal := Cert.Reference17Ideal.Gen.facts) := fun m ρ m' ρ' _ hargs => by
  refine ⟨Cert.Mix.Dmerge.G11 m, Cert.Mix.Dmerge.G12 m, Cert.Mix.Dmerge.G13 m, Cert.Mix.Dmerge.G14 m, Cert.Mix.Dmerge.G15 m, Cert.Mix.Dmerge.G16 m,
    (θ_run Cert.Kernel17Ideal.defs _ _).mono
      (fun r h c => ⟨(h.1 c).1, (h.1 c).2.1, (h.1 c).2.2.1, (h.1 c).2.2.2.1, (h.1 c).2.2.2.2.1, (h.1 c).2.2.2.2.2, h.2 c⟩)
      (θ_run_and (Cert.Mix.Dmerge.kernel_run m ρ) (Cert.Kernel17Ideal.Gen.unchanged (F := Ideal) m ρ)),
    (θ_run Cert.Reference17Ideal.defs _ _).mono
      (fun r h c => ⟨(h c).1.trans ?_, (h c).2.1.trans ?_, (h c).2.2.1.trans ?_, (h c).2.2.2.1.trans ?_, (h c).2.2.2.2.1.trans ?_,
        (h c).2.2.2.2.2.1.trans ?_, (h c).2.2.2.2.2.2⟩)
      (Cert.Reference17Ideal.Value.run (F := Ideal) m' ρ')⟩
  · obtain ⟨a0, a1, a2, a3, a4, a5, a6, a7, a8⟩ := hargs c
    refine (Cert.Reference17Ideal.Read.val_main_v60_eq _ _ _).trans ?_
    rw [a0, a4, a8]
    rfl
  · obtain ⟨a0, a1, a2, a3, a4, a5, a6, a7, a8⟩ := hargs c
    refine (Cert.Reference17Ideal.Read.val_main_v61_eq _ _ _).trans ?_
    rw [a0, a4, a8]
    rfl
  · obtain ⟨a0, a1, a2, a3, a4, a5, a6, a7, a8⟩ := hargs c
    refine (Cert.Reference17Ideal.Read.val_main_v62_eq _ _ _).trans ?_
    rw [a0, a4, a8]
    rfl
  · obtain ⟨a0, a1, a2, a3, a4, a5, a6, a7, a8⟩ := hargs c
    refine (Cert.Reference17Ideal.Read.val_main_v63_eq _ _ _ _ _).trans ?_
    rw [a0, a1, a4, a5, a8]
    rfl
  · obtain ⟨a0, a1, a2, a3, a4, a5, a6, a7, a8⟩ := hargs c
    refine (Cert.Reference17Ideal.Read.val_main_v64_eq _ _ _ _ _).trans ?_
    rw [a0, a2, a4, a6, a8]
    rfl
  · obtain ⟨a0, a1, a2, a3, a4, a5, a6, a7, a8⟩ := hargs c
    refine (Cert.Reference17Ideal.Read.val_main_v65_eq _ _ _ _ _).trans ?_
    rw [a0, a3, a4, a7, a8]
    rfl

end Cert.Proof

end
-- ==== Proof.Norm.Lib.lean ====
/-
  The gradient of a row's normalisation by its root mean square, in the two forms the kernels and the references write.
-/
module

public import proofs.«01_k».proof.Proof.Ffn.Down

@[expose] public section

set_option maxRecDepth 16384

noncomputable section

open Idealize.ShloMosaic Finset
open Cert.Ffn.Down (rms)

namespace Cert.Norm

/-- The mean square of a row, with the small constant added. -/
def var (f : Fin 1024 → EReal) : EReal :=
  Ideal.div (∑ k, f k * f k) (Ideal.ofBits .f32 0x44800000#32) + Ideal.ofBits .f32 0x358637BD#32

/-- The kernels' gradient of the normalised row `f` under the weighed cotangent `y`. -/
def grad (f y : Fin 1024 → EReal) (j : Fin 1024) : EReal :=
  rms f * (y j - f j * rms f * Ideal.div (∑ k, y k * (f k * rms f)) (Ideal.ofBits .f32 0x44800000#32))

/-- The references' derivative of the mean square under the weighed cotangent `y`. -/
def slope (f y : Fin 1024 → EReal) : EReal :=
  Ideal.div ((∑ k, f k * y k) * (Ideal.ofBits .f32 0xBF000000#32 * Ideal.div (rms f) (var f))) (Ideal.ofBits .f32 0x44800000#32)

/-- The cotangent of a row before its normalisation: the residual's, and the gradient of the normalised row under the cotangent `y` with weights `g`. -/
def step (d f y g : Fin 1024 → EReal) (j : Fin 1024) : EReal := d j + grad f (fun k => y k * g k) j

/-- A row's share of the weights' gradient. -/
def part (f y : Fin 1024 → EReal) (j : Fin 1024) : EReal := y j * (f j * rms f)

theorem n_bits : Ideal.ofBits .f32 0x44800000#32 = ((1024 : ℝ) : EReal) := by
  simp [Ideal.ofBits, Ideal.ieee, -EReal.coe_mul]; norm_num

theorem half_bits : Ideal.ofBits .f32 0xBF000000#32 = ((-(1 / 2) : ℝ) : EReal) := by
  simp [Ideal.ofBits, Ideal.ieee, -EReal.coe_mul]; norm_num

theorem eps_bits : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- A sum of real numbers, read among the extended reals. -/
theorem sum_coe {n : ℕ} (x : Fin n → ℝ) : ∑ k, ((x k : ℝ) : EReal) = ((∑ k, x k : ℝ) : EReal) :=
  (map_sum (⟨⟨fun r : ℝ => (r : EReal), EReal.coe_zero⟩, EReal.coe_add⟩ : ℝ →+ EReal) x Finset.univ).symm

/-- A product with a positive real number distributes over every sum. -/
theorem sum_mul_real {n : ℕ} (y : Fin n → EReal) {r : ℝ} (hr : 0 ≤ r) : ∑ k, y k * (r : EReal) = (∑ k, y k) * (r : EReal) :=
  (map_sum (⟨⟨fun a : EReal => a * (r : EReal), zero_mul _⟩,
    fun a b => EReal.right_distrib_of_nonneg_of_ne_top (EReal.coe_nonneg.2 hr) (EReal.coe_ne_top r) a b⟩ : EReal →+ EReal) y Finset.univ).symm

/-- Twice the same product with a negative real number. -/
theorem twice (t : EReal) {b : ℝ} (hb : 0 < b) : t * ((-(1 / 2) * b : ℝ) : EReal) + t * ((-(1 / 2) * b : ℝ) : EReal) = -(t * (b : EReal)) := by
  have hn : -(1 / 2) * b < 0 := by linarith
  induction t with
  | bot => rw [EReal.bot_mul_coe_of_neg hn, EReal.bot_mul_coe_of_pos hb]; rfl
  | top => rw [EReal.top_mul_coe_of_neg hn, EReal.top_mul_coe_of_pos hb]; rfl
  | coe t => norm_cast; ring

/-- A square is not negative. -/
theorem sq_nonneg (a : EReal) : 0 ≤ a * a := by
  induction a with
  | bot => simp
  | top => simp
  | coe a => exact_mod_cast mul_self_nonneg a

/-- A row with an infinite entry has an infinite mean square. -/
theorem var_top (f : Fin 1024 → EReal) (j : Fin 1024) (h : f j * f j = ⊤) : var f = ⊤ := by
  obtain ⟨e, -, he⟩ := eps_bits
  have hs : ∑ k, f k * f k = ⊤ := top_le_iff.1 (h ▸ Finset.single_le_sum (f := fun k => f k * f k) (fun k _ => sq_nonneg (f k)) (Finset.mem_univ j))
  rw [var, hs, n_bits, he, Ideal.div_coe (by norm_num), EReal.top_mul_coe_of_pos (by norm_num)]
  rfl

/-- The two forms of the gradient are equal, whatever the row and the cotangent. -/
theorem grad_eq (f y : Fin 1024 → EReal) (j : Fin 1024) : y j * rms f + f j * slope f y + slope f y * f j = grad f y j := by
  have hrms : rms f = Ideal.rsqrt (var f) := rfl
  by_cases hf : ∀ k, ∃ x : ℝ, f k = (x : EReal)
  · choose x hx using hf
    obtain rfl : f = fun k => (x k : EReal) := funext hx
    obtain ⟨e, he, hb⟩ := eps_bits
    have hv : var (fun k => (x k : EReal)) = (((∑ k, x k * x k) * (1 / 1024) + e : ℝ) : EReal) := by
      rw [var, n_bits, hb, Ideal.div_coe (by norm_num), EReal.coe_add, EReal.coe_mul, ← sum_coe]
      simp only [EReal.coe_mul]
    have hpos : 0 < (∑ k, x k * x k) * (1 / 1024) + e := by
      have : 0 ≤ ∑ k, x k * x k := Finset.sum_nonneg fun k _ => mul_self_nonneg (x k)
      positivity
    generalize (∑ k, x k * x k) * (1 / 1024) + e = v at hv hpos
    have hr : rms (fun k => (x k : EReal)) = (((Real.sqrt v)⁻¹ : ℝ) : EReal) := by
      rw [hrms, hv, Ideal.rsqrt_coe, if_neg (not_lt.2 hpos.le), if_neg hpos.ne']
    have hrp : 0 < (Real.sqrt v)⁻¹ := inv_pos.2 (Real.sqrt_pos.2 hpos)
    have hvr : 1 / v = (Real.sqrt v)⁻¹ * (Real.sqrt v)⁻¹ := by rw [← mul_inv, Real.mul_self_sqrt hpos.le, one_div]
    have h1 : ∑ k, y k * ((x k : EReal) * (((Real.sqrt v)⁻¹ : ℝ) : EReal)) = (∑ k, (x k : EReal) * y k) * (((Real.sqrt v)⁻¹ : ℝ) : EReal) := by
      rw [← sum_mul_real _ hrp.le]
      exact Finset.sum_congr rfl fun k _ => by rw [← mul_assoc, mul_comm (y k)]
    simp only [grad, slope, hr, hv]
    rw [h1, n_bits, half_bits, Ideal.div_coe hpos.ne', hvr, Ideal.div_coe (show (1024 : ℝ) ≠ 0 by norm_num),
      Ideal.div_coe (show (1024 : ℝ) ≠ 0 by norm_num)]
    generalize (Real.sqrt v)⁻¹ = r at hrp
    generalize ∑ k, (x k : EReal) * y k = s
    have e1 : s * (((-(1 / 2) : ℝ) : EReal) * ((r : EReal) * ((r * r : ℝ) : EReal))) * ((1 / 1024 : ℝ) : EReal)
        = s * ((-(1 / 2) * (r * (r * r) * (1 / 1024)) : ℝ) : EReal) := by
      rw [mul_assoc]; norm_cast; congr 2; ring
    have e2 : (r : EReal) * ((x j : EReal) * (r : EReal) * (s * (r : EReal) * ((1 / 1024 : ℝ) : EReal)))
        = (x j : EReal) * s * ((r * (r * r) * (1 / 1024) : ℝ) : EReal) := by
      push_cast; ac_rfl
    rw [e1, sub_eq_add_neg, EReal.left_distrib_of_nonneg_of_ne_top (EReal.coe_nonneg.2 hrp.le) (EReal.coe_ne_top r), mul_neg, e2,
      ← twice _ (by positivity), add_assoc, mul_comm (r : EReal), mul_comm (s * _) (x j : EReal), mul_assoc (x j : EReal)]
  · push Not at hf
    obtain ⟨k, hk⟩ := hf
    have hv : var f = ⊤ := var_top f k (by
      induction h : f k with
      | bot => simp
      | top => simp
      | coe a => exact absurd h (hk a))
    have hr : rms f = 0 := by rw [hrms, hv, Ideal.rsqrt_top]
    have hd : Ideal.div 0 ⊤ = 0 := by rw [Ideal.div, if_neg EReal.top_ne_zero, zero_mul]
    have hs : slope f y = 0 := by
      rw [slope, hr, hv, hd, mul_zero, mul_zero, n_bits, Ideal.div_coe (by norm_num), zero_mul]
    rw [grad, hs, hr]
    simp

/-- The same, added to a residual's cotangent. -/
theorem grad_add (d : EReal) (f y : Fin 1024 → EReal) (j : Fin 1024) :
    d + y j * rms f + f j * slope f y + slope f y * f j = d + grad f y j := by
  rw [← grad_eq, add_assoc, add_assoc, add_assoc]

/-- Row `a` of tile `t`. -/
def tileRow (t : Fin 16) (a : Fin 256) : Fin 4096 := ⟨t.val * 256 + a.val, by omega⟩

/-- The array of the tiles' partial sums: the first row of each group of eight holds a tile's sum, the others zero. -/
def tiles (F : Fin 4096 → Fin 1024 → EReal) (i : Fin 128) (b : Fin 1024) : EReal :=
  if i.val % 8 = 0 then ∑ r : Fin 256, F (tileRow ⟨i.val / 8, by omega⟩ r) b else 0

/-- The partial sums add up to the sum over all rows. -/
theorem sum_tiles (F : Fin 4096 → Fin 1024 → EReal) (b : Fin 1024) : ∑ i : Fin 128, tiles F i b = ∑ r : Fin 4096, F r b := by
  have e1 : ∑ i : Fin 128, tiles F i b = ∑ t : Fin 16, ∑ k : Fin 8, tiles F ⟨t.val * 8 + k.val, by omega⟩ b := by
    rw [← Finset.sum_product', ← (finProdFinEquiv (m := 16) (n := 8)).sum_comp (fun i : Fin 128 => tiles F i b)]
    exact Finset.sum_congr rfl fun p _ => congrArg (fun i => tiles F i b) (Fin.ext (by simp [finProdFinEquiv]; omega))
  have e2 : ∑ r : Fin 4096, F r b = ∑ t : Fin 16, ∑ r : Fin 256, F (tileRow t r) b := by
    rw [← Finset.sum_product', ← (finProdFinEquiv (m := 16) (n := 256)).sum_comp (fun i : Fin 4096 => F i b)]
    exact Finset.sum_congr rfl fun p _ => congrArg (fun i => F i b) (Fin.ext (by simp [finProdFinEquiv, tileRow]; omega))
  rw [e1, e2]
  refine Finset.sum_congr rfl fun t _ => ?_
  rw [Finset.sum_eq_single (0 : Fin 8)]
  · have h : (t.val * 8 + (0 : Fin 8).val) % 8 = 0 := by simp
    rw [tiles, if_pos h]
    refine Finset.sum_congr rfl fun r _ => congrArg (fun q => F q b) (Fin.ext ?_)
    show (t.val * 8 + (0 : Fin 8).val) / 8 * 256 + r.val = t.val * 256 + r.val
    simp
  · intro k _ hk
    have : k.val ≠ 0 := fun h => hk (Fin.ext h)
    rw [tiles, if_neg (by show ¬(t.val * 8 + k.val) % 8 = 0; omega)]
  · exact fun h => absurd (Finset.mem_univ _) h

end Cert.Norm

end
-- ==== Proof.Norm.Dn.lean ====
/-
  The gradient of the feed-forward network's normalised input: two products, the normalisation's gradient, and the gradient
  of the normalisation that ends the layer before, with the weights' gradients as sums over the rows.
-/
module

public import proofs.«01_k».proof.Proof.Gen.Kernel14Ideal.Frame
public import proofs.«01_k».proof.Proof.Gen.Reference14Ideal.Read
public import proofs.«01_k».proof.Proof.Mix.Lib
public import proofs.«01_k».proof.Proof.Norm.Lib
public import Idealize.ShloMosaic.Lib.Pipeline.ValueKit
public import Idealize.ShloMosaic.Lib.Pointwise
public import Idealize.ShloMosaic.Lib.IdealHost
public import Idealize.ShloMosaic.Lib.Claim

@[expose] public section

set_option maxRecDepth 16384

noncomputable section

open Idealize.ShloMosaic Idealize.ShloMosaic.TcCoe Idealize.SL.Sem Finset
open Cert.Kernel14Ideal Cert.Kernel14Ideal.Gen
open Cert.Mix Cert.Norm
open Cert.Ffn.Down (rms)

namespace Cert.Norm.Dn

/-- A row of the cotangent of the normalised input: the two products of one block. -/
def up (x0 x1 : FVec Ideal S256x2816 .bf16) (w0 w1 : FVec Ideal S2816x1024 .bf16) (a : Fin 256) (b : Fin 1024) : EReal :=
  (∑ k : Fin 2816, (x0 (ix2 a k) : EReal) * w0 (ix2 k b)) + ∑ k : Fin 2816, (x1 (ix2 a k) : EReal) * w1 (ix2 k b)

/-- A row of a block. -/
def rowOf (x : FVec Ideal S256x1024 .f32) (a : Fin 256) (k : Fin 1024) : EReal := x (ix2 a k)

/-- The single row of a block of weights. -/
def line (g : FVec Ideal S1x1024 .f32) (k : Fin 1024) : EReal := g (ix2 0 k)

theorem ext_ix2 {α : Type} (x : S256x1024.Idx → α) (j : S256x1024.Idx) : x j = x (ix2 (j 0) (j 1)) := congrArg x (ext2 rfl rfl)

variable (x0 x1 : FVec Ideal S256x2816 .bf16) (w0 w1 : FVec Ideal S2816x1024 .bf16) (x d z : FVec Ideal S256x1024 .f32) (g h : FVec Ideal S1x1024 .f32)

/-- A choice by the index of a row being zero. -/
theorem pick {a : Fin 8} {n : ℕ} (h : n = a.val) (u v : EReal) :
    Scalar.select (IntOp.cmpi CmpIPredicate.eq (BitVec.ofNat 32 n) 0#32) u v = if a.val = 0 then u else v := by
  subst h
  fin_cases a <;> rfl

theorem pay3 (j : S256x1024.Idx) : (k0_pay3 (F := Ideal) x0 w0 x1 w1 j : EReal) = up x0 x1 w0 w1 (j 0) (j 1) := by
  unfold k0_pay3
  simp only [pointwise]
  rw [zero_add, zero_add]
  rfl

theorem pay4 (j : S256x1.Idx) : (k0_pay4 (F := Ideal) x j : EReal) = rms (rowOf x (j 0)) := by
  unfold k0_pay4
  simp only [pointwise]
  rfl

theorem pay5 (j : S256x1024.Idx) : (k0_pay5 (F := Ideal) x j : EReal) = rowOf x (j 0) (j 1) * rms (rowOf x (j 0)) := by
  have e := fun a => pay4 x (ix2 a 0)
  unfold k0_pay5
  generalize k0_pay4 (F := Ideal) x = f at e ⊢
  simp only [pointwise]
  exact congrArg₂ (fun u v : EReal => u * v) (ext_ix2 x j) (e (j 0))

theorem pay6 (j : S256x1024.Idx) : (k0_pay6 (F := Ideal) x0 w0 x1 w1 g j : EReal) = up x0 x1 w0 w1 (j 0) (j 1) * line g (j 1) := by
  have e := pay3 x0 x1 w0 w1 j
  unfold k0_pay6
  generalize k0_pay3 (F := Ideal) x0 w0 x1 w1 = f at e ⊢
  simp only [pointwise]
  rw [e]
  rfl

theorem pay7 (j : S256x1024.Idx) :
    (k0_pay7 (F := Ideal) x0 w0 x1 w1 x g j : EReal)
      = rowOf x (j 0) (j 1) * rms (rowOf x (j 0))
        * Ideal.div (∑ k, up x0 x1 w0 w1 (j 0) k * line g k * (rowOf x (j 0) k * rms (rowOf x (j 0)))) (Ideal.ofBits .f32 0x44800000#32) := by
  have e6 := fun k : Fin 1024 => pay6 x0 x1 w0 w1 g (ix2 (j 0) k)
  have e5 := fun k : Fin 1024 => pay5 x (ix2 (j 0) k)
  have ej := pay5 x j
  unfold k0_pay7
  generalize k0_pay6 (F := Ideal) x0 w0 x1 w1 g = f at e6 ⊢
  generalize k0_pay5 (F := Ideal) x = f' at e5 ej ⊢
  simp only [pointwise]
  rw [ej]
  exact congrArg (fun s => _ * Ideal.div s _) (sum_mul e6 e5)

/-- One block of the layer's cotangent. -/
theorem pay9 (j : S256x1024.Idx) :
    (k0_pay9 (F := Ideal) d (k0_pay4 (F := Ideal) x) (k0_pay6 (F := Ideal) x0 w0 x1 w1 g) (k0_pay7 (F := Ideal) x0 w0 x1 w1 x g) j : EReal)
      = step (rowOf d (j 0)) (rowOf x (j 0)) (up x0 x1 w0 w1 (j 0)) (line g) (j 1) := by
  have e4 := fun a => pay4 x (ix2 a 0)
  have e6 := pay6 x0 x1 w0 w1 g j
  have e7 := pay7 x0 x1 w0 w1 x g j
  unfold k0_pay9
  generalize k0_pay4 (F := Ideal) x = f4 at e4 ⊢
  generalize k0_pay6 (F := Ideal) x0 w0 x1 w1 g = f6 at e6 ⊢
  generalize k0_pay7 (F := Ideal) x0 w0 x1 w1 x g = f7 at e7 ⊢
  simp only [pointwise]
  rw [e6, e7]
  exact congrArg₂ (fun u v : EReal => u + v * (_ - _)) (ext_ix2 d j) (e4 (j 0))

/-- One block of the partial sums of the first weights' gradient: its first row alone is not zero. -/
theorem pay8 (j : S8x1024.Idx) :
    (k0_pay8 (F := Ideal) (k0_pay3 (F := Ideal) x0 w0 x1 w1) (k0_pay5 (F := Ideal) x) j : EReal)
      = if (j 0).val = 0 then ∑ r : Fin 256, part (rowOf x r) (up x0 x1 w0 w1 r) (j 1) else 0 := by
  have e3 := fun r : Fin 256 => pay3 x0 x1 w0 w1 (ix2 r (j 1))
  have e5 := fun r : Fin 256 => pay5 x (ix2 r (j 1))
  unfold k0_pay8
  generalize k0_pay3 (F := Ideal) x0 w0 x1 w1 = f3 at e3 ⊢
  generalize k0_pay5 (F := Ideal) x = f5 at e5 ⊢
  simp only [pointwise]
  rw [pick (a := j 0) (n := List.foldl _ 0 [0]) (by show 0 * 8 + (j 0).val = _; omega)]
  exact if_congr Iff.rfl (sum_mul e3 e5) rfl

/-- The cotangent of the normalisation of the layer before. -/
def back (s : EReal) (d : Fin 1024 → EReal) (k : Fin 1024) : EReal := s * d k

/-- The layer's cotangent, scaled for the normalisation of the layer before. -/
theorem pay10 (j : S256x1024.Idx) :
    (k0_pay10 (F := Ideal) d (k0_pay4 (F := Ideal) x) (k0_pay6 (F := Ideal) x0 w0 x1 w1 g) (k0_pay7 (F := Ideal) x0 w0 x1 w1 x g) j : EReal)
      = back 1 (step (rowOf d (j 0)) (rowOf x (j 0)) (up x0 x1 w0 w1 (j 0)) (line g)) (j 1) := by
  have e := pay9 x0 x1 w0 w1 x d g j
  unfold k0_pay10
  generalize k0_pay9 (F := Ideal) d (k0_pay4 (F := Ideal) x) (k0_pay6 (F := Ideal) x0 w0 x1 w1 g) (k0_pay7 (F := Ideal) x0 w0 x1 w1 x g) = f at e ⊢
  simp only [pointwise]
  rw [e]
  rfl

theorem pay11 (j : S256x1.Idx) : (k0_pay11 (F := Ideal) z j : EReal) = rms (rowOf z (j 0)) := pay4 z j

theorem pay12 (j : S256x1024.Idx) : (k0_pay12 (F := Ideal) z j : EReal) = rowOf z (j 0) (j 1) * rms (rowOf z (j 0)) := pay5 z j

/-- One block of the gradient of the normalisation of the layer before. -/
theorem pay13 (v21 : FVec Ideal S256x1 .f32) (v25 v32 : FVec Ideal S256x1024 .f32) (D : Fin 256 → Fin 1024 → EReal)
    (hD : ∀ j : S256x1024.Idx, (k0_pay10 (F := Ideal) d v21 v25 v32 j : EReal) = D (j 0) (j 1)) (j : S256x1024.Idx) :
    (k0_pay1 (F := Ideal) (k0_pay13 (F := Ideal) d z (k0_pay2 (F := Ideal) h) v21 v25 v32) j : EReal)
      = grad (rowOf z (j 0)) (fun k => D (j 0) k * line h k) (j 1) := by
  have e11 := fun a => pay11 z (ix2 a 0)
  have e12 := fun k : Fin 1024 => pay12 z (ix2 (j 0) k)
  have ej := pay12 z j
  have eD := fun k : Fin 1024 => hD (ix2 (j 0) k)
  have eDj := hD j
  unfold k0_pay1 k0_pay13 k0_pay2
  generalize k0_pay10 (F := Ideal) d v21 v25 v32 = f at eD eDj ⊢
  generalize k0_pay11 (F := Ideal) z = f11 at e11 ⊢
  generalize k0_pay12 (F := Ideal) z = f12 at e12 ej ⊢
  simp only [truncf_apply, pointwise]
  rw [eDj, ej]
  refine congrArg₂ (fun u v : EReal => u * (_ - _ * Ideal.div v _)) (e11 (j 0)) ?_
  exact sum_mul (fun k => congrArg (· * _) (eD k)) e12

/-- One block of the partial sums of the second weights' gradient: its first row alone is not zero. -/
theorem pay14 (v21 : FVec Ideal S256x1 .f32) (v25 v32 : FVec Ideal S256x1024 .f32) (D : Fin 256 → Fin 1024 → EReal)
    (hD : ∀ j : S256x1024.Idx, (k0_pay10 (F := Ideal) d v21 v25 v32 j : EReal) = D (j 0) (j 1)) (j : S8x1024.Idx) :
    (k0_pay14 (F := Ideal) d z v21 v25 v32 j : EReal)
      = if (j 0).val = 0 then ∑ r : Fin 256, part (rowOf z r) (D r) (j 1) else 0 := by
  have e12 := fun r : Fin 256 => pay12 z (ix2 r (j 1))
  have eD := fun r : Fin 256 => hD (ix2 r (j 1))
  unfold k0_pay14
  generalize k0_pay10 (F := Ideal) d v21 v25 v32 = f at eD ⊢
  generalize k0_pay12 (F := Ideal) z = f12 at e12 ⊢
  simp only [pointwise]
  rw [pick (a := j 0) (n := List.foldl _ 0 [0]) (by show 0 * 8 + (j 0).val = _; omega)]
  exact if_congr Iff.rfl (sum_mul eD e12) rfl

/-- The layer's cotangent, as the stores leave its block. -/
theorem block9 (j : S256x1024.Idx) :
    (out0_9 (F := Ideal) x0 x1 w0 w1 x d g z h j : EReal) = step (rowOf d (j 0)) (rowOf x (j 0)) (up x0 x1 w0 w1 (j 0)) (line g) (j 1) := by
  unfold out0_9 k0_pay15 k0_pay16 k0_pay17
  rw [View.canon_cons_unit_lit _ _ _ (by decide)]
  iterate 7 rw [View.ld_unit_lit _ _ (by decide)]
  exact pay9 x0 x1 w0 w1 x d g j

/-- The partial sums of the first weights' gradient, as the stores leave their block. -/
theorem block10 (j : S8x1024.Idx) :
    (out0_10 (F := Ideal) x0 x1 w0 w1 x d g z h j : EReal)
      = if (j 0).val = 0 then ∑ r : Fin 256, part (rowOf x r) (up x0 x1 w0 w1 r) (j 1) else 0 := by
  unfold out0_10
  rw [View.canon_cons_unit_lit _ _ _ (by decide)]
  iterate 5 rw [View.ld_unit_lit _ _ (by decide)]
  exact pay8 x0 x1 w0 w1 x j

/-- The gradient of the normalisation of the layer before, as the stores leave its block. -/
theorem block11 (j : S256x1024.Idx) :
    (out0_11 (F := Ideal) x0 x1 w0 w1 x d g z h j : EReal)
      = grad (rowOf z (j 0)) (fun k => back 1 (step (rowOf d (j 0)) (rowOf x (j 0)) (up x0 x1 w0 w1 (j 0)) (line g)) k * line h k) (j 1) := by
  unfold out0_11 k0_pay15 k0_pay16 k0_pay17
  rw [View.canon_cons_unit_lit _ _ _ (by decide)]
  iterate 9 rw [View.ld_unit_lit _ _ (by decide)]
  exact pay13 d z h _ _ _ (fun a => back 1 (step (rowOf d a) (rowOf x a) (up x0 x1 w0 w1 a) (line g))) (pay10 x0 x1 w0 w1 x d g) j

/-- The partial sums of the second weights' gradient, as the stores leave their block. -/
theorem block12 (j : S8x1024.Idx) :
    (out0_12 (F := Ideal) x0 x1 w0 w1 x d g z h j : EReal)
      = if (j 0).val = 0 then ∑ r : Fin 256, part (rowOf z r) (back 1 (step (rowOf d r) (rowOf x r) (up x0 x1 w0 w1 r) (line g))) (j 1) else 0 := by
  unfold out0_12 k0_pay15 k0_pay16 k0_pay17
  rw [View.canon_cons_unit_lit _ _ _ (by decide)]
  iterate 8 rw [View.ld_unit_lit _ _ (by decide)]
  exact pay14 d z _ _ _ (fun a => back 1 (step (rowOf d a) (rowOf x a) (up x0 x1 w0 w1 a) (line g))) (pay10 x0 x1 w0 w1 x d g) j

section Plain

open Cert.Reference14Ideal.Read

variable (x0 x1 : FVec Ideal S4096x2816 .bf16) (w0 w1 : FVec Ideal S2816x1024 .bf16) (x d z : FVec Ideal S4096x1024 .f32) (g h : FVec Ideal S1024 .f32)

/-- A row of the reference's cotangent of the normalised input. -/
def pup (a : Fin 4096) (b : Fin 1024) : EReal :=
  (∑ k : Fin 2816, (x0 (ix2 a k) : EReal) * w0 (ix2 k b)) + ∑ k : Fin 2816, (x1 (ix2 a k) : EReal) * w1 (ix2 k b)

/-- A row of an array. -/
def prow (x : FVec Ideal S4096x1024 .f32) (a : Fin 4096) (k : Fin 1024) : EReal := x (ix2 a k)

/-- A vector of weights. -/
def pvec (g : FVec Ideal S1024 .f32) (k : Fin 1024) : EReal := g (ix1 k)

theorem pext (x : FVec Ideal S4096x1024 .f32) (i : S4096x1024.Idx) : (x i : EReal) = prow x (i 0) (i 1) := congrArg x (ext2 rfl rfl)

theorem gext (g : FVec Ideal S1024 .f32) {i : Cert.Reference14Ideal.S1024.Idx} {k : Fin 1024} (e : i 0 = k) : (g i : EReal) = pvec g k :=
  congrArg g (funext fun a => by fin_cases a; exact e)

theorem zero_sum {n : ℕ} (f : Fin n → EReal) : Ideal.ofBits .f32 0x00000000#32 + ∑ k, f k = ∑ k, f k := by
  rw [Ideal.ofBits_zero_f32, zero_add]

/-- The reference's cotangent of the normalised input. -/
theorem plain_up (i : S4096x1024.Idx) : (val_main_v26 (F := Ideal) x0 x1 w0 w1 i : EReal) = pup x0 x1 w0 w1 (i 0) (i 1) := by
  rw [val_main_v26_apply, val_main_v24_apply, val_main_v25_apply]
  refine (congrArg₂ (fun u v : EReal => u + v) (sum_mul (fun k => ?_) fun k => ?_) (sum_mul (fun k => ?_) fun k => ?_)).trans (add_comm _ _)
  · exact (val_main_v1_apply _ _).trans (congrArg x1 (ext2 rfl rfl))
  · exact (val_main_v22_apply _ _).trans ((val_main_v3_apply _ _).trans (congrArg w1 (ext2 rfl rfl)))
  · exact (val_main_v0_apply _ _).trans (congrArg x0 (ext2 rfl rfl))
  · exact (val_main_v20_apply _ _).trans ((val_main_v2_apply _ _).trans (congrArg w0 (ext2 rfl rfl)))

/-- The reference's weighed cotangent. -/
theorem plain_gy (i : S4096x1024.Idx) : (val_main_v31 (F := Ideal) x0 x1 w0 w1 g i : EReal) = pup x0 x1 w0 w1 (i 0) (i 1) * pvec g (i 1) := by
  rw [val_main_v31_apply, val_main_v30_apply, val_main_v17_apply, plain_up]
  exact congrArg (fun u : EReal => _ * u) (gext g rfl)

/-- The reference's mean square of a row. -/
theorem plain_var (i : Cert.Reference14Ideal.S4096x1.Idx) : (val_main_v10 (F := Ideal) x i : EReal) = var (prow x (i 0)) := by
  have e : (val_main_v5 (F := Ideal) x (idx_main_v6 i) : EReal) = ∑ k, prow x (i 0) k * prow x (i 0) k := by
    rw [val_main_v5_apply, val_main_cst_apply]
    refine (zero_sum _).trans (Finset.sum_congr rfl fun k _ => ?_)
    rw [val_main_v4_apply, pext x]
    rfl
  rw [val_main_v10_apply, val_main_v8_apply, val_main_v6_apply, e, val_main_v7_apply, val_main_v9_apply]
  rfl

/-- The reference's reciprocal root mean square of a row. -/
theorem plain_rms (i : Cert.Reference14Ideal.S4096x1.Idx) : (val_main_v11 (F := Ideal) x i : EReal) = rms (prow x (i 0)) := by
  rw [val_main_v11_apply, plain_var]
  rfl

/-- The reference's derivative through the mean square. -/
theorem plain_slope (i : S4096x1024.Idx) :
    (val_main_v43 (F := Ideal) x0 x1 w0 w1 x g i : EReal) = slope (prow x (i 0)) (fun k => pup x0 x1 w0 w1 (i 0) k * pvec g k) := by
  have e : ∀ q : Cert.Reference14Ideal.S4096.Idx, q 0 = i 0 → (val_main_v34 (F := Ideal) x0 x1 w0 w1 x g q : EReal)
      = ∑ k, prow x (i 0) k * (pup x0 x1 w0 w1 (i 0) k * pvec g k) := fun q hq => by
    rw [← hq]
    rw [val_main_v34_apply, val_main_cst_5_apply]
    refine (zero_sum _).trans (Finset.sum_congr rfl fun k _ => ?_)
    rw [val_main_v33_apply, plain_gy, pext x]
    rfl
  rw [val_main_v43_apply, val_main_v42_apply, val_main_cst_7_apply]
  refine (zero_sum _).trans ((Fin.sum_univ_one _).trans ?_)
  rw [val_main_v41_apply, val_main_v39_apply, val_main_v35_apply, e _ (Fin.ext (by show (i 0).val * 1 + 0 = (i 0).val; omega)), val_main_v14_apply, val_main_v13_apply, val_main_v12_apply, plain_rms,
    plain_var, val_main_v40_apply]
  rfl

/-- The reference's cotangent of the layer. -/
theorem plain_step (i : S4096x1024.Idx) :
    (val_main_v47 (F := Ideal) x0 x1 w0 w1 x d g i : EReal) = step (prow d (i 0)) (prow x (i 0)) (pup x0 x1 w0 w1 (i 0)) (pvec g) (i 1) := by
  rw [val_main_v47_apply, val_main_v45_apply, val_main_v38_apply, val_main_v37_apply, val_main_v36_apply, val_main_v44_apply, val_main_v46_apply,
    plain_slope, plain_gy, plain_rms, pext x, pext d]
  exact grad_add (prow d (i 0) (i 1)) (prow x (i 0)) (fun k => pup x0 x1 w0 w1 (i 0) k * pvec g k) (i 1)

/-- The reference's gradient of the first weights. -/
theorem plain_first (i : S1024.Idx) :
    (val_main_v32 (F := Ideal) x0 x1 w0 w1 x i : EReal) = ∑ r : Fin 4096, part (prow x r) (pup x0 x1 w0 w1 r) (i 0) := by
  rw [val_main_v32_apply, val_main_cst_4_apply]
  refine (zero_sum _).trans ((Fin.sum_univ_one _).trans ?_)
  have e : ∀ q : Cert.Reference14Ideal.S1024.Idx, q 0 = i 0 → (val_main_v28 (F := Ideal) x0 x1 w0 w1 x q : EReal) = ∑ r : Fin 4096, part (prow x r) (pup x0 x1 w0 w1 r) (i 0) := fun q hq => by
    rw [← hq, val_main_v28_apply, val_main_cst_3_apply]
    refine (zero_sum _).trans (Finset.sum_congr rfl fun k _ => ?_)
    rw [val_main_v27_apply, val_main_v16_apply, val_main_v15_apply, plain_rms, plain_up, pext x]
    exact mul_comm (prow x k (q 0) * rms (prow x k)) (pup x0 x1 w0 w1 k (q 0))
  rw [val_main_v29_apply]
  exact e _ (Fin.ext (by show 0 * 1024 + (i 0).val = (i 0).val; omega))

/-- The cotangent the reference hands to the normalisation of the layer before. -/
def pstep (a : Fin 4096) : Fin 1024 → EReal := step (prow d a) (prow x a) (pup x0 x1 w0 w1 a) (pvec g)

theorem plain_gy2 (i : S4096x1024.Idx) :
    (val_main_v68 (F := Ideal) x0 x1 w0 w1 x d g h i : EReal) = pstep x0 x1 w0 w1 x d g (i 0) (i 1) * pvec h (i 1) := by
  rw [val_main_v68_apply, val_main_v67_apply, val_main_v61_apply, plain_step]
  exact congrArg (fun u : EReal => _ * u) (gext h rfl)

theorem plain_var2 (i : Cert.Reference14Ideal.S4096x1.Idx) : (val_main_v54 (F := Ideal) z i : EReal) = var (prow z (i 0)) := plain_var z i

theorem plain_rms2 (i : Cert.Reference14Ideal.S4096x1.Idx) : (val_main_v55 (F := Ideal) z i : EReal) = rms (prow z (i 0)) := plain_rms z i

theorem plain_slope2 (i : S4096x1024.Idx) :
    (val_main_v79 (F := Ideal) x0 x1 w0 w1 x d g z h i : EReal)
      = slope (prow z (i 0)) (fun k => pstep x0 x1 w0 w1 x d g (i 0) k * pvec h k) := by
  have e : ∀ q : Cert.Reference14Ideal.S4096.Idx, q 0 = i 0 → (val_main_v71 (F := Ideal) x0 x1 w0 w1 x d g z h q : EReal)
      = ∑ k, prow z (i 0) k * (pstep x0 x1 w0 w1 x d g (i 0) k * pvec h k) := fun q hq => by
    rw [← hq]
    rw [val_main_v71_apply, val_main_cst_14_apply]
    refine (zero_sum _).trans (Finset.sum_congr rfl fun k _ => ?_)
    rw [val_main_v70_apply, plain_gy2, pext z]
    rfl
  rw [val_main_v79_apply, val_main_v78_apply, val_main_cst_16_apply]
  refine (zero_sum _).trans ((Fin.sum_univ_one _).trans ?_)
  rw [val_main_v77_apply, val_main_v75_apply, val_main_v72_apply, e _ (Fin.ext (by show (i 0).val * 1 + 0 = (i 0).val; omega)), val_main_v58_apply, val_main_v57_apply, val_main_v56_apply, plain_rms2,
    plain_var2, val_main_v76_apply]
  rfl

/-- The reference's gradient of the normalisation of the layer before. -/
theorem plain_back (i : S4096x1024.Idx) :
    (val_main_v84 (F := Ideal) x0 x1 w0 w1 x d g z h i : EReal)
      = grad (prow z (i 0)) (fun k => pstep x0 x1 w0 w1 x d g (i 0) k * pvec h k) (i 1) := by
  rw [val_main_v84_apply, val_main_v83_apply, val_main_v81_apply, val_main_v74_apply, val_main_v73_apply, val_main_v80_apply, val_main_v82_apply,
    plain_slope2, plain_gy2, plain_rms2, pext z]
  exact grad_eq (prow z (i 0)) (fun k => pstep x0 x1 w0 w1 x d g (i 0) k * pvec h k) (i 1)

/-- The reference's gradient of the second weights. -/
theorem plain_second (i : S1024.Idx) :
    (val_main_v69 (F := Ideal) x0 x1 w0 w1 x d g z i : EReal) = ∑ r : Fin 4096, part (prow z r) (pstep x0 x1 w0 w1 x d g r) (i 0) := by
  rw [val_main_v69_apply, val_main_cst_13_apply]
  refine (zero_sum _).trans ((Fin.sum_univ_one _).trans ?_)
  have e : ∀ q : Cert.Reference14Ideal.S1024.Idx, q 0 = i 0 → (val_main_v65 (F := Ideal) x0 x1 w0 w1 x d g z q : EReal) = ∑ r : Fin 4096, part (prow z r) (pstep x0 x1 w0 w1 x d g r) (i 0) := fun q hq => by
    rw [← hq, val_main_v65_apply, val_main_cst_12_apply]
    refine (zero_sum _).trans (Finset.sum_congr rfl fun k _ => ?_)
    rw [val_main_v64_apply, val_main_v60_apply, val_main_v59_apply, plain_rms2, plain_step, pext z]
    exact mul_comm (prow z k (q 0) * rms (prow z k)) (pstep x0 x1 w0 w1 x d g k (q 0))
  rw [val_main_v66_apply]
  exact e _ (Fin.ext (by show 0 * 1024 + (i 0).val = (i 0).val; omega))

end Plain

/-- Where the grid's points read and write. -/
theorem points : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0) :=
  (by decide +kernel : ∀ t : Fin grid0.N, _)

/-- Where the grid's points write. -/
theorem places : ∀ t : Fin cfg0.N, (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- Row `a` of point `t`'s blocks. -/
def rowAt (t : Fin cfg0.N) (a : Fin 256) : Fin 4096 := tileRow ⟨t.val, lt_of_lt_of_eq t.isLt N_0⟩ a

theorem rowAt_val {t : Fin cfg0.N} {k : ℕ} (h : k = t.val) (a : Fin 256) : k * 256 + 1 * a.val = (rowAt t a).val := by
  show k * 256 + 1 * a.val = t.val * 256 + a.val
  omega

variable (m : (ℓ : Loc nD τ sig) → Buf (Elt Ideal) ℓ) (c : Dev nD)

/-- The argument arrays at one core. -/
def a0 : FVec Ideal S4096x2816 .bf16 := m ((c : Thread nD τ).loc main_arg0)
def a1 : FVec Ideal S4096x2816 .bf16 := m ((c : Thread nD τ).loc main_arg1)
def a2 : FVec Ideal S2816x1024 .bf16 := m ((c : Thread nD τ).loc main_arg2)
def a3 : FVec Ideal S2816x1024 .bf16 := m ((c : Thread nD τ).loc main_arg3)
def a4 : FVec Ideal S4096x1024 .f32 := m ((c : Thread nD τ).loc main_arg4)
def a5 : FVec Ideal S4096x1024 .f32 := m ((c : Thread nD τ).loc main_arg5)
def a6 : FVec Ideal S1024 .f32 := m ((c : Thread nD τ).loc main_arg6)
def a7 : FVec Ideal S4096x1024 .f32 := m ((c : Thread nD τ).loc main_arg7)
def a8 : FVec Ideal S1024 .f32 := m ((c : Thread nD τ).loc main_arg8)

/-- A point's rows of the two products are the reference's. -/
theorem ups (t : Fin cfg0.N) (a : Fin 256) :
    up (iblk m c 0 t) (iblk m c 1 t) (iblk m c 2 t) (iblk m c 3 t) a = pup (a0 m c) (a1 m c) (a2 m c) (a3 m c) (rowAt t a) := by
  obtain ⟨⟨p0, q0⟩, ⟨p1, q1⟩, ⟨p2, q2⟩, ⟨p3, q3⟩, -⟩ := points t
  funext b
  exact congrArg₂ (fun u v : EReal => u + v)
    (sum_mul (fun k => (congrFun (V_main_arg0 m c) _).trans (congrArg (a0 m c) (ext2 (rowAt_val p0 a) (at_zero 2816 k.val q0))))
      fun k => (congrFun (V_main_arg2 m c) _).trans (congrArg (a2 m c) (ext2 (at_zero 2816 k.val p2) (at_zero 1024 b.val q2))))
    (sum_mul (fun k => (congrFun (V_main_arg1 m c) _).trans (congrArg (a1 m c) (ext2 (rowAt_val p1 a) (at_zero 2816 k.val q1))))
      fun k => (congrFun (V_main_arg3 m c) _).trans (congrArg (a3 m c) (ext2 (at_zero 2816 k.val p3) (at_zero 1024 b.val q3))))

/-- A point's rows of the normalised input's source are the argument's. -/
theorem rows4 (t : Fin cfg0.N) (a : Fin 256) : rowOf (iblk m c 4 t) a = prow (a4 m c) (rowAt t a) := by
  obtain ⟨-, -, -, -, ⟨p, q⟩, -⟩ := points t
  exact funext fun k => (congrFun (V_main_arg4 m c) _).trans (congrArg (a4 m c) (ext2 (rowAt_val p a) (at_zero 1024 k.val q)))

/-- A point's rows of the residual's cotangent are the argument's. -/
theorem rows5 (t : Fin cfg0.N) (a : Fin 256) : rowOf (iblk m c 5 t) a = prow (a5 m c) (rowAt t a) := by
  obtain ⟨-, -, -, -, -, ⟨p, q⟩, -⟩ := points t
  exact funext fun k => (congrFun (V_main_arg5 m c) _).trans (congrArg (a5 m c) (ext2 (rowAt_val p a) (at_zero 1024 k.val q)))

/-- A point's rows of the layer before are the argument's. -/
theorem rows7 (t : Fin cfg0.N) (a : Fin 256) : rowOf (iblk m c 7 t) a = prow (a7 m c) (rowAt t a) := by
  obtain ⟨-, -, -, -, -, -, -, ⟨p, q⟩, -⟩ := points t
  exact funext fun k => (congrFun (V_main_arg7 m c) _).trans (congrArg (a7 m c) (ext2 (rowAt_val p a) (at_zero 1024 k.val q)))

/-- The host lays each weight vector out as one row. -/
theorem host_v0 : (V m c main_v0 : FVec Ideal S1x1024 .f32) = shapeCast S1x1024 (a6 m c) shapeCasts_S1024_S1x1024 := by
  unfold V V0
  simp only [hostOps0, List.flatten_cons, List.flatten_nil, List.append_nil, List.cons_append, List.nil_append]
  after_results_simp
  rfl

/-- The host lays each weight vector out as one row. -/
theorem host_v1 : (V m c main_v1 : FVec Ideal S1x1024 .f32) = shapeCast S1x1024 (a8 m c) shapeCasts_S1024_S1x1024 := by
  unfold V V0
  simp only [hostOps0, List.flatten_cons, List.flatten_nil, List.append_nil, List.cons_append, List.nil_append]
  after_results_simp
  rfl

/-- The block of the first weights. -/
theorem line6 (t : Fin cfg0.N) : line (iblk m c 6 t) = pvec (a6 m c) := by
  obtain ⟨-, -, -, -, -, -, ⟨p, q⟩, -⟩ := points t
  exact funext fun k => ((congrFun (host_v0 m c) _).trans
    (congrArg (shapeCast S1x1024 _ _) (ext2 (at_zero 1 0 p) (at_zero 1024 k.val q)))).trans (Cert.Ffn.Down.flat (a6 m c) k)

/-- The block of the second weights. -/
theorem line8 (t : Fin cfg0.N) : line (iblk m c 8 t) = pvec (a8 m c) := by
  obtain ⟨-, -, -, -, -, -, -, -, ⟨p, q⟩⟩ := points t
  exact funext fun k => ((congrFun (host_v1 m c) _).trans
    (congrArg (shapeCast S1x1024 _ _) (ext2 (at_zero 1 0 p) (at_zero 1024 k.val q)))).trans (Cert.Ffn.Down.flat (a8 m c) k)

/-- A row of the layer's cotangent. -/
def dh (a : Fin 4096) : Fin 1024 → EReal := pstep (a0 m c) (a1 m c) (a2 m c) (a3 m c) (a4 m c) (a5 m c) (a6 m c) a

/-- A point's rows of the layer's cotangent. -/
theorem steps (t : Fin cfg0.N) (a : Fin 256) :
    step (rowOf (iblk m c 5 t) a) (rowOf (iblk m c 4 t) a) (up (iblk m c 0 t) (iblk m c 1 t) (iblk m c 2 t) (iblk m c 3 t) a) (line (iblk m c 6 t))
      = dh m c (rowAt t a) := by
  rw [rows5, rows4, ups, line6]
  rfl

/-- The layer's cotangent the call leaves. -/
def G9 : Buf (Elt Ideal) ((c : Thread nD τ).loc main_v2_0) :=
  Cert.Reference14Ideal.Read.val_main_v47 (F := Ideal) (a0 m c) (a1 m c) (a2 m c) (a3 m c) (a4 m c) (a5 m c) (a6 m c)

/-- The partial sums of the first weights' gradient. -/
def G10 : Buf (Elt Ideal) ((c : Thread nD τ).loc main_v2_1) :=
  fun i : S128x1024.Idx => tiles (fun r => part (prow (a4 m c) r) (pup (a0 m c) (a1 m c) (a2 m c) (a3 m c) r)) (i 0) (i 1)

/-- The gradient of the normalisation of the layer before. -/
def G11 : Buf (Elt Ideal) ((c : Thread nD τ).loc main_v2_2) :=
  Cert.Reference14Ideal.Read.val_main_v84 (F := Ideal) (a0 m c) (a1 m c) (a2 m c) (a3 m c) (a4 m c) (a5 m c) (a6 m c) (a7 m c) (a8 m c)

/-- The partial sums of the second weights' gradient. -/
def G12 : Buf (Elt Ideal) ((c : Thread nD τ).loc main_v2_3) :=
  fun i : S128x1024.Idx => tiles (fun r => part (prow (a7 m c) r) (dh m c r)) (i 0) (i 1)

/-- A point's partial sums, placed in the array of all of them. -/
theorem tile_at (F : Fin 4096 → Fin 1024 → EReal) (t : Fin cfg0.N) (y0 : Fin 8) (y1 : Fin 1024) (i : S128x1024.Idx)
    (h0 : (i 0).val = t.val * 8 + 1 * y0.val) (h1 : i 1 = y1) :
    (if y0.val = 0 then ∑ r : Fin 256, F (rowAt t r) y1 else 0) = tiles F (i 0) (i 1) := by
  have ht : t.val < 16 := lt_of_lt_of_eq t.isLt N_0
  have hd : (i 0).val / 8 = t.val := by omega
  rw [h1]
  unfold tiles
  refine if_congr (by omega) (Finset.sum_congr rfl fun r _ => congrArg (fun q => F q y1) (Fin.ext ?_)) rfl
  show t.val * 256 + r.val = (i 0).val / 8 * 256 + r.val
  rw [hd]

/-- Each point writes its block of the layer's cotangent. -/
theorem flushed9_eq (t : Fin cfg0.N) : (dats m 0 c).flushed 9 t = ((cfg0.win 9).blk t).view.read (Elt Ideal) (G9 m c) := by
  obtain ⟨⟨o0, o1⟩, -⟩ := places t
  show (cfg0.win 9).cut (grid0.coords t) ((dats m 0 c).after 9 t) = _
  rw [after0_9]
  funext y
  refine (block9 (iblk m c 0 t) (iblk m c 1 t) (iblk m c 2 t) (iblk m c 3 t) (iblk m c 4 t) (iblk m c 5 t) (iblk m c 7 t) (iblk m c 6 t)
    (iblk m c 8 t) ((cfg0.win 9).xinj (grid0.coords t) y)).trans ?_
  refine Eq.trans ?_ (plain_step (a0 m c) (a1 m c) (a2 m c) (a3 m c) (a4 m c) (a5 m c) (a6 m c) (((cfg0.win 9).blk t).view.emb y)).symm
  refine (congrFun (steps m c t (y 0)) (y 1)).trans ?_
  exact congrArg₂ (dh m c) (Fin.ext (rowAt_val o0 (y 0)).symm) (Fin.ext (at_zero 1024 (y 1).val o1).symm)

/-- Each point writes its block of the gradient of the normalisation of the layer before. -/
theorem flushed11_eq (t : Fin cfg0.N) : (dats m 0 c).flushed 11 t = ((cfg0.win 11).blk t).view.read (Elt Ideal) (G11 m c) := by
  obtain ⟨-, -, ⟨o0, o1⟩, -⟩ := places t
  show (cfg0.win 11).cut (grid0.coords t) ((dats m 0 c).after 11 t) = _
  rw [after0_11]
  funext y
  refine (block11 (iblk m c 0 t) (iblk m c 1 t) (iblk m c 2 t) (iblk m c 3 t) (iblk m c 4 t) (iblk m c 5 t) (iblk m c 7 t) (iblk m c 6 t)
    (iblk m c 8 t) ((cfg0.win 11).xinj (grid0.coords t) y)).trans ?_
  refine Eq.trans ?_ (plain_back (a0 m c) (a1 m c) (a2 m c) (a3 m c) (a4 m c) (a5 m c) (a7 m c) (a6 m c) (a8 m c)
    (((cfg0.win 11).blk t).view.emb y)).symm
  have e : ∀ a : Fin 256, grad (rowOf (iblk m c 7 t) a) (fun k => back 1 (step (rowOf (iblk m c 5 t) a) (rowOf (iblk m c 4 t) a)
        (up (iblk m c 0 t) (iblk m c 1 t) (iblk m c 2 t) (iblk m c 3 t) a) (line (iblk m c 6 t))) k * line (iblk m c 8 t) k)
      = grad (prow (a7 m c) (rowAt t a)) (fun k => dh m c (rowAt t a) k * pvec (a8 m c) k) := fun a => by
    rw [steps, rows7, line8]
    simp only [back, one_mul]
  refine (congrFun (e (y 0)) (y 1)).trans ?_
  exact congrArg₂ (fun r => grad (prow (a7 m c) r) (fun k => dh m c r k * pvec (a8 m c) k)) (Fin.ext (rowAt_val o0 (y 0)).symm)
    (Fin.ext (at_zero 1024 (y 1).val o1).symm)

/-- Each point writes its block of the first partial sums. -/
theorem flushed10_eq (t : Fin cfg0.N) : (dats m 0 c).flushed 10 t = ((cfg0.win 10).blk t).view.read (Elt Ideal) (G10 m c) := by
  obtain ⟨-, ⟨o0, o1⟩, -⟩ := places t
  show (cfg0.win 10).cut (grid0.coords t) ((dats m 0 c).after 10 t) = _
  rw [after0_10]
  funext y
  refine (block10 (iblk m c 0 t) (iblk m c 1 t) (iblk m c 2 t) (iblk m c 3 t) (iblk m c 4 t) (iblk m c 5 t) (iblk m c 7 t) (iblk m c 6 t)
    (iblk m c 8 t) ((cfg0.win 10).xinj (grid0.coords t) y)).trans ?_
  refine Eq.trans ?_ (tile_at (fun r => part (prow (a4 m c) r) (pup (a0 m c) (a1 m c) (a2 m c) (a3 m c) r)) t (y 0) (y 1)
    (((cfg0.win 10).blk t).view.emb y) (at_same 8 (y 0).val o0) (Fin.ext (at_zero 1024 (y 1).val o1)))
  refine if_congr Iff.rfl (Finset.sum_congr rfl fun r _ => ?_) rfl
  rw [rows4, ups]

/-- Each point writes its block of the second partial sums. -/
theorem flushed12_eq (t : Fin cfg0.N) : (dats m 0 c).flushed 12 t = ((cfg0.win 12).blk t).view.read (Elt Ideal) (G12 m c) := by
  obtain ⟨-, -, -, ⟨o0, o1⟩⟩ := places t
  show (cfg0.win 12).cut (grid0.coords t) ((dats m 0 c).after 12 t) = _
  rw [after0_12]
  funext y
  refine (block12 (iblk m c 0 t) (iblk m c 1 t) (iblk m c 2 t) (iblk m c 3 t) (iblk m c 4 t) (iblk m c 5 t) (iblk m c 7 t) (iblk m c 6 t)
    (iblk m c 8 t) ((cfg0.win 12).xinj (grid0.coords t) y)).trans ?_
  refine Eq.trans ?_ (tile_at (fun r => part (prow (a7 m c) r) (dh m c r)) t (y 0) (y 1)
    (((cfg0.win 12).blk t).view.emb y) (at_same 8 (y 0).val o0) (Fin.ext (at_zero 1024 (y 1).val o1)))
  refine if_congr Iff.rfl (Finset.sum_congr rfl fun r _ => ?_) rfl
  rw [rows7, steps]
  simp only [back, part, one_mul]

/-- The point that writes row `i` of the results. -/
def pointOf (i : Fin 4096) : Fin cfg0.N := ⟨i.val / 256, by rw [show cfg0.N = 16 from N_0]; omega⟩

/-- The point that writes row `i` of the partial sums. -/
def tileOf (i : Fin 128) : Fin cfg0.N := ⟨i.val / 8, by rw [show cfg0.N = 16 from N_0]; omega⟩

/-- The blocks fill the first result. -/
theorem covered9 (i : S4096x1024.Idx) : ∃ t : Fin cfg0.N, (cfg0.win 9).flush t = true ∧ i ∈ ((cfg0.win 9).blk t).view.set := by
  obtain ⟨⟨o0, o1⟩, -⟩ := places (pointOf (i 0))
  refine ⟨pointOf (i 0), flush0_9 _, ?_⟩
  show i ∈ ((View.whole main_v2_0).slice (win0_9.rect (pointOf (i 0)))).set
  rw [View.set_slice_whole, Rect.mem_set_unit]
  exact Fin.forall_fin_two.2 ⟨in_block (n := 256) o0 (by decide), in_whole (n := 1024) o1 (i 1).isLt⟩

/-- The blocks fill the first partial sums. -/
theorem covered10 (i : S128x1024.Idx) : ∃ t : Fin cfg0.N, (cfg0.win 10).flush t = true ∧ i ∈ ((cfg0.win 10).blk t).view.set := by
  obtain ⟨-, ⟨o0, o1⟩, -⟩ := places (tileOf (i 0))
  refine ⟨tileOf (i 0), flush0_10 _, ?_⟩
  show i ∈ ((View.whole main_v2_1).slice (win0_10.rect (tileOf (i 0)))).set
  rw [View.set_slice_whole, Rect.mem_set_unit]
  exact Fin.forall_fin_two.2 ⟨in_block (n := 8) o0 (by decide), in_whole (n := 1024) o1 (i 1).isLt⟩

/-- The blocks fill the second result. -/
theorem covered11 (i : S4096x1024.Idx) : ∃ t : Fin cfg0.N, (cfg0.win 11).flush t = true ∧ i ∈ ((cfg0.win 11).blk t).view.set := by
  obtain ⟨-, -, ⟨o0, o1⟩, -⟩ := places (pointOf (i 0))
  refine ⟨pointOf (i 0), flush0_11 _, ?_⟩
  show i ∈ ((View.whole main_v2_2).slice (win0_11.rect (pointOf (i 0)))).set
  rw [View.set_slice_whole, Rect.mem_set_unit]
  exact Fin.forall_fin_two.2 ⟨in_block (n := 256) o0 (by decide), in_whole (n := 1024) o1 (i 1).isLt⟩

/-- The blocks fill the second partial sums. -/
theorem covered12 (i : S128x1024.Idx) : ∃ t : Fin cfg0.N, (cfg0.win 12).flush t = true ∧ i ∈ ((cfg0.win 12).blk t).view.set := by
  obtain ⟨-, -, -, ⟨o0, o1⟩⟩ := places (tileOf (i 0))
  refine ⟨tileOf (i 0), flush0_12 _, ?_⟩
  show i ∈ ((View.whole main_v2_3).slice (win0_12.rect (tileOf (i 0)))).set
  rw [View.set_slice_whole, Rect.mem_set_unit]
  exact Fin.forall_fin_two.2 ⟨in_block (n := 8) o0 (by decide), in_whole (n := 1024) o1 (i 1).isLt⟩

/-- The call's four arrays. -/
theorem final : (dats m 0 c).arrAt 9 cfg0.N = G9 m c ∧ (dats m 0 c).arrAt 10 cfg0.N = G10 m c ∧ (dats m 0 c).arrAt 11 cfg0.N = G11 m c
    ∧ (dats m 0 c).arrAt 12 cfg0.N = G12 m c :=
  ⟨(dats m 0 c).arrAt_eq_of_cover 9 (G9 m c) (fun t _ => flushed9_eq m c t) covered9,
    (dats m 0 c).arrAt_eq_of_cover 10 (G10 m c) (fun t _ => flushed10_eq m c t) covered10,
    (dats m 0 c).arrAt_eq_of_cover 11 (G11 m c) (fun t _ => flushed11_eq m c t) covered11,
    (dats m 0 c).arrAt_eq_of_cover 12 (G12 m c) (fun t _ => flushed12_eq m c t) covered12⟩

/-- The host's sum of the partial sums is the sum over all rows. -/
theorem host_sum (F : Fin 4096 → Fin 1024 → EReal) (x : FVec Ideal S128x1024 .f32) (hx : x = fun i => tiles F (i 0) (i 1)) (i : S1024.Idx) :
    (Host.reduceAdd (F := Ideal) x (constant S_ .f32 0x00000000#32) reducesTo_S128x1024_S1024_d0 h_S_ i : EReal) = ∑ r : Fin 4096, F r (i 0) := by
  subst hx
  simp only [Host.reduceAdd, Ideal.hostReduceAdd_def]
  rw [Ideal.hostReduceAdd_single reducesTo_S128x1024_S1024_d0 (by decide)]
  refine ((congrArg₂ (fun u v : EReal => u + v) Ideal.ofBits_zero_f32 (Finset.sum_congr rfl fun k _ => ?_)).trans (zero_add _)).trans (sum_tiles F (i 0))
  exact congrArg₂ (tiles F) (Fin.ext rfl) (Fin.ext rfl)

/-- The first weights' gradient. -/
def G3 : Buf (Elt Ideal) ((c : Thread nD τ).loc main_v3) :=
  Cert.Reference14Ideal.Read.val_main_v32 (F := Ideal) (a0 m c) (a1 m c) (a2 m c) (a3 m c) (a4 m c)

/-- The second weights' gradient. -/
def G4 : Buf (Elt Ideal) ((c : Thread nD τ).loc main_v4) :=
  Cert.Reference14Ideal.Read.val_main_v69 (F := Ideal) (a0 m c) (a1 m c) (a2 m c) (a3 m c) (a4 m c) (a5 m c) (a6 m c) (a7 m c)

/-- The host's sum of the first partial sums is the reference's gradient. -/
theorem sum3 : (Host.reduceAdd (F := Ideal) ((dats m 0 c).arrAt 10 cfg0.N : FVec Ideal S128x1024 .f32) (constant S_ .f32 0x00000000#32) reducesTo_S128x1024_S1024_d0 h_S_
    : FVec Ideal S1024 .f32) = G3 m c := by
  funext i
  refine (host_sum (fun r => part (prow (a4 m c) r) (pup (a0 m c) (a1 m c) (a2 m c) (a3 m c) r)) _ (final m c).2.1 i).trans ?_
  exact (plain_first (a0 m c) (a1 m c) (a2 m c) (a3 m c) (a4 m c) i).symm

/-- The host's sum of the second partial sums is the reference's gradient. -/
theorem sum4 : (Host.reduceAdd (F := Ideal) ((dats m 0 c).arrAt 12 cfg0.N : FVec Ideal S128x1024 .f32) (constant S_ .f32 0x00000000#32) reducesTo_S128x1024_S1024_d0 h_S_
    : FVec Ideal S1024 .f32) = G4 m c := by
  funext i
  refine (host_sum (fun r => part (prow (a7 m c) r) (dh m c r)) _ (final m c).2.2.2 i).trans ?_
  exact (plain_second (a0 m c) (a1 m c) (a2 m c) (a3 m c) (a4 m c) (a5 m c) (a7 m c) (a6 m c) i).symm

/-- No two windows share an array. -/
theorem arr_inj : Function.Injective (Pipeline.arrRef spec0) := by decide

/-- The kernel's run ends with the reference's four results. -/
theorem kernel_run (ρ : Dev nD → PrngReg) :
    θ_run defs (onTc (τ := τ) (main (F := Ideal))) ⟨m, fun _ => 0, ρ⟩ (fun r => ∀ c : Dev nD,
      r.2.mem ((c : Thread nD τ).loc main_v2_0) = G9 m c ∧ r.2.mem ((c : Thread nD τ).loc main_v3) = G3 m c
      ∧ r.2.mem ((c : Thread nD τ).loc main_v2_2) = G11 m c ∧ r.2.mem ((c : Thread nD τ).loc main_v4) = G4 m c) := by
  run_from (Gen.run_main m ρ)
  · exact (final m c).1
  · unfold Pipeline.afterTail₀
    simp only [hostOps1, List.flatten_cons, List.flatten_nil, List.append_nil, List.cons_append, List.nil_append]
    after_results_simp
    exact (congrArg (fun x : FVec Ideal S128x1024 .f32 => Host.reduceAdd (F := Ideal) x (constant S_ .f32 0x00000000#32) reducesTo_S128x1024_S1024_d0 h_S_)
      (Pipeline.withArrays_arr spec0 arr_inj c (V0 m c) (fun w => (dats m 0 c).arrAt w cfg0.N) 10)).trans (sum3 m c)
  · exact (final m c).2.2.1
  · unfold Pipeline.afterTail₀
    simp only [hostOps1, List.flatten_cons, List.flatten_nil, List.append_nil, List.cons_append, List.nil_append]
    after_results_simp
    exact (congrArg (fun x : FVec Ideal S128x1024 .f32 => Host.reduceAdd (F := Ideal) x (constant S_ .f32 0x00000000#32) reducesTo_S128x1024_S1024_d0 h_S_)
      (Pipeline.withArrays_arr spec0 arr_inj c (V0 m c) (fun w => (dats m 0 c).arrAt w cfg0.N) 12)).trans (sum4 m c)

end Cert.Norm.Dn

end
-- ==== Proof.Norm.Ref.lean ====
/-
  The gradient of a norm as the references compute it, for any cotangent: its value at every entry, and the sum over
  the rows that is the gradient of the norm's weights.
-/
module

public import proofs.«01_k».proof.Proof.Norm.Dn
public import proofs.«01_k».proof.Proof.Gen.Reference15Ideal.Read

@[expose] public section

set_option maxRecDepth 16384

noncomputable section

open Idealize.ShloMosaic Idealize.ShloMosaic.TcCoe Idealize.SL.Sem Finset
open Cert.Reference14Ideal Cert.Reference14Ideal.Gen Cert.Reference14Ideal.Read
open Cert.Mix Cert.Norm
open Cert.Ffn.Down (rms)
open Cert.Norm.Dn (prow pvec pext gext zero_sum plain_var plain_rms)

namespace Cert.Norm.Ref

abbrev Arr := FVec Ideal S4096x1024 .f32

/-- A cotangent times the norm's weights. -/
def weigh (y : Arr) (g : FVec Ideal S1024 .f32) : Arr := mulf y (val_main_v30 (F := Ideal) g)

/-- Half of what comes back through the mean square, at every entry of a row. -/
def fall (x y : Arr) : Arr :=
  broadcastInDim S4096x1024 ![0] bcast_S4096_S4096x1024_0
    (Host.reduceAdd (F := Ideal)
      (Host.divf (mulf (shapeCast S4096x1 (Host.reduceAdd (F := Ideal) (mulf x y) (constant S_ .f32 0x00000000#32) reducesTo_S4096x1024_S4096_d1 h_S_)
        shapeCasts_S4096_S4096x1) (val_main_v14 (F := Ideal) x)) (val_main_v40 (F := Ideal)))
      (constant S_ .f32 0x00000000#32) reducesTo_S4096x1_S4096_d1 h_S_)

/-- A weighed cotangent times the row's reciprocal root mean square. -/
def lead (x y : Arr) : Arr := mulf y (val_main_v36 (F := Ideal) x)

/-- The gradient at the norm's input. -/
def pull (x y : Arr) : Arr := addf (addf (lead x y) (mulf x (fall x y))) (mulf (fall x y) x)

/-- The gradient at the norm's input, added to a residual's cotangent. -/
def pullOnto (d x y : Arr) : Arr := addf (addf (addf d (lead x y)) (mulf x (fall x y))) (mulf (fall x y) x)

/-- The gradient of the norm's weights. -/
def weights (x y : Arr) : FVec Ideal S1024 .f32 :=
  Host.reduceAdd (F := Ideal) (shapeCast S1x1024
    (Host.reduceAdd (F := Ideal) (mulf (val_main_v16 (F := Ideal) x) y) (constant S_ .f32 0x00000000#32) reducesTo_S4096x1024_S1024_d0 h_S_)
    shapeCasts_S1024_S1x1024) (constant S_ .f32 0x00000000#32) reducesTo_S1x1024_S1024_d0 h_S_

theorem weigh_apply (y : Arr) (g : FVec Ideal S1024 .f32) (i : S4096x1024.Idx) :
    (weigh y g i : EReal) = prow y (i 0) (i 1) * pvec g (i 1) := by
  show (y i : EReal) * val_main_v30 (F := Ideal) g i = _
  rw [val_main_v30_apply, val_main_v17_apply, pext y]
  exact congrArg (fun u : EReal => _ * u) (gext g rfl)

/-- A row's sum, on the host. -/
theorem sum_row (y : Arr) (q : S4096.Idx) :
    (Host.reduceAdd (F := Ideal) y (constant S_ .f32 0x00000000#32) reducesTo_S4096x1024_S4096_d1 h_S_ q : EReal) = ∑ k, prow y (q 0) k := by
  simp only [Host.reduceAdd, Ideal.hostReduceAdd_def]
  rw [Ideal.hostReduceAdd_single reducesTo_S4096x1024_S4096_d1 (by decide)]
  exact (zero_sum _).trans (Finset.sum_congr rfl fun k _ => congrArg y (ext2 rfl rfl))

/-- A column's sum, on the host. -/
theorem sum_column (y : Arr) (q : S1024.Idx) :
    (Host.reduceAdd (F := Ideal) y (constant S_ .f32 0x00000000#32) reducesTo_S4096x1024_S1024_d0 h_S_ q : EReal) = ∑ r, prow y r (q 0) := by
  simp only [Host.reduceAdd, Ideal.hostReduceAdd_def]
  rw [Ideal.hostReduceAdd_single reducesTo_S4096x1024_S1024_d0 (by decide)]
  exact (zero_sum _).trans (Finset.sum_congr rfl fun k _ => congrArg y (ext2 rfl rfl))

/-- A sum of one term, on the host. -/
theorem sum_one (y : FVec Ideal S4096x1 .f32) (q : S4096.Idx) :
    (Host.reduceAdd (F := Ideal) y (constant S_ .f32 0x00000000#32) reducesTo_S4096x1_S4096_d1 h_S_ q : EReal) = y (ix2 (q 0) 0) := by
  simp only [Host.reduceAdd, Ideal.hostReduceAdd_def]
  rw [Ideal.hostReduceAdd_single reducesTo_S4096x1_S4096_d1 (by decide)]
  exact (zero_sum _).trans ((Fin.sum_univ_one _).trans (congrArg y (ext2 rfl rfl)))

/-- A sum of one row, on the host. -/
theorem sum_line (y : FVec Ideal S1x1024 .f32) (q : S1024.Idx) :
    (Host.reduceAdd (F := Ideal) y (constant S_ .f32 0x00000000#32) reducesTo_S1x1024_S1024_d0 h_S_ q : EReal) = y (ix2 0 (q 0)) := by
  simp only [Host.reduceAdd, Ideal.hostReduceAdd_def]
  rw [Ideal.hostReduceAdd_single reducesTo_S1x1024_S1024_d0 (by decide)]
  exact (zero_sum _).trans ((Fin.sum_univ_one _).trans (congrArg y (ext2 rfl rfl)))

/-- A vector laid out as a column. -/
theorem column (y : FVec Ideal S4096 .f32) (a : Fin 4096) : (shapeCast S4096x1 y shapeCasts_S4096_S4096x1 (ix2 a 0) : EReal) = y (ix1 a) :=
  shapeCast_apply y shapeCasts_S4096_S4096x1 (ix2 a 0) (ix1 a) (by
    rw [Shape.rowMajor_val_one, Shape.rowMajor_val_two]
    show a.val = a.val * 1 + 0
    omega)

theorem fall_apply (x y : Arr) (i : S4096x1024.Idx) : (fall x y i : EReal) = slope (prow x (i 0)) (prow y (i 0)) := by
  refine (broadcastInDim_apply _ bcast_S4096_S4096x1024_0 _ i (ix1 (i 0)) (fun a => match a with
    | ⟨0, _⟩ => by show (i 0).val = if (4096 : Nat) = 1 then 0 else (i 0).val; rw [if_neg (by decide)])).trans ?_
  rw [sum_one]
  have e : (val_main_v14 (F := Ideal) x (ix2 (i 0) 0) : EReal) = Ideal.ofBits .f32 0xBF000000#32 * Ideal.div (rms (prow x (i 0))) (var (prow x (i 0))) := by
    rw [val_main_v14_apply, val_main_v13_apply, val_main_v12_apply, plain_rms, plain_var]
    rfl
  exact congrArg₂ (fun u v : EReal => Ideal.div (u * v) (Ideal.ofBits .f32 0x44800000#32)) ((column _ (i 0)).trans (sum_row (mulf x y) (ix1 (i 0)))) e

theorem lead_apply (x y : Arr) (i : S4096x1024.Idx) : (lead x y i : EReal) = prow y (i 0) (i 1) * rms (prow x (i 0)) := by
  show (y i : EReal) * val_main_v36 (F := Ideal) x i = _
  rw [val_main_v36_apply, plain_rms, pext y]
  rfl

/-- The gradient at the norm's input is the kernel's form of it. -/
theorem pull_apply (x y : Arr) (i : S4096x1024.Idx) : (pull x y i : EReal) = grad (prow x (i 0)) (prow y (i 0)) (i 1) := by
  show (lead x y i : EReal) + x i * fall x y i + fall x y i * x i = _
  rw [lead_apply, fall_apply, pext x]
  exact grad_eq (prow x (i 0)) (prow y (i 0)) (i 1)

/-- The same, added to a residual's cotangent. -/
theorem pullOnto_apply (d x y : Arr) (i : S4096x1024.Idx) :
    (pullOnto d x y i : EReal) = prow d (i 0) (i 1) + grad (prow x (i 0)) (prow y (i 0)) (i 1) := by
  show (d i : EReal) + lead x y i + x i * fall x y i + fall x y i * x i = _
  rw [lead_apply, fall_apply, pext x, pext d]
  exact grad_add (prow d (i 0) (i 1)) (prow x (i 0)) (prow y (i 0)) (i 1)

/-- The gradient of the norm's weights. -/
theorem weights_apply (x y : Arr) (i : S1024.Idx) : (weights x y i : EReal) = ∑ r, part (prow x r) (prow y r) (i 0) := by
  unfold weights
  rw [sum_line]
  refine (Cert.Ffn.Down.flat _ (i 0)).trans ?_
  rw [sum_column]
  refine Finset.sum_congr rfl fun r _ => ?_
  show (val_main_v16 (F := Ideal) x (ix2 r (i 0)) : EReal) * y (ix2 r (i 0)) = _
  rw [val_main_v16_apply, val_main_v15_apply, plain_rms]
  exact mul_comm (prow x r (i 0) * rms (prow x r)) (prow y r (i 0))

/-- The cotangent of a half's input. -/
def cot (u d x : Arr) (g : FVec Ideal S1024 .f32) : Arr := pullOnto d x (weigh u g)

theorem cot_apply (u d x : Arr) (g : FVec Ideal S1024 .f32) (i : S4096x1024.Idx) :
    (cot u d x g i : EReal) = step (prow d (i 0)) (prow x (i 0)) (prow u (i 0)) (pvec g) (i 1) := by
  refine (pullOnto_apply d x (weigh u g) i).trans (congrArg (fun y => prow d (i 0) (i 1) + grad (prow x (i 0)) y (i 1)) (funext fun k => ?_))
  exact weigh_apply u g (ix2 (i 0) k)

/-- One half, as a number. -/
def half : EReal := Ideal.ofBits .f32 0x3F000000#32

/-- Half of an array. -/
def halve (y : Arr) : Arr := mulf (Cert.Reference15Ideal.Read.val_main_v66 (F := Ideal)) y

theorem halve_row (y : Arr) (a : Fin 4096) (k : Fin 1024) : prow (halve y) a k = half * prow y a k := by
  show (Cert.Reference15Ideal.Read.val_main_v66 (F := Ideal) (ix2 a k) : EReal) * y (ix2 a k) = _
  rw [Cert.Reference15Ideal.Read.val_main_v66_apply, Cert.Reference15Ideal.Read.val_main_cst_13_apply]
  rfl

/-- The gradient at the input of the norm of the half before, whose output the step adds one half of. -/
def before (y z : Arr) (h : FVec Ideal S1024 .f32) : FVec Ideal S4096x1024 .bf16 := truncf .bf16 (pull z (weigh (halve y) h)) bitsLt_bf16_f32

theorem before_apply (y z : Arr) (h : FVec Ideal S1024 .f32) (i : S4096x1024.Idx) :
    (before y z h i : EReal) = grad (prow z (i 0)) (fun k => half * prow y (i 0) k * pvec h k) (i 1) := by
  refine (pull_apply z (weigh (halve y) h) i).trans (congrArg (fun y => grad (prow z (i 0)) y (i 1)) (funext fun k => ?_))
  exact (weigh_apply (halve y) h (ix2 (i 0) k)).trans (congrArg (fun u : EReal => u * _) (halve_row y (i 0) k))

/-- The gradient of that norm's weights. -/
theorem weights_halve (y z : Arr) (i : S1024.Idx) :
    (weights z (halve y) i : EReal) = ∑ r, part (prow z r) (fun k => half * prow y r k) (i 0) :=
  (weights_apply z (halve y) i).trans (Finset.sum_congr rfl fun r _ => congrArg (fun u => part (prow z r) u (i 0)) (funext fun k => halve_row y r k))

/-- A place of tile `t`. -/
theorem tileRow_val {t : Fin 16} {k : ℕ} (h : k = t.val) (a : Fin 256) : k * 256 + 1 * a.val = (tileRow t a).val := by
  show k * 256 + 1 * a.val = t.val * 256 + a.val
  omega

/-- A tile's partial sums, placed in the array of all of them. -/
theorem tile_put (F : Fin 4096 → Fin 1024 → EReal) (t : Fin 16) (y0 : Fin 8) (y1 : Fin 1024) (i0 : Fin 128) (i1 : Fin 1024)
    (h0 : i0.val = t.val * 8 + 1 * y0.val) (h1 : i1 = y1) :
    (if y0.val = 0 then ∑ r : Fin 256, F (tileRow t r) y1 else 0) = tiles F i0 i1 := by
  have hd : i0.val / 8 = t.val := by omega
  rw [h1]
  unfold tiles
  refine if_congr (by omega) (Finset.sum_congr rfl fun r _ => congrArg (fun q => F q y1) (Fin.ext ?_)) rfl
  show t.val * 256 + r.val = i0.val / 8 * 256 + r.val
  rw [hd]

end Cert.Norm.Ref

end
-- ==== Proof.Norm.Dn1.lean ====
/-
  The gradient at the first half's input: as for the second half, and the layer before is weighed by one half.
-/
module

public import proofs.«01_k».proof.Proof.Gen.Kernel15Ideal.Frame
public import proofs.«01_k».proof.Proof.Norm.Ref

@[expose] public section

set_option maxRecDepth 16384

noncomputable section

open Idealize.ShloMosaic Idealize.ShloMosaic.TcCoe Idealize.SL.Sem Finset
open Cert.Kernel15Ideal Cert.Kernel15Ideal.Gen
open Cert.Mix Cert.Norm Cert.Norm.Ref
open Cert.Ffn.Down (rms)
open Cert.Norm.Dn (up pup rowOf line prow pvec pext gext pick host_sum pointOf tileOf)

namespace Cert.Norm.Dn1

variable (x0 x1 : FVec Ideal S256x2816 .bf16) (w0 w1 : FVec Ideal S2816x1024 .bf16) (x d z : FVec Ideal S256x1024 .f32) (g h : FVec Ideal S1x1024 .f32)

/-- The layer's cotangent, scaled for the normalisation of the layer before. -/
theorem pay10 (j : S256x1024.Idx) :
    (k0_pay10 (F := Ideal) d (k0_pay4 (F := Ideal) x) (k0_pay6 (F := Ideal) x0 w0 x1 w1 g) (k0_pay7 (F := Ideal) x0 w0 x1 w1 x g) j : EReal)
      = half * step (rowOf d (j 0)) (rowOf x (j 0)) (up x0 x1 w0 w1 (j 0)) (line g) (j 1) :=
  congrArg (fun u : EReal => half * u) (Cert.Norm.Dn.pay9 x0 x1 w0 w1 x d g j)

/-- One block of the gradient of the normalisation of the layer before. -/
theorem pay13 (v21 : FVec Ideal S256x1 .f32) (v25 v32 : FVec Ideal S256x1024 .f32) (D : Fin 256 → Fin 1024 → EReal)
    (hD : ∀ j : S256x1024.Idx, (k0_pay10 (F := Ideal) d v21 v25 v32 j : EReal) = D (j 0) (j 1)) (j : S256x1024.Idx) :
    (k0_pay1 (F := Ideal) (k0_pay13 (F := Ideal) d z (k0_pay2 (F := Ideal) h) v21 v25 v32) j : EReal)
      = grad (rowOf z (j 0)) (fun k => D (j 0) k * line h k) (j 1) := by
  have e11 := fun a => Cert.Norm.Dn.pay11 z (ix2 a 0)
  have e12 := fun k : Fin 1024 => Cert.Norm.Dn.pay12 z (ix2 (j 0) k)
  have ej := Cert.Norm.Dn.pay12 z j
  have eD := fun k : Fin 1024 => hD (ix2 (j 0) k)
  have eDj := hD j
  change ∀ a, (k0_pay11 (F := Ideal) z (ix2 a 0) : EReal) = _ at e11
  change ∀ k, (k0_pay12 (F := Ideal) z (ix2 (j 0) k) : EReal) = _ at e12
  change (k0_pay12 (F := Ideal) z j : EReal) = _ at ej
  unfold k0_pay1 k0_pay13 k0_pay2
  generalize k0_pay10 (F := Ideal) d v21 v25 v32 = f at eD eDj ⊢
  generalize k0_pay11 (F := Ideal) z = f11 at e11 ⊢
  generalize k0_pay12 (F := Ideal) z = f12 at e12 ej ⊢
  simp only [truncf_apply, pointwise]
  rw [eDj, ej]
  refine congrArg₂ (fun u v : EReal => u * (_ - _ * Ideal.div v _)) (e11 (j 0)) ?_
  exact sum_mul (fun k => congrArg (· * _) (eD k)) e12

/-- One block of the partial sums of the second weights' gradient: its first row alone is not zero. -/
theorem pay14 (v21 : FVec Ideal S256x1 .f32) (v25 v32 : FVec Ideal S256x1024 .f32) (D : Fin 256 → Fin 1024 → EReal)
    (hD : ∀ j : S256x1024.Idx, (k0_pay10 (F := Ideal) d v21 v25 v32 j : EReal) = D (j 0) (j 1)) (j : S8x1024.Idx) :
    (k0_pay14 (F := Ideal) d z v21 v25 v32 j : EReal)
      = if (j 0).val = 0 then ∑ r : Fin 256, part (rowOf z r) (D r) (j 1) else 0 := by
  have e12 := fun r : Fin 256 => Cert.Norm.Dn.pay12 z (ix2 r (j 1))
  have eD := fun r : Fin 256 => hD (ix2 r (j 1))
  change ∀ r, (k0_pay12 (F := Ideal) z (ix2 r (j 1)) : EReal) = _ at e12
  unfold k0_pay14
  generalize k0_pay10 (F := Ideal) d v21 v25 v32 = f at eD ⊢
  generalize k0_pay12 (F := Ideal) z = f12 at e12 ⊢
  simp only [pointwise]
  rw [pick (a := j 0) (n := List.foldl _ 0 [0]) (by show 0 * 8 + (j 0).val = _; omega)]
  exact if_congr Iff.rfl (sum_mul eD e12) rfl

/-- The gradient of the normalisation of the layer before, as the stores leave its block. -/
theorem block11 (j : S256x1024.Idx) :
    (out0_11 (F := Ideal) x0 x1 w0 w1 x d g z h j : EReal)
      = grad (rowOf z (j 0)) (fun k => half * step (rowOf d (j 0)) (rowOf x (j 0)) (up x0 x1 w0 w1 (j 0)) (line g) k * line h k) (j 1) := by
  unfold out0_11 k0_pay15 k0_pay16 k0_pay17
  rw [View.canon_cons_unit_lit _ _ _ (by decide)]
  iterate 9 rw [View.ld_unit_lit _ _ (by decide)]
  exact pay13 d z h _ _ _ (fun a k => half * step (rowOf d a) (rowOf x a) (up x0 x1 w0 w1 a) (line g) k) (pay10 x0 x1 w0 w1 x d g) j

/-- The partial sums of the second weights' gradient, as the stores leave their block. -/
theorem block12 (j : S8x1024.Idx) :
    (out0_12 (F := Ideal) x0 x1 w0 w1 x d g z h j : EReal)
      = if (j 0).val = 0 then ∑ r : Fin 256, part (rowOf z r) (fun k => half * step (rowOf d r) (rowOf x r) (up x0 x1 w0 w1 r) (line g) k) (j 1) else 0 := by
  unfold out0_12 k0_pay15 k0_pay16 k0_pay17
  rw [View.canon_cons_unit_lit _ _ _ (by decide)]
  iterate 8 rw [View.ld_unit_lit _ _ (by decide)]
  exact pay14 d z _ _ _ (fun a k => half * step (rowOf d a) (rowOf x a) (up x0 x1 w0 w1 a) (line g) k) (pay10 x0 x1 w0 w1 x d g) j

section Plain

open Cert.Reference15Ideal.Read

variable (x0 x1 : FVec Ideal S4096x2816 .bf16) (w0 w1 : FVec Ideal S2816x1024 .bf16) (x d z : FVec Ideal S4096x1024 .f32) (g h : FVec Ideal S1024 .f32)

/-- A row of the reference's cotangent of the normalised input. -/
theorem plain_up (a : Fin 4096) : prow (val_main_v26 (F := Ideal) x0 x1 w0 w1) a = pup x0 x1 w0 w1 a :=
  funext fun b => Cert.Norm.Dn.plain_up x0 x1 w0 w1 (ix2 a b)

/-- The layer's cotangent. -/
def pstep (a : Fin 4096) : Fin 1024 → EReal := step (prow d a) (prow x a) (pup x0 x1 w0 w1 a) (pvec g)

theorem plain_step (i : S4096x1024.Idx) :
    (val_main_v47 (F := Ideal) x0 x1 w0 w1 x d g i : EReal) = pstep x0 x1 w0 w1 x d g (i 0) (i 1) := by
  exact (cot_apply (val_main_v26 (F := Ideal) x0 x1 w0 w1) d x g i).trans
    (congrArg (fun u => step (prow d (i 0)) (prow x (i 0)) u (pvec g) (i 1)) (plain_up x0 x1 w0 w1 (i 0)))

theorem plain_rows (a : Fin 4096) : prow (val_main_v47 (F := Ideal) x0 x1 w0 w1 x d g) a = pstep x0 x1 w0 w1 x d g a :=
  funext fun k => plain_step x0 x1 w0 w1 x d g (ix2 a k)

/-- The reference's gradient of the first weights. -/
theorem plain_first (i : S1024.Idx) :
    (val_main_v32 (F := Ideal) x0 x1 w0 w1 x i : EReal) = ∑ r : Fin 4096, part (prow x r) (pup x0 x1 w0 w1 r) (i 0) :=
  (weights_apply x (val_main_v26 (F := Ideal) x0 x1 w0 w1) i).trans
    (Finset.sum_congr rfl fun r _ => congrArg (fun u => part (prow x r) u (i 0)) (plain_up x0 x1 w0 w1 r))

/-- The reference's gradient of the normalisation of the layer before. -/
theorem plain_back (i : S4096x1024.Idx) :
    (val_main_v88 (F := Ideal) x0 x1 w0 w1 x d g z h i : EReal)
      = grad (prow z (i 0)) (fun k => half * pstep x0 x1 w0 w1 x d g (i 0) k * pvec h k) (i 1) := by
  exact (before_apply (val_main_v47 (F := Ideal) x0 x1 w0 w1 x d g) z h i).trans
    (congrArg (fun s : Fin 1024 → EReal => grad (prow z (i 0)) (fun k => half * s k * pvec h k) (i 1)) (plain_rows x0 x1 w0 w1 x d g (i 0)))

/-- The reference's gradient of the second weights. -/
theorem plain_second (i : S1024.Idx) :
    (val_main_v73 (F := Ideal) x0 x1 w0 w1 x d g z i : EReal)
      = ∑ r : Fin 4096, part (prow z r) (fun k => half * pstep x0 x1 w0 w1 x d g r k) (i 0) := by
  refine (weights_halve (val_main_v47 (F := Ideal) x0 x1 w0 w1 x d g) z i).trans (Finset.sum_congr rfl fun r _ => ?_)
  rw [plain_rows]

end Plain

/-- Where the grid's points read. -/
theorem points : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0) :=
  (by decide +kernel : ∀ t : Fin grid0.N, _)

/-- Where the grid's points write. -/
theorem places : ∀ t : Fin cfg0.N, (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- A grid point as a tile. -/
def tile (t : Fin cfg0.N) : Fin 16 := ⟨t.val, lt_of_lt_of_eq t.isLt N_0⟩

theorem row_val {t : Fin cfg0.N} {k : ℕ} (h : k = t.val) (a : Fin 256) : k * 256 + 1 * a.val = (tileRow (tile t) a).val :=
  tileRow_val (t := tile t) h a

variable (m : (ℓ : Loc nD τ sig) → Buf (Elt Ideal) ℓ) (c : Dev nD)

/-- The argument arrays at one core. -/
def a0 : FVec Ideal S4096x2816 .bf16 := m ((c : Thread nD τ).loc main_arg0)
def a1 : FVec Ideal S4096x2816 .bf16 := m ((c : Thread nD τ).loc main_arg1)
def a2 : FVec Ideal S2816x1024 .bf16 := m ((c : Thread nD τ).loc main_arg2)
def a3 : FVec Ideal S2816x1024 .bf16 := m ((c : Thread nD τ).loc main_arg3)
def a4 : FVec Ideal S4096x1024 .f32 := m ((c : Thread nD τ).loc main_arg4)
def a5 : FVec Ideal S4096x1024 .f32 := m ((c : Thread nD τ).loc main_arg5)
def a6 : FVec Ideal S1024 .f32 := m ((c : Thread nD τ).loc main_arg6)
def a7 : FVec Ideal S4096x1024 .f32 := m ((c : Thread nD τ).loc main_arg7)
def a8 : FVec Ideal S1024 .f32 := m ((c : Thread nD τ).loc main_arg8)

/-- A row of the two products, and of the layer's cotangent. -/
def ur : Fin 4096 → Fin 1024 → EReal := pup (a0 m c) (a1 m c) (a2 m c) (a3 m c)
def dh : Fin 4096 → Fin 1024 → EReal := pstep (a0 m c) (a1 m c) (a2 m c) (a3 m c) (a4 m c) (a5 m c) (a6 m c)

/-- A point's rows of the two products are the reference's. -/
theorem ups (t : Fin cfg0.N) (a : Fin 256) :
    up (iblk m c 0 t) (iblk m c 1 t) (iblk m c 2 t) (iblk m c 3 t) a = ur m c (tileRow (tile t) a) := by
  obtain ⟨⟨p0, q0⟩, ⟨p1, q1⟩, ⟨p2, q2⟩, ⟨p3, q3⟩, -⟩ := points t
  funext b
  exact congrArg₂ (fun u v : EReal => u + v)
    (sum_mul (fun k => (congrFun (V_main_arg0 m c) _).trans (congrArg (a0 m c) (ext2 (row_val p0 a) (at_zero 2816 k.val q0))))
      fun k => (congrFun (V_main_arg2 m c) _).trans (congrArg (a2 m c) (ext2 (at_zero 2816 k.val p2) (at_zero 1024 b.val q2))))
    (sum_mul (fun k => (congrFun (V_main_arg1 m c) _).trans (congrArg (a1 m c) (ext2 (row_val p1 a) (at_zero 2816 k.val q1))))
      fun k => (congrFun (V_main_arg3 m c) _).trans (congrArg (a3 m c) (ext2 (at_zero 2816 k.val p3) (at_zero 1024 b.val q3))))

/-- A point's rows of the three arrays of activations are the arguments'. -/
theorem rows (t : Fin cfg0.N) (a : Fin 256) : rowOf (iblk m c 4 t) a = prow (a4 m c) (tileRow (tile t) a)
    ∧ rowOf (iblk m c 5 t) a = prow (a5 m c) (tileRow (tile t) a) ∧ rowOf (iblk m c 7 t) a = prow (a7 m c) (tileRow (tile t) a) := by
  obtain ⟨-, -, -, -, ⟨p4, q4⟩, ⟨p5, q5⟩, -, ⟨p7, q7⟩, -⟩ := points t
  exact ⟨funext fun k => (congrFun (V_main_arg4 m c) _).trans (congrArg (a4 m c) (ext2 (row_val p4 a) (at_zero 1024 k.val q4))),
    funext fun k => (congrFun (V_main_arg5 m c) _).trans (congrArg (a5 m c) (ext2 (row_val p5 a) (at_zero 1024 k.val q5))),
    funext fun k => (congrFun (V_main_arg7 m c) _).trans (congrArg (a7 m c) (ext2 (row_val p7 a) (at_zero 1024 k.val q7)))⟩

/-- The host lays each weight vector out as one row. -/
theorem hosts : (V m c main_v0 : FVec Ideal S1x1024 .f32) = shapeCast S1x1024 (a6 m c) shapeCasts_S1024_S1x1024
    ∧ (V m c main_v1 : FVec Ideal S1x1024 .f32) = shapeCast S1x1024 (a8 m c) shapeCasts_S1024_S1x1024 := by
  constructor
  all_goals
    unfold V V0
    simp only [hostOps0, List.flatten_cons, List.flatten_nil, List.append_nil, List.cons_append, List.nil_append]
    after_results_simp
    rfl

/-- The blocks of the two weight vectors. -/
theorem lines (t : Fin cfg0.N) : line (iblk m c 6 t) = pvec (a6 m c) ∧ line (iblk m c 8 t) = pvec (a8 m c) := by
  obtain ⟨-, -, -, -, -, -, ⟨p6, q6⟩, -, ⟨p8, q8⟩⟩ := points t
  exact ⟨funext fun k => ((congrFun (hosts m c).1 _).trans
      (congrArg (shapeCast S1x1024 _ _) (ext2 (at_zero 1 0 p6) (at_zero 1024 k.val q6)))).trans (Cert.Ffn.Down.flat (a6 m c) k),
    funext fun k => ((congrFun (hosts m c).2 _).trans
      (congrArg (shapeCast S1x1024 _ _) (ext2 (at_zero 1 0 p8) (at_zero 1024 k.val q8)))).trans (Cert.Ffn.Down.flat (a8 m c) k)⟩

/-- A point's rows of the layer's cotangent. -/
theorem steps (t : Fin cfg0.N) (a : Fin 256) :
    step (rowOf (iblk m c 5 t) a) (rowOf (iblk m c 4 t) a) (up (iblk m c 0 t) (iblk m c 1 t) (iblk m c 2 t) (iblk m c 3 t) a) (line (iblk m c 6 t))
      = dh m c (tileRow (tile t) a) := by
  rw [(rows m c t a).1, (rows m c t a).2.1, ups, (lines m c t).1]
  rfl

/-- The layer's cotangent the call leaves. -/
def G9 : Buf (Elt Ideal) ((c : Thread nD τ).loc main_v2_0) :=
  Cert.Reference15Ideal.Read.val_main_v47 (F := Ideal) (a0 m c) (a1 m c) (a2 m c) (a3 m c) (a4 m c) (a5 m c) (a6 m c)

/-- The terms of the sums over rows. -/
def first (r : Fin 4096) : Fin 1024 → EReal := part (prow (a4 m c) r) (ur m c r)
def second (r : Fin 4096) : Fin 1024 → EReal := part (prow (a7 m c) r) (fun k => half * dh m c r k)

/-- The partial sums of the two weights' gradients. -/
def G10 : Buf (Elt Ideal) ((c : Thread nD τ).loc main_v2_1) := fun i : S128x1024.Idx => tiles (first m c) (i 0) (i 1)
def G12 : Buf (Elt Ideal) ((c : Thread nD τ).loc main_v2_3) := fun i : S128x1024.Idx => tiles (second m c) (i 0) (i 1)

/-- The gradient of the normalisation of the layer before. -/
def G11 : Buf (Elt Ideal) ((c : Thread nD τ).loc main_v2_2) :=
  Cert.Reference15Ideal.Read.val_main_v88 (F := Ideal) (a0 m c) (a1 m c) (a2 m c) (a3 m c) (a4 m c) (a5 m c) (a6 m c) (a7 m c) (a8 m c)

/-- Each point writes its block of the layer's cotangent. -/
theorem flushed9_eq (t : Fin cfg0.N) : (dats m 0 c).flushed 9 t = ((cfg0.win 9).blk t).view.read (Elt Ideal) (G9 m c) := by
  obtain ⟨⟨o0, o1⟩, -⟩ := places t
  show (cfg0.win 9).cut (grid0.coords t) ((dats m 0 c).after 9 t) = _
  rw [after0_9]
  funext y
  refine (Cert.Norm.Dn.block9 (iblk m c 0 t) (iblk m c 1 t) (iblk m c 2 t) (iblk m c 3 t) (iblk m c 4 t) (iblk m c 5 t) (iblk m c 7 t) (iblk m c 6 t)
    (iblk m c 8 t) ((cfg0.win 9).xinj (grid0.coords t) y)).trans ?_
  refine Eq.trans ?_ (plain_step (a0 m c) (a1 m c) (a2 m c) (a3 m c) (a4 m c) (a5 m c) (a6 m c) (((cfg0.win 9).blk t).view.emb y)).symm
  refine (congrFun (steps m c t (y 0)) (y 1)).trans ?_
  exact congrArg₂ (dh m c) (Fin.ext (row_val o0 (y 0)).symm) (Fin.ext (at_zero 1024 (y 1).val o1).symm)

/-- Each point writes its block of the gradient of the normalisation of the layer before. -/
theorem flushed11_eq (t : Fin cfg0.N) : (dats m 0 c).flushed 11 t = ((cfg0.win 11).blk t).view.read (Elt Ideal) (G11 m c) := by
  obtain ⟨-, -, ⟨o0, o1⟩, -⟩ := places t
  show (cfg0.win 11).cut (grid0.coords t) ((dats m 0 c).after 11 t) = _
  rw [after0_11]
  funext y
  refine (block11 (iblk m c 0 t) (iblk m c 1 t) (iblk m c 2 t) (iblk m c 3 t) (iblk m c 4 t) (iblk m c 5 t) (iblk m c 7 t) (iblk m c 6 t)
    (iblk m c 8 t) ((cfg0.win 11).xinj (grid0.coords t) y)).trans ?_
  refine Eq.trans ?_ (plain_back (a0 m c) (a1 m c) (a2 m c) (a3 m c) (a4 m c) (a5 m c) (a7 m c) (a6 m c) (a8 m c)
    (((cfg0.win 11).blk t).view.emb y)).symm
  have e : ∀ a : Fin 256, grad (rowOf (iblk m c 7 t) a) (fun k => half * step (rowOf (iblk m c 5 t) a) (rowOf (iblk m c 4 t) a)
        (up (iblk m c 0 t) (iblk m c 1 t) (iblk m c 2 t) (iblk m c 3 t) a) (line (iblk m c 6 t)) k * line (iblk m c 8 t) k)
      = grad (prow (a7 m c) (tileRow (tile t) a)) (fun k => half * dh m c (tileRow (tile t) a) k * pvec (a8 m c) k) := fun a => by
    rw [steps, (rows m c t a).2.2, (lines m c t).2]
  refine (congrFun (e (y 0)) (y 1)).trans ?_
  exact congrArg₂ (fun r => grad (prow (a7 m c) r) (fun k => half * dh m c r k * pvec (a8 m c) k)) (Fin.ext (row_val o0 (y 0)).symm)
    (Fin.ext (at_zero 1024 (y 1).val o1).symm)

/-- Each point writes its block of the first partial sums. -/
theorem flushed10_eq (t : Fin cfg0.N) : (dats m 0 c).flushed 10 t = ((cfg0.win 10).blk t).view.read (Elt Ideal) (G10 m c) := by
  obtain ⟨-, ⟨o0, o1⟩, -⟩ := places t
  show (cfg0.win 10).cut (grid0.coords t) ((dats m 0 c).after 10 t) = _
  rw [after0_10]
  funext y
  refine (Cert.Norm.Dn.block10 (iblk m c 0 t) (iblk m c 1 t) (iblk m c 2 t) (iblk m c 3 t) (iblk m c 4 t) (iblk m c 5 t) (iblk m c 7 t) (iblk m c 6 t)
    (iblk m c 8 t) ((cfg0.win 10).xinj (grid0.coords t) y)).trans ?_
  refine Eq.trans ?_ (tile_put (first m c) (tile t) (y 0) (y 1) (((cfg0.win 10).blk t).view.emb y 0) (((cfg0.win 10).blk t).view.emb y 1)
    (at_same 8 (y 0).val o0) (Fin.ext (at_zero 1024 (y 1).val o1)))
  refine if_congr Iff.rfl (Finset.sum_congr rfl fun r _ => ?_) rfl
  rw [(rows m c t r).1, ups]
  rfl

/-- Each point writes its block of the second partial sums. -/
theorem flushed12_eq (t : Fin cfg0.N) : (dats m 0 c).flushed 12 t = ((cfg0.win 12).blk t).view.read (Elt Ideal) (G12 m c) := by
  obtain ⟨-, -, -, ⟨o0, o1⟩⟩ := places t
  show (cfg0.win 12).cut (grid0.coords t) ((dats m 0 c).after 12 t) = _
  rw [after0_12]
  funext y
  refine (block12 (iblk m c 0 t) (iblk m c 1 t) (iblk m c 2 t) (iblk m c 3 t) (iblk m c 4 t) (iblk m c 5 t) (iblk m c 7 t) (iblk m c 6 t)
    (iblk m c 8 t) ((cfg0.win 12).xinj (grid0.coords t) y)).trans ?_
  refine Eq.trans ?_ (tile_put (second m c) (tile t) (y 0) (y 1) (((cfg0.win 12).blk t).view.emb y 0) (((cfg0.win 12).blk t).view.emb y 1)
    (at_same 8 (y 0).val o0) (Fin.ext (at_zero 1024 (y 1).val o1)))
  refine if_congr Iff.rfl (Finset.sum_congr rfl fun r _ => ?_) rfl
  rw [(rows m c t r).2.2, steps]
  rfl

/-- The blocks fill the first result. -/
theorem covered9 (i : S4096x1024.Idx) : ∃ t : Fin cfg0.N, (cfg0.win 9).flush t = true ∧ i ∈ ((cfg0.win 9).blk t).view.set := by
  obtain ⟨⟨o0, o1⟩, -⟩ := places (pointOf (i 0))
  refine ⟨pointOf (i 0), flush0_9 _, ?_⟩
  show i ∈ ((View.whole main_v2_0).slice (win0_9.rect (pointOf (i 0)))).set
  rw [View.set_slice_whole, Rect.mem_set_unit]
  exact Fin.forall_fin_two.2 ⟨in_block (n := 256) o0 (by decide), in_whole (n := 1024) o1 (i 1).isLt⟩

/-- The blocks fill the first partial sums. -/
theorem covered10 (i : S128x1024.Idx) : ∃ t : Fin cfg0.N, (cfg0.win 10).flush t = true ∧ i ∈ ((cfg0.win 10).blk t).view.set := by
  obtain ⟨-, ⟨o0, o1⟩, -⟩ := places (tileOf (i 0))
  refine ⟨tileOf (i 0), flush0_10 _, ?_⟩
  show i ∈ ((View.whole main_v2_1).slice (win0_10.rect (tileOf (i 0)))).set
  rw [View.set_slice_whole, Rect.mem_set_unit]
  exact Fin.forall_fin_two.2 ⟨in_block (n := 8) o0 (by decide), in_whole (n := 1024) o1 (i 1).isLt⟩

/-- The blocks fill the second result. -/
theorem covered11 (i : S4096x1024.Idx) : ∃ t : Fin cfg0.N, (cfg0.win 11).flush t = true ∧ i ∈ ((cfg0.win 11).blk t).view.set := by
  obtain ⟨-, -, ⟨o0, o1⟩, -⟩ := places (pointOf (i 0))
  refine ⟨pointOf (i 0), flush0_11 _, ?_⟩
  show i ∈ ((View.whole main_v2_2).slice (win0_11.rect (pointOf (i 0)))).set
  rw [View.set_slice_whole, Rect.mem_set_unit]
  exact Fin.forall_fin_two.2 ⟨in_block (n := 256) o0 (by decide), in_whole (n := 1024) o1 (i 1).isLt⟩

/-- The blocks fill the second partial sums. -/
theorem covered12 (i : S128x1024.Idx) : ∃ t : Fin cfg0.N, (cfg0.win 12).flush t = true ∧ i ∈ ((cfg0.win 12).blk t).view.set := by
  obtain ⟨-, -, -, ⟨o0, o1⟩⟩ := places (tileOf (i 0))
  refine ⟨tileOf (i 0), flush0_12 _, ?_⟩
  show i ∈ ((View.whole main_v2_3).slice (win0_12.rect (tileOf (i 0)))).set
  rw [View.set_slice_whole, Rect.mem_set_unit]
  exact Fin.forall_fin_two.2 ⟨in_block (n := 8) o0 (by decide), in_whole (n := 1024) o1 (i 1).isLt⟩

/-- The call's four arrays. -/
theorem final : (dats m 0 c).arrAt 9 cfg0.N = G9 m c ∧ (dats m 0 c).arrAt 10 cfg0.N = G10 m c ∧ (dats m 0 c).arrAt 11 cfg0.N = G11 m c
    ∧ (dats m 0 c).arrAt 12 cfg0.N = G12 m c :=
  ⟨(dats m 0 c).arrAt_eq_of_cover 9 (G9 m c) (fun t _ => flushed9_eq m c t) covered9,
    (dats m 0 c).arrAt_eq_of_cover 10 (G10 m c) (fun t _ => flushed10_eq m c t) covered10,
    (dats m 0 c).arrAt_eq_of_cover 11 (G11 m c) (fun t _ => flushed11_eq m c t) covered11,
    (dats m 0 c).arrAt_eq_of_cover 12 (G12 m c) (fun t _ => flushed12_eq m c t) covered12⟩

/-- The two weights' gradients. -/
def G3 : Buf (Elt Ideal) ((c : Thread nD τ).loc main_v3) :=
  Cert.Reference15Ideal.Read.val_main_v32 (F := Ideal) (a0 m c) (a1 m c) (a2 m c) (a3 m c) (a4 m c)
def G4 : Buf (Elt Ideal) ((c : Thread nD τ).loc main_v4) :=
  Cert.Reference15Ideal.Read.val_main_v73 (F := Ideal) (a0 m c) (a1 m c) (a2 m c) (a3 m c) (a4 m c) (a5 m c) (a6 m c) (a7 m c)

/-- The host's sum of the first partial sums is the reference's gradient. -/
theorem sum3 : (Host.reduceAdd (F := Ideal) ((dats m 0 c).arrAt 10 cfg0.N : FVec Ideal S128x1024 .f32) (constant S_ .f32 0x00000000#32) reducesTo_S128x1024_S1024_d0 h_S_
    : FVec Ideal S1024 .f32) = G3 m c := by
  funext i
  exact (host_sum (first m c) _ (final m c).2.1 i).trans (plain_first (a0 m c) (a1 m c) (a2 m c) (a3 m c) (a4 m c) i).symm

/-- The host's sum of the second partial sums is the reference's gradient. -/
theorem sum4 : (Host.reduceAdd (F := Ideal) ((dats m 0 c).arrAt 12 cfg0.N : FVec Ideal S128x1024 .f32) (constant S_ .f32 0x00000000#32) reducesTo_S128x1024_S1024_d0 h_S_
    : FVec Ideal S1024 .f32) = G4 m c := by
  funext i
  exact (host_sum (second m c) _ (final m c).2.2.2 i).trans
    (plain_second (a0 m c) (a1 m c) (a2 m c) (a3 m c) (a4 m c) (a5 m c) (a7 m c) (a6 m c) i).symm

/-- No two windows share an array. -/
theorem arr_inj : Function.Injective (Pipeline.arrRef spec0) := by decide

/-- The kernel's run ends with the reference's four results. -/
theorem kernel_run (ρ : Dev nD → PrngReg) :
    θ_run defs (onTc (τ := τ) (main (F := Ideal))) ⟨m, fun _ => 0, ρ⟩ (fun r => ∀ c : Dev nD,
      r.2.mem ((c : Thread nD τ).loc main_v2_0) = G9 m c ∧ r.2.mem ((c : Thread nD τ).loc main_v3) = G3 m c
      ∧ r.2.mem ((c : Thread nD τ).loc main_v2_2) = G11 m c ∧ r.2.mem ((c : Thread nD τ).loc main_v4) = G4 m c) := by
  run_from (Gen.run_main m ρ)
  · exact (final m c).1
  · unfold Pipeline.afterTail₀
    simp only [hostOps1, List.flatten_cons, List.flatten_nil, List.append_nil, List.cons_append, List.nil_append]
    after_results_simp
    exact (congrArg (fun x : FVec Ideal S128x1024 .f32 => Host.reduceAdd (F := Ideal) x (constant S_ .f32 0x00000000#32) reducesTo_S128x1024_S1024_d0 h_S_)
      (Pipeline.withArrays_arr spec0 arr_inj c (V0 m c) (fun w => (dats m 0 c).arrAt w cfg0.N) 10)).trans (sum3 m c)
  · exact (final m c).2.2.1
  · unfold Pipeline.afterTail₀
    simp only [hostOps1, List.flatten_cons, List.flatten_nil, List.append_nil, List.cons_append, List.nil_append]
    after_results_simp
    exact (congrArg (fun x : FVec Ideal S128x1024 .f32 => Host.reduceAdd (F := Ideal) x (constant S_ .f32 0x00000000#32) reducesTo_S128x1024_S1024_d0 h_S_)
      (Pipeline.withArrays_arr spec0 arr_inj c (V0 m c) (fun w => (dats m 0 c).arrAt w cfg0.N) 12)).trans (sum4 m c)

end Cert.Norm.Dn1

end
-- ==== Proof.Norm.Dn0.lean ====
/-
  The gradient at the bottom half's input: no layer lies before it, and no second norm is passed.
-/
module

public import proofs.«01_k».proof.Proof.Gen.Kernel16Ideal.Frame
public import proofs.«01_k».proof.Proof.Gen.Reference16Ideal.Read
public import proofs.«01_k».proof.Proof.Norm.Ref

@[expose] public section

set_option maxRecDepth 16384

noncomputable section

open Idealize.ShloMosaic Idealize.ShloMosaic.TcCoe Idealize.SL.Sem Finset
open Cert.Kernel16Ideal Cert.Kernel16Ideal.Gen
open Cert.Mix Cert.Norm Cert.Norm.Ref
open Cert.Ffn.Down (rms)
open Cert.Norm.Dn (up pup pstep rowOf line prow pvec host_sum pointOf tileOf)

namespace Cert.Norm.Dn0

/-- The gradient at the input, as the stores leave its block: the same block as with a layer before. -/
theorem block7 (x0 x1 : FVec Ideal S256x2816 .bf16) (w0 w1 : FVec Ideal S2816x1024 .bf16) (x d : FVec Ideal S256x1024 .f32)
    (g : FVec Ideal S1x1024 .f32) (j : S256x1024.Idx) :
    (out0_7 (F := Ideal) x0 x1 w0 w1 x d g j : EReal) = step (rowOf d (j 0)) (rowOf x (j 0)) (up x0 x1 w0 w1 (j 0)) (line g) (j 1) :=
  Cert.Norm.Dn.block9 x0 x1 w0 w1 x d x g g j

/-- The partial sums of the weights' gradient, as the stores leave their block. -/
theorem block8 (x0 x1 : FVec Ideal S256x2816 .bf16) (w0 w1 : FVec Ideal S2816x1024 .bf16) (x d : FVec Ideal S256x1024 .f32)
    (g : FVec Ideal S1x1024 .f32) (j : S8x1024.Idx) :
    (out0_8 (F := Ideal) x0 x1 w0 w1 x d g j : EReal)
      = if (j 0).val = 0 then ∑ r : Fin 256, part (rowOf x r) (up x0 x1 w0 w1 r) (j 1) else 0 :=
  Cert.Norm.Dn.block10 x0 x1 w0 w1 x d x g g j

section Plain

open Cert.Reference16Ideal.Read

variable (x0 x1 : FVec Ideal S4096x2816 .bf16) (w0 w1 : FVec Ideal S2816x1024 .bf16) (x d : FVec Ideal S4096x1024 .f32) (g : FVec Ideal S1024 .f32)

/-- The reference's gradient at the input. -/
theorem plain_step (i : S4096x1024.Idx) :
    (val_main_v47 (F := Ideal) x0 x1 w0 w1 x d g i : EReal) = pstep x0 x1 w0 w1 x d g (i 0) (i 1) :=
  Cert.Norm.Dn.plain_step x0 x1 w0 w1 x d g i

/-- The reference's gradient of the weights. -/
theorem plain_first (i : S1024.Idx) :
    (val_main_v32 (F := Ideal) x0 x1 w0 w1 x i : EReal) = ∑ r : Fin 4096, part (prow x r) (pup x0 x1 w0 w1 r) (i 0) :=
  Cert.Norm.Dn.plain_first x0 x1 w0 w1 x i

end Plain

/-- Where the grid's points read. -/
theorem points : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

/-- Where the grid's points write. -/
theorem places : ∀ t : Fin cfg0.N, (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- A grid point as a tile. -/
def tile (t : Fin cfg0.N) : Fin 16 := ⟨t.val, lt_of_lt_of_eq t.isLt N_0⟩

theorem row_val {t : Fin cfg0.N} {k : ℕ} (h : k = t.val) (a : Fin 256) : k * 256 + 1 * a.val = (tileRow (tile t) a).val :=
  tileRow_val (t := tile t) h a

variable (m : (ℓ : Loc nD τ sig) → Buf (Elt Ideal) ℓ) (c : Dev nD)

/-- The argument arrays at one core. -/
def a0 : FVec Ideal S4096x2816 .bf16 := m ((c : Thread nD τ).loc main_arg0)
def a1 : FVec Ideal S4096x2816 .bf16 := m ((c : Thread nD τ).loc main_arg1)
def a2 : FVec Ideal S2816x1024 .bf16 := m ((c : Thread nD τ).loc main_arg2)
def a3 : FVec Ideal S2816x1024 .bf16 := m ((c : Thread nD τ).loc main_arg3)
def a4 : FVec Ideal S4096x1024 .f32 := m ((c : Thread nD τ).loc main_arg4)
def a5 : FVec Ideal S4096x1024 .f32 := m ((c : Thread nD τ).loc main_arg5)
def a6 : FVec Ideal S1024 .f32 := m ((c : Thread nD τ).loc main_arg6)

/-- A row of the two products, and of the gradient at the input. -/
def ur : Fin 4096 → Fin 1024 → EReal := pup (a0 m c) (a1 m c) (a2 m c) (a3 m c)
def dh : Fin 4096 → Fin 1024 → EReal := pstep (a0 m c) (a1 m c) (a2 m c) (a3 m c) (a4 m c) (a5 m c) (a6 m c)

/-- A point's rows of the two products are the reference's. -/
theorem ups (t : Fin cfg0.N) (a : Fin 256) :
    up (iblk m c 0 t) (iblk m c 1 t) (iblk m c 2 t) (iblk m c 3 t) a = ur m c (tileRow (tile t) a) := by
  obtain ⟨⟨p0, q0⟩, ⟨p1, q1⟩, ⟨p2, q2⟩, ⟨p3, q3⟩, -⟩ := points t
  funext b
  exact congrArg₂ (fun u v : EReal => u + v)
    (sum_mul (fun k => (congrFun (V_main_arg0 m c) _).trans (congrArg (a0 m c) (ext2 (row_val p0 a) (at_zero 2816 k.val q0))))
      fun k => (congrFun (V_main_arg2 m c) _).trans (congrArg (a2 m c) (ext2 (at_zero 2816 k.val p2) (at_zero 1024 b.val q2))))
    (sum_mul (fun k => (congrFun (V_main_arg1 m c) _).trans (congrArg (a1 m c) (ext2 (row_val p1 a) (at_zero 2816 k.val q1))))
      fun k => (congrFun (V_main_arg3 m c) _).trans (congrArg (a3 m c) (ext2 (at_zero 2816 k.val p3) (at_zero 1024 b.val q3))))

/-- A point's rows of the two arrays of activations are the arguments'. -/
theorem rows (t : Fin cfg0.N) (a : Fin 256) : rowOf (iblk m c 4 t) a = prow (a4 m c) (tileRow (tile t) a)
    ∧ rowOf (iblk m c 5 t) a = prow (a5 m c) (tileRow (tile t) a) := by
  obtain ⟨-, -, -, -, ⟨p4, q4⟩, ⟨p5, q5⟩, -⟩ := points t
  exact ⟨funext fun k => (congrFun (V_main_arg4 m c) _).trans (congrArg (a4 m c) (ext2 (row_val p4 a) (at_zero 1024 k.val q4))),
    funext fun k => (congrFun (V_main_arg5 m c) _).trans (congrArg (a5 m c) (ext2 (row_val p5 a) (at_zero 1024 k.val q5)))⟩

/-- The host lays the weights out as one row. -/
theorem host : (V m c main_v0 : FVec Ideal S1x1024 .f32) = shapeCast S1x1024 (a6 m c) shapeCasts_S1024_S1x1024 := by
  unfold V V0
  simp only [hostOps0, List.flatten_cons, List.flatten_nil, List.append_nil, List.cons_append, List.nil_append]
  after_results_simp
  rfl

/-- The block of the weights. -/
theorem weight (t : Fin cfg0.N) : line (iblk m c 6 t) = pvec (a6 m c) := by
  obtain ⟨-, -, -, -, -, -, ⟨p6, q6⟩⟩ := points t
  exact funext fun k => ((congrFun (host m c) _).trans
    (congrArg (shapeCast S1x1024 _ _) (ext2 (at_zero 1 0 p6) (at_zero 1024 k.val q6)))).trans (Cert.Ffn.Down.flat (a6 m c) k)

/-- A point's rows of the gradient at the input. -/
theorem steps (t : Fin cfg0.N) (a : Fin 256) :
    step (rowOf (iblk m c 5 t) a) (rowOf (iblk m c 4 t) a) (up (iblk m c 0 t) (iblk m c 1 t) (iblk m c 2 t) (iblk m c 3 t) a) (line (iblk m c 6 t))
      = dh m c (tileRow (tile t) a) := by
  rw [(rows m c t a).1, (rows m c t a).2, ups, weight]
  rfl

/-- The layer's cotangent the call leaves. -/
def G7 : Buf (Elt Ideal) ((c : Thread nD τ).loc main_v1_0) :=
  Cert.Reference16Ideal.Read.val_main_v47 (F := Ideal) (a0 m c) (a1 m c) (a2 m c) (a3 m c) (a4 m c) (a5 m c) (a6 m c)

/-- The terms of the sum over rows. -/
def first (r : Fin 4096) : Fin 1024 → EReal := part (prow (a4 m c) r) (ur m c r)

/-- The partial sums of the weights' gradient. -/
def G8 : Buf (Elt Ideal) ((c : Thread nD τ).loc main_v1_1) := fun i : S128x1024.Idx => tiles (first m c) (i 0) (i 1)

/-- Each point writes its block of the gradient at the input. -/
theorem flushed7_eq (t : Fin cfg0.N) : (dats m 0 c).flushed 7 t = ((cfg0.win 7).blk t).view.read (Elt Ideal) (G7 m c) := by
  obtain ⟨⟨o0, o1⟩, -⟩ := places t
  show (cfg0.win 7).cut (grid0.coords t) ((dats m 0 c).after 7 t) = _
  rw [after0_7]
  funext y
  refine (block7 (iblk m c 0 t) (iblk m c 1 t) (iblk m c 2 t) (iblk m c 3 t) (iblk m c 4 t) (iblk m c 5 t) (iblk m c 6 t)
    ((cfg0.win 7).xinj (grid0.coords t) y)).trans ?_
  refine Eq.trans ?_ (plain_step (a0 m c) (a1 m c) (a2 m c) (a3 m c) (a4 m c) (a5 m c) (a6 m c) (((cfg0.win 7).blk t).view.emb y)).symm
  refine (congrFun (steps m c t (y 0)) (y 1)).trans ?_
  exact congrArg₂ (dh m c) (Fin.ext (row_val o0 (y 0)).symm) (Fin.ext (at_zero 1024 (y 1).val o1).symm)

/-- Each point writes its block of the partial sums. -/
theorem flushed8_eq (t : Fin cfg0.N) : (dats m 0 c).flushed 8 t = ((cfg0.win 8).blk t).view.read (Elt Ideal) (G8 m c) := by
  obtain ⟨-, ⟨o0, o1⟩⟩ := places t
  show (cfg0.win 8).cut (grid0.coords t) ((dats m 0 c).after 8 t) = _
  rw [after0_8]
  funext y
  refine (block8 (iblk m c 0 t) (iblk m c 1 t) (iblk m c 2 t) (iblk m c 3 t) (iblk m c 4 t) (iblk m c 5 t) (iblk m c 6 t)
    ((cfg0.win 8).xinj (grid0.coords t) y)).trans ?_
  refine Eq.trans ?_ (tile_put (first m c) (tile t) (y 0) (y 1) (((cfg0.win 8).blk t).view.emb y 0) (((cfg0.win 8).blk t).view.emb y 1)
    (at_same 8 (y 0).val o0) (Fin.ext (at_zero 1024 (y 1).val o1)))
  refine if_congr Iff.rfl (Finset.sum_congr rfl fun r _ => ?_) rfl
  rw [(rows m c t r).1, ups]
  rfl

/-- The blocks fill the first result. -/
theorem covered7 (i : S4096x1024.Idx) : ∃ t : Fin cfg0.N, (cfg0.win 7).flush t = true ∧ i ∈ ((cfg0.win 7).blk t).view.set := by
  obtain ⟨⟨o0, o1⟩, -⟩ := places (pointOf (i 0))
  refine ⟨pointOf (i 0), flush0_7 _, ?_⟩
  show i ∈ ((View.whole main_v1_0).slice (win0_7.rect (pointOf (i 0)))).set
  rw [View.set_slice_whole, Rect.mem_set_unit]
  exact Fin.forall_fin_two.2 ⟨in_block (n := 256) o0 (by decide), in_whole (n := 1024) o1 (i 1).isLt⟩

/-- The blocks fill the partial sums. -/
theorem covered8 (i : S128x1024.Idx) : ∃ t : Fin cfg0.N, (cfg0.win 8).flush t = true ∧ i ∈ ((cfg0.win 8).blk t).view.set := by
  obtain ⟨-, ⟨o0, o1⟩⟩ := places (tileOf (i 0))
  refine ⟨tileOf (i 0), flush0_8 _, ?_⟩
  show i ∈ ((View.whole main_v1_1).slice (win0_8.rect (tileOf (i 0)))).set
  rw [View.set_slice_whole, Rect.mem_set_unit]
  exact Fin.forall_fin_two.2 ⟨in_block (n := 8) o0 (by decide), in_whole (n := 1024) o1 (i 1).isLt⟩

/-- The call's two arrays. -/
theorem final : (dats m 0 c).arrAt 7 cfg0.N = G7 m c ∧ (dats m 0 c).arrAt 8 cfg0.N = G8 m c :=
  ⟨(dats m 0 c).arrAt_eq_of_cover 7 (G7 m c) (fun t _ => flushed7_eq m c t) covered7,
    (dats m 0 c).arrAt_eq_of_cover 8 (G8 m c) (fun t _ => flushed8_eq m c t) covered8⟩

/-- The weights' gradient. -/
def G2 : Buf (Elt Ideal) ((c : Thread nD τ).loc main_v2) :=
  Cert.Reference16Ideal.Read.val_main_v32 (F := Ideal) (a0 m c) (a1 m c) (a2 m c) (a3 m c) (a4 m c)

/-- The host's sum of the partial sums is the reference's gradient. -/
theorem sum2 : (Host.reduceAdd (F := Ideal) ((dats m 0 c).arrAt 8 cfg0.N : FVec Ideal S128x1024 .f32) (constant S_ .f32 0x00000000#32) reducesTo_S128x1024_S1024_d0 h_S_
    : FVec Ideal S1024 .f32) = G2 m c := by
  funext i
  exact (host_sum (first m c) _ (final m c).2 i).trans (plain_first (a0 m c) (a1 m c) (a2 m c) (a3 m c) (a4 m c) i).symm

/-- No two windows share an array. -/
theorem arr_inj : Function.Injective (Pipeline.arrRef spec0) := by decide

/-- The kernel's run ends with the reference's two results. -/
theorem kernel_run (ρ : Dev nD → PrngReg) :
    θ_run defs (onTc (τ := τ) (main (F := Ideal))) ⟨m, fun _ => 0, ρ⟩ (fun r => ∀ c : Dev nD,
      r.2.mem ((c : Thread nD τ).loc main_v1_0) = G7 m c ∧ r.2.mem ((c : Thread nD τ).loc main_v2) = G2 m c) := by
  run_from (Gen.run_main m ρ)
  · exact (final m c).1
  · unfold Pipeline.afterTail₀
    simp only [hostOps1, List.flatten_cons, List.flatten_nil, List.append_nil, List.cons_append, List.nil_append]
    after_results_simp
    exact (congrArg (fun x : FVec Ideal S128x1024 .f32 => Host.reduceAdd (F := Ideal) x (constant S_ .f32 0x00000000#32) reducesTo_S128x1024_S1024_d0 h_S_)
      (Pipeline.withArrays_arr spec0 arr_inj c (V0 m c) (fun w => (dats m 0 c).arrAt w cfg0.N) 8)).trans (sum2 m c)

end Cert.Norm.Dn0

end
-- ==== Proof.Norm.Claims.lean ====
/-
  The calls that end in the gradient of a norm: the frames of their references, and the equality of each call's results
  with its reference's over the ideal values.
-/
module

public import proofs.«01_k».proof.Defs
public import Idealize.ShloMosaic.Lib.Quiescent
public import Idealize.ShloMosaic.Lib.Claim
public import proofs.«01_k».proof.Proof.Gen.Kernel14Ideal.Frame
public import proofs.«01_k».proof.Proof.Gen.Reference14Ideal.Run
public import proofs.«01_k».proof.Proof.Gen.Reference14Ideal.Read
public import proofs.«01_k».proof.Proof.Norm.Dn
public import proofs.«01_k».proof.Proof.Gen.Kernel15Ideal.Frame
public import proofs.«01_k».proof.Proof.Gen.Reference15Ideal.Run
public import proofs.«01_k».proof.Proof.Gen.Reference15Ideal.Read
public import proofs.«01_k».proof.Proof.Norm.Dn1
public import proofs.«01_k».proof.Proof.Norm.Dn0
public import proofs.«01_k».proof.Proof.Gen.Reference16Ideal.Read

@[expose] public section

noncomputable section

namespace Cert.Proof

open Idealize.ShloMosaic Idealize.SL.Sem

/-- The frame of reference 14: it terminates, its arguments unchanged, no semaphore left. -/
theorem frame_reference14 : Cert.quiescent_Reference14Ideal (hReference14Ideal := Cert.Reference14Ideal.Gen.facts) := fun m ρ _ =>
  (θ_run Cert.Reference14Ideal.defs _ _).mono (fun r h => ⟨fun c => (h c).2.2.2.2, Idealize.ShloMosaic.sem_eq_zero_of_no_sems (by decide) r.2⟩)
    (Cert.Reference14Ideal.Value.run (F := Ideal) m ρ)

/-- The gradient at a half's input, of both norms' weights and of the layer before's product are the reference's. -/
theorem equal14 : Cert.algebraic_Kernel14Ideal_Reference14Ideal (hKernel14Ideal := Cert.Kernel14Ideal.Gen.facts)
    (hReference14Ideal := Cert.Reference14Ideal.Gen.facts) := fun m ρ m' ρ' _ hargs => by
  refine ⟨Cert.Norm.Dn.G9 m, Cert.Norm.Dn.G3 m, Cert.Norm.Dn.G11 m, Cert.Norm.Dn.G4 m,
    (θ_run Cert.Kernel14Ideal.defs _ _).mono
      (fun r h c => ⟨(h.1 c).1, (h.1 c).2.1, (h.1 c).2.2.1, (h.1 c).2.2.2, h.2 c⟩)
      (θ_run_and (Cert.Norm.Dn.kernel_run m ρ) (Cert.Kernel14Ideal.Gen.unchanged (F := Ideal) m ρ)),
    (θ_run Cert.Reference14Ideal.defs _ _).mono
      (fun r h c => ⟨(h c).1.trans ?_, (h c).2.1.trans ?_, (h c).2.2.1.trans ?_, (h c).2.2.2.1.trans ?_, (h c).2.2.2.2⟩)
      (Cert.Reference14Ideal.Value.run (F := Ideal) m' ρ')⟩
  · obtain ⟨a0, a1, a2, a3, a4, a5, a6, a7, a8⟩ := hargs c
    refine (Cert.Reference14Ideal.Read.val_main_v47_eq m' c).trans ?_
    rw [a0, a1, a2, a3, a4, a5, a6]
    rfl
  · obtain ⟨a0, a1, a2, a3, a4, a5, a6, a7, a8⟩ := hargs c
    refine (Cert.Reference14Ideal.Read.val_main_v32_eq _ _ _ _ _).trans ?_
    rw [a0, a1, a2, a3, a4]
    rfl
  · obtain ⟨a0, a1, a2, a3, a4, a5, a6, a7, a8⟩ := hargs c
    refine (Cert.Reference14Ideal.Read.val_main_v84_eq m' c).trans ?_
    rw [a0, a1, a2, a3, a4, a5, a6, a7, a8]
    rfl
  · obtain ⟨a0, a1, a2, a3, a4, a5, a6, a7, a8⟩ := hargs c
    refine (Cert.Reference14Ideal.Read.val_main_v69_eq m' c).trans ?_
    rw [a0, a1, a2, a3, a4, a5, a6, a7]
    rfl

/-- The frame of reference 15: it terminates, its arguments unchanged, no semaphore left. -/
theorem frame_reference15 : Cert.quiescent_Reference15Ideal (hReference15Ideal := Cert.Reference15Ideal.Gen.facts) := fun m ρ _ =>
  (θ_run Cert.Reference15Ideal.defs _ _).mono (fun r h => ⟨fun c => (h c).2.2.2.2, Idealize.ShloMosaic.sem_eq_zero_of_no_sems (by decide) r.2⟩)
    (Cert.Reference15Ideal.Value.run (F := Ideal) m ρ)

/-- The gradient at a half's input, of both norms' weights and of the layer before's product, scaled by one half, are the reference's. -/
theorem equal15 : Cert.algebraic_Kernel15Ideal_Reference15Ideal (hKernel15Ideal := Cert.Kernel15Ideal.Gen.facts)
    (hReference15Ideal := Cert.Reference15Ideal.Gen.facts) := fun m ρ m' ρ' _ hargs => by
  refine ⟨Cert.Norm.Dn1.G9 m, Cert.Norm.Dn1.G3 m, Cert.Norm.Dn1.G11 m, Cert.Norm.Dn1.G4 m,
    (θ_run Cert.Kernel15Ideal.defs _ _).mono
      (fun r h c => ⟨(h.1 c).1, (h.1 c).2.1, (h.1 c).2.2.1, (h.1 c).2.2.2, h.2 c⟩)
      (θ_run_and (Cert.Norm.Dn1.kernel_run m ρ) (Cert.Kernel15Ideal.Gen.unchanged (F := Ideal) m ρ)),
    (θ_run Cert.Reference15Ideal.defs _ _).mono
      (fun r h c => ⟨(h c).1.trans ?_, (h c).2.1.trans ?_, (h c).2.2.1.trans ?_, (h c).2.2.2.1.trans ?_, (h c).2.2.2.2⟩)
      (Cert.Reference15Ideal.Value.run (F := Ideal) m' ρ')⟩
  · obtain ⟨a0, a1, a2, a3, a4, a5, a6, a7, a8⟩ := hargs c
    refine (Cert.Reference15Ideal.Read.val_main_v47_eq m' c).trans ?_
    rw [a0, a1, a2, a3, a4, a5, a6]
    rfl
  · obtain ⟨a0, a1, a2, a3, a4, a5, a6, a7, a8⟩ := hargs c
    refine (Cert.Reference15Ideal.Read.val_main_v32_eq _ _ _ _ _).trans ?_
    rw [a0, a1, a2, a3, a4]
    rfl
  · obtain ⟨a0, a1, a2, a3, a4, a5, a6, a7, a8⟩ := hargs c
    refine (Cert.Reference15Ideal.Read.val_main_v88_eq m' c).trans ?_
    rw [a0, a1, a2, a3, a4, a5, a6, a7, a8]
    rfl
  · obtain ⟨a0, a1, a2, a3, a4, a5, a6, a7, a8⟩ := hargs c
    refine (Cert.Reference15Ideal.Read.val_main_v73_eq m' c).trans ?_
    rw [a0, a1, a2, a3, a4, a5, a6, a7]
    rfl

/-- The frame of reference 16: it terminates, its arguments unchanged, no semaphore left. -/
theorem frame_reference16 : Cert.quiescent_Reference16Ideal (hReference16Ideal := Cert.Reference16Ideal.Gen.facts) := fun m ρ _ =>
  (θ_run Cert.Reference16Ideal.defs _ _).mono (fun r h => ⟨fun c => (h c).2.2, Idealize.ShloMosaic.sem_eq_zero_of_no_sems (by decide) r.2⟩)
    (Cert.Reference16Ideal.Value.run (F := Ideal) m ρ)

/-- The gradient at the bottom half's input, and of its norm's weights, are the reference's. -/
theorem equal16 : Cert.algebraic_Kernel16Ideal_Reference16Ideal (hKernel16Ideal := Cert.Kernel16Ideal.Gen.facts)
    (hReference16Ideal := Cert.Reference16Ideal.Gen.facts) := fun m ρ m' ρ' _ hargs => by
  refine ⟨Cert.Norm.Dn0.G7 m, Cert.Norm.Dn0.G2 m,
    (θ_run Cert.Kernel16Ideal.defs _ _).mono (fun r h c => ⟨(h.1 c).1, (h.1 c).2, h.2 c⟩)
      (θ_run_and (Cert.Norm.Dn0.kernel_run m ρ) (Cert.Kernel16Ideal.Gen.unchanged (F := Ideal) m ρ)),
    (θ_run Cert.Reference16Ideal.defs _ _).mono (fun r h c => ⟨(h c).1.trans ?_, (h c).2.1.trans ?_, (h c).2.2⟩)
      (Cert.Reference16Ideal.Value.run (F := Ideal) m' ρ')⟩
  · obtain ⟨a0, a1, a2, a3, a4, a5, a6⟩ := hargs c
    refine (Cert.Reference16Ideal.Read.val_main_v47_eq m' c).trans ?_
    rw [a0, a1, a2, a3, a4, a5, a6]
    rfl
  · obtain ⟨a0, a1, a2, a3, a4, a5, a6⟩ := hargs c
    refine (Cert.Reference16Ideal.Read.val_main_v32_eq _ _ _ _ _).trans ?_
    rw [a0, a1, a2, a3, a4]
    rfl

end Cert.Proof

end
-- ==== Proof.Adam.Lib.lean ====
/-
  AdamW at one place of a weight.
-/
module

public import Idealize.ShloMosaic.Lib.Pipeline.ValueKit
public import Idealize.ShloMosaic.Lib.Pointwise

@[expose] public section

noncomputable section

open Idealize.ShloMosaic

namespace Cert.Adam

/-- The new first moment, from the gradient and the old one. -/
def mom (g m : EReal) : EReal := Ideal.ofBits .f32 0x3F666666#32 * m + Ideal.ofBits .f32 0x3DCCCCCD#32 * g

/-- The new second moment, from the gradient and the old one. -/
def vel (g v : EReal) : EReal := Ideal.ofBits .f32 0x3F7FBE77#32 * v + Ideal.ofBits .f32 0x3A83126F#32 * (g * g)

/-- The weight's change, from the gradient, the weight and the old moments. -/
def change (g w m v : EReal) : EReal :=
  Ideal.ofBits .f32 0xBA83126F#32 *
    (Ideal.div (Ideal.div (mom g m) (Ideal.ofBits .f32 0x3F26BD02#32))
        (Ideal.sqrt (Ideal.div (vel g v) (Ideal.ofBits .f32 0x3C231ACC#32)) + Ideal.ofBits .f32 0x322BCC77#32)
      + Ideal.ofBits .f32 0x3C23D70A#32 * w)

/-- A matrix read as the only one of a stack. -/
theorem only {a b : ℕ} (x : FVec Ideal ⟨3, ![1, a, b]⟩ .f32) (h : (⟨3, ![1, a, b]⟩ : Shape).ShapeCasts ⟨2, ![a, b]⟩) (j : (⟨2, ![a, b]⟩ : Shape).Idx) :
    shapeCast ⟨2, ![a, b]⟩ x h j = x (ix3 0 (j 0) (j 1)) :=
  shapeCast_apply _ _ _ _ (by rw [Shape.rowMajor_val_two, Shape.rowMajor_val_three]; simp [ix3]; rfl)

end Cert.Adam

end
-- ==== Proof.Adam.Up.lean ====
/-
  AdamW on a weight of 4096 rows and 352 columns.
-/
module

public import proofs.«01_k».proof.Proof.Gen.Kernel18Ideal.Frame
public import proofs.«01_k».proof.Proof.Gen.Reference18Ideal.Read
public import proofs.«01_k».proof.Proof.Mix.Lib
public import proofs.«01_k».proof.Proof.Adam.Lib

@[expose] public section

set_option maxRecDepth 16384

noncomputable section

open Idealize.ShloMosaic Idealize.ShloMosaic.TcCoe Idealize.SL.Sem Finset
open Cert.Kernel18Ideal Cert.Kernel18Ideal.Gen
open Cert.Reference18Ideal.Read
open Cert.Mix

namespace Cert.Adam.Up

section Block

variable (g : FVec Ideal S1x512x352 .f32) (w p q : FVec Ideal S512x352 .f32) (j : S512x352.Idx)

/-- The gradient's block, as the body reads it. -/
theorem pay1 : (k0_pay1 (F := Ideal) g j : EReal) = g (ix3 0 (j 0) (j 1)) := only g _ j

/-- The first moment's block, entry by entry. -/
theorem pay2 : (k0_pay2 (F := Ideal) g p j : EReal) = mom (g (ix3 0 (j 0) (j 1))) (p j) :=
  congrArg (fun u => mom u (p j)) (pay1 g j)

/-- The second moment's block, entry by entry. -/
theorem pay3 : (k0_pay3 (F := Ideal) g q j : EReal) = vel (g (ix3 0 (j 0) (j 1))) (q j) :=
  congrArg (fun u => vel u (q j)) (pay1 g j)

/-- The change's block, entry by entry. -/
theorem pay4 : (k0_pay4 (F := Ideal) g p q w j : EReal) = change (g (ix3 0 (j 0) (j 1))) (w j) (p j) (q j) :=
  congrArg (fun u => change u (w j) (p j) (q j)) (pay1 g j)

/-- The four results, as the stores leave their blocks. -/
theorem block4 : (out0_4 (F := Ideal) g w p q j : EReal) = g (ix3 0 (j 0) (j 1)) := by
  unfold out0_4
  rw [View.canon_cons_unit_lit _ _ _ (by decide), View.ld_unit_lit _ _ (by decide)]
  exact pay1 g j

theorem block5 : (out0_5 (F := Ideal) g w p q j : EReal) = change (g (ix3 0 (j 0) (j 1))) (w j) (p j) (q j) := by
  unfold out0_5
  rw [View.canon_cons_unit_lit _ _ _ (by decide)]
  iterate 4 rw [View.ld_unit_lit _ _ (by decide)]
  exact pay4 g w p q j

theorem block6 : (out0_6 (F := Ideal) g w p q j : EReal) = mom (g (ix3 0 (j 0) (j 1))) (p j) := by
  unfold out0_6
  rw [View.canon_cons_unit_lit _ _ _ (by decide)]
  iterate 2 rw [View.ld_unit_lit _ _ (by decide)]
  exact pay2 g p j

theorem block7 : (out0_7 (F := Ideal) g w p q j : EReal) = vel (g (ix3 0 (j 0) (j 1))) (q j) := by
  unfold out0_7
  rw [View.canon_cons_unit_lit _ _ _ (by decide)]
  iterate 2 rw [View.ld_unit_lit _ _ (by decide)]
  exact pay3 g q j

end Block

section Plain

variable (g w p q : FVec Ideal S4096x352 .f32) (i : S4096x352.Idx)

/-- The reference's first moment, entry by entry. -/
theorem plain4 : (val_main_v4 (F := Ideal) g p i : EReal) = mom (g i) (p i) := by
  rw [val_main_v4_apply, val_main_v1_apply, val_main_v3_apply, val_main_v0_apply, val_main_v2_apply]
  rfl

/-- The reference's second moment, entry by entry. -/
theorem plain10 : (val_main_v10 (F := Ideal) g q i : EReal) = vel (g i) (q i) := by
  rw [val_main_v10_apply, val_main_v6_apply, val_main_v9_apply, val_main_v5_apply, val_main_v8_apply]
  rfl

/-- The reference's change, entry by entry. -/
theorem plain23 : (val_main_v23 (F := Ideal) g w p q i : EReal) = change (g i) (w i) (p i) (q i) := by
  have e := plain4 g p i
  have e' := plain10 g q i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, e, e']
  rfl

end Plain

/-- Where the grid's points read and write. -/
theorem points : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem points_lt (t : Fin cfg0.N) : t.val < 8 := lt_of_lt_of_eq t.isLt N_0

/-- The place of a block's entry in the whole array. -/
def place (t : Fin cfg0.N) (y : S512x352.Idx) : S4096x352.Idx :=
  ix2 ⟨t.val * 512 + (y 0).val, by have := points_lt t; have : (y 0).val < 512 := (y 0).isLt; omega⟩ ⟨(y 1).val, (y 1).isLt⟩

/-- The point that writes an entry. -/
def pointOf (i : S4096x352.Idx) : Fin cfg0.N :=
  ⟨(i 0).val / 512, by
    have h0 : (i 0).val < 4096 := (i 0).isLt
    rw [show cfg0.N = 8 from N_0]; omega⟩

variable (m : (ℓ : Loc nD τ sig) → Buf (Elt Ideal) ℓ) (c : Dev nD)

/-- The argument arrays at one core. -/
def a0 : FVec Ideal S4096x352 .f32 := m ((c : Thread nD τ).loc main_arg0)
def a1 : FVec Ideal S4096x352 .f32 := m ((c : Thread nD τ).loc main_arg1)
def a2 : FVec Ideal S4096x352 .f32 := m ((c : Thread nD τ).loc main_arg2)
def a3 : FVec Ideal S4096x352 .f32 := m ((c : Thread nD τ).loc main_arg3)

/-- The stack the call reads holds the gradient alone. -/
theorem host (u : Fin 1) (r : Fin 4096) (k : Fin 352) : (V m c main_v0 : FVec Ideal S1x4096x352 .f32) (ix3 u r k) = a0 m c (ix2 r k) := by
  have e : (V m c main_v0 : FVec Ideal S1x4096x352 .f32) = broadcastInDim S1x4096x352 ![1, 2] bcast_S4096x352_S1x4096x352_1_2 (a0 m c) := by
    unfold V
    simp only [hostOps0, List.flatten_cons, List.flatten_nil, List.append_nil, List.cons_append, List.nil_append]
    after_results_simp
    rfl
  rw [e]
  exact broadcastInDim_apply _ _ _ _ (ix2 r k) (Fin.forall_fin_two.2 ⟨rfl, rfl⟩)

section Blocks

variable (t : Fin cfg0.N) (y : S512x352.Idx)

/-- A point's block of the gradient. -/
theorem grads : (iblk m c 0 t : FVec Ideal S1x512x352 .f32) (ix3 0 (y 0) (y 1)) = a0 m c (place t y) := by
  obtain ⟨⟨o, p, q⟩, -⟩ := points t
  refine Eq.trans ?_ (host m c 0 (place t y 0) (place t y 1))
  refine congrArg (V m c main_v0 : FVec Ideal S1x4096x352 .f32) (funext fun a => Fin.ext ?_)
  match a with
  | ⟨0, _⟩ => exact at_zero 1 0 o
  | ⟨1, _⟩ => exact at_block 512 (y 0).val p
  | ⟨2, _⟩ => exact at_zero 352 (y 1).val q

/-- A point's blocks of the weight and of the moments. -/
theorem olds : (iblk m c 1 t : FVec Ideal S512x352 .f32) y = a1 m c (place t y) ∧ (iblk m c 2 t : FVec Ideal S512x352 .f32) y = a2 m c (place t y)
    ∧ (iblk m c 3 t : FVec Ideal S512x352 .f32) y = a3 m c (place t y) := by
  obtain ⟨-, ⟨p1, q1⟩, ⟨p2, q2⟩, ⟨p3, q3⟩, -⟩ := points t
  exact ⟨(congrFun (V_main_arg1 m c) _).trans (congrArg (a1 m c) (ext2 (at_block 512 (y 0).val p1) (at_zero 352 (y 1).val q1))),
    (congrFun (V_main_arg2 m c) _).trans (congrArg (a2 m c) (ext2 (at_block 512 (y 0).val p2) (at_zero 352 (y 1).val q2))),
    (congrFun (V_main_arg3 m c) _).trans (congrArg (a3 m c) (ext2 (at_block 512 (y 0).val p3) (at_zero 352 (y 1).val q3)))⟩

end Blocks

/-- The four arrays the call leaves. -/
def G4 : Buf (Elt Ideal) ((c : Thread nD τ).loc main_v1_0) := a0 m c
def G5 : Buf (Elt Ideal) ((c : Thread nD τ).loc main_v1_1) := val_main_v23 (F := Ideal) (a0 m c) (a1 m c) (a2 m c) (a3 m c)
def G6 : Buf (Elt Ideal) ((c : Thread nD τ).loc main_v1_2) := val_main_v4 (F := Ideal) (a0 m c) (a2 m c)
def G7 : Buf (Elt Ideal) ((c : Thread nD τ).loc main_v1_3) := val_main_v10 (F := Ideal) (a0 m c) (a3 m c)

/-- Each point writes its block of each of the four. -/
theorem flushed4_eq (t : Fin cfg0.N) : (dats m 0 c).flushed 4 t = ((cfg0.win 4).blk t).view.read (Elt Ideal) (G4 m c) := by
  obtain ⟨-, -, -, -, ⟨o0, o1⟩, -⟩ := points t
  show (cfg0.win 4).cut (grid0.coords t) ((dats m 0 c).after 4 t) = _
  rw [after0_4]
  funext y
  have e : place t y = ((cfg0.win 4).blk t).view.emb y := ext2 (at_block 512 (y 0).val o0).symm (at_zero 352 (y 1).val o1).symm
  refine (block4 (iblk m c 0 t) (iblk m c 1 t) (iblk m c 2 t) (iblk m c 3 t) ((cfg0.win 4).xinj (grid0.coords t) y)).trans ?_
  exact (grads m c t y).trans (congrArg (G4 m c) e)

theorem flushed5_eq (t : Fin cfg0.N) : (dats m 0 c).flushed 5 t = ((cfg0.win 5).blk t).view.read (Elt Ideal) (G5 m c) := by
  obtain ⟨-, -, -, -, -, ⟨o0, o1⟩, -⟩ := points t
  show (cfg0.win 5).cut (grid0.coords t) ((dats m 0 c).after 5 t) = _
  rw [after0_5]
  funext y
  have e : place t y = ((cfg0.win 5).blk t).view.emb y := ext2 (at_block 512 (y 0).val o0).symm (at_zero 352 (y 1).val o1).symm
  refine (block5 (iblk m c 0 t) (iblk m c 1 t) (iblk m c 2 t) (iblk m c 3 t) ((cfg0.win 5).xinj (grid0.coords t) y)).trans ?_
  obtain ⟨e1, e2, e3⟩ := olds m c t y
  refine (congr (congr (congrArg₂ change (grads m c t y) e1) e2) e3).trans ?_
  exact (plain23 (a0 m c) (a1 m c) (a2 m c) (a3 m c) (place t y)).symm.trans (congrArg (G5 m c) e)

theorem flushed6_eq (t : Fin cfg0.N) : (dats m 0 c).flushed 6 t = ((cfg0.win 6).blk t).view.read (Elt Ideal) (G6 m c) := by
  obtain ⟨-, -, -, -, -, -, ⟨o0, o1⟩, -⟩ := points t
  show (cfg0.win 6).cut (grid0.coords t) ((dats m 0 c).after 6 t) = _
  rw [after0_6]
  funext y
  have e : place t y = ((cfg0.win 6).blk t).view.emb y := ext2 (at_block 512 (y 0).val o0).symm (at_zero 352 (y 1).val o1).symm
  refine (block6 (iblk m c 0 t) (iblk m c 1 t) (iblk m c 2 t) (iblk m c 3 t) ((cfg0.win 6).xinj (grid0.coords t) y)).trans ?_
  refine (congrArg₂ mom (grads m c t y) (olds m c t y).2.1).trans ?_
  exact (plain4 (a0 m c) (a2 m c) (place t y)).symm.trans (congrArg (G6 m c) e)

theorem flushed7_eq (t : Fin cfg0.N) : (dats m 0 c).flushed 7 t = ((cfg0.win 7).blk t).view.read (Elt Ideal) (G7 m c) := by
  obtain ⟨-, -, -, -, -, -, -, ⟨o0, o1⟩⟩ := points t
  show (cfg0.win 7).cut (grid0.coords t) ((dats m 0 c).after 7 t) = _
  rw [after0_7]
  funext y
  have e : place t y = ((cfg0.win 7).blk t).view.emb y := ext2 (at_block 512 (y 0).val o0).symm (at_zero 352 (y 1).val o1).symm
  refine (block7 (iblk m c 0 t) (iblk m c 1 t) (iblk m c 2 t) (iblk m c 3 t) ((cfg0.win 7).xinj (grid0.coords t) y)).trans ?_
  refine (congrArg₂ vel (grads m c t y) (olds m c t y).2.2).trans ?_
  exact (plain10 (a0 m c) (a3 m c) (place t y)).symm.trans (congrArg (G7 m c) e)

/-- The blocks fill each result. -/
theorem covered4 (i : S4096x352.Idx) : ∃ t : Fin cfg0.N, (cfg0.win 4).flush t = true ∧ i ∈ ((cfg0.win 4).blk t).view.set := by
  obtain ⟨-, -, -, -, ⟨o0, o1⟩, -⟩ := points (pointOf i)
  refine ⟨pointOf i, flush0_4 _, ?_⟩
  show i ∈ ((View.whole main_v1_0).slice (win0_4.rect (pointOf i))).set
  rw [View.set_slice_whole, Rect.mem_set_unit]
  exact Fin.forall_fin_two.2 ⟨in_block (n := 512) o0 (by decide), in_whole (n := 352) o1 (i 1).isLt⟩

theorem covered5 (i : S4096x352.Idx) : ∃ t : Fin cfg0.N, (cfg0.win 5).flush t = true ∧ i ∈ ((cfg0.win 5).blk t).view.set := by
  obtain ⟨-, -, -, -, -, ⟨o0, o1⟩, -⟩ := points (pointOf i)
  refine ⟨pointOf i, flush0_5 _, ?_⟩
  show i ∈ ((View.whole main_v1_1).slice (win0_5.rect (pointOf i))).set
  rw [View.set_slice_whole, Rect.mem_set_unit]
  exact Fin.forall_fin_two.2 ⟨in_block (n := 512) o0 (by decide), in_whole (n := 352) o1 (i 1).isLt⟩

theorem covered6 (i : S4096x352.Idx) : ∃ t : Fin cfg0.N, (cfg0.win 6).flush t = true ∧ i ∈ ((cfg0.win 6).blk t).view.set := by
  obtain ⟨-, -, -, -, -, -, ⟨o0, o1⟩, -⟩ := points (pointOf i)
  refine ⟨pointOf i, flush0_6 _, ?_⟩
  show i ∈ ((View.whole main_v1_2).slice (win0_6.rect (pointOf i))).set
  rw [View.set_slice_whole, Rect.mem_set_unit]
  exact Fin.forall_fin_two.2 ⟨in_block (n := 512) o0 (by decide), in_whole (n := 352) o1 (i 1).isLt⟩

theorem covered7 (i : S4096x352.Idx) : ∃ t : Fin cfg0.N, (cfg0.win 7).flush t = true ∧ i ∈ ((cfg0.win 7).blk t).view.set := by
  obtain ⟨-, -, -, -, -, -, -, ⟨o0, o1⟩⟩ := points (pointOf i)
  refine ⟨pointOf i, flush0_7 _, ?_⟩
  show i ∈ ((View.whole main_v1_3).slice (win0_7.rect (pointOf i))).set
  rw [View.set_slice_whole, Rect.mem_set_unit]
  exact Fin.forall_fin_two.2 ⟨in_block (n := 512) o0 (by decide), in_whole (n := 352) o1 (i 1).isLt⟩

/-- The call's four arrays. -/
theorem final : (dats m 0 c).arrAt 4 cfg0.N = G4 m c ∧ (dats m 0 c).arrAt 5 cfg0.N = G5 m c ∧ (dats m 0 c).arrAt 6 cfg0.N = G6 m c
    ∧ (dats m 0 c).arrAt 7 cfg0.N = G7 m c := by
  exact ⟨(dats m 0 c).arrAt_eq_of_cover 4 (G4 m c) (fun t _ => flushed4_eq m c t) covered4,
    (dats m 0 c).arrAt_eq_of_cover 5 (G5 m c) (fun t _ => flushed5_eq m c t) covered5,
    (dats m 0 c).arrAt_eq_of_cover 6 (G6 m c) (fun t _ => flushed6_eq m c t) covered6,
    (dats m 0 c).arrAt_eq_of_cover 7 (G7 m c) (fun t _ => flushed7_eq m c t) covered7⟩

/-- The kernel's run ends with the reference's four results. -/
theorem kernel_run (ρ : Dev nD → PrngReg) :
    θ_run defs (onTc (τ := τ) (main (F := Ideal))) ⟨m, fun _ => 0, ρ⟩ (fun r => ∀ c : Dev nD,
      r.2.mem ((c : Thread nD τ).loc main_v1_0) = G4 m c ∧ r.2.mem ((c : Thread nD τ).loc main_v1_1) = G5 m c
      ∧ r.2.mem ((c : Thread nD τ).loc main_v1_2) = G6 m c ∧ r.2.mem ((c : Thread nD τ).loc main_v1_3) = G7 m c) := by
  refine (θ_run defs _ _).mono (fun r h c => ?_) (Gen.run_main m ρ)
  obtain ⟨e4, e5, e6, e7⟩ := final m c
  exact ⟨((h c).1 4).trans e4, ((h c).1 5).trans e5, ((h c).1 6).trans e6, ((h c).1 7).trans e7⟩

end Cert.Adam.Up

end
-- ==== Proof.Adam.Down.lean ====
/-
  AdamW on a weight of 1408 rows and 1024 columns.
-/
module

public import proofs.«01_k».proof.Proof.Gen.Kernel19Ideal.Frame
public import proofs.«01_k».proof.Proof.Gen.Reference19Ideal.Read
public import proofs.«01_k».proof.Proof.Mix.Lib
public import proofs.«01_k».proof.Proof.Adam.Lib

@[expose] public section

set_option maxRecDepth 16384

noncomputable section

open Idealize.ShloMosaic Idealize.ShloMosaic.TcCoe Idealize.SL.Sem Finset
open Cert.Kernel19Ideal Cert.Kernel19Ideal.Gen
open Cert.Reference19Ideal.Read
open Cert.Mix

namespace Cert.Adam.Down

section Block

variable (g : FVec Ideal S1x352x1024 .f32) (w p q : FVec Ideal S352x1024 .f32) (j : S352x1024.Idx)

/-- The gradient's block, as the body reads it. -/
theorem pay1 : (k0_pay1 (F := Ideal) g j : EReal) = g (ix3 0 (j 0) (j 1)) := only g _ j

/-- The first moment's block, entry by entry. -/
theorem pay2 : (k0_pay2 (F := Ideal) g p j : EReal) = mom (g (ix3 0 (j 0) (j 1))) (p j) :=
  congrArg (fun u => mom u (p j)) (pay1 g j)

/-- The second moment's block, entry by entry. -/
theorem pay3 : (k0_pay3 (F := Ideal) g q j : EReal) = vel (g (ix3 0 (j 0) (j 1))) (q j) :=
  congrArg (fun u => vel u (q j)) (pay1 g j)

/-- The change's block, entry by entry. -/
theorem pay4 : (k0_pay4 (F := Ideal) g p q w j : EReal) = change (g (ix3 0 (j 0) (j 1))) (w j) (p j) (q j) :=
  congrArg (fun u => change u (w j) (p j) (q j)) (pay1 g j)

/-- The four results, as the stores leave their blocks. -/
theorem block4 : (out0_4 (F := Ideal) g w p q j : EReal) = g (ix3 0 (j 0) (j 1)) := by
  unfold out0_4
  rw [View.canon_cons_unit_lit _ _ _ (by decide), View.ld_unit_lit _ _ (by decide)]
  exact pay1 g j

theorem block5 : (out0_5 (F := Ideal) g w p q j : EReal) = change (g (ix3 0 (j 0) (j 1))) (w j) (p j) (q j) := by
  unfold out0_5
  rw [View.canon_cons_unit_lit _ _ _ (by decide)]
  iterate 4 rw [View.ld_unit_lit _ _ (by decide)]
  exact pay4 g w p q j

theorem block6 : (out0_6 (F := Ideal) g w p q j : EReal) = mom (g (ix3 0 (j 0) (j 1))) (p j) := by
  unfold out0_6
  rw [View.canon_cons_unit_lit _ _ _ (by decide)]
  iterate 2 rw [View.ld_unit_lit _ _ (by decide)]
  exact pay2 g p j

theorem block7 : (out0_7 (F := Ideal) g w p q j : EReal) = vel (g (ix3 0 (j 0) (j 1))) (q j) := by
  unfold out0_7
  rw [View.canon_cons_unit_lit _ _ _ (by decide)]
  iterate 2 rw [View.ld_unit_lit _ _ (by decide)]
  exact pay3 g q j

end Block

section Plain

variable (g w p q : FVec Ideal S1408x1024 .f32) (i : S1408x1024.Idx)

/-- The reference's first moment, entry by entry. -/
theorem plain4 : (val_main_v4 (F := Ideal) g p i : EReal) = mom (g i) (p i) := by
  rw [val_main_v4_apply, val_main_v1_apply, val_main_v3_apply, val_main_v0_apply, val_main_v2_apply]
  rfl

/-- The reference's second moment, entry by entry. -/
theorem plain10 : (val_main_v10 (F := Ideal) g q i : EReal) = vel (g i) (q i) := by
  rw [val_main_v10_apply, val_main_v6_apply, val_main_v9_apply, val_main_v5_apply, val_main_v8_apply]
  rfl

/-- The reference's change, entry by entry. -/
theorem plain23 : (val_main_v23 (F := Ideal) g w p q i : EReal) = change (g i) (w i) (p i) (q i) := by
  have e := plain4 g p i
  have e' := plain10 g q i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, e, e']
  rfl

end Plain

/-- Where the grid's points read and write. -/
theorem points : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem points_lt (t : Fin cfg0.N) : t.val < 4 := lt_of_lt_of_eq t.isLt N_0

/-- The place of a block's entry in the whole array. -/
def place (t : Fin cfg0.N) (y : S352x1024.Idx) : S1408x1024.Idx :=
  ix2 ⟨t.val * 352 + (y 0).val, by have := points_lt t; have : (y 0).val < 352 := (y 0).isLt; omega⟩ ⟨(y 1).val, (y 1).isLt⟩

/-- The point that writes an entry. -/
def pointOf (i : S1408x1024.Idx) : Fin cfg0.N :=
  ⟨(i 0).val / 352, by
    have h0 : (i 0).val < 1408 := (i 0).isLt
    rw [show cfg0.N = 4 from N_0]; omega⟩

variable (m : (ℓ : Loc nD τ sig) → Buf (Elt Ideal) ℓ) (c : Dev nD)

/-- The argument arrays at one core. -/
def a0 : FVec Ideal S1408x1024 .f32 := m ((c : Thread nD τ).loc main_arg0)
def a1 : FVec Ideal S1408x1024 .f32 := m ((c : Thread nD τ).loc main_arg1)
def a2 : FVec Ideal S1408x1024 .f32 := m ((c : Thread nD τ).loc main_arg2)
def a3 : FVec Ideal S1408x1024 .f32 := m ((c : Thread nD τ).loc main_arg3)

/-- The stack the call reads holds the gradient alone. -/
theorem host (u : Fin 1) (r : Fin 1408) (k : Fin 1024) : (V m c main_v0 : FVec Ideal S1x1408x1024 .f32) (ix3 u r k) = a0 m c (ix2 r k) := by
  have e : (V m c main_v0 : FVec Ideal S1x1408x1024 .f32) = broadcastInDim S1x1408x1024 ![1, 2] bcast_S1408x1024_S1x1408x1024_1_2 (a0 m c) := by
    unfold V
    simp only [hostOps0, List.flatten_cons, List.flatten_nil, List.append_nil, List.cons_append, List.nil_append]
    after_results_simp
    rfl
  rw [e]
  exact broadcastInDim_apply _ _ _ _ (ix2 r k) (Fin.forall_fin_two.2 ⟨rfl, rfl⟩)

section Blocks

variable (t : Fin cfg0.N) (y : S352x1024.Idx)

/-- A point's block of the gradient. -/
theorem grads : (iblk m c 0 t : FVec Ideal S1x352x1024 .f32) (ix3 0 (y 0) (y 1)) = a0 m c (place t y) := by
  obtain ⟨⟨o, p, q⟩, -⟩ := points t
  refine Eq.trans ?_ (host m c 0 (place t y 0) (place t y 1))
  refine congrArg (V m c main_v0 : FVec Ideal S1x1408x1024 .f32) (funext fun a => Fin.ext ?_)
  match a with
  | ⟨0, _⟩ => exact at_zero 1 0 o
  | ⟨1, _⟩ => exact at_block 352 (y 0).val p
  | ⟨2, _⟩ => exact at_zero 1024 (y 1).val q

/-- A point's blocks of the weight and of the moments. -/
theorem olds : (iblk m c 1 t : FVec Ideal S352x1024 .f32) y = a1 m c (place t y) ∧ (iblk m c 2 t : FVec Ideal S352x1024 .f32) y = a2 m c (place t y)
    ∧ (iblk m c 3 t : FVec Ideal S352x1024 .f32) y = a3 m c (place t y) := by
  obtain ⟨-, ⟨p1, q1⟩, ⟨p2, q2⟩, ⟨p3, q3⟩, -⟩ := points t
  exact ⟨(congrFun (V_main_arg1 m c) _).trans (congrArg (a1 m c) (ext2 (at_block 352 (y 0).val p1) (at_zero 1024 (y 1).val q1))),
    (congrFun (V_main_arg2 m c) _).trans (congrArg (a2 m c) (ext2 (at_block 352 (y 0).val p2) (at_zero 1024 (y 1).val q2))),
    (congrFun (V_main_arg3 m c) _).trans (congrArg (a3 m c) (ext2 (at_block 352 (y 0).val p3) (at_zero 1024 (y 1).val q3)))⟩

end Blocks

/-- The four arrays the call leaves. -/
def G4 : Buf (Elt Ideal) ((c : Thread nD τ).loc main_v1_0) := a0 m c
def G5 : Buf (Elt Ideal) ((c : Thread nD τ).loc main_v1_1) := val_main_v23 (F := Ideal) (a0 m c) (a1 m c) (a2 m c) (a3 m c)
def G6 : Buf (Elt Ideal) ((c : Thread nD τ).loc main_v1_2) := val_main_v4 (F := Ideal) (a0 m c) (a2 m c)
def G7 : Buf (Elt Ideal) ((c : Thread nD τ).loc main_v1_3) := val_main_v10 (F := Ideal) (a0 m c) (a3 m c)

/-- Each point writes its block of each of the four. -/
theorem flushed4_eq (t : Fin cfg0.N) : (dats m 0 c).flushed 4 t = ((cfg0.win 4).blk t).view.read (Elt Ideal) (G4 m c) := by
  obtain ⟨-, -, -, -, ⟨o0, o1⟩, -⟩ := points t
  show (cfg0.win 4).cut (grid0.coords t) ((dats m 0 c).after 4 t) = _
  rw [after0_4]
  funext y
  have e : place t y = ((cfg0.win 4).blk t).view.emb y := ext2 (at_block 352 (y 0).val o0).symm (at_zero 1024 (y 1).val o1).symm
  refine (block4 (iblk m c 0 t) (iblk m c 1 t) (iblk m c 2 t) (iblk m c 3 t) ((cfg0.win 4).xinj (grid0.coords t) y)).trans ?_
  exact (grads m c t y).trans (congrArg (G4 m c) e)

theorem flushed5_eq (t : Fin cfg0.N) : (dats m 0 c).flushed 5 t = ((cfg0.win 5).blk t).view.read (Elt Ideal) (G5 m c) := by
  obtain ⟨-, -, -, -, -, ⟨o0, o1⟩, -⟩ := points t
  show (cfg0.win 5).cut (grid0.coords t) ((dats m 0 c).after 5 t) = _
  rw [after0_5]
  funext y
  have e : place t y = ((cfg0.win 5).blk t).view.emb y := ext2 (at_block 352 (y 0).val o0).symm (at_zero 1024 (y 1).val o1).symm
  refine (block5 (iblk m c 0 t) (iblk m c 1 t) (iblk m c 2 t) (iblk m c 3 t) ((cfg0.win 5).xinj (grid0.coords t) y)).trans ?_
  obtain ⟨e1, e2, e3⟩ := olds m c t y
  refine (congr (congr (congrArg₂ change (grads m c t y) e1) e2) e3).trans ?_
  exact (plain23 (a0 m c) (a1 m c) (a2 m c) (a3 m c) (place t y)).symm.trans (congrArg (G5 m c) e)

theorem flushed6_eq (t : Fin cfg0.N) : (dats m 0 c).flushed 6 t = ((cfg0.win 6).blk t).view.read (Elt Ideal) (G6 m c) := by
  obtain ⟨-, -, -, -, -, -, ⟨o0, o1⟩, -⟩ := points t
  show (cfg0.win 6).cut (grid0.coords t) ((dats m 0 c).after 6 t) = _
  rw [after0_6]
  funext y
  have e : place t y = ((cfg0.win 6).blk t).view.emb y := ext2 (at_block 352 (y 0).val o0).symm (at_zero 1024 (y 1).val o1).symm
  refine (block6 (iblk m c 0 t) (iblk m c 1 t) (iblk m c 2 t) (iblk m c 3 t) ((cfg0.win 6).xinj (grid0.coords t) y)).trans ?_
  refine (congrArg₂ mom (grads m c t y) (olds m c t y).2.1).trans ?_
  exact (plain4 (a0 m c) (a2 m c) (place t y)).symm.trans (congrArg (G6 m c) e)

theorem flushed7_eq (t : Fin cfg0.N) : (dats m 0 c).flushed 7 t = ((cfg0.win 7).blk t).view.read (Elt Ideal) (G7 m c) := by
  obtain ⟨-, -, -, -, -, -, -, ⟨o0, o1⟩⟩ := points t
  show (cfg0.win 7).cut (grid0.coords t) ((dats m 0 c).after 7 t) = _
  rw [after0_7]
  funext y
  have e : place t y = ((cfg0.win 7).blk t).view.emb y := ext2 (at_block 352 (y 0).val o0).symm (at_zero 1024 (y 1).val o1).symm
  refine (block7 (iblk m c 0 t) (iblk m c 1 t) (iblk m c 2 t) (iblk m c 3 t) ((cfg0.win 7).xinj (grid0.coords t) y)).trans ?_
  refine (congrArg₂ vel (grads m c t y) (olds m c t y).2.2).trans ?_
  exact (plain10 (a0 m c) (a3 m c) (place t y)).symm.trans (congrArg (G7 m c) e)

/-- The blocks fill each result. -/
theorem covered4 (i : S1408x1024.Idx) : ∃ t : Fin cfg0.N, (cfg0.win 4).flush t = true ∧ i ∈ ((cfg0.win 4).blk t).view.set := by
  obtain ⟨-, -, -, -, ⟨o0, o1⟩, -⟩ := points (pointOf i)
  refine ⟨pointOf i, flush0_4 _, ?_⟩
  show i ∈ ((View.whole main_v1_0).slice (win0_4.rect (pointOf i))).set
  rw [View.set_slice_whole, Rect.mem_set_unit]
  exact Fin.forall_fin_two.2 ⟨in_block (n := 352) o0 (by decide), in_whole (n := 1024) o1 (i 1).isLt⟩

theorem covered5 (i : S1408x1024.Idx) : ∃ t : Fin cfg0.N, (cfg0.win 5).flush t = true ∧ i ∈ ((cfg0.win 5).blk t).view.set := by
  obtain ⟨-, -, -, -, -, ⟨o0, o1⟩, -⟩ := points (pointOf i)
  refine ⟨pointOf i, flush0_5 _, ?_⟩
  show i ∈ ((View.whole main_v1_1).slice (win0_5.rect (pointOf i))).set
  rw [View.set_slice_whole, Rect.mem_set_unit]
  exact Fin.forall_fin_two.2 ⟨in_block (n := 352) o0 (by decide), in_whole (n := 1024) o1 (i 1).isLt⟩

theorem covered6 (i : S1408x1024.Idx) : ∃ t : Fin cfg0.N, (cfg0.win 6).flush t = true ∧ i ∈ ((cfg0.win 6).blk t).view.set := by
  obtain ⟨-, -, -, -, -, -, ⟨o0, o1⟩, -⟩ := points (pointOf i)
  refine ⟨pointOf i, flush0_6 _, ?_⟩
  show i ∈ ((View.whole main_v1_2).slice (win0_6.rect (pointOf i))).set
  rw [View.set_slice_whole, Rect.mem_set_unit]
  exact Fin.forall_fin_two.2 ⟨in_block (n := 352) o0 (by decide), in_whole (n := 1024) o1 (i 1).isLt⟩

theorem covered7 (i : S1408x1024.Idx) : ∃ t : Fin cfg0.N, (cfg0.win 7).flush t = true ∧ i ∈ ((cfg0.win 7).blk t).view.set := by
  obtain ⟨-, -, -, -, -, -, -, ⟨o0, o1⟩⟩ := points (pointOf i)
  refine ⟨pointOf i, flush0_7 _, ?_⟩
  show i ∈ ((View.whole main_v1_3).slice (win0_7.rect (pointOf i))).set
  rw [View.set_slice_whole, Rect.mem_set_unit]
  exact Fin.forall_fin_two.2 ⟨in_block (n := 352) o0 (by decide), in_whole (n := 1024) o1 (i 1).isLt⟩

/-- The call's four arrays. -/
theorem final : (dats m 0 c).arrAt 4 cfg0.N = G4 m c ∧ (dats m 0 c).arrAt 5 cfg0.N = G5 m c ∧ (dats m 0 c).arrAt 6 cfg0.N = G6 m c
    ∧ (dats m 0 c).arrAt 7 cfg0.N = G7 m c := by
  exact ⟨(dats m 0 c).arrAt_eq_of_cover 4 (G4 m c) (fun t _ => flushed4_eq m c t) covered4,
    (dats m 0 c).arrAt_eq_of_cover 5 (G5 m c) (fun t _ => flushed5_eq m c t) covered5,
    (dats m 0 c).arrAt_eq_of_cover 6 (G6 m c) (fun t _ => flushed6_eq m c t) covered6,
    (dats m 0 c).arrAt_eq_of_cover 7 (G7 m c) (fun t _ => flushed7_eq m c t) covered7⟩

/-- The kernel's run ends with the reference's four results. -/
theorem kernel_run (ρ : Dev nD → PrngReg) :
    θ_run defs (onTc (τ := τ) (main (F := Ideal))) ⟨m, fun _ => 0, ρ⟩ (fun r => ∀ c : Dev nD,
      r.2.mem ((c : Thread nD τ).loc main_v1_0) = G4 m c ∧ r.2.mem ((c : Thread nD τ).loc main_v1_1) = G5 m c
      ∧ r.2.mem ((c : Thread nD τ).loc main_v1_2) = G6 m c ∧ r.2.mem ((c : Thread nD τ).loc main_v1_3) = G7 m c) := by
  refine (θ_run defs _ _).mono (fun r h c => ?_) (Gen.run_main m ρ)
  obtain ⟨e4, e5, e6, e7⟩ := final m c
  exact ⟨((h c).1 4).trans e4, ((h c).1 5).trans e5, ((h c).1 6).trans e6, ((h c).1 7).trans e7⟩

end Cert.Adam.Down

end
-- ==== Proof.Adam.Small.lean ====
/-
  AdamW on the small weights, packed in 48 rows, at the sum of eight partial gradients.
-/
module

public import proofs.«01_k».proof.Proof.Gen.Kernel20Ideal.Frame
public import proofs.«01_k».proof.Proof.Gen.Reference20Ideal.Read
public import proofs.«01_k».proof.Proof.Mix.Lib
public import proofs.«01_k».proof.Proof.Adam.Lib

@[expose] public section

set_option maxRecDepth 16384

noncomputable section

open Idealize.ShloMosaic Idealize.ShloMosaic.TcCoe Idealize.SL.Sem Finset
open Cert.Kernel20Ideal Cert.Kernel20Ideal.Gen
open Cert.Reference20Ideal.Read
open Cert.Mix

namespace Cert.Adam.Small

/-- The sum of the partial gradients at one entry. -/
def total {a b : ℕ} (x : FVec Ideal ⟨3, ![8, a, b]⟩ .f32) (j : (⟨2, ![a, b]⟩ : Shape).Idx) : EReal := ∑ k : Fin 8, (x (ix3 k (j 0) (j 1)) : EReal)

section Block

variable (g : FVec Ideal S8x48x1024 .f32) (w p q : FVec Ideal S48x1024 .f32) (j : S48x1024.Idx)

/-- The gradient's block, entry by entry: the parts one after another are their sum. -/
theorem pay5 : (k0_pay5 (F := Ideal) g w p q j : EReal) = total g j := by
  unfold k0_pay5 k0_pay3 total
  rw [Fin.sum_univ_eight]
  simp only [pointwise]
  simp

/-- The first moment's block, entry by entry. -/
theorem pay6 : (k0_pay6 (F := Ideal) g w p q j : EReal) = mom (total g j) (p j) := by
  unfold k0_pay6
  rw [View.ld_unit_lit _ _ (by decide)]
  exact congrArg (fun u => mom u (p j)) (pay5 g w p q j)

/-- The four results, as the stores leave their blocks. -/
theorem block4 : (out0_4 (F := Ideal) g w p q j : EReal) = total g j := by
  unfold out0_4
  rw [View.canon_cons_unit_lit _ _ _ (by decide)]
  exact pay5 g w p q j

theorem block5 : (out0_5 (F := Ideal) g w p q j : EReal) = change (total g j) (w j) (p j) (q j) := by
  have e := pay5 g w p q j
  have e' := pay6 g w p q j
  unfold out0_5
  rw [View.canon_cons_unit_lit _ _ _ (by decide)]
  iterate 2 rw [View.ld_unit_lit _ _ (by decide)]
  unfold k0_pay2 k0_pay1 change vel
  rw [← e', ← e]
  rfl

theorem block6 : (out0_6 (F := Ideal) g w p q j : EReal) = mom (total g j) (p j) := by
  unfold out0_6
  rw [View.canon_cons_unit_lit _ _ _ (by decide)]
  exact pay6 g w p q j

theorem block7 : (out0_7 (F := Ideal) g w p q j : EReal) = vel (total g j) (q j) := by
  unfold out0_7
  rw [View.canon_cons_unit_lit _ _ _ (by decide), View.ld_unit_lit _ _ (by decide)]
  exact congrArg (fun u => vel u (q j)) (pay5 g w p q j)

end Block

section Plain

variable (g : FVec Ideal S8x48x1024 .f32) (w p q : FVec Ideal S48x1024 .f32) (i : S48x1024.Idx)

/-- The reference's gradient, entry by entry. -/
theorem plain0 : (val_main_v0 (F := Ideal) g i : EReal) = total g i := by
  rw [val_main_v0_apply, val_main_cst_apply]
  refine (congrArg (· + _) (Ideal.ofBits_zero_f32)).trans ((zero_add _).trans ?_)
  exact Finset.sum_congr rfl fun k _ => congrArg g (funext fun a => match a with
    | ⟨0, _⟩ => rfl
    | ⟨1, _⟩ => rfl
    | ⟨2, _⟩ => rfl)

/-- The reference's first moment, entry by entry. -/
theorem plain5 : (val_main_v5 (F := Ideal) g p i : EReal) = mom (total g i) (p i) := by
  rw [val_main_v5_apply, val_main_v2_apply, val_main_v4_apply, val_main_v1_apply, val_main_v3_apply, ← plain0]
  rfl

/-- The reference's second moment, entry by entry. -/
theorem plain11 : (val_main_v11 (F := Ideal) g q i : EReal) = vel (total g i) (q i) := by
  rw [val_main_v11_apply, val_main_v7_apply, val_main_v10_apply, val_main_v8_apply, val_main_v6_apply, val_main_v9_apply, ← plain0]
  rfl

/-- The reference's change, entry by entry. -/
theorem plain24 : (val_main_v24 (F := Ideal) g w p q i : EReal) = change (total g i) (w i) (p i) (q i) := by
  have e := plain5 g p i
  have e' := plain11 g q i
  rw [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, e, e']
  rfl

end Plain

/-- Where the grid's points read and write. -/
theorem points : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem points_lt (t : Fin cfg0.N) : t.val < 1 := lt_of_lt_of_eq t.isLt N_0

/-- The place of a block's entry in the whole array. -/
def place (t : Fin cfg0.N) (y : S48x1024.Idx) : S48x1024.Idx :=
  ix2 ⟨t.val * 48 + (y 0).val, by have := points_lt t; have : (y 0).val < 48 := (y 0).isLt; omega⟩ ⟨(y 1).val, (y 1).isLt⟩

/-- The point that writes an entry. -/
def pointOf (i : S48x1024.Idx) : Fin cfg0.N :=
  ⟨(i 0).val / 48, by
    have h0 : (i 0).val < 48 := (i 0).isLt
    rw [show cfg0.N = 1 from N_0]; omega⟩

variable (m : (ℓ : Loc nD τ sig) → Buf (Elt Ideal) ℓ) (c : Dev nD)

/-- The argument arrays at one core. -/
def a0 : FVec Ideal S8x48x1024 .f32 := m ((c : Thread nD τ).loc main_arg0)
def a1 : FVec Ideal S48x1024 .f32 := m ((c : Thread nD τ).loc main_arg1)
def a2 : FVec Ideal S48x1024 .f32 := m ((c : Thread nD τ).loc main_arg2)
def a3 : FVec Ideal S48x1024 .f32 := m ((c : Thread nD τ).loc main_arg3)

section Blocks

variable (t : Fin cfg0.N) (y : S48x1024.Idx)

/-- A point's block of the gradient. -/
theorem grads : total (iblk m c 0 t : FVec Ideal S8x48x1024 .f32) y = total (a0 m c) (place t y) := by
  obtain ⟨⟨o, p, q⟩, -⟩ := points t
  refine Finset.sum_congr rfl fun k _ => congrArg (a0 m c) (funext fun a => Fin.ext ?_)
  match a with
  | ⟨0, _⟩ => exact at_zero 8 k.val o
  | ⟨1, _⟩ => exact at_block 48 (y 0).val p
  | ⟨2, _⟩ => exact at_zero 1024 (y 1).val q

/-- A point's blocks of the weight and of the moments. -/
theorem olds : (iblk m c 1 t : FVec Ideal S48x1024 .f32) y = a1 m c (place t y) ∧ (iblk m c 2 t : FVec Ideal S48x1024 .f32) y = a2 m c (place t y)
    ∧ (iblk m c 3 t : FVec Ideal S48x1024 .f32) y = a3 m c (place t y) := by
  obtain ⟨-, ⟨p1, q1⟩, ⟨p2, q2⟩, ⟨p3, q3⟩, -⟩ := points t
  exact ⟨(congrFun (V_main_arg1 m c) _).trans (congrArg (a1 m c) (ext2 (at_block 48 (y 0).val p1) (at_zero 1024 (y 1).val q1))),
    (congrFun (V_main_arg2 m c) _).trans (congrArg (a2 m c) (ext2 (at_block 48 (y 0).val p2) (at_zero 1024 (y 1).val q2))),
    (congrFun (V_main_arg3 m c) _).trans (congrArg (a3 m c) (ext2 (at_block 48 (y 0).val p3) (at_zero 1024 (y 1).val q3)))⟩

end Blocks

/-- The four arrays the call leaves. -/
def G4 : Buf (Elt Ideal) ((c : Thread nD τ).loc main_v0_0) := val_main_v0 (F := Ideal) (a0 m c)
def G5 : Buf (Elt Ideal) ((c : Thread nD τ).loc main_v0_1) := val_main_v24 (F := Ideal) (a0 m c) (a1 m c) (a2 m c) (a3 m c)
def G6 : Buf (Elt Ideal) ((c : Thread nD τ).loc main_v0_2) := val_main_v5 (F := Ideal) (a0 m c) (a2 m c)
def G7 : Buf (Elt Ideal) ((c : Thread nD τ).loc main_v0_3) := val_main_v11 (F := Ideal) (a0 m c) (a3 m c)

/-- Each point writes its block of each of the four. -/
theorem flushed4_eq (t : Fin cfg0.N) : (dats m 0 c).flushed 4 t = ((cfg0.win 4).blk t).view.read (Elt Ideal) (G4 m c) := by
  obtain ⟨-, -, -, -, ⟨o0, o1⟩, -⟩ := points t
  show (cfg0.win 4).cut (grid0.coords t) ((dats m 0 c).after 4 t) = _
  rw [after0_4]
  funext y
  have e : place t y = ((cfg0.win 4).blk t).view.emb y := ext2 (at_block 48 (y 0).val o0).symm (at_zero 1024 (y 1).val o1).symm
  refine (block4 (iblk m c 0 t) (iblk m c 1 t) (iblk m c 2 t) (iblk m c 3 t) ((cfg0.win 4).xinj (grid0.coords t) y)).trans ?_
  exact (grads m c t y).trans ((plain0 (a0 m c) (place t y)).symm.trans (congrArg (G4 m c) e))

theorem flushed5_eq (t : Fin cfg0.N) : (dats m 0 c).flushed 5 t = ((cfg0.win 5).blk t).view.read (Elt Ideal) (G5 m c) := by
  obtain ⟨-, -, -, -, -, ⟨o0, o1⟩, -⟩ := points t
  show (cfg0.win 5).cut (grid0.coords t) ((dats m 0 c).after 5 t) = _
  rw [after0_5]
  funext y
  have e : place t y = ((cfg0.win 5).blk t).view.emb y := ext2 (at_block 48 (y 0).val o0).symm (at_zero 1024 (y 1).val o1).symm
  refine (block5 (iblk m c 0 t) (iblk m c 1 t) (iblk m c 2 t) (iblk m c 3 t) ((cfg0.win 5).xinj (grid0.coords t) y)).trans ?_
  obtain ⟨e1, e2, e3⟩ := olds m c t y
  refine (congr (congr (congrArg₂ change (grads m c t y) e1) e2) e3).trans ?_
  exact (plain24 (a0 m c) (a1 m c) (a2 m c) (a3 m c) (place t y)).symm.trans (congrArg (G5 m c) e)

theorem flushed6_eq (t : Fin cfg0.N) : (dats m 0 c).flushed 6 t = ((cfg0.win 6).blk t).view.read (Elt Ideal) (G6 m c) := by
  obtain ⟨-, -, -, -, -, -, ⟨o0, o1⟩, -⟩ := points t
  show (cfg0.win 6).cut (grid0.coords t) ((dats m 0 c).after 6 t) = _
  rw [after0_6]
  funext y
  have e : place t y = ((cfg0.win 6).blk t).view.emb y := ext2 (at_block 48 (y 0).val o0).symm (at_zero 1024 (y 1).val o1).symm
  refine (block6 (iblk m c 0 t) (iblk m c 1 t) (iblk m c 2 t) (iblk m c 3 t) ((cfg0.win 6).xinj (grid0.coords t) y)).trans ?_
  refine (congrArg₂ mom (grads m c t y) (olds m c t y).2.1).trans ?_
  exact (plain5 (a0 m c) (a2 m c) (place t y)).symm.trans (congrArg (G6 m c) e)

theorem flushed7_eq (t : Fin cfg0.N) : (dats m 0 c).flushed 7 t = ((cfg0.win 7).blk t).view.read (Elt Ideal) (G7 m c) := by
  obtain ⟨-, -, -, -, -, -, -, ⟨o0, o1⟩⟩ := points t
  show (cfg0.win 7).cut (grid0.coords t) ((dats m 0 c).after 7 t) = _
  rw [after0_7]
  funext y
  have e : place t y = ((cfg0.win 7).blk t).view.emb y := ext2 (at_block 48 (y 0).val o0).symm (at_zero 1024 (y 1).val o1).symm
  refine (block7 (iblk m c 0 t) (iblk m c 1 t) (iblk m c 2 t) (iblk m c 3 t) ((cfg0.win 7).xinj (grid0.coords t) y)).trans ?_
  refine (congrArg₂ vel (grads m c t y) (olds m c t y).2.2).trans ?_
  exact (plain11 (a0 m c) (a3 m c) (place t y)).symm.trans (congrArg (G7 m c) e)

/-- The blocks fill each result. -/
theorem covered4 (i : S48x1024.Idx) : ∃ t : Fin cfg0.N, (cfg0.win 4).flush t = true ∧ i ∈ ((cfg0.win 4).blk t).view.set := by
  obtain ⟨-, -, -, -, ⟨o0, o1⟩, -⟩ := points (pointOf i)
  refine ⟨pointOf i, flush0_4 _, ?_⟩
  show i ∈ ((View.whole main_v0_0).slice (win0_4.rect (pointOf i))).set
  rw [View.set_slice_whole, Rect.mem_set_unit]
  exact Fin.forall_fin_two.2 ⟨in_block (n := 48) o0 (by decide), in_whole (n := 1024) o1 (i 1).isLt⟩

theorem covered5 (i : S48x1024.Idx) : ∃ t : Fin cfg0.N, (cfg0.win 5).flush t = true ∧ i ∈ ((cfg0.win 5).blk t).view.set := by
  obtain ⟨-, -, -, -, -, ⟨o0, o1⟩, -⟩ := points (pointOf i)
  refine ⟨pointOf i, flush0_5 _, ?_⟩
  show i ∈ ((View.whole main_v0_1).slice (win0_5.rect (pointOf i))).set
  rw [View.set_slice_whole, Rect.mem_set_unit]
  exact Fin.forall_fin_two.2 ⟨in_block (n := 48) o0 (by decide), in_whole (n := 1024) o1 (i 1).isLt⟩

theorem covered6 (i : S48x1024.Idx) : ∃ t : Fin cfg0.N, (cfg0.win 6).flush t = true ∧ i ∈ ((cfg0.win 6).blk t).view.set := by
  obtain ⟨-, -, -, -, -, -, ⟨o0, o1⟩, -⟩ := points (pointOf i)
  refine ⟨pointOf i, flush0_6 _, ?_⟩
  show i ∈ ((View.whole main_v0_2).slice (win0_6.rect (pointOf i))).set
  rw [View.set_slice_whole, Rect.mem_set_unit]
  exact Fin.forall_fin_two.2 ⟨in_block (n := 48) o0 (by decide), in_whole (n := 1024) o1 (i 1).isLt⟩

theorem covered7 (i : S48x1024.Idx) : ∃ t : Fin cfg0.N, (cfg0.win 7).flush t = true ∧ i ∈ ((cfg0.win 7).blk t).view.set := by
  obtain ⟨-, -, -, -, -, -, -, ⟨o0, o1⟩⟩ := points (pointOf i)
  refine ⟨pointOf i, flush0_7 _, ?_⟩
  show i ∈ ((View.whole main_v0_3).slice (win0_7.rect (pointOf i))).set
  rw [View.set_slice_whole, Rect.mem_set_unit]
  exact Fin.forall_fin_two.2 ⟨in_block (n := 48) o0 (by decide), in_whole (n := 1024) o1 (i 1).isLt⟩

/-- The call's four arrays. -/
theorem final : (dats m 0 c).arrAt 4 cfg0.N = G4 m c ∧ (dats m 0 c).arrAt 5 cfg0.N = G5 m c ∧ (dats m 0 c).arrAt 6 cfg0.N = G6 m c
    ∧ (dats m 0 c).arrAt 7 cfg0.N = G7 m c := by
  exact ⟨(dats m 0 c).arrAt_eq_of_cover 4 (G4 m c) (fun t _ => flushed4_eq m c t) covered4,
    (dats m 0 c).arrAt_eq_of_cover 5 (G5 m c) (fun t _ => flushed5_eq m c t) covered5,
    (dats m 0 c).arrAt_eq_of_cover 6 (G6 m c) (fun t _ => flushed6_eq m c t) covered6,
    (dats m 0 c).arrAt_eq_of_cover 7 (G7 m c) (fun t _ => flushed7_eq m c t) covered7⟩

/-- The kernel's run ends with the reference's four results. -/
theorem kernel_run (ρ : Dev nD → PrngReg) :
    θ_run defs (onTc (τ := τ) (main (F := Ideal))) ⟨m, fun _ => 0, ρ⟩ (fun r => ∀ c : Dev nD,
      r.2.mem ((c : Thread nD τ).loc main_v0_0) = G4 m c ∧ r.2.mem ((c : Thread nD τ).loc main_v0_1) = G5 m c
      ∧ r.2.mem ((c : Thread nD τ).loc main_v0_2) = G6 m c ∧ r.2.mem ((c : Thread nD τ).loc main_v0_3) = G7 m c) := by
  refine (θ_run defs _ _).mono (fun r h c => ?_) (Gen.run_main m ρ)
  obtain ⟨e4, e5, e6, e7⟩ := final m c
  exact ⟨((h c).1 4).trans e4, ((h c).1 5).trans e5, ((h c).1 6).trans e6, ((h c).1 7).trans e7⟩

end Cert.Adam.Small

end
-- ==== Proof.Adam.Claims.lean ====
/-
  The frames of AdamW's references, and the equality of each of AdamW's calls with its reference.
-/
module

public import proofs.«01_k».proof.Defs
public import proofs.«01_k».proof.Proof.Gen.Kernel18Ideal.Frame
public import proofs.«01_k».proof.Proof.Gen.Reference18Ideal.Run
public import proofs.«01_k».proof.Proof.Gen.Reference18Ideal.Read
public import proofs.«01_k».proof.Proof.Gen.Kernel19Ideal.Frame
public import proofs.«01_k».proof.Proof.Gen.Reference19Ideal.Run
public import proofs.«01_k».proof.Proof.Gen.Reference19Ideal.Read
public import proofs.«01_k».proof.Proof.Gen.Kernel20Ideal.Frame
public import proofs.«01_k».proof.Proof.Gen.Reference20Ideal.Run
public import proofs.«01_k».proof.Proof.Gen.Reference20Ideal.Read
public import proofs.«01_k».proof.Proof.Adam.Up
public import proofs.«01_k».proof.Proof.Adam.Down
public import proofs.«01_k».proof.Proof.Adam.Small

@[expose] public section

set_option maxRecDepth 16384

noncomputable section

open Idealize.ShloMosaic Idealize.ShloMosaic.TcCoe Idealize.SL.Sem

namespace Cert.Proof

/-- The frame of reference 18: it terminates, its arguments unchanged, no semaphore left. -/
theorem frame_reference18 : Cert.quiescent_Reference18Ideal (hReference18Ideal := Cert.Reference18Ideal.Gen.facts) := fun m ρ _ =>
  (θ_run Cert.Reference18Ideal.defs _ _).mono
    (fun r h => ⟨fun c => (h c).2.2.2.2, Idealize.ShloMosaic.sem_eq_zero_of_no_sems (by decide) r.2⟩)
    (Cert.Reference18Ideal.Value.run (F := Ideal) m ρ)

/-- The gradient, the change and the two moments of a weight of 4096 rows are the reference's. -/
theorem equal18 : Cert.algebraic_Kernel18Ideal_Reference18Ideal (hKernel18Ideal := Cert.Kernel18Ideal.Gen.facts)
    (hReference18Ideal := Cert.Reference18Ideal.Gen.facts) := fun m ρ m' ρ' _ hargs => by
  refine ⟨Cert.Adam.Up.G4 m, Cert.Adam.Up.G5 m, Cert.Adam.Up.G6 m, Cert.Adam.Up.G7 m,
    (θ_run Cert.Kernel18Ideal.defs _ _).mono
      (fun r h c => ⟨(h.1 c).1, (h.1 c).2.1, (h.1 c).2.2.1, (h.1 c).2.2.2, h.2 c⟩)
      (θ_run_and (Cert.Adam.Up.kernel_run m ρ) (Cert.Kernel18Ideal.Gen.unchanged (F := Ideal) m ρ)),
    (θ_run Cert.Reference18Ideal.defs _ _).mono
      (fun r h c => ⟨(h c).1.trans ?_, (h c).2.1.trans ?_, (h c).2.2.1.trans ?_, (h c).2.2.2.1.trans ?_, (h c).2.2.2.2⟩)
      (Cert.Reference18Ideal.Value.run (F := Ideal) m' ρ')⟩
  · exact (hargs c).1
  · obtain ⟨a0, a1, a2, a3⟩ := hargs c
    refine (Cert.Reference18Ideal.Read.val_main_v23_eq _ _ _ _).trans ?_
    rw [a0, a1, a2, a3]
    rfl
  · obtain ⟨a0, a1, a2, a3⟩ := hargs c
    refine (Cert.Reference18Ideal.Read.val_main_v4_eq _ _).trans ?_
    rw [a0, a2]
    rfl
  · obtain ⟨a0, a1, a2, a3⟩ := hargs c
    refine (Cert.Reference18Ideal.Read.val_main_v10_eq _ _).trans ?_
    rw [a0, a3]
    rfl

/-- The frame of reference 19: it terminates, its arguments unchanged, no semaphore left. -/
theorem frame_reference19 : Cert.quiescent_Reference19Ideal (hReference19Ideal := Cert.Reference19Ideal.Gen.facts) := fun m ρ _ =>
  (θ_run Cert.Reference19Ideal.defs _ _).mono
    (fun r h => ⟨fun c => (h c).2.2.2.2, Idealize.ShloMosaic.sem_eq_zero_of_no_sems (by decide) r.2⟩)
    (Cert.Reference19Ideal.Value.run (F := Ideal) m ρ)

/-- The gradient, the change and the two moments of a weight of 1408 rows are the reference's. -/
theorem equal19 : Cert.algebraic_Kernel19Ideal_Reference19Ideal (hKernel19Ideal := Cert.Kernel19Ideal.Gen.facts)
    (hReference19Ideal := Cert.Reference19Ideal.Gen.facts) := fun m ρ m' ρ' _ hargs => by
  refine ⟨Cert.Adam.Down.G4 m, Cert.Adam.Down.G5 m, Cert.Adam.Down.G6 m, Cert.Adam.Down.G7 m,
    (θ_run Cert.Kernel19Ideal.defs _ _).mono
      (fun r h c => ⟨(h.1 c).1, (h.1 c).2.1, (h.1 c).2.2.1, (h.1 c).2.2.2, h.2 c⟩)
      (θ_run_and (Cert.Adam.Down.kernel_run m ρ) (Cert.Kernel19Ideal.Gen.unchanged (F := Ideal) m ρ)),
    (θ_run Cert.Reference19Ideal.defs _ _).mono
      (fun r h c => ⟨(h c).1.trans ?_, (h c).2.1.trans ?_, (h c).2.2.1.trans ?_, (h c).2.2.2.1.trans ?_, (h c).2.2.2.2⟩)
      (Cert.Reference19Ideal.Value.run (F := Ideal) m' ρ')⟩
  · exact (hargs c).1
  · obtain ⟨a0, a1, a2, a3⟩ := hargs c
    refine (Cert.Reference19Ideal.Read.val_main_v23_eq _ _ _ _).trans ?_
    rw [a0, a1, a2, a3]
    rfl
  · obtain ⟨a0, a1, a2, a3⟩ := hargs c
    refine (Cert.Reference19Ideal.Read.val_main_v4_eq _ _).trans ?_
    rw [a0, a2]
    rfl
  · obtain ⟨a0, a1, a2, a3⟩ := hargs c
    refine (Cert.Reference19Ideal.Read.val_main_v10_eq _ _).trans ?_
    rw [a0, a3]
    rfl

/-- The frame of reference 20: it terminates, its arguments unchanged, no semaphore left. -/
theorem frame_reference20 : Cert.quiescent_Reference20Ideal (hReference20Ideal := Cert.Reference20Ideal.Gen.facts) := fun m ρ _ =>
  (θ_run Cert.Reference20Ideal.defs _ _).mono
    (fun r h => ⟨fun c => (h c).2.2.2.2, Idealize.ShloMosaic.sem_eq_zero_of_no_sems (by decide) r.2⟩)
    (Cert.Reference20Ideal.Value.run (F := Ideal) m ρ)

/-- The gradient, the change and the two moments of the packed small weights are the reference's. -/
theorem equal20 : Cert.algebraic_Kernel20Ideal_Reference20Ideal (hKernel20Ideal := Cert.Kernel20Ideal.Gen.facts)
    (hReference20Ideal := Cert.Reference20Ideal.Gen.facts) := fun m ρ m' ρ' _ hargs => by
  refine ⟨Cert.Adam.Small.G4 m, Cert.Adam.Small.G5 m, Cert.Adam.Small.G6 m, Cert.Adam.Small.G7 m,
    (θ_run Cert.Kernel20Ideal.defs _ _).mono
      (fun r h c => ⟨(h.1 c).1, (h.1 c).2.1, (h.1 c).2.2.1, (h.1 c).2.2.2, h.2 c⟩)
      (θ_run_and (Cert.Adam.Small.kernel_run m ρ) (Cert.Kernel20Ideal.Gen.unchanged (F := Ideal) m ρ)),
    (θ_run Cert.Reference20Ideal.defs _ _).mono
      (fun r h c => ⟨(h c).1.trans ?_, (h c).2.1.trans ?_, (h c).2.2.1.trans ?_, (h c).2.2.2.1.trans ?_, (h c).2.2.2.2⟩)
      (Cert.Reference20Ideal.Value.run (F := Ideal) m' ρ')⟩
  · obtain ⟨a0, a1, a2, a3⟩ := hargs c
    refine (Cert.Reference20Ideal.Read.val_main_v0_eq _).trans ?_
    rw [a0]
    rfl
  · obtain ⟨a0, a1, a2, a3⟩ := hargs c
    refine (Cert.Reference20Ideal.Read.val_main_v24_eq _ _ _ _).trans ?_
    rw [a0, a1, a2, a3]
    rfl
  · obtain ⟨a0, a1, a2, a3⟩ := hargs c
    refine (Cert.Reference20Ideal.Read.val_main_v5_eq _ _).trans ?_
    rw [a0, a2]
    rfl
  · obtain ⟨a0, a1, a2, a3⟩ := hargs c
    refine (Cert.Reference20Ideal.Read.val_main_v11_eq _ _).trans ?_
    rw [a0, a3]
    rfl

end Cert.Proof

end
-- ==== Proof.lean ====
/-
  The claims of `Cert.Claim`, proved: the three programs' frames, `preserves`, and the equality of the kernel's
  three gradients with the reference's over the ideal values.
-/
module

public import proofs.«01_k».proof.Defs
public import Idealize.ShloMosaic.Lib.Quiescent
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Sb.Final
public import proofs.«01_k».proof.Proof.Ffn.Dw
public import proofs.«01_k».proof.Proof.Ffn.Dact
public import proofs.«01_k».proof.Proof.Ffn.Up
public import proofs.«01_k».proof.Proof.Ffn.Down
public import proofs.«01_k».proof.Proof.Mix.Claims
public import proofs.«01_k».proof.Proof.Norm.Claims
public import proofs.«01_k».proof.Proof.Adam.Claims
public import proofs.«01_k».proof.Proof.Gen.Kernel2
public import proofs.«01_k».proof.Proof.Gen.Kernel2.Skeleton
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import Idealize.ShloMosaic.Adequacy
public import Idealize.ShloMosaic.Init

@[expose] public section

noncomputable section

namespace Cert.Proof

open Idealize.ShloMosaic Idealize.SL.Sem Cert.Kernel

/-- The reference's frame: it terminates, its arguments unchanged, no semaphore left. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Where the arguments' entries are real numbers, the kernel's three gradients are the reference's. -/
theorem equal : Cert.algebraic_KernelIdeal_ReferenceIdeal_pre_finite (hKernelIdeal := Cert.KernelIdeal.Gen.facts)
    (hReferenceIdeal := Cert.ReferenceIdeal.Gen.facts) (hPre_finite := Cert.Sb.pre_facts) := fun m ρ m' ρ' hpre hargs => by
  have hg := fun c => Cert.Sb.gradients m c (Cert.Sb.argP_of _ _ (hpre c).1) (Cert.Sb.argD_of _ _ (hpre c).2)
  refine ⟨Cert.KernelIdeal.Value.G5 m, Cert.KernelIdeal.Value.G6 m, Cert.KernelIdeal.Value.G7 m, Cert.KernelIdeal.Value.run (F := Ideal) m ρ,
    (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')⟩
  · exact (Cert.ReferenceIdeal.Read.val_main_v59_eq m' c).trans
      ((congrArg₂ (Cert.ReferenceIdeal.Read.val_main_v59 (F := Ideal)) (hargs c).1 (hargs c).2).trans (hg c).1)
  · exact (Cert.ReferenceIdeal.Read.val_main_v60_eq m' c).trans
      ((congrArg₂ (Cert.ReferenceIdeal.Read.val_main_v60 (F := Ideal)) (hargs c).1 (hargs c).2).trans (hg c).2.1)
  · exact (Cert.ReferenceIdeal.Read.val_main_v61_eq m' c).trans
      ((congrArg₂ (Cert.ReferenceIdeal.Read.val_main_v61 (F := Ideal)) (hargs c).1 (hargs c).2).trans (hg c).2.2)

/-- The frame of reference 2: it terminates, its arguments unchanged, no semaphore left. -/
theorem frame_reference2 : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- A weight's gradient is the reference's. -/
theorem equal2 : Cert.algebraic_Kernel2Ideal_Reference2Ideal (hKernel2Ideal := Cert.Kernel2Ideal.Gen.facts)
    (hReference2Ideal := Cert.Reference2Ideal.Gen.facts) := fun m ρ m' ρ' _ hargs =>
  ⟨Cert.Ffn.Dw.G m,
    (θ_run Cert.Kernel2Ideal.defs _ _).mono (fun r h c => ⟨(h c).1.trans (Cert.Ffn.Dw.final m c), (h c).2⟩)
      (Cert.Kernel2Ideal.Value.run_blocks (F := Ideal) m ρ),
    (θ_run Cert.Reference2Ideal.defs _ _).mono (fun r h c => ⟨(h c).1.trans ((Cert.Reference2Ideal.Read.val_main_v6_eq _ _).trans
        (congrArg₂ (Cert.Reference2Ideal.Read.val_main_v6 (F := Ideal)) (hargs c).1 (hargs c).2)), (h c).2⟩)
      (Cert.Reference2Ideal.Value.run (F := Ideal) m' ρ')⟩

/-- The frame of reference 3: it terminates, its arguments unchanged, no semaphore left. -/
theorem frame_reference3 : Cert.quiescent_Reference3Ideal (hReference3Ideal := Cert.Reference3Ideal.Gen.facts) := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- Where the cotangent, the weight and the second factor are real, the activation's two gradients are the reference's. -/
theorem equal3 : Cert.algebraic_Kernel3Ideal_Reference3Ideal_pre_finite_dact (hKernel3Ideal := Cert.Kernel3Ideal.Gen.facts)
    (hReference3Ideal := Cert.Reference3Ideal.Gen.facts) (hPre_finite_dact := Cert.Ffn.Dact.pre_facts) := fun m ρ m' ρ' hpre hargs => by
  refine ⟨Cert.Ffn.Dact.G4 m, Cert.Ffn.Dact.G5 m,
    (θ_run Cert.Kernel3Ideal.defs _ _).mono (fun r h c => ⟨(h c).1.trans (Cert.Ffn.Dact.final m c).1, (h c).2.1.trans (Cert.Ffn.Dact.final m c).2, (h c).2.2⟩)
      (Cert.Kernel3Ideal.Value.run_blocks (F := Ideal) m ρ),
    (θ_run Cert.Reference3Ideal.defs _ _).mono (fun r h c => ⟨(h c).1.trans ?_, (h c).2.1.trans ?_, (h c).2.2⟩)
      (Cert.Reference3Ideal.Value.run (F := Ideal) m' ρ')⟩
  · obtain ⟨a0, a1, a2, a3⟩ := hargs c
    refine (Cert.Reference3Ideal.Read.val_main_v11_eq _ _ _ _).trans ?_
    rw [a0, a1, a2, a3]
    exact funext fun i => Cert.Ffn.Dact.plain4_of _ _ _ _ (hpre c) i
  · obtain ⟨a0, a1, a2, a3⟩ := hargs c
    refine (Cert.Reference3Ideal.Read.val_main_v12_eq _ _ _).trans ?_
    rw [a0, a1, a2]
    rfl

/-- The frame of reference 4: it terminates, its arguments unchanged, no semaphore left. -/
theorem frame_reference4 : Cert.quiescent_Reference4Ideal (hReference4Ideal := Cert.Reference4Ideal.Gen.facts) := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)

/-- The two products up and the gated activation are the reference's. -/
theorem equal4 : Cert.algebraic_Kernel4Ideal_Reference4Ideal (hKernel4Ideal := Cert.Kernel4Ideal.Gen.facts)
    (hReference4Ideal := Cert.Reference4Ideal.Gen.facts) := fun m ρ m' ρ' _ hargs => by
  refine ⟨Cert.Ffn.Up.G4 m, Cert.Ffn.Up.G5 m, Cert.Ffn.Up.G6 m,
    (θ_run Cert.Kernel4Ideal.defs _ _).mono (fun r h c => ⟨(h c).1.trans (Cert.Ffn.Up.final m c).1, (h c).2.1.trans (Cert.Ffn.Up.final m c).2.1,
        (h c).2.2.1.trans (Cert.Ffn.Up.final m c).2.2, (h c).2.2.2⟩)
      (Cert.Kernel4Ideal.Value.run_blocks (F := Ideal) m ρ),
    (θ_run Cert.Reference4Ideal.defs _ _).mono (fun r h c => ⟨(h c).1.trans ?_, (h c).2.1.trans ?_, (h c).2.2.1.trans ?_, (h c).2.2.2⟩)
      (Cert.Reference4Ideal.Value.run (F := Ideal) m' ρ')⟩
  · refine (Cert.Reference4Ideal.Read.val_main_v9_eq _ _).trans ?_
    rw [(hargs c).1, (hargs c).2.1]
    rfl
  · refine (Cert.Reference4Ideal.Read.val_main_v10_eq _ _).trans ?_
    rw [(hargs c).1, (hargs c).2.2]
    rfl
  · refine (Cert.Reference4Ideal.Read.val_main_v11_eq _ _ _).trans ?_
    rw [(hargs c).1, (hargs c).2.1, (hargs c).2.2]
    rfl

/-- The frame of reference 5: it terminates, its arguments unchanged, no semaphore left. -/
theorem frame_reference5 : Cert.quiescent_Reference5Ideal (hReference5Ideal := Cert.Reference5Ideal.Gen.facts) := fun m ρ _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m ρ)

/-- The product down, the residual sum and the next normalised input are the reference's. -/
theorem equal5 : Cert.algebraic_Kernel5Ideal_Reference5Ideal (hKernel5Ideal := Cert.Kernel5Ideal.Gen.facts)
    (hReference5Ideal := Cert.Reference5Ideal.Gen.facts) := fun m ρ m' ρ' _ hargs => by
  refine ⟨Cert.Ffn.Down.G5 m, Cert.Ffn.Down.G6 m, Cert.Ffn.Down.G7 m,
    (θ_run Cert.Kernel5Ideal.defs _ _).mono (fun r h c => ⟨(h c).1.trans (Cert.Ffn.Down.final m c).1, (h c).2.1.trans (Cert.Ffn.Down.final m c).2.1,
        (h c).2.2.1.trans (Cert.Ffn.Down.final m c).2.2, (h c).2.2.2⟩)
      (Cert.Kernel5Ideal.Value.run_blocks (F := Ideal) m ρ),
    (θ_run Cert.Reference5Ideal.defs _ _).mono (fun r h c => ⟨(h c).1.trans ?_, (h c).2.1.trans ?_, (h c).2.2.1.trans ?_, (h c).2.2.2⟩)
      (Cert.Reference5Ideal.Value.run (F := Ideal) m' ρ')⟩
  · obtain ⟨a0, a1, a2, a3, a4⟩ := hargs c
    refine (Cert.Reference5Ideal.Read.val_main_v2_eq _ _).trans ?_
    rw [a0, a1]
    rfl
  · obtain ⟨a0, a1, a2, a3, a4⟩ := hargs c
    refine (Cert.Reference5Ideal.Read.val_main_v18_eq _ _ _ _).trans ?_
    rw [a0, a1, a2, a3]
    rfl
  · obtain ⟨a0, a1, a2, a3, a4⟩ := hargs c
    refine (Cert.Reference5Ideal.Read.val_main_v32_eq m' c).trans ?_
    rw [a0, a1, a2, a3, a4]
    rfl

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts,
    Cert.Sb.pre_facts, Cert.Ffn.Dact.pre_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, fun m ρ _ => Cert.Kernel3Ideal.Gen.frame m ρ,
    frame_reference3, fun m ρ _ => frame_reference3 m ρ trivial,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    trivial, equal, trivial, equal2, trivial, equal3, trivial, equal4, trivial, equal5, trivial, equal6, trivial, equal7, trivial, equal8, trivial, equal9, trivial, equal10, trivial, equal11, trivial, equal12, trivial, equal13, trivial, equal14, trivial, equal15, trivial, equal16, trivial, equal17, trivial, equal18, trivial, equal19, trivial, equal20⟩

end Cert.Proof

end
